-- ==== Defs.lean ====
def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_DwRw (m : (ℓ : Loc Cert.DwRw.nD Cert.DwRw.τ Cert.DwRw.sig) → Buf (Elt Bits) ℓ) : Prop :=
  True

def Pre_DwRwIdeal (m : (ℓ : Loc Cert.DwRwIdeal.nD Cert.DwRwIdeal.τ Cert.DwRwIdeal.sig) → Buf (Elt Ideal) ℓ) : Prop :=
  True

def Pre_DwRwRefIdeal (m : (ℓ : Loc Cert.DwRwRefIdeal.nD Cert.DwRwRefIdeal.τ Cert.DwRwRefIdeal.sig) → Buf (Elt Ideal) ℓ) : Prop :=
  True

def Pre_DwCv (m : (ℓ : Loc Cert.DwCv.nD Cert.DwCv.τ Cert.DwCv.sig) → Buf (Elt Bits) ℓ) : Prop :=
  True

def Pre_DwCvIdeal (m : (ℓ : Loc Cert.DwCvIdeal.nD Cert.DwCvIdeal.τ Cert.DwCvIdeal.sig) → Buf (Elt Ideal) ℓ) : Prop :=
  True

def Pre_DwCvRefIdeal (m : (ℓ : Loc Cert.DwCvRefIdeal.nD Cert.DwCvRefIdeal.τ Cert.DwCvRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MixPost (m : (ℓ : Loc Cert.MixPost.nD Cert.MixPost.τ Cert.MixPost.sig) → Buf (Elt Bits) ℓ) : Prop :=
  True

def Pre_MixPostIdeal (m : (ℓ : Loc Cert.MixPostIdeal.nD Cert.MixPostIdeal.τ Cert.MixPostIdeal.sig) → Buf (Elt Ideal) ℓ) : Prop :=
  True

def Pre_MixPostRefIdeal (m : (ℓ : Loc Cert.MixPostRefIdeal.nD Cert.MixPostRefIdeal.τ Cert.MixPostRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))) = (fun _ => 1#1)

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamShift (m : (ℓ : Loc Cert.AdamShift.nD Cert.AdamShift.τ Cert.AdamShift.sig) → Buf (Elt Bits) ℓ) : Prop :=
  True

def Pre_AdamShiftIdeal (m : (ℓ : Loc Cert.AdamShiftIdeal.nD Cert.AdamShiftIdeal.τ Cert.AdamShiftIdeal.sig) → Buf (Elt Ideal) ℓ) : Prop :=
  True

def Pre_AdamShiftRefIdeal (m : (ℓ : Loc Cert.AdamShiftRefIdeal.nD Cert.AdamShiftRefIdeal.τ Cert.AdamShiftRefIdeal.sig) → Buf (Elt Ideal) ℓ) : Prop :=
  True

def Pre_AdamHalf (m : (ℓ : Loc Cert.AdamHalf.nD Cert.AdamHalf.τ Cert.AdamHalf.sig) → Buf (Elt Bits) ℓ) : Prop :=
  True

def Pre_AdamHalfIdeal (m : (ℓ : Loc Cert.AdamHalfIdeal.nD Cert.AdamHalfIdeal.τ Cert.AdamHalfIdeal.sig) → Buf (Elt Ideal) ℓ) : Prop :=
  True

def Pre_AdamHalfRefIdeal (m : (ℓ : Loc Cert.AdamHalfRefIdeal.nD Cert.AdamHalfRefIdeal.τ Cert.AdamHalfRefIdeal.sig) → Buf (Elt Ideal) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamLane (m : (ℓ : Loc Cert.AdamLane.nD Cert.AdamLane.τ Cert.AdamLane.sig) → Buf (Elt Bits) ℓ) : Prop :=
  True

def Pre_AdamLaneIdeal (m : (ℓ : Loc Cert.AdamLaneIdeal.nD Cert.AdamLaneIdeal.τ Cert.AdamLaneIdeal.sig) → Buf (Elt Ideal) ℓ) : Prop :=
  True

def Pre_AdamLaneRefIdeal (m : (ℓ : Loc Cert.AdamLaneRefIdeal.nD Cert.AdamLaneRefIdeal.τ Cert.AdamLaneRefIdeal.sig) → Buf (Elt Ideal) ℓ) : Prop :=
  True

def Pre_AdamLora (m : (ℓ : Loc Cert.AdamLora.nD Cert.AdamLora.τ Cert.AdamLora.sig) → Buf (Elt Bits) ℓ) : Prop :=
  True

def Pre_AdamLoraIdeal (m : (ℓ : Loc Cert.AdamLoraIdeal.nD Cert.AdamLoraIdeal.τ Cert.AdamLoraIdeal.sig) → Buf (Elt Ideal) ℓ) : Prop :=
  True

def Pre_AdamLoraRefIdeal (m : (ℓ : Loc Cert.AdamLoraRefIdeal.nD Cert.AdamLoraRefIdeal.τ Cert.AdamLoraRefIdeal.sig) → Buf (Elt Ideal) ℓ) : Prop :=
  True

def Pre_AdamRk (m : (ℓ : Loc Cert.AdamRk.nD Cert.AdamRk.τ Cert.AdamRk.sig) → Buf (Elt Bits) ℓ) : Prop :=
  True

def Pre_AdamRkIdeal (m : (ℓ : Loc Cert.AdamRkIdeal.nD Cert.AdamRkIdeal.τ Cert.AdamRkIdeal.sig) → Buf (Elt Ideal) ℓ) : Prop :=
  True

def Pre_AdamRkRefIdeal (m : (ℓ : Loc Cert.AdamRkRefIdeal.nD Cert.AdamRkRefIdeal.τ Cert.AdamRkRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_Cctx (m : (ℓ : Loc Cert.Cctx.nD Cert.Cctx.τ Cert.Cctx.sig) → Buf (Elt Bits) ℓ) : Prop :=
  True

def Pre_CctxIdeal (m : (ℓ : Loc Cert.CctxIdeal.nD Cert.CctxIdeal.τ Cert.CctxIdeal.sig) → Buf (Elt Ideal) ℓ) : Prop :=
  True

def Pre_CctxIdeal_parts_finite [hPre_parts_finite : Cert.Pre_parts_finite.Facts] (m : (ℓ : Loc Cert.CctxIdeal.nD Cert.CctxIdeal.τ Cert.CctxIdeal.sig) → Buf (Elt Ideal) ℓ) : Prop :=
  ∀ c : Dev Cert.CctxIdeal.nD,
    (Cert.Pre_parts_finite.fn (F := Ideal) (m ((c.tc : Thread Cert.CctxIdeal.nD Cert.CctxIdeal.τ).loc Cert.CctxIdeal.main_arg0)) (m ((c.tc : Thread Cert.CctxIdeal.nD Cert.CctxIdeal.τ).loc Cert.CctxIdeal.main_arg1))) = (fun _ => 1#1)

def Pre_CctxRefIdeal (m : (ℓ : Loc Cert.CctxRefIdeal.nD Cert.CctxRefIdeal.τ Cert.CctxRefIdeal.sig) → Buf (Elt Ideal) ℓ) : Prop :=
  True

def Pre_CctxRefIdeal_parts_finite [hPre_parts_finite : Cert.Pre_parts_finite.Facts] (m : (ℓ : Loc Cert.CctxRefIdeal.nD Cert.CctxRefIdeal.τ Cert.CctxRefIdeal.sig) → Buf (Elt Ideal) ℓ) : Prop :=
  ∀ c : Dev Cert.CctxRefIdeal.nD,
    (Cert.Pre_parts_finite.fn (F := Ideal) (m ((c.tc : Thread Cert.CctxRefIdeal.nD Cert.CctxRefIdeal.τ).loc Cert.CctxRefIdeal.main_arg0)) (m ((c.tc : Thread Cert.CctxRefIdeal.nD Cert.CctxRefIdeal.τ).loc Cert.CctxRefIdeal.main_arg1))) = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_DwRw [hDwRw : Cert.DwRw.Facts] : Prop :=
  ∀ (m : (ℓ : Loc Cert.DwRw.nD Cert.DwRw.τ Cert.DwRw.sig) → Buf (Elt Bits) ℓ) (g : Dev Cert.DwRw.nD → PrngReg), Pre_DwRw m →
    θ_run (Cert.DwRw.defs (F := Bits)) (onTc (τ := Cert.DwRw.τ) (Cert.DwRw.main (F := Bits))) ⟨m, fun _ => 0, g⟩ (fun r => (∀ c : Dev Cert.DwRw.nD,
      r.2.mem ((c.tc : Thread Cert.DwRw.nD Cert.DwRw.τ).loc Cert.DwRw.main_arg0) = m ((c.tc : Thread Cert.DwRw.nD Cert.DwRw.τ).loc Cert.DwRw.main_arg0)
      ∧ r.2.mem ((c.tc : Thread Cert.DwRw.nD Cert.DwRw.τ).loc Cert.DwRw.main_arg1) = m ((c.tc : Thread Cert.DwRw.nD Cert.DwRw.τ).loc Cert.DwRw.main_arg1))
      ∧ r.2.sem = fun _ => 0)

def quiescent_DwRwIdeal [hDwRwIdeal : Cert.DwRwIdeal.Facts] : Prop :=
  ∀ (m : (ℓ : Loc Cert.DwRwIdeal.nD Cert.DwRwIdeal.τ Cert.DwRwIdeal.sig) → Buf (Elt Ideal) ℓ) (g : Dev Cert.DwRwIdeal.nD → PrngReg), Pre_DwRwIdeal m →
    θ_run (Cert.DwRwIdeal.defs (F := Ideal)) (onTc (τ := Cert.DwRwIdeal.τ) (Cert.DwRwIdeal.main (F := Ideal))) ⟨m, fun _ => 0, g⟩ (fun r => (∀ c : Dev Cert.DwRwIdeal.nD,
      r.2.mem ((c.tc : Thread Cert.DwRwIdeal.nD Cert.DwRwIdeal.τ).loc Cert.DwRwIdeal.main_arg0) = m ((c.tc : Thread Cert.DwRwIdeal.nD Cert.DwRwIdeal.τ).loc Cert.DwRwIdeal.main_arg0)
      ∧ r.2.mem ((c.tc : Thread Cert.DwRwIdeal.nD Cert.DwRwIdeal.τ).loc Cert.DwRwIdeal.main_arg1) = m ((c.tc : Thread Cert.DwRwIdeal.nD Cert.DwRwIdeal.τ).loc Cert.DwRwIdeal.main_arg1))
      ∧ r.2.sem = fun _ => 0)

def quiescent_DwRwRefIdeal [hDwRwRefIdeal : Cert.DwRwRefIdeal.Facts] : Prop :=
  ∀ (m : (ℓ : Loc Cert.DwRwRefIdeal.nD Cert.DwRwRefIdeal.τ Cert.DwRwRefIdeal.sig) → Buf (Elt Ideal) ℓ) (g : Dev Cert.DwRwRefIdeal.nD → PrngReg), Pre_DwRwRefIdeal m →
    θ_run (Cert.DwRwRefIdeal.defs (F := Ideal)) (onTc (τ := Cert.DwRwRefIdeal.τ) (Cert.DwRwRefIdeal.main (F := Ideal))) ⟨m, fun _ => 0, g⟩ (fun r => (∀ c : Dev Cert.DwRwRefIdeal.nD,
      r.2.mem ((c.tc : Thread Cert.DwRwRefIdeal.nD Cert.DwRwRefIdeal.τ).loc Cert.DwRwRefIdeal.main_arg0) = m ((c.tc : Thread Cert.DwRwRefIdeal.nD Cert.DwRwRefIdeal.τ).loc Cert.DwRwRefIdeal.main_arg0)
      ∧ r.2.mem ((c.tc : Thread Cert.DwRwRefIdeal.nD Cert.DwRwRefIdeal.τ).loc Cert.DwRwRefIdeal.main_arg1) = m ((c.tc : Thread Cert.DwRwRefIdeal.nD Cert.DwRwRefIdeal.τ).loc Cert.DwRwRefIdeal.main_arg1))
      ∧ r.2.sem = fun _ => 0)

def quiescent_DwCv [hDwCv : Cert.DwCv.Facts] : Prop :=
  ∀ (m : (ℓ : Loc Cert.DwCv.nD Cert.DwCv.τ Cert.DwCv.sig) → Buf (Elt Bits) ℓ) (g : Dev Cert.DwCv.nD → PrngReg), Pre_DwCv m →
    θ_run (Cert.DwCv.defs (F := Bits)) (onTc (τ := Cert.DwCv.τ) (Cert.DwCv.main (F := Bits))) ⟨m, fun _ => 0, g⟩ (fun r => (∀ c : Dev Cert.DwCv.nD,
      r.2.mem ((c.tc : Thread Cert.DwCv.nD Cert.DwCv.τ).loc Cert.DwCv.main_arg0) = m ((c.tc : Thread Cert.DwCv.nD Cert.DwCv.τ).loc Cert.DwCv.main_arg0)
      ∧ r.2.mem ((c.tc : Thread Cert.DwCv.nD Cert.DwCv.τ).loc Cert.DwCv.main_arg1) = m ((c.tc : Thread Cert.DwCv.nD Cert.DwCv.τ).loc Cert.DwCv.main_arg1))
      ∧ r.2.sem = fun _ => 0)

def quiescent_DwCvIdeal [hDwCvIdeal : Cert.DwCvIdeal.Facts] : Prop :=
  ∀ (m : (ℓ : Loc Cert.DwCvIdeal.nD Cert.DwCvIdeal.τ Cert.DwCvIdeal.sig) → Buf (Elt Ideal) ℓ) (g : Dev Cert.DwCvIdeal.nD → PrngReg), Pre_DwCvIdeal m →
    θ_run (Cert.DwCvIdeal.defs (F := Ideal)) (onTc (τ := Cert.DwCvIdeal.τ) (Cert.DwCvIdeal.main (F := Ideal))) ⟨m, fun _ => 0, g⟩ (fun r => (∀ c : Dev Cert.DwCvIdeal.nD,
      r.2.mem ((c.tc : Thread Cert.DwCvIdeal.nD Cert.DwCvIdeal.τ).loc Cert.DwCvIdeal.main_arg0) = m ((c.tc : Thread Cert.DwCvIdeal.nD Cert.DwCvIdeal.τ).loc Cert.DwCvIdeal.main_arg0)
      ∧ r.2.mem ((c.tc : Thread Cert.DwCvIdeal.nD Cert.DwCvIdeal.τ).loc Cert.DwCvIdeal.main_arg1) = m ((c.tc : Thread Cert.DwCvIdeal.nD Cert.DwCvIdeal.τ).loc Cert.DwCvIdeal.main_arg1))
      ∧ r.2.sem = fun _ => 0)

def quiescent_DwCvRefIdeal [hDwCvRefIdeal : Cert.DwCvRefIdeal.Facts] : Prop :=
  ∀ (m : (ℓ : Loc Cert.DwCvRefIdeal.nD Cert.DwCvRefIdeal.τ Cert.DwCvRefIdeal.sig) → Buf (Elt Ideal) ℓ) (g : Dev Cert.DwCvRefIdeal.nD → PrngReg), Pre_DwCvRefIdeal m →
    θ_run (Cert.DwCvRefIdeal.defs (F := Ideal)) (onTc (τ := Cert.DwCvRefIdeal.τ) (Cert.DwCvRefIdeal.main (F := Ideal))) ⟨m, fun _ => 0, g⟩ (fun r => (∀ c : Dev Cert.DwCvRefIdeal.nD,
      r.2.mem ((c.tc : Thread Cert.DwCvRefIdeal.nD Cert.DwCvRefIdeal.τ).loc Cert.DwCvRefIdeal.main_arg0) = m ((c.tc : Thread Cert.DwCvRefIdeal.nD Cert.DwCvRefIdeal.τ).loc Cert.DwCvRefIdeal.main_arg0)
      ∧ r.2.mem ((c.tc : Thread Cert.DwCvRefIdeal.nD Cert.DwCvRefIdeal.τ).loc Cert.DwCvRefIdeal.main_arg1) = m ((c.tc : Thread Cert.DwCvRefIdeal.nD Cert.DwCvRefIdeal.τ).loc Cert.DwCvRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_MixPost [hMixPost : Cert.MixPost.Facts] : Prop :=
  ∀ (m : (ℓ : Loc Cert.MixPost.nD Cert.MixPost.τ Cert.MixPost.sig) → Buf (Elt Bits) ℓ) (g : Dev Cert.MixPost.nD → PrngReg), Pre_MixPost m →
    θ_run (Cert.MixPost.defs (F := Bits)) (onTc (τ := Cert.MixPost.τ) (Cert.MixPost.main (F := Bits))) ⟨m, fun _ => 0, g⟩ (fun r => (∀ c : Dev Cert.MixPost.nD,
      r.2.mem ((c.tc : Thread Cert.MixPost.nD Cert.MixPost.τ).loc Cert.MixPost.main_arg0) = m ((c.tc : Thread Cert.MixPost.nD Cert.MixPost.τ).loc Cert.MixPost.main_arg0)
      ∧ r.2.mem ((c.tc : Thread Cert.MixPost.nD Cert.MixPost.τ).loc Cert.MixPost.main_arg1) = m ((c.tc : Thread Cert.MixPost.nD Cert.MixPost.τ).loc Cert.MixPost.main_arg1)
      ∧ r.2.mem ((c.tc : Thread Cert.MixPost.nD Cert.MixPost.τ).loc Cert.MixPost.main_arg2) = m ((c.tc : Thread Cert.MixPost.nD Cert.MixPost.τ).loc Cert.MixPost.main_arg2)
      ∧ r.2.mem ((c.tc : Thread Cert.MixPost.nD Cert.MixPost.τ).loc Cert.MixPost.main_arg3) = m ((c.tc : Thread Cert.MixPost.nD Cert.MixPost.τ).loc Cert.MixPost.main_arg3)
      ∧ r.2.mem ((c.tc : Thread Cert.MixPost.nD Cert.MixPost.τ).loc Cert.MixPost.main_arg4) = m ((c.tc : Thread Cert.MixPost.nD Cert.MixPost.τ).loc Cert.MixPost.main_arg4))
      ∧ r.2.sem = fun _ => 0)

def quiescent_MixPostIdeal [hMixPostIdeal : Cert.MixPostIdeal.Facts] : Prop :=
  ∀ (m : (ℓ : Loc Cert.MixPostIdeal.nD Cert.MixPostIdeal.τ Cert.MixPostIdeal.sig) → Buf (Elt Ideal) ℓ) (g : Dev Cert.MixPostIdeal.nD → PrngReg), Pre_MixPostIdeal m →
    θ_run (Cert.MixPostIdeal.defs (F := Ideal)) (onTc (τ := Cert.MixPostIdeal.τ) (Cert.MixPostIdeal.main (F := Ideal))) ⟨m, fun _ => 0, g⟩ (fun r => (∀ c : Dev Cert.MixPostIdeal.nD,
      r.2.mem ((c.tc : Thread Cert.MixPostIdeal.nD Cert.MixPostIdeal.τ).loc Cert.MixPostIdeal.main_arg0) = m ((c.tc : Thread Cert.MixPostIdeal.nD Cert.MixPostIdeal.τ).loc Cert.MixPostIdeal.main_arg0)
      ∧ r.2.mem ((c.tc : Thread Cert.MixPostIdeal.nD Cert.MixPostIdeal.τ).loc Cert.MixPostIdeal.main_arg1) = m ((c.tc : Thread Cert.MixPostIdeal.nD Cert.MixPostIdeal.τ).loc Cert.MixPostIdeal.main_arg1)
      ∧ r.2.mem ((c.tc : Thread Cert.MixPostIdeal.nD Cert.MixPostIdeal.τ).loc Cert.MixPostIdeal.main_arg2) = m ((c.tc : Thread Cert.MixPostIdeal.nD Cert.MixPostIdeal.τ).loc Cert.MixPostIdeal.main_arg2)
      ∧ r.2.mem ((c.tc : Thread Cert.MixPostIdeal.nD Cert.MixPostIdeal.τ).loc Cert.MixPostIdeal.main_arg3) = m ((c.tc : Thread Cert.MixPostIdeal.nD Cert.MixPostIdeal.τ).loc Cert.MixPostIdeal.main_arg3)
      ∧ r.2.mem ((c.tc : Thread Cert.MixPostIdeal.nD Cert.MixPostIdeal.τ).loc Cert.MixPostIdeal.main_arg4) = m ((c.tc : Thread Cert.MixPostIdeal.nD Cert.MixPostIdeal.τ).loc Cert.MixPostIdeal.main_arg4))
      ∧ r.2.sem = fun _ => 0)

def quiescent_MixPostRefIdeal [hMixPostRefIdeal : Cert.MixPostRefIdeal.Facts] : Prop :=
  ∀ (m : (ℓ : Loc Cert.MixPostRefIdeal.nD Cert.MixPostRefIdeal.τ Cert.MixPostRefIdeal.sig) → Buf (Elt Ideal) ℓ) (g : Dev Cert.MixPostRefIdeal.nD → PrngReg), Pre_MixPostRefIdeal m →
    θ_run (Cert.MixPostRefIdeal.defs (F := Ideal)) (onTc (τ := Cert.MixPostRefIdeal.τ) (Cert.MixPostRefIdeal.main (F := Ideal))) ⟨m, fun _ => 0, g⟩ (fun r => (∀ c : Dev Cert.MixPostRefIdeal.nD,
      r.2.mem ((c.tc : Thread Cert.MixPostRefIdeal.nD Cert.MixPostRefIdeal.τ).loc Cert.MixPostRefIdeal.main_arg0) = m ((c.tc : Thread Cert.MixPostRefIdeal.nD Cert.MixPostRefIdeal.τ).loc Cert.MixPostRefIdeal.main_arg0)
      ∧ r.2.mem ((c.tc : Thread Cert.MixPostRefIdeal.nD Cert.MixPostRefIdeal.τ).loc Cert.MixPostRefIdeal.main_arg1) = m ((c.tc : Thread Cert.MixPostRefIdeal.nD Cert.MixPostRefIdeal.τ).loc Cert.MixPostRefIdeal.main_arg1)
      ∧ r.2.mem ((c.tc : Thread Cert.MixPostRefIdeal.nD Cert.MixPostRefIdeal.τ).loc Cert.MixPostRefIdeal.main_arg2) = m ((c.tc : Thread Cert.MixPostRefIdeal.nD Cert.MixPostRefIdeal.τ).loc Cert.MixPostRefIdeal.main_arg2)
      ∧ r.2.mem ((c.tc : Thread Cert.MixPostRefIdeal.nD Cert.MixPostRefIdeal.τ).loc Cert.MixPostRefIdeal.main_arg3) = m ((c.tc : Thread Cert.MixPostRefIdeal.nD Cert.MixPostRefIdeal.τ).loc Cert.MixPostRefIdeal.main_arg3)
      ∧ r.2.mem ((c.tc : Thread Cert.MixPostRefIdeal.nD Cert.MixPostRefIdeal.τ).loc Cert.MixPostRefIdeal.main_arg4) = m ((c.tc : Thread Cert.MixPostRefIdeal.nD Cert.MixPostRefIdeal.τ).loc Cert.MixPostRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamShift [hAdamShift : Cert.AdamShift.Facts] : Prop :=
  ∀ (m : (ℓ : Loc Cert.AdamShift.nD Cert.AdamShift.τ Cert.AdamShift.sig) → Buf (Elt Bits) ℓ) (g : Dev Cert.AdamShift.nD → PrngReg), Pre_AdamShift m →
    θ_run (Cert.AdamShift.defs (F := Bits)) (onTc (τ := Cert.AdamShift.τ) (Cert.AdamShift.main (F := Bits))) ⟨m, fun _ => 0, g⟩ (fun r => (∀ c : Dev Cert.AdamShift.nD,
      r.2.mem ((c.tc : Thread Cert.AdamShift.nD Cert.AdamShift.τ).loc Cert.AdamShift.main_arg0) = m ((c.tc : Thread Cert.AdamShift.nD Cert.AdamShift.τ).loc Cert.AdamShift.main_arg0)
      ∧ r.2.mem ((c.tc : Thread Cert.AdamShift.nD Cert.AdamShift.τ).loc Cert.AdamShift.main_arg1) = m ((c.tc : Thread Cert.AdamShift.nD Cert.AdamShift.τ).loc Cert.AdamShift.main_arg1)
      ∧ r.2.mem ((c.tc : Thread Cert.AdamShift.nD Cert.AdamShift.τ).loc Cert.AdamShift.main_arg2) = m ((c.tc : Thread Cert.AdamShift.nD Cert.AdamShift.τ).loc Cert.AdamShift.main_arg2)
      ∧ r.2.mem ((c.tc : Thread Cert.AdamShift.nD Cert.AdamShift.τ).loc Cert.AdamShift.main_arg3) = m ((c.tc : Thread Cert.AdamShift.nD Cert.AdamShift.τ).loc Cert.AdamShift.main_arg3))
      ∧ r.2.sem = fun _ => 0)

def quiescent_AdamShiftIdeal [hAdamShiftIdeal : Cert.AdamShiftIdeal.Facts] : Prop :=
  ∀ (m : (ℓ : Loc Cert.AdamShiftIdeal.nD Cert.AdamShiftIdeal.τ Cert.AdamShiftIdeal.sig) → Buf (Elt Ideal) ℓ) (g : Dev Cert.AdamShiftIdeal.nD → PrngReg), Pre_AdamShiftIdeal m →
    θ_run (Cert.AdamShiftIdeal.defs (F := Ideal)) (onTc (τ := Cert.AdamShiftIdeal.τ) (Cert.AdamShiftIdeal.main (F := Ideal))) ⟨m, fun _ => 0, g⟩ (fun r => (∀ c : Dev Cert.AdamShiftIdeal.nD,
      r.2.mem ((c.tc : Thread Cert.AdamShiftIdeal.nD Cert.AdamShiftIdeal.τ).loc Cert.AdamShiftIdeal.main_arg0) = m ((c.tc : Thread Cert.AdamShiftIdeal.nD Cert.AdamShiftIdeal.τ).loc Cert.AdamShiftIdeal.main_arg0)
      ∧ r.2.mem ((c.tc : Thread Cert.AdamShiftIdeal.nD Cert.AdamShiftIdeal.τ).loc Cert.AdamShiftIdeal.main_arg1) = m ((c.tc : Thread Cert.AdamShiftIdeal.nD Cert.AdamShiftIdeal.τ).loc Cert.AdamShiftIdeal.main_arg1)
      ∧ r.2.mem ((c.tc : Thread Cert.AdamShiftIdeal.nD Cert.AdamShiftIdeal.τ).loc Cert.AdamShiftIdeal.main_arg2) = m ((c.tc : Thread Cert.AdamShiftIdeal.nD Cert.AdamShiftIdeal.τ).loc Cert.AdamShiftIdeal.main_arg2)
      ∧ r.2.mem ((c.tc : Thread Cert.AdamShiftIdeal.nD Cert.AdamShiftIdeal.τ).loc Cert.AdamShiftIdeal.main_arg3) = m ((c.tc : Thread Cert.AdamShiftIdeal.nD Cert.AdamShiftIdeal.τ).loc Cert.AdamShiftIdeal.main_arg3))
      ∧ r.2.sem = fun _ => 0)

def quiescent_AdamShiftRefIdeal [hAdamShiftRefIdeal : Cert.AdamShiftRefIdeal.Facts] : Prop :=
  ∀ (m : (ℓ : Loc Cert.AdamShiftRefIdeal.nD Cert.AdamShiftRefIdeal.τ Cert.AdamShiftRefIdeal.sig) → Buf (Elt Ideal) ℓ) (g : Dev Cert.AdamShiftRefIdeal.nD → PrngReg), Pre_AdamShiftRefIdeal m →
    θ_run (Cert.AdamShiftRefIdeal.defs (F := Ideal)) (onTc (τ := Cert.AdamShiftRefIdeal.τ) (Cert.AdamShiftRefIdeal.main (F := Ideal))) ⟨m, fun _ => 0, g⟩ (fun r => (∀ c : Dev Cert.AdamShiftRefIdeal.nD,
      r.2.mem ((c.tc : Thread Cert.AdamShiftRefIdeal.nD Cert.AdamShiftRefIdeal.τ).loc Cert.AdamShiftRefIdeal.main_arg0) = m ((c.tc : Thread Cert.AdamShiftRefIdeal.nD Cert.AdamShiftRefIdeal.τ).loc Cert.AdamShiftRefIdeal.main_arg0)
      ∧ r.2.mem ((c.tc : Thread Cert.AdamShiftRefIdeal.nD Cert.AdamShiftRefIdeal.τ).loc Cert.AdamShiftRefIdeal.main_arg1) = m ((c.tc : Thread Cert.AdamShiftRefIdeal.nD Cert.AdamShiftRefIdeal.τ).loc Cert.AdamShiftRefIdeal.main_arg1)
      ∧ r.2.mem ((c.tc : Thread Cert.AdamShiftRefIdeal.nD Cert.AdamShiftRefIdeal.τ).loc Cert.AdamShiftRefIdeal.main_arg2) = m ((c.tc : Thread Cert.AdamShiftRefIdeal.nD Cert.AdamShiftRefIdeal.τ).loc Cert.AdamShiftRefIdeal.main_arg2)
      ∧ r.2.mem ((c.tc : Thread Cert.AdamShiftRefIdeal.nD Cert.AdamShiftRefIdeal.τ).loc Cert.AdamShiftRefIdeal.main_arg3) = m ((c.tc : Thread Cert.AdamShiftRefIdeal.nD Cert.AdamShiftRefIdeal.τ).loc Cert.AdamShiftRefIdeal.main_arg3))
      ∧ r.2.sem = fun _ => 0)

def quiescent_AdamHalf [hAdamHalf : Cert.AdamHalf.Facts] : Prop :=
  ∀ (m : (ℓ : Loc Cert.AdamHalf.nD Cert.AdamHalf.τ Cert.AdamHalf.sig) → Buf (Elt Bits) ℓ) (g : Dev Cert.AdamHalf.nD → PrngReg), Pre_AdamHalf m →
    θ_run (Cert.AdamHalf.defs (F := Bits)) (onTc (τ := Cert.AdamHalf.τ) (Cert.AdamHalf.main (F := Bits))) ⟨m, fun _ => 0, g⟩ (fun r => (∀ c : Dev Cert.AdamHalf.nD,
      r.2.mem ((c.tc : Thread Cert.AdamHalf.nD Cert.AdamHalf.τ).loc Cert.AdamHalf.main_arg0) = m ((c.tc : Thread Cert.AdamHalf.nD Cert.AdamHalf.τ).loc Cert.AdamHalf.main_arg0)
      ∧ r.2.mem ((c.tc : Thread Cert.AdamHalf.nD Cert.AdamHalf.τ).loc Cert.AdamHalf.main_arg1) = m ((c.tc : Thread Cert.AdamHalf.nD Cert.AdamHalf.τ).loc Cert.AdamHalf.main_arg1)
      ∧ r.2.mem ((c.tc : Thread Cert.AdamHalf.nD Cert.AdamHalf.τ).loc Cert.AdamHalf.main_arg2) = m ((c.tc : Thread Cert.AdamHalf.nD Cert.AdamHalf.τ).loc Cert.AdamHalf.main_arg2)
      ∧ r.2.mem ((c.tc : Thread Cert.AdamHalf.nD Cert.AdamHalf.τ).loc Cert.AdamHalf.main_arg3) = m ((c.tc : Thread Cert.AdamHalf.nD Cert.AdamHalf.τ).loc Cert.AdamHalf.main_arg3))
      ∧ r.2.sem = fun _ => 0)

def quiescent_AdamHalfIdeal [hAdamHalfIdeal : Cert.AdamHalfIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg), Pre_AdamHalfIdeal m →
    θ_run (Cert.AdamHalfIdeal.defs (F := Ideal)) (onTc (τ := Cert.AdamHalfIdeal.τ) (Cert.AdamHalfIdeal.main (F := Ideal))) ⟨m, fun _ => 0, g⟩ (fun r => (∀ c : Dev Cert.AdamHalfIdeal.nD,
      r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
      ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
      ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
      ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3))
      ∧ r.2.sem = fun _ => 0)

def quiescent_AdamHalfRefIdeal [hAdamHalfRefIdeal : Cert.AdamHalfRefIdeal.Facts] : Prop :=
  ∀ (m : (ℓ : Loc Cert.AdamHalfRefIdeal.nD Cert.AdamHalfRefIdeal.τ Cert.AdamHalfRefIdeal.sig) → Buf (Elt Ideal) ℓ) (g : Dev Cert.AdamHalfRefIdeal.nD → PrngReg), Pre_AdamHalfRefIdeal m →
    θ_run (Cert.AdamHalfRefIdeal.defs (F := Ideal)) (onTc (τ := Cert.AdamHalfRefIdeal.τ) (Cert.AdamHalfRefIdeal.main (F := Ideal))) ⟨m, fun _ => 0, g⟩ (fun r => (∀ c : Dev Cert.AdamHalfRefIdeal.nD,
      r.2.mem ((c.tc : Thread Cert.AdamHalfRefIdeal.nD Cert.AdamHalfRefIdeal.τ).loc Cert.AdamHalfRefIdeal.main_arg0) = m ((c.tc : Thread Cert.AdamHalfRefIdeal.nD Cert.AdamHalfRefIdeal.τ).loc Cert.AdamHalfRefIdeal.main_arg0)
      ∧ r.2.mem ((c.tc : Thread Cert.AdamHalfRefIdeal.nD Cert.AdamHalfRefIdeal.τ).loc Cert.AdamHalfRefIdeal.main_arg1) = m ((c.tc : Thread Cert.AdamHalfRefIdeal.nD Cert.AdamHalfRefIdeal.τ).loc Cert.AdamHalfRefIdeal.main_arg1)
      ∧ r.2.mem ((c.tc : Thread Cert.AdamHalfRefIdeal.nD Cert.AdamHalfRefIdeal.τ).loc Cert.AdamHalfRefIdeal.main_arg2) = m ((c.tc : Thread Cert.AdamHalfRefIdeal.nD Cert.AdamHalfRefIdeal.τ).loc Cert.AdamHalfRefIdeal.main_arg2)
      ∧ r.2.mem ((c.tc : Thread Cert.AdamHalfRefIdeal.nD Cert.AdamHalfRefIdeal.τ).loc Cert.AdamHalfRefIdeal.main_arg3) = m ((c.tc : Thread Cert.AdamHalfRefIdeal.nD Cert.AdamHalfRefIdeal.τ).loc Cert.AdamHalfRefIdeal.main_arg3))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamLane [hAdamLane : Cert.AdamLane.Facts] : Prop :=
  ∀ (m : (ℓ : Loc Cert.AdamLane.nD Cert.AdamLane.τ Cert.AdamLane.sig) → Buf (Elt Bits) ℓ) (g : Dev Cert.AdamLane.nD → PrngReg), Pre_AdamLane m →
    θ_run (Cert.AdamLane.defs (F := Bits)) (onTc (τ := Cert.AdamLane.τ) (Cert.AdamLane.main (F := Bits))) ⟨m, fun _ => 0, g⟩ (fun r => (∀ c : Dev Cert.AdamLane.nD,
      r.2.mem ((c.tc : Thread Cert.AdamLane.nD Cert.AdamLane.τ).loc Cert.AdamLane.main_arg0) = m ((c.tc : Thread Cert.AdamLane.nD Cert.AdamLane.τ).loc Cert.AdamLane.main_arg0)
      ∧ r.2.mem ((c.tc : Thread Cert.AdamLane.nD Cert.AdamLane.τ).loc Cert.AdamLane.main_arg1) = m ((c.tc : Thread Cert.AdamLane.nD Cert.AdamLane.τ).loc Cert.AdamLane.main_arg1)
      ∧ r.2.mem ((c.tc : Thread Cert.AdamLane.nD Cert.AdamLane.τ).loc Cert.AdamLane.main_arg2) = m ((c.tc : Thread Cert.AdamLane.nD Cert.AdamLane.τ).loc Cert.AdamLane.main_arg2)
      ∧ r.2.mem ((c.tc : Thread Cert.AdamLane.nD Cert.AdamLane.τ).loc Cert.AdamLane.main_arg3) = m ((c.tc : Thread Cert.AdamLane.nD Cert.AdamLane.τ).loc Cert.AdamLane.main_arg3))
      ∧ r.2.sem = fun _ => 0)

def quiescent_AdamLaneIdeal [hAdamLaneIdeal : Cert.AdamLaneIdeal.Facts] : Prop :=
  ∀ (m : (ℓ : Loc Cert.AdamLaneIdeal.nD Cert.AdamLaneIdeal.τ Cert.AdamLaneIdeal.sig) → Buf (Elt Ideal) ℓ) (g : Dev Cert.AdamLaneIdeal.nD → PrngReg), Pre_AdamLaneIdeal m →
    θ_run (Cert.AdamLaneIdeal.defs (F := Ideal)) (onTc (τ := Cert.AdamLaneIdeal.τ) (Cert.AdamLaneIdeal.main (F := Ideal))) ⟨m, fun _ => 0, g⟩ (fun r => (∀ c : Dev Cert.AdamLaneIdeal.nD,
      r.2.mem ((c.tc : Thread Cert.AdamLaneIdeal.nD Cert.AdamLaneIdeal.τ).loc Cert.AdamLaneIdeal.main_arg0) = m ((c.tc : Thread Cert.AdamLaneIdeal.nD Cert.AdamLaneIdeal.τ).loc Cert.AdamLaneIdeal.main_arg0)
      ∧ r.2.mem ((c.tc : Thread Cert.AdamLaneIdeal.nD Cert.AdamLaneIdeal.τ).loc Cert.AdamLaneIdeal.main_arg1) = m ((c.tc : Thread Cert.AdamLaneIdeal.nD Cert.AdamLaneIdeal.τ).loc Cert.AdamLaneIdeal.main_arg1)
      ∧ r.2.mem ((c.tc : Thread Cert.AdamLaneIdeal.nD Cert.AdamLaneIdeal.τ).loc Cert.AdamLaneIdeal.main_arg2) = m ((c.tc : Thread Cert.AdamLaneIdeal.nD Cert.AdamLaneIdeal.τ).loc Cert.AdamLaneIdeal.main_arg2)
      ∧ r.2.mem ((c.tc : Thread Cert.AdamLaneIdeal.nD Cert.AdamLaneIdeal.τ).loc Cert.AdamLaneIdeal.main_arg3) = m ((c.tc : Thread Cert.AdamLaneIdeal.nD Cert.AdamLaneIdeal.τ).loc Cert.AdamLaneIdeal.main_arg3))
      ∧ r.2.sem = fun _ => 0)

def quiescent_AdamLaneRefIdeal [hAdamLaneRefIdeal : Cert.AdamLaneRefIdeal.Facts] : Prop :=
  ∀ (m : (ℓ : Loc Cert.AdamLaneRefIdeal.nD Cert.AdamLaneRefIdeal.τ Cert.AdamLaneRefIdeal.sig) → Buf (Elt Ideal) ℓ) (g : Dev Cert.AdamLaneRefIdeal.nD → PrngReg), Pre_AdamLaneRefIdeal m →
    θ_run (Cert.AdamLaneRefIdeal.defs (F := Ideal)) (onTc (τ := Cert.AdamLaneRefIdeal.τ) (Cert.AdamLaneRefIdeal.main (F := Ideal))) ⟨m, fun _ => 0, g⟩ (fun r => (∀ c : Dev Cert.AdamLaneRefIdeal.nD,
      r.2.mem ((c.tc : Thread Cert.AdamLaneRefIdeal.nD Cert.AdamLaneRefIdeal.τ).loc Cert.AdamLaneRefIdeal.main_arg0) = m ((c.tc : Thread Cert.AdamLaneRefIdeal.nD Cert.AdamLaneRefIdeal.τ).loc Cert.AdamLaneRefIdeal.main_arg0)
      ∧ r.2.mem ((c.tc : Thread Cert.AdamLaneRefIdeal.nD Cert.AdamLaneRefIdeal.τ).loc Cert.AdamLaneRefIdeal.main_arg1) = m ((c.tc : Thread Cert.AdamLaneRefIdeal.nD Cert.AdamLaneRefIdeal.τ).loc Cert.AdamLaneRefIdeal.main_arg1)
      ∧ r.2.mem ((c.tc : Thread Cert.AdamLaneRefIdeal.nD Cert.AdamLaneRefIdeal.τ).loc Cert.AdamLaneRefIdeal.main_arg2) = m ((c.tc : Thread Cert.AdamLaneRefIdeal.nD Cert.AdamLaneRefIdeal.τ).loc Cert.AdamLaneRefIdeal.main_arg2)
      ∧ r.2.mem ((c.tc : Thread Cert.AdamLaneRefIdeal.nD Cert.AdamLaneRefIdeal.τ).loc Cert.AdamLaneRefIdeal.main_arg3) = m ((c.tc : Thread Cert.AdamLaneRefIdeal.nD Cert.AdamLaneRefIdeal.τ).loc Cert.AdamLaneRefIdeal.main_arg3))
      ∧ r.2.sem = fun _ => 0)

def quiescent_AdamLora [hAdamLora : Cert.AdamLora.Facts] : Prop :=
  ∀ (m : (ℓ : Loc Cert.AdamLora.nD Cert.AdamLora.τ Cert.AdamLora.sig) → Buf (Elt Bits) ℓ) (g : Dev Cert.AdamLora.nD → PrngReg), Pre_AdamLora m →
    θ_run (Cert.AdamLora.defs (F := Bits)) (onTc (τ := Cert.AdamLora.τ) (Cert.AdamLora.main (F := Bits))) ⟨m, fun _ => 0, g⟩ (fun r => (∀ c : Dev Cert.AdamLora.nD,
      r.2.mem ((c.tc : Thread Cert.AdamLora.nD Cert.AdamLora.τ).loc Cert.AdamLora.main_arg0) = m ((c.tc : Thread Cert.AdamLora.nD Cert.AdamLora.τ).loc Cert.AdamLora.main_arg0)
      ∧ r.2.mem ((c.tc : Thread Cert.AdamLora.nD Cert.AdamLora.τ).loc Cert.AdamLora.main_arg1) = m ((c.tc : Thread Cert.AdamLora.nD Cert.AdamLora.τ).loc Cert.AdamLora.main_arg1)
      ∧ r.2.mem ((c.tc : Thread Cert.AdamLora.nD Cert.AdamLora.τ).loc Cert.AdamLora.main_arg2) = m ((c.tc : Thread Cert.AdamLora.nD Cert.AdamLora.τ).loc Cert.AdamLora.main_arg2)
      ∧ r.2.mem ((c.tc : Thread Cert.AdamLora.nD Cert.AdamLora.τ).loc Cert.AdamLora.main_arg3) = m ((c.tc : Thread Cert.AdamLora.nD Cert.AdamLora.τ).loc Cert.AdamLora.main_arg3))
      ∧ r.2.sem = fun _ => 0)

def quiescent_AdamLoraIdeal [hAdamLoraIdeal : Cert.AdamLoraIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg), Pre_AdamLoraIdeal m →
    θ_run (Cert.AdamLoraIdeal.defs (F := Ideal)) (onTc (τ := Cert.AdamLoraIdeal.τ) (Cert.AdamLoraIdeal.main (F := Ideal))) ⟨m, fun _ => 0, g⟩ (fun r => (∀ c : Dev Cert.AdamLoraIdeal.nD,
      r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
      ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
      ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
      ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3))
      ∧ r.2.sem = fun _ => 0)

def quiescent_AdamLoraRefIdeal [hAdamLoraRefIdeal : Cert.AdamLoraRefIdeal.Facts] : Prop :=
  ∀ (m : (ℓ : Loc Cert.AdamLoraRefIdeal.nD Cert.AdamLoraRefIdeal.τ Cert.AdamLoraRefIdeal.sig) → Buf (Elt Ideal) ℓ) (g : Dev Cert.AdamLoraRefIdeal.nD → PrngReg), Pre_AdamLoraRefIdeal m →
    θ_run (Cert.AdamLoraRefIdeal.defs (F := Ideal)) (onTc (τ := Cert.AdamLoraRefIdeal.τ) (Cert.AdamLoraRefIdeal.main (F := Ideal))) ⟨m, fun _ => 0, g⟩ (fun r => (∀ c : Dev Cert.AdamLoraRefIdeal.nD,
      r.2.mem ((c.tc : Thread Cert.AdamLoraRefIdeal.nD Cert.AdamLoraRefIdeal.τ).loc Cert.AdamLoraRefIdeal.main_arg0) = m ((c.tc : Thread Cert.AdamLoraRefIdeal.nD Cert.AdamLoraRefIdeal.τ).loc Cert.AdamLoraRefIdeal.main_arg0)
      ∧ r.2.mem ((c.tc : Thread Cert.AdamLoraRefIdeal.nD Cert.AdamLoraRefIdeal.τ).loc Cert.AdamLoraRefIdeal.main_arg1) = m ((c.tc : Thread Cert.AdamLoraRefIdeal.nD Cert.AdamLoraRefIdeal.τ).loc Cert.AdamLoraRefIdeal.main_arg1)
      ∧ r.2.mem ((c.tc : Thread Cert.AdamLoraRefIdeal.nD Cert.AdamLoraRefIdeal.τ).loc Cert.AdamLoraRefIdeal.main_arg2) = m ((c.tc : Thread Cert.AdamLoraRefIdeal.nD Cert.AdamLoraRefIdeal.τ).loc Cert.AdamLoraRefIdeal.main_arg2)
      ∧ r.2.mem ((c.tc : Thread Cert.AdamLoraRefIdeal.nD Cert.AdamLoraRefIdeal.τ).loc Cert.AdamLoraRefIdeal.main_arg3) = m ((c.tc : Thread Cert.AdamLoraRefIdeal.nD Cert.AdamLoraRefIdeal.τ).loc Cert.AdamLoraRefIdeal.main_arg3))
      ∧ r.2.sem = fun _ => 0)

def quiescent_AdamRk [hAdamRk : Cert.AdamRk.Facts] : Prop :=
  ∀ (m : (ℓ : Loc Cert.AdamRk.nD Cert.AdamRk.τ Cert.AdamRk.sig) → Buf (Elt Bits) ℓ) (g : Dev Cert.AdamRk.nD → PrngReg), Pre_AdamRk m →
    θ_run (Cert.AdamRk.defs (F := Bits)) (onTc (τ := Cert.AdamRk.τ) (Cert.AdamRk.main (F := Bits))) ⟨m, fun _ => 0, g⟩ (fun r => (∀ c : Dev Cert.AdamRk.nD,
      r.2.mem ((c.tc : Thread Cert.AdamRk.nD Cert.AdamRk.τ).loc Cert.AdamRk.main_arg0) = m ((c.tc : Thread Cert.AdamRk.nD Cert.AdamRk.τ).loc Cert.AdamRk.main_arg0)
      ∧ r.2.mem ((c.tc : Thread Cert.AdamRk.nD Cert.AdamRk.τ).loc Cert.AdamRk.main_arg1) = m ((c.tc : Thread Cert.AdamRk.nD Cert.AdamRk.τ).loc Cert.AdamRk.main_arg1)
      ∧ r.2.mem ((c.tc : Thread Cert.AdamRk.nD Cert.AdamRk.τ).loc Cert.AdamRk.main_arg2) = m ((c.tc : Thread Cert.AdamRk.nD Cert.AdamRk.τ).loc Cert.AdamRk.main_arg2)
      ∧ r.2.mem ((c.tc : Thread Cert.AdamRk.nD Cert.AdamRk.τ).loc Cert.AdamRk.main_arg3) = m ((c.tc : Thread Cert.AdamRk.nD Cert.AdamRk.τ).loc Cert.AdamRk.main_arg3))
      ∧ r.2.sem = fun _ => 0)

def quiescent_AdamRkIdeal [hAdamRkIdeal : Cert.AdamRkIdeal.Facts] : Prop :=
  ∀ (m : (ℓ : Loc Cert.AdamRkIdeal.nD Cert.AdamRkIdeal.τ Cert.AdamRkIdeal.sig) → Buf (Elt Ideal) ℓ) (g : Dev Cert.AdamRkIdeal.nD → PrngReg), Pre_AdamRkIdeal m →
    θ_run (Cert.AdamRkIdeal.defs (F := Ideal)) (onTc (τ := Cert.AdamRkIdeal.τ) (Cert.AdamRkIdeal.main (F := Ideal))) ⟨m, fun _ => 0, g⟩ (fun r => (∀ c : Dev Cert.AdamRkIdeal.nD,
      r.2.mem ((c.tc : Thread Cert.AdamRkIdeal.nD Cert.AdamRkIdeal.τ).loc Cert.AdamRkIdeal.main_arg0) = m ((c.tc : Thread Cert.AdamRkIdeal.nD Cert.AdamRkIdeal.τ).loc Cert.AdamRkIdeal.main_arg0)
      ∧ r.2.mem ((c.tc : Thread Cert.AdamRkIdeal.nD Cert.AdamRkIdeal.τ).loc Cert.AdamRkIdeal.main_arg1) = m ((c.tc : Thread Cert.AdamRkIdeal.nD Cert.AdamRkIdeal.τ).loc Cert.AdamRkIdeal.main_arg1)
      ∧ r.2.mem ((c.tc : Thread Cert.AdamRkIdeal.nD Cert.AdamRkIdeal.τ).loc Cert.AdamRkIdeal.main_arg2) = m ((c.tc : Thread Cert.AdamRkIdeal.nD Cert.AdamRkIdeal.τ).loc Cert.AdamRkIdeal.main_arg2)
      ∧ r.2.mem ((c.tc : Thread Cert.AdamRkIdeal.nD Cert.AdamRkIdeal.τ).loc Cert.AdamRkIdeal.main_arg3) = m ((c.tc : Thread Cert.AdamRkIdeal.nD Cert.AdamRkIdeal.τ).loc Cert.AdamRkIdeal.main_arg3))
      ∧ r.2.sem = fun _ => 0)

def quiescent_AdamRkRefIdeal [hAdamRkRefIdeal : Cert.AdamRkRefIdeal.Facts] : Prop :=
  ∀ (m : (ℓ : Loc Cert.AdamRkRefIdeal.nD Cert.AdamRkRefIdeal.τ Cert.AdamRkRefIdeal.sig) → Buf (Elt Ideal) ℓ) (g : Dev Cert.AdamRkRefIdeal.nD → PrngReg), Pre_AdamRkRefIdeal m →
    θ_run (Cert.AdamRkRefIdeal.defs (F := Ideal)) (onTc (τ := Cert.AdamRkRefIdeal.τ) (Cert.AdamRkRefIdeal.main (F := Ideal))) ⟨m, fun _ => 0, g⟩ (fun r => (∀ c : Dev Cert.AdamRkRefIdeal.nD,
      r.2.mem ((c.tc : Thread Cert.AdamRkRefIdeal.nD Cert.AdamRkRefIdeal.τ).loc Cert.AdamRkRefIdeal.main_arg0) = m ((c.tc : Thread Cert.AdamRkRefIdeal.nD Cert.AdamRkRefIdeal.τ).loc Cert.AdamRkRefIdeal.main_arg0)
      ∧ r.2.mem ((c.tc : Thread Cert.AdamRkRefIdeal.nD Cert.AdamRkRefIdeal.τ).loc Cert.AdamRkRefIdeal.main_arg1) = m ((c.tc : Thread Cert.AdamRkRefIdeal.nD Cert.AdamRkRefIdeal.τ).loc Cert.AdamRkRefIdeal.main_arg1)
      ∧ r.2.mem ((c.tc : Thread Cert.AdamRkRefIdeal.nD Cert.AdamRkRefIdeal.τ).loc Cert.AdamRkRefIdeal.main_arg2) = m ((c.tc : Thread Cert.AdamRkRefIdeal.nD Cert.AdamRkRefIdeal.τ).loc Cert.AdamRkRefIdeal.main_arg2)
      ∧ r.2.mem ((c.tc : Thread Cert.AdamRkRefIdeal.nD Cert.AdamRkRefIdeal.τ).loc Cert.AdamRkRefIdeal.main_arg3) = m ((c.tc : Thread Cert.AdamRkRefIdeal.nD Cert.AdamRkRefIdeal.τ).loc Cert.AdamRkRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4)
      ∧ r.2.mem ((c.tc : Thread Cert.AdaBwd.nD Cert.AdaBwd.τ).loc Cert.AdaBwd.main_arg5) = m ((c.tc : Thread Cert.AdaBwd.nD Cert.AdaBwd.τ).loc Cert.AdaBwd.main_arg5)
      ∧ r.2.mem ((c.tc : Thread Cert.AdaBwd.nD Cert.AdaBwd.τ).loc Cert.AdaBwd.main_arg6) = m ((c.tc : Thread Cert.AdaBwd.nD Cert.AdaBwd.τ).loc Cert.AdaBwd.main_arg6))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4)
      ∧ r.2.mem ((c.tc : Thread Cert.AdaBwdIdeal.nD Cert.AdaBwdIdeal.τ).loc Cert.AdaBwdIdeal.main_arg5) = m ((c.tc : Thread Cert.AdaBwdIdeal.nD Cert.AdaBwdIdeal.τ).loc Cert.AdaBwdIdeal.main_arg5)
      ∧ r.2.mem ((c.tc : Thread Cert.AdaBwdIdeal.nD Cert.AdaBwdIdeal.τ).loc Cert.AdaBwdIdeal.main_arg6) = m ((c.tc : Thread Cert.AdaBwdIdeal.nD Cert.AdaBwdIdeal.τ).loc Cert.AdaBwdIdeal.main_arg6))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4)
      ∧ r.2.mem ((c.tc : Thread Cert.AdaBwdRefIdeal.nD Cert.AdaBwdRefIdeal.τ).loc Cert.AdaBwdRefIdeal.main_arg5) = m ((c.tc : Thread Cert.AdaBwdRefIdeal.nD Cert.AdaBwdRefIdeal.τ).loc Cert.AdaBwdRefIdeal.main_arg5)
      ∧ r.2.mem ((c.tc : Thread Cert.AdaBwdRefIdeal.nD Cert.AdaBwdRefIdeal.τ).loc Cert.AdaBwdRefIdeal.main_arg6) = m ((c.tc : Thread Cert.AdaBwdRefIdeal.nD Cert.AdaBwdRefIdeal.τ).loc Cert.AdaBwdRefIdeal.main_arg6))
      ∧ r.2.sem = fun _ => 0)

def quiescent_Cctx [hCctx : Cert.Cctx.Facts] : Prop :=
  ∀ (m : (ℓ : Loc Cert.Cctx.nD Cert.Cctx.τ Cert.Cctx.sig) → Buf (Elt Bits) ℓ) (g : Dev Cert.Cctx.nD → PrngReg), Pre_Cctx m →
    θ_run (Cert.Cctx.defs (F := Bits)) (onTc (τ := Cert.Cctx.τ) (Cert.Cctx.main (F := Bits))) ⟨m, fun _ => 0, g⟩ (fun r => (∀ c : Dev Cert.Cctx.nD,
      r.2.mem ((c.tc : Thread Cert.Cctx.nD Cert.Cctx.τ).loc Cert.Cctx.main_arg0) = m ((c.tc : Thread Cert.Cctx.nD Cert.Cctx.τ).loc Cert.Cctx.main_arg0)
      ∧ r.2.mem ((c.tc : Thread Cert.Cctx.nD Cert.Cctx.τ).loc Cert.Cctx.main_arg1) = m ((c.tc : Thread Cert.Cctx.nD Cert.Cctx.τ).loc Cert.Cctx.main_arg1))
      ∧ r.2.sem = fun _ => 0)

def quiescent_CctxIdeal [hCctxIdeal : Cert.CctxIdeal.Facts] : Prop :=
  ∀ (m : (ℓ : Loc Cert.CctxIdeal.nD Cert.CctxIdeal.τ Cert.CctxIdeal.sig) → Buf (Elt Ideal) ℓ) (g : Dev Cert.CctxIdeal.nD → PrngReg), Pre_CctxIdeal m →
    θ_run (Cert.CctxIdeal.defs (F := Ideal)) (onTc (τ := Cert.CctxIdeal.τ) (Cert.CctxIdeal.main (F := Ideal))) ⟨m, fun _ => 0, g⟩ (fun r => (∀ c : Dev Cert.CctxIdeal.nD,
      r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
      ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1))
      ∧ r.2.sem = fun _ => 0)

def quiescent_CctxIdeal_pre_parts_finite [hCctxIdeal : Cert.CctxIdeal.Facts] [hPre_parts_finite : Cert.Pre_parts_finite.Facts] : Prop :=
  ∀ (m : (ℓ : Loc Cert.CctxIdeal.nD Cert.CctxIdeal.τ Cert.CctxIdeal.sig) → Buf (Elt Ideal) ℓ) (g : Dev Cert.CctxIdeal.nD → PrngReg), Pre_CctxIdeal_parts_finite m →
    θ_run (Cert.CctxIdeal.defs (F := Ideal)) (onTc (τ := Cert.CctxIdeal.τ) (Cert.CctxIdeal.main (F := Ideal))) ⟨m, fun _ => 0, g⟩ (fun r => (∀ c : Dev Cert.CctxIdeal.nD,
      r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
      ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1))
      ∧ r.2.sem = fun _ => 0)

def quiescent_CctxRefIdeal [hCctxRefIdeal : Cert.CctxRefIdeal.Facts] : Prop :=
  ∀ (m : (ℓ : Loc Cert.CctxRefIdeal.nD Cert.CctxRefIdeal.τ Cert.CctxRefIdeal.sig) → Buf (Elt Ideal) ℓ) (g : Dev Cert.CctxRefIdeal.nD → PrngReg), Pre_CctxRefIdeal m →
    θ_run (Cert.CctxRefIdeal.defs (F := Ideal)) (onTc (τ := Cert.CctxRefIdeal.τ) (Cert.CctxRefIdeal.main (F := Ideal))) ⟨m, fun _ => 0, g⟩ (fun r => (∀ c : Dev Cert.CctxRefIdeal.nD,
      r.2.mem ((c.tc : Thread Cert.CctxRefIdeal.nD Cert.CctxRefIdeal.τ).loc Cert.CctxRefIdeal.main_arg0) = m ((c.tc : Thread Cert.CctxRefIdeal.nD Cert.CctxRefIdeal.τ).loc Cert.CctxRefIdeal.main_arg0)
      ∧ r.2.mem ((c.tc : Thread Cert.CctxRefIdeal.nD Cert.CctxRefIdeal.τ).loc Cert.CctxRefIdeal.main_arg1) = m ((c.tc : Thread Cert.CctxRefIdeal.nD Cert.CctxRefIdeal.τ).loc Cert.CctxRefIdeal.main_arg1))
      ∧ r.2.sem = fun _ => 0)

def quiescent_CctxRefIdeal_pre_parts_finite [hCctxRefIdeal : Cert.CctxRefIdeal.Facts] [hPre_parts_finite : Cert.Pre_parts_finite.Facts] : Prop :=
  ∀ (m : (ℓ : Loc Cert.CctxRefIdeal.nD Cert.CctxRefIdeal.τ Cert.CctxRefIdeal.sig) → Buf (Elt Ideal) ℓ) (g : Dev Cert.CctxRefIdeal.nD → PrngReg), Pre_CctxRefIdeal_parts_finite m →
    θ_run (Cert.CctxRefIdeal.defs (F := Ideal)) (onTc (τ := Cert.CctxRefIdeal.τ) (Cert.CctxRefIdeal.main (F := Ideal))) ⟨m, fun _ => 0, g⟩ (fun r => (∀ c : Dev Cert.CctxRefIdeal.nD,
      r.2.mem ((c.tc : Thread Cert.CctxRefIdeal.nD Cert.CctxRefIdeal.τ).loc Cert.CctxRefIdeal.main_arg0) = m ((c.tc : Thread Cert.CctxRefIdeal.nD Cert.CctxRefIdeal.τ).loc Cert.CctxRefIdeal.main_arg0)
      ∧ r.2.mem ((c.tc : Thread Cert.CctxRefIdeal.nD Cert.CctxRefIdeal.τ).loc Cert.CctxRefIdeal.main_arg1) = m ((c.tc : Thread Cert.CctxRefIdeal.nD Cert.CctxRefIdeal.τ).loc Cert.CctxRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v3) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v2)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v3) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_DwRw_DwRwIdeal : Prop :=
  True

def algebraic_DwRwIdeal_DwRwRefIdeal [hDwRwIdeal : Cert.DwRwIdeal.Facts] [hDwRwRefIdeal : Cert.DwRwRefIdeal.Facts] : Prop :=
  ∀ (m : (ℓ : Loc Cert.DwRwIdeal.nD Cert.DwRwIdeal.τ Cert.DwRwIdeal.sig) → Buf (Elt Ideal) ℓ) (g : Dev Cert.DwRwIdeal.nD → PrngReg)
    (m' : (ℓ : Loc Cert.DwRwRefIdeal.nD Cert.DwRwRefIdeal.τ Cert.DwRwRefIdeal.sig) → Buf (Elt Ideal) ℓ) (g' : Dev Cert.DwRwRefIdeal.nD → PrngReg), Pre_DwRwIdeal m →
    (∀ c : Dev Cert.DwRwIdeal.nD,
      m' ((c.tc : Thread Cert.DwRwRefIdeal.nD Cert.DwRwRefIdeal.τ).loc Cert.DwRwRefIdeal.main_arg0) = m ((c.tc : Thread Cert.DwRwIdeal.nD Cert.DwRwIdeal.τ).loc Cert.DwRwIdeal.main_arg0)
      ∧ m' ((c.tc : Thread Cert.DwRwRefIdeal.nD Cert.DwRwRefIdeal.τ).loc Cert.DwRwRefIdeal.main_arg1) = m ((c.tc : Thread Cert.DwRwIdeal.nD Cert.DwRwIdeal.τ).loc Cert.DwRwIdeal.main_arg1)) →
    ∃ (v0 : (c : Dev Cert.DwRwIdeal.nD) → Buf (Elt Ideal) ((c.tc : Thread Cert.DwRwIdeal.nD Cert.DwRwIdeal.τ).loc Cert.DwRwIdeal.main_v2)),
      θ_run (Cert.DwRwIdeal.defs (F := Ideal)) (onTc (τ := Cert.DwRwIdeal.τ) (Cert.DwRwIdeal.main (F := Ideal))) ⟨m, fun _ => 0, g⟩ (fun r => ∀ c : Dev Cert.DwRwIdeal.nD,
          r.2.mem ((c.tc : Thread Cert.DwRwIdeal.nD Cert.DwRwIdeal.τ).loc Cert.DwRwIdeal.main_v2) = v0 c
          ∧ r.2.mem ((c.tc : Thread Cert.DwRwIdeal.nD Cert.DwRwIdeal.τ).loc Cert.DwRwIdeal.main_arg0) = m ((c.tc : Thread Cert.DwRwIdeal.nD Cert.DwRwIdeal.τ).loc Cert.DwRwIdeal.main_arg0)
          ∧ r.2.mem ((c.tc : Thread Cert.DwRwIdeal.nD Cert.DwRwIdeal.τ).loc Cert.DwRwIdeal.main_arg1) = m ((c.tc : Thread Cert.DwRwIdeal.nD Cert.DwRwIdeal.τ).loc Cert.DwRwIdeal.main_arg1))
      ∧ θ_run (Cert.DwRwRefIdeal.defs (F := Ideal)) (onTc (τ := Cert.DwRwRefIdeal.τ) (Cert.DwRwRefIdeal.main (F := Ideal))) ⟨m', fun _ => 0, g'⟩ (fun r => ∀ c : Dev Cert.DwRwRefIdeal.nD,
          r.2.mem ((c.tc : Thread Cert.DwRwRefIdeal.nD Cert.DwRwRefIdeal.τ).loc Cert.DwRwRefIdeal.main_v3) = v0 c
          ∧ r.2.mem ((c.tc : Thread Cert.DwRwRefIdeal.nD Cert.DwRwRefIdeal.τ).loc Cert.DwRwRefIdeal.main_arg0) = m' ((c.tc : Thread Cert.DwRwRefIdeal.nD Cert.DwRwRefIdeal.τ).loc Cert.DwRwRefIdeal.main_arg0)
          ∧ r.2.mem ((c.tc : Thread Cert.DwRwRefIdeal.nD Cert.DwRwRefIdeal.τ).loc Cert.DwRwRefIdeal.main_arg1) = m' ((c.tc : Thread Cert.DwRwRefIdeal.nD Cert.DwRwRefIdeal.τ).loc Cert.DwRwRefIdeal.main_arg1))

def preserves_DwCv_DwCvIdeal : Prop :=
  True

def algebraic_DwCvIdeal_DwCvRefIdeal [hDwCvIdeal : Cert.DwCvIdeal.Facts] [hDwCvRefIdeal : Cert.DwCvRefIdeal.Facts] : Prop :=
  ∀ (m : (ℓ : Loc Cert.DwCvIdeal.nD Cert.DwCvIdeal.τ Cert.DwCvIdeal.sig) → Buf (Elt Ideal) ℓ) (g : Dev Cert.DwCvIdeal.nD → PrngReg)
    (m' : (ℓ : Loc Cert.DwCvRefIdeal.nD Cert.DwCvRefIdeal.τ Cert.DwCvRefIdeal.sig) → Buf (Elt Ideal) ℓ) (g' : Dev Cert.DwCvRefIdeal.nD → PrngReg), Pre_DwCvIdeal m →
    (∀ c : Dev Cert.DwCvIdeal.nD,
      m' ((c.tc : Thread Cert.DwCvRefIdeal.nD Cert.DwCvRefIdeal.τ).loc Cert.DwCvRefIdeal.main_arg0) = m ((c.tc : Thread Cert.DwCvIdeal.nD Cert.DwCvIdeal.τ).loc Cert.DwCvIdeal.main_arg0)
      ∧ m' ((c.tc : Thread Cert.DwCvRefIdeal.nD Cert.DwCvRefIdeal.τ).loc Cert.DwCvRefIdeal.main_arg1) = m ((c.tc : Thread Cert.DwCvIdeal.nD Cert.DwCvIdeal.τ).loc Cert.DwCvIdeal.main_arg1)) →
    ∃ (v0 : (c : Dev Cert.DwCvIdeal.nD) → Buf (Elt Ideal) ((c.tc : Thread Cert.DwCvIdeal.nD Cert.DwCvIdeal.τ).loc Cert.DwCvIdeal.main_v2)),
      θ_run (Cert.DwCvIdeal.defs (F := Ideal)) (onTc (τ := Cert.DwCvIdeal.τ) (Cert.DwCvIdeal.main (F := Ideal))) ⟨m, fun _ => 0, g⟩ (fun r => ∀ c : Dev Cert.DwCvIdeal.nD,
          r.2.mem ((c.tc : Thread Cert.DwCvIdeal.nD Cert.DwCvIdeal.τ).loc Cert.DwCvIdeal.main_v2) = v0 c
          ∧ r.2.mem ((c.tc : Thread Cert.DwCvIdeal.nD Cert.DwCvIdeal.τ).loc Cert.DwCvIdeal.main_arg0) = m ((c.tc : Thread Cert.DwCvIdeal.nD Cert.DwCvIdeal.τ).loc Cert.DwCvIdeal.main_arg0)
          ∧ r.2.mem ((c.tc : Thread Cert.DwCvIdeal.nD Cert.DwCvIdeal.τ).loc Cert.DwCvIdeal.main_arg1) = m ((c.tc : Thread Cert.DwCvIdeal.nD Cert.DwCvIdeal.τ).loc Cert.DwCvIdeal.main_arg1))
      ∧ θ_run (Cert.DwCvRefIdeal.defs (F := Ideal)) (onTc (τ := Cert.DwCvRefIdeal.τ) (Cert.DwCvRefIdeal.main (F := Ideal))) ⟨m', fun _ => 0, g'⟩ (fun r => ∀ c : Dev Cert.DwCvRefIdeal.nD,
          r.2.mem ((c.tc : Thread Cert.DwCvRefIdeal.nD Cert.DwCvRefIdeal.τ).loc Cert.DwCvRefIdeal.main_v3) = v0 c
          ∧ r.2.mem ((c.tc : Thread Cert.DwCvRefIdeal.nD Cert.DwCvRefIdeal.τ).loc Cert.DwCvRefIdeal.main_arg0) = m' ((c.tc : Thread Cert.DwCvRefIdeal.nD Cert.DwCvRefIdeal.τ).loc Cert.DwCvRefIdeal.main_arg0)
          ∧ r.2.mem ((c.tc : Thread Cert.DwCvRefIdeal.nD Cert.DwCvRefIdeal.τ).loc Cert.DwCvRefIdeal.main_arg1) = m' ((c.tc : Thread Cert.DwCvRefIdeal.nD Cert.DwCvRefIdeal.τ).loc Cert.DwCvRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v34_0)) (v1 : (c : Dev Cert.MlpIdeal.nD) → Buf (Elt Ideal) ((c.tc : Thread Cert.MlpIdeal.nD Cert.MlpIdeal.τ).loc Cert.MlpIdeal.main_v34_1)) (v2 : (c : Dev Cert.MlpIdeal.nD) → Buf (Elt Ideal) ((c.tc : Thread Cert.MlpIdeal.nD Cert.MlpIdeal.τ).loc Cert.MlpIdeal.main_v34_2)) (v3 : (c : Dev Cert.MlpIdeal.nD) → Buf (Elt Ideal) ((c.tc : Thread Cert.MlpIdeal.nD Cert.MlpIdeal.τ).loc Cert.MlpIdeal.main_v34_3)) (v4 : (c : Dev Cert.MlpIdeal.nD) → Buf (Elt Ideal) ((c.tc : Thread Cert.MlpIdeal.nD Cert.MlpIdeal.τ).loc Cert.MlpIdeal.main_v34_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v34_0) = v0 c
          ∧ r.2.mem ((c.tc : Thread Cert.MlpIdeal.nD Cert.MlpIdeal.τ).loc Cert.MlpIdeal.main_v34_1) = v1 c
          ∧ r.2.mem ((c.tc : Thread Cert.MlpIdeal.nD Cert.MlpIdeal.τ).loc Cert.MlpIdeal.main_v34_2) = v2 c
          ∧ r.2.mem ((c.tc : Thread Cert.MlpIdeal.nD Cert.MlpIdeal.τ).loc Cert.MlpIdeal.main_v34_3) = v3 c
          ∧ r.2.mem ((c.tc : Thread Cert.MlpIdeal.nD Cert.MlpIdeal.τ).loc Cert.MlpIdeal.main_v34_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v73) = v0 c
          ∧ r.2.mem ((c.tc : Thread Cert.MlpRefIdeal.nD Cert.MlpRefIdeal.τ).loc Cert.MlpRefIdeal.main_v75) = v1 c
          ∧ r.2.mem ((c.tc : Thread Cert.MlpRefIdeal.nD Cert.MlpRefIdeal.τ).loc Cert.MlpRefIdeal.main_v76) = v2 c
          ∧ r.2.mem ((c.tc : Thread Cert.MlpRefIdeal.nD Cert.MlpRefIdeal.τ).loc Cert.MlpRefIdeal.main_v77) = v3 c
          ∧ r.2.mem ((c.tc : Thread Cert.MlpRefIdeal.nD Cert.MlpRefIdeal.τ).loc Cert.MlpRefIdeal.main_v78) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_MixPost_MixPostIdeal : Prop :=
  True

def algebraic_MixPostIdeal_MixPostRefIdeal [hMixPostIdeal : Cert.MixPostIdeal.Facts] [hMixPostRefIdeal : Cert.MixPostRefIdeal.Facts] : Prop :=
  ∀ (m : (ℓ : Loc Cert.MixPostIdeal.nD Cert.MixPostIdeal.τ Cert.MixPostIdeal.sig) → Buf (Elt Ideal) ℓ) (g : Dev Cert.MixPostIdeal.nD → PrngReg)
    (m' : (ℓ : Loc Cert.MixPostRefIdeal.nD Cert.MixPostRefIdeal.τ Cert.MixPostRefIdeal.sig) → Buf (Elt Ideal) ℓ) (g' : Dev Cert.MixPostRefIdeal.nD → PrngReg), Pre_MixPostIdeal m →
    (∀ c : Dev Cert.MixPostIdeal.nD,
      m' ((c.tc : Thread Cert.MixPostRefIdeal.nD Cert.MixPostRefIdeal.τ).loc Cert.MixPostRefIdeal.main_arg0) = m ((c.tc : Thread Cert.MixPostIdeal.nD Cert.MixPostIdeal.τ).loc Cert.MixPostIdeal.main_arg0)
      ∧ m' ((c.tc : Thread Cert.MixPostRefIdeal.nD Cert.MixPostRefIdeal.τ).loc Cert.MixPostRefIdeal.main_arg1) = m ((c.tc : Thread Cert.MixPostIdeal.nD Cert.MixPostIdeal.τ).loc Cert.MixPostIdeal.main_arg1)
      ∧ m' ((c.tc : Thread Cert.MixPostRefIdeal.nD Cert.MixPostRefIdeal.τ).loc Cert.MixPostRefIdeal.main_arg2) = m ((c.tc : Thread Cert.MixPostIdeal.nD Cert.MixPostIdeal.τ).loc Cert.MixPostIdeal.main_arg2)
      ∧ m' ((c.tc : Thread Cert.MixPostRefIdeal.nD Cert.MixPostRefIdeal.τ).loc Cert.MixPostRefIdeal.main_arg3) = m ((c.tc : Thread Cert.MixPostIdeal.nD Cert.MixPostIdeal.τ).loc Cert.MixPostIdeal.main_arg3)
      ∧ m' ((c.tc : Thread Cert.MixPostRefIdeal.nD Cert.MixPostRefIdeal.τ).loc Cert.MixPostRefIdeal.main_arg4) = m ((c.tc : Thread Cert.MixPostIdeal.nD Cert.MixPostIdeal.τ).loc Cert.MixPostIdeal.main_arg4)) →
    ∃ (v0 : (c : Dev Cert.MixPostIdeal.nD) → Buf (Elt Ideal) ((c.tc : Thread Cert.MixPostIdeal.nD Cert.MixPostIdeal.τ).loc Cert.MixPostIdeal.main_v1_0)) (v1 : (c : Dev Cert.MixPostIdeal.nD) → Buf (Elt Ideal) ((c.tc : Thread Cert.MixPostIdeal.nD Cert.MixPostIdeal.τ).loc Cert.MixPostIdeal.main_v1_1)) (v2 : (c : Dev Cert.MixPostIdeal.nD) → Buf (Elt Ideal) ((c.tc : Thread Cert.MixPostIdeal.nD Cert.MixPostIdeal.τ).loc Cert.MixPostIdeal.main_v1_2)) (v3 : (c : Dev Cert.MixPostIdeal.nD) → Buf (Elt Ideal) ((c.tc : Thread Cert.MixPostIdeal.nD Cert.MixPostIdeal.τ).loc Cert.MixPostIdeal.main_v1_3)),
      θ_run (Cert.MixPostIdeal.defs (F := Ideal)) (onTc (τ := Cert.MixPostIdeal.τ) (Cert.MixPostIdeal.main (F := Ideal))) ⟨m, fun _ => 0, g⟩ (fun r => ∀ c : Dev Cert.MixPostIdeal.nD,
          r.2.mem ((c.tc : Thread Cert.MixPostIdeal.nD Cert.MixPostIdeal.τ).loc Cert.MixPostIdeal.main_v1_0) = v0 c
          ∧ r.2.mem ((c.tc : Thread Cert.MixPostIdeal.nD Cert.MixPostIdeal.τ).loc Cert.MixPostIdeal.main_v1_1) = v1 c
          ∧ r.2.mem ((c.tc : Thread Cert.MixPostIdeal.nD Cert.MixPostIdeal.τ).loc Cert.MixPostIdeal.main_v1_2) = v2 c
          ∧ r.2.mem ((c.tc : Thread Cert.MixPostIdeal.nD Cert.MixPostIdeal.τ).loc Cert.MixPostIdeal.main_v1_3) = v3 c
          ∧ r.2.mem ((c.tc : Thread Cert.MixPostIdeal.nD Cert.MixPostIdeal.τ).loc Cert.MixPostIdeal.main_arg0) = m ((c.tc : Thread Cert.MixPostIdeal.nD Cert.MixPostIdeal.τ).loc Cert.MixPostIdeal.main_arg0)
          ∧ r.2.mem ((c.tc : Thread Cert.MixPostIdeal.nD Cert.MixPostIdeal.τ).loc Cert.MixPostIdeal.main_arg1) = m ((c.tc : Thread Cert.MixPostIdeal.nD Cert.MixPostIdeal.τ).loc Cert.MixPostIdeal.main_arg1)
          ∧ r.2.mem ((c.tc : Thread Cert.MixPostIdeal.nD Cert.MixPostIdeal.τ).loc Cert.MixPostIdeal.main_arg2) = m ((c.tc : Thread Cert.MixPostIdeal.nD Cert.MixPostIdeal.τ).loc Cert.MixPostIdeal.main_arg2)
          ∧ r.2.mem ((c.tc : Thread Cert.MixPostIdeal.nD Cert.MixPostIdeal.τ).loc Cert.MixPostIdeal.main_arg3) = m ((c.tc : Thread Cert.MixPostIdeal.nD Cert.MixPostIdeal.τ).loc Cert.MixPostIdeal.main_arg3)
          ∧ r.2.mem ((c.tc : Thread Cert.MixPostIdeal.nD Cert.MixPostIdeal.τ).loc Cert.MixPostIdeal.main_arg4) = m ((c.tc : Thread Cert.MixPostIdeal.nD Cert.MixPostIdeal.τ).loc Cert.MixPostIdeal.main_arg4))
      ∧ θ_run (Cert.MixPostRefIdeal.defs (F := Ideal)) (onTc (τ := Cert.MixPostRefIdeal.τ) (Cert.MixPostRefIdeal.main (F := Ideal))) ⟨m', fun _ => 0, g'⟩ (fun r => ∀ c : Dev Cert.MixPostRefIdeal.nD,
          r.2.mem ((c.tc : Thread Cert.MixPostRefIdeal.nD Cert.MixPostRefIdeal.τ).loc Cert.MixPostRefIdeal.main_v54) = v0 c
          ∧ r.2.mem ((c.tc : Thread Cert.MixPostRefIdeal.nD Cert.MixPostRefIdeal.τ).loc Cert.MixPostRefIdeal.main_v57) = v1 c
          ∧ r.2.mem ((c.tc : Thread Cert.MixPostRefIdeal.nD Cert.MixPostRefIdeal.τ).loc Cert.MixPostRefIdeal.main_v27) = v2 c
          ∧ r.2.mem ((c.tc : Thread Cert.MixPostRefIdeal.nD Cert.MixPostRefIdeal.τ).loc Cert.MixPostRefIdeal.main_v58) = v3 c
          ∧ r.2.mem ((c.tc : Thread Cert.MixPostRefIdeal.nD Cert.MixPostRefIdeal.τ).loc Cert.MixPostRefIdeal.main_arg0) = m' ((c.tc : Thread Cert.MixPostRefIdeal.nD Cert.MixPostRefIdeal.τ).loc Cert.MixPostRefIdeal.main_arg0)
          ∧ r.2.mem ((c.tc : Thread Cert.MixPostRefIdeal.nD Cert.MixPostRefIdeal.τ).loc Cert.MixPostRefIdeal.main_arg1) = m' ((c.tc : Thread Cert.MixPostRefIdeal.nD Cert.MixPostRefIdeal.τ).loc Cert.MixPostRefIdeal.main_arg1)
          ∧ r.2.mem ((c.tc : Thread Cert.MixPostRefIdeal.nD Cert.MixPostRefIdeal.τ).loc Cert.MixPostRefIdeal.main_arg2) = m' ((c.tc : Thread Cert.MixPostRefIdeal.nD Cert.MixPostRefIdeal.τ).loc Cert.MixPostRefIdeal.main_arg2)
          ∧ r.2.mem ((c.tc : Thread Cert.MixPostRefIdeal.nD Cert.MixPostRefIdeal.τ).loc Cert.MixPostRefIdeal.main_arg3) = m' ((c.tc : Thread Cert.MixPostRefIdeal.nD Cert.MixPostRefIdeal.τ).loc Cert.MixPostRefIdeal.main_arg3)
          ∧ r.2.mem ((c.tc : Thread Cert.MixPostRefIdeal.nD Cert.MixPostRefIdeal.τ).loc Cert.MixPostRefIdeal.main_arg4) = m' ((c.tc : Thread Cert.MixPostRefIdeal.nD Cert.MixPostRefIdeal.τ).loc Cert.MixPostRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)) (v2 : (c : Dev Cert.MixInIdeal.nD) → Buf (Elt Ideal) ((c.tc : Thread Cert.MixInIdeal.nD Cert.MixInIdeal.τ).loc Cert.MixInIdeal.main_v2_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_v2_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v52) = v0 c
          ∧ r.2.mem ((c.tc : Thread Cert.MixInRefIdeal.nD Cert.MixInRefIdeal.τ).loc Cert.MixInRefIdeal.main_v53) = v1 c
          ∧ r.2.mem ((c.tc : Thread Cert.MixInRefIdeal.nD Cert.MixInRefIdeal.τ).loc Cert.MixInRefIdeal.main_v54) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v36_0)) (v1 : (c : Dev Cert.ConvIdeal.nD) → Buf (Elt Ideal) ((c.tc : Thread Cert.ConvIdeal.nD Cert.ConvIdeal.τ).loc Cert.ConvIdeal.main_v36_1)) (v2 : (c : Dev Cert.ConvIdeal.nD) → Buf (Elt Ideal) ((c.tc : Thread Cert.ConvIdeal.nD Cert.ConvIdeal.τ).loc Cert.ConvIdeal.main_v36_2)) (v3 : (c : Dev Cert.ConvIdeal.nD) → Buf (Elt Ideal) ((c.tc : Thread Cert.ConvIdeal.nD Cert.ConvIdeal.τ).loc Cert.ConvIdeal.main_v36_3)) (v4 : (c : Dev Cert.ConvIdeal.nD) → Buf (Elt Ideal) ((c.tc : Thread Cert.ConvIdeal.nD Cert.ConvIdeal.τ).loc Cert.ConvIdeal.main_v36_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v36_0) = v0 c
          ∧ r.2.mem ((c.tc : Thread Cert.ConvIdeal.nD Cert.ConvIdeal.τ).loc Cert.ConvIdeal.main_v36_1) = v1 c
          ∧ r.2.mem ((c.tc : Thread Cert.ConvIdeal.nD Cert.ConvIdeal.τ).loc Cert.ConvIdeal.main_v36_2) = v2 c
          ∧ r.2.mem ((c.tc : Thread Cert.ConvIdeal.nD Cert.ConvIdeal.τ).loc Cert.ConvIdeal.main_v36_3) = v3 c
          ∧ r.2.mem ((c.tc : Thread Cert.ConvIdeal.nD Cert.ConvIdeal.τ).loc Cert.ConvIdeal.main_v36_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v122) = v0 c
          ∧ r.2.mem ((c.tc : Thread Cert.ConvRefIdeal.nD Cert.ConvRefIdeal.τ).loc Cert.ConvRefIdeal.main_v124) = v1 c
          ∧ r.2.mem ((c.tc : Thread Cert.ConvRefIdeal.nD Cert.ConvRefIdeal.τ).loc Cert.ConvRefIdeal.main_v125) = v2 c
          ∧ r.2.mem ((c.tc : Thread Cert.ConvRefIdeal.nD Cert.ConvRefIdeal.τ).loc Cert.ConvRefIdeal.main_v126) = v3 c
          ∧ r.2.mem ((c.tc : Thread Cert.ConvRefIdeal.nD Cert.ConvRefIdeal.τ).loc Cert.ConvRefIdeal.main_v127) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v23) = v0 c
          ∧ r.2.mem ((c.tc : Thread Cert.AdamAdaBRefIdeal.nD Cert.AdamAdaBRefIdeal.τ).loc Cert.AdamAdaBRefIdeal.main_v4) = v1 c
          ∧ r.2.mem ((c.tc : Thread Cert.AdamAdaBRefIdeal.nD Cert.AdamAdaBRefIdeal.τ).loc Cert.AdamAdaBRefIdeal.main_v10) = v2 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamShift_AdamShiftIdeal : Prop :=
  True

def algebraic_AdamShiftIdeal_AdamShiftRefIdeal [hAdamShiftIdeal : Cert.AdamShiftIdeal.Facts] [hAdamShiftRefIdeal : Cert.AdamShiftRefIdeal.Facts] : Prop :=
  ∀ (m : (ℓ : Loc Cert.AdamShiftIdeal.nD Cert.AdamShiftIdeal.τ Cert.AdamShiftIdeal.sig) → Buf (Elt Ideal) ℓ) (g : Dev Cert.AdamShiftIdeal.nD → PrngReg)
    (m' : (ℓ : Loc Cert.AdamShiftRefIdeal.nD Cert.AdamShiftRefIdeal.τ Cert.AdamShiftRefIdeal.sig) → Buf (Elt Ideal) ℓ) (g' : Dev Cert.AdamShiftRefIdeal.nD → PrngReg), Pre_AdamShiftIdeal m →
    (∀ c : Dev Cert.AdamShiftIdeal.nD,
      m' ((c.tc : Thread Cert.AdamShiftRefIdeal.nD Cert.AdamShiftRefIdeal.τ).loc Cert.AdamShiftRefIdeal.main_arg0) = m ((c.tc : Thread Cert.AdamShiftIdeal.nD Cert.AdamShiftIdeal.τ).loc Cert.AdamShiftIdeal.main_arg0)
      ∧ m' ((c.tc : Thread Cert.AdamShiftRefIdeal.nD Cert.AdamShiftRefIdeal.τ).loc Cert.AdamShiftRefIdeal.main_arg1) = m ((c.tc : Thread Cert.AdamShiftIdeal.nD Cert.AdamShiftIdeal.τ).loc Cert.AdamShiftIdeal.main_arg1)
      ∧ m' ((c.tc : Thread Cert.AdamShiftRefIdeal.nD Cert.AdamShiftRefIdeal.τ).loc Cert.AdamShiftRefIdeal.main_arg2) = m ((c.tc : Thread Cert.AdamShiftIdeal.nD Cert.AdamShiftIdeal.τ).loc Cert.AdamShiftIdeal.main_arg2)
      ∧ m' ((c.tc : Thread Cert.AdamShiftRefIdeal.nD Cert.AdamShiftRefIdeal.τ).loc Cert.AdamShiftRefIdeal.main_arg3) = m ((c.tc : Thread Cert.AdamShiftIdeal.nD Cert.AdamShiftIdeal.τ).loc Cert.AdamShiftIdeal.main_arg3)) →
    ∃ (v0 : (c : Dev Cert.AdamShiftIdeal.nD) → Buf (Elt Ideal) ((c.tc : Thread Cert.AdamShiftIdeal.nD Cert.AdamShiftIdeal.τ).loc Cert.AdamShiftIdeal.main_v0_0)) (v1 : (c : Dev Cert.AdamShiftIdeal.nD) → Buf (Elt Ideal) ((c.tc : Thread Cert.AdamShiftIdeal.nD Cert.AdamShiftIdeal.τ).loc Cert.AdamShiftIdeal.main_v0_1)) (v2 : (c : Dev Cert.AdamShiftIdeal.nD) → Buf (Elt Ideal) ((c.tc : Thread Cert.AdamShiftIdeal.nD Cert.AdamShiftIdeal.τ).loc Cert.AdamShiftIdeal.main_v0_2)),
      θ_run (Cert.AdamShiftIdeal.defs (F := Ideal)) (onTc (τ := Cert.AdamShiftIdeal.τ) (Cert.AdamShiftIdeal.main (F := Ideal))) ⟨m, fun _ => 0, g⟩ (fun r => ∀ c : Dev Cert.AdamShiftIdeal.nD,
          r.2.mem ((c.tc : Thread Cert.AdamShiftIdeal.nD Cert.AdamShiftIdeal.τ).loc Cert.AdamShiftIdeal.main_v0_0) = v0 c
          ∧ r.2.mem ((c.tc : Thread Cert.AdamShiftIdeal.nD Cert.AdamShiftIdeal.τ).loc Cert.AdamShiftIdeal.main_v0_1) = v1 c
          ∧ r.2.mem ((c.tc : Thread Cert.AdamShiftIdeal.nD Cert.AdamShiftIdeal.τ).loc Cert.AdamShiftIdeal.main_v0_2) = v2 c
          ∧ r.2.mem ((c.tc : Thread Cert.AdamShiftIdeal.nD Cert.AdamShiftIdeal.τ).loc Cert.AdamShiftIdeal.main_arg0) = m ((c.tc : Thread Cert.AdamShiftIdeal.nD Cert.AdamShiftIdeal.τ).loc Cert.AdamShiftIdeal.main_arg0)
          ∧ r.2.mem ((c.tc : Thread Cert.AdamShiftIdeal.nD Cert.AdamShiftIdeal.τ).loc Cert.AdamShiftIdeal.main_arg1) = m ((c.tc : Thread Cert.AdamShiftIdeal.nD Cert.AdamShiftIdeal.τ).loc Cert.AdamShiftIdeal.main_arg1)
          ∧ r.2.mem ((c.tc : Thread Cert.AdamShiftIdeal.nD Cert.AdamShiftIdeal.τ).loc Cert.AdamShiftIdeal.main_arg2) = m ((c.tc : Thread Cert.AdamShiftIdeal.nD Cert.AdamShiftIdeal.τ).loc Cert.AdamShiftIdeal.main_arg2)
          ∧ r.2.mem ((c.tc : Thread Cert.AdamShiftIdeal.nD Cert.AdamShiftIdeal.τ).loc Cert.AdamShiftIdeal.main_arg3) = m ((c.tc : Thread Cert.AdamShiftIdeal.nD Cert.AdamShiftIdeal.τ).loc Cert.AdamShiftIdeal.main_arg3))
      ∧ θ_run (Cert.AdamShiftRefIdeal.defs (F := Ideal)) (onTc (τ := Cert.AdamShiftRefIdeal.τ) (Cert.AdamShiftRefIdeal.main (F := Ideal))) ⟨m', fun _ => 0, g'⟩ (fun r => ∀ c : Dev Cert.AdamShiftRefIdeal.nD,
          r.2.mem ((c.tc : Thread Cert.AdamShiftRefIdeal.nD Cert.AdamShiftRefIdeal.τ).loc Cert.AdamShiftRefIdeal.main_v23) = v0 c
          ∧ r.2.mem ((c.tc : Thread Cert.AdamShiftRefIdeal.nD Cert.AdamShiftRefIdeal.τ).loc Cert.AdamShiftRefIdeal.main_v4) = v1 c
          ∧ r.2.mem ((c.tc : Thread Cert.AdamShiftRefIdeal.nD Cert.AdamShiftRefIdeal.τ).loc Cert.AdamShiftRefIdeal.main_v10) = v2 c
          ∧ r.2.mem ((c.tc : Thread Cert.AdamShiftRefIdeal.nD Cert.AdamShiftRefIdeal.τ).loc Cert.AdamShiftRefIdeal.main_arg0) = m' ((c.tc : Thread Cert.AdamShiftRefIdeal.nD Cert.AdamShiftRefIdeal.τ).loc Cert.AdamShiftRefIdeal.main_arg0)
          ∧ r.2.mem ((c.tc : Thread Cert.AdamShiftRefIdeal.nD Cert.AdamShiftRefIdeal.τ).loc Cert.AdamShiftRefIdeal.main_arg1) = m' ((c.tc : Thread Cert.AdamShiftRefIdeal.nD Cert.AdamShiftRefIdeal.τ).loc Cert.AdamShiftRefIdeal.main_arg1)
          ∧ r.2.mem ((c.tc : Thread Cert.AdamShiftRefIdeal.nD Cert.AdamShiftRefIdeal.τ).loc Cert.AdamShiftRefIdeal.main_arg2) = m' ((c.tc : Thread Cert.AdamShiftRefIdeal.nD Cert.AdamShiftRefIdeal.τ).loc Cert.AdamShiftRefIdeal.main_arg2)
          ∧ r.2.mem ((c.tc : Thread Cert.AdamShiftRefIdeal.nD Cert.AdamShiftRefIdeal.τ).loc Cert.AdamShiftRefIdeal.main_arg3) = m' ((c.tc : Thread Cert.AdamShiftRefIdeal.nD Cert.AdamShiftRefIdeal.τ).loc Cert.AdamShiftRefIdeal.main_arg3))

def preserves_AdamHalf_AdamHalfIdeal : Prop :=
  True

def algebraic_AdamHalfIdeal_AdamHalfRefIdeal [hAdamHalfIdeal : Cert.AdamHalfIdeal.Facts] [hAdamHalfRefIdeal : Cert.AdamHalfRefIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg)
    (m' : (ℓ : Loc Cert.AdamHalfRefIdeal.nD Cert.AdamHalfRefIdeal.τ Cert.AdamHalfRefIdeal.sig) → Buf (Elt Ideal) ℓ) (g' : Dev Cert.AdamHalfRefIdeal.nD → PrngReg), Pre_AdamHalfIdeal m →
    (∀ c : Dev Cert.AdamHalfIdeal.nD,
      m' ((c.tc : Thread Cert.AdamHalfRefIdeal.nD Cert.AdamHalfRefIdeal.τ).loc Cert.AdamHalfRefIdeal.main_arg0) = m ((c.tc : Thread Cert.AdamHalfIdeal.nD Cert.AdamHalfIdeal.τ).loc Cert.AdamHalfIdeal.main_arg0)
      ∧ m' ((c.tc : Thread Cert.AdamHalfRefIdeal.nD Cert.AdamHalfRefIdeal.τ).loc Cert.AdamHalfRefIdeal.main_arg1) = m ((c.tc : Thread Cert.AdamHalfIdeal.nD Cert.AdamHalfIdeal.τ).loc Cert.AdamHalfIdeal.main_arg1)
      ∧ m' ((c.tc : Thread Cert.AdamHalfRefIdeal.nD Cert.AdamHalfRefIdeal.τ).loc Cert.AdamHalfRefIdeal.main_arg2) = m ((c.tc : Thread Cert.AdamHalfIdeal.nD Cert.AdamHalfIdeal.τ).loc Cert.AdamHalfIdeal.main_arg2)
      ∧ m' ((c.tc : Thread Cert.AdamHalfRefIdeal.nD Cert.AdamHalfRefIdeal.τ).loc Cert.AdamHalfRefIdeal.main_arg3) = m ((c.tc : Thread Cert.AdamHalfIdeal.nD Cert.AdamHalfIdeal.τ).loc Cert.AdamHalfIdeal.main_arg3)) →
    ∃ (v0 : (c : Dev Cert.AdamHalfIdeal.nD) → Buf (Elt Ideal) ((c.tc : Thread Cert.AdamHalfIdeal.nD Cert.AdamHalfIdeal.τ).loc Cert.AdamHalfIdeal.main_v0_0)) (v1 : (c : Dev Cert.AdamHalfIdeal.nD) → Buf (Elt Ideal) ((c.tc : Thread Cert.AdamHalfIdeal.nD Cert.AdamHalfIdeal.τ).loc Cert.AdamHalfIdeal.main_v0_1)) (v2 : (c : Dev Cert.AdamHalfIdeal.nD) → Buf (Elt Ideal) ((c.tc : Thread Cert.AdamHalfIdeal.nD Cert.AdamHalfIdeal.τ).loc Cert.AdamHalfIdeal.main_v0_2)),
      θ_run (Cert.AdamHalfIdeal.defs (F := Ideal)) (onTc (τ := Cert.AdamHalfIdeal.τ) (Cert.AdamHalfIdeal.main (F := Ideal))) ⟨m, fun _ => 0, g⟩ (fun r => ∀ c : Dev Cert.AdamHalfIdeal.nD,
          r.2.mem ((c.tc : Thread Cert.AdamHalfIdeal.nD Cert.AdamHalfIdeal.τ).loc Cert.AdamHalfIdeal.main_v0_0) = v0 c
          ∧ r.2.mem ((c.tc : Thread Cert.AdamHalfIdeal.nD Cert.AdamHalfIdeal.τ).loc Cert.AdamHalfIdeal.main_v0_1) = v1 c
          ∧ r.2.mem ((c.tc : Thread Cert.AdamHalfIdeal.nD Cert.AdamHalfIdeal.τ).loc Cert.AdamHalfIdeal.main_v0_2) = v2 c
          ∧ r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
          ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
          ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
          ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3))
      ∧ θ_run (Cert.AdamHalfRefIdeal.defs (F := Ideal)) (onTc (τ := Cert.AdamHalfRefIdeal.τ) (Cert.AdamHalfRefIdeal.main (F := Ideal))) ⟨m', fun _ => 0, g'⟩ (fun r => ∀ c : Dev Cert.AdamHalfRefIdeal.nD,
          r.2.mem ((c.tc : Thread Cert.AdamHalfRefIdeal.nD Cert.AdamHalfRefIdeal.τ).loc Cert.AdamHalfRefIdeal.main_v23) = v0 c
          ∧ r.2.mem ((c.tc : Thread Cert.AdamHalfRefIdeal.nD Cert.AdamHalfRefIdeal.τ).loc Cert.AdamHalfRefIdeal.main_v4) = v1 c
          ∧ r.2.mem ((c.tc : Thread Cert.AdamHalfRefIdeal.nD Cert.AdamHalfRefIdeal.τ).loc Cert.AdamHalfRefIdeal.main_v10) = v2 c
          ∧ r.2.mem ((c.tc : Thread Cert.AdamHalfRefIdeal.nD Cert.AdamHalfRefIdeal.τ).loc Cert.AdamHalfRefIdeal.main_arg0) = m' ((c.tc : Thread Cert.AdamHalfRefIdeal.nD Cert.AdamHalfRefIdeal.τ).loc Cert.AdamHalfRefIdeal.main_arg0)
          ∧ r.2.mem ((c.tc : Thread Cert.AdamHalfRefIdeal.nD Cert.AdamHalfRefIdeal.τ).loc Cert.AdamHalfRefIdeal.main_arg1) = m' ((c.tc : Thread Cert.AdamHalfRefIdeal.nD Cert.AdamHalfRefIdeal.τ).loc Cert.AdamHalfRefIdeal.main_arg1)
          ∧ r.2.mem ((c.tc : Thread Cert.AdamHalfRefIdeal.nD Cert.AdamHalfRefIdeal.τ).loc Cert.AdamHalfRefIdeal.main_arg2) = m' ((c.tc : Thread Cert.AdamHalfRefIdeal.nD Cert.AdamHalfRefIdeal.τ).loc Cert.AdamHalfRefIdeal.main_arg2)
          ∧ r.2.mem ((c.tc : Thread Cert.AdamHalfRefIdeal.nD Cert.AdamHalfRefIdeal.τ).loc Cert.AdamHalfRefIdeal.main_arg3) = m' ((c.tc : Thread Cert.AdamHalfRefIdeal.nD Cert.AdamHalfRefIdeal.τ).loc Cert.AdamHalfRefIdeal.main_arg3))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v0_0)) (v1 : (c : Dev Cert.AdamAdaWIdeal.nD) → Buf (Elt Ideal) ((c.tc : Thread Cert.AdamAdaWIdeal.nD Cert.AdamAdaWIdeal.τ).loc Cert.AdamAdaWIdeal.main_v0_1)) (v2 : (c : Dev Cert.AdamAdaWIdeal.nD) → Buf (Elt Ideal) ((c.tc : Thread Cert.AdamAdaWIdeal.nD Cert.AdamAdaWIdeal.τ).loc Cert.AdamAdaWIdeal.main_v0_2)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v0_0) = v0 c
          ∧ r.2.mem ((c.tc : Thread Cert.AdamAdaWIdeal.nD Cert.AdamAdaWIdeal.τ).loc Cert.AdamAdaWIdeal.main_v0_1) = v1 c
          ∧ r.2.mem ((c.tc : Thread Cert.AdamAdaWIdeal.nD Cert.AdamAdaWIdeal.τ).loc Cert.AdamAdaWIdeal.main_v0_2) = v2 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v23) = v0 c
          ∧ r.2.mem ((c.tc : Thread Cert.AdamAdaWRefIdeal.nD Cert.AdamAdaWRefIdeal.τ).loc Cert.AdamAdaWRefIdeal.main_v4) = v1 c
          ∧ r.2.mem ((c.tc : Thread Cert.AdamAdaWRefIdeal.nD Cert.AdamAdaWRefIdeal.τ).loc Cert.AdamAdaWRefIdeal.main_v10) = v2 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamLane_AdamLaneIdeal : Prop :=
  True

def algebraic_AdamLaneIdeal_AdamLaneRefIdeal [hAdamLaneIdeal : Cert.AdamLaneIdeal.Facts] [hAdamLaneRefIdeal : Cert.AdamLaneRefIdeal.Facts] : Prop :=
  ∀ (m : (ℓ : Loc Cert.AdamLaneIdeal.nD Cert.AdamLaneIdeal.τ Cert.AdamLaneIdeal.sig) → Buf (Elt Ideal) ℓ) (g : Dev Cert.AdamLaneIdeal.nD → PrngReg)
    (m' : (ℓ : Loc Cert.AdamLaneRefIdeal.nD Cert.AdamLaneRefIdeal.τ Cert.AdamLaneRefIdeal.sig) → Buf (Elt Ideal) ℓ) (g' : Dev Cert.AdamLaneRefIdeal.nD → PrngReg), Pre_AdamLaneIdeal m →
    (∀ c : Dev Cert.AdamLaneIdeal.nD,
      m' ((c.tc : Thread Cert.AdamLaneRefIdeal.nD Cert.AdamLaneRefIdeal.τ).loc Cert.AdamLaneRefIdeal.main_arg0) = m ((c.tc : Thread Cert.AdamLaneIdeal.nD Cert.AdamLaneIdeal.τ).loc Cert.AdamLaneIdeal.main_arg0)
      ∧ m' ((c.tc : Thread Cert.AdamLaneRefIdeal.nD Cert.AdamLaneRefIdeal.τ).loc Cert.AdamLaneRefIdeal.main_arg1) = m ((c.tc : Thread Cert.AdamLaneIdeal.nD Cert.AdamLaneIdeal.τ).loc Cert.AdamLaneIdeal.main_arg1)
      ∧ m' ((c.tc : Thread Cert.AdamLaneRefIdeal.nD Cert.AdamLaneRefIdeal.τ).loc Cert.AdamLaneRefIdeal.main_arg2) = m ((c.tc : Thread Cert.AdamLaneIdeal.nD Cert.AdamLaneIdeal.τ).loc Cert.AdamLaneIdeal.main_arg2)
      ∧ m' ((c.tc : Thread Cert.AdamLaneRefIdeal.nD Cert.AdamLaneRefIdeal.τ).loc Cert.AdamLaneRefIdeal.main_arg3) = m ((c.tc : Thread Cert.AdamLaneIdeal.nD Cert.AdamLaneIdeal.τ).loc Cert.AdamLaneIdeal.main_arg3)) →
    ∃ (v0 : (c : Dev Cert.AdamLaneIdeal.nD) → Buf (Elt Ideal) ((c.tc : Thread Cert.AdamLaneIdeal.nD Cert.AdamLaneIdeal.τ).loc Cert.AdamLaneIdeal.main_v0_0)) (v1 : (c : Dev Cert.AdamLaneIdeal.nD) → Buf (Elt Ideal) ((c.tc : Thread Cert.AdamLaneIdeal.nD Cert.AdamLaneIdeal.τ).loc Cert.AdamLaneIdeal.main_v0_1)) (v2 : (c : Dev Cert.AdamLaneIdeal.nD) → Buf (Elt Ideal) ((c.tc : Thread Cert.AdamLaneIdeal.nD Cert.AdamLaneIdeal.τ).loc Cert.AdamLaneIdeal.main_v0_2)),
      θ_run (Cert.AdamLaneIdeal.defs (F := Ideal)) (onTc (τ := Cert.AdamLaneIdeal.τ) (Cert.AdamLaneIdeal.main (F := Ideal))) ⟨m, fun _ => 0, g⟩ (fun r => ∀ c : Dev Cert.AdamLaneIdeal.nD,
          r.2.mem ((c.tc : Thread Cert.AdamLaneIdeal.nD Cert.AdamLaneIdeal.τ).loc Cert.AdamLaneIdeal.main_v0_0) = v0 c
          ∧ r.2.mem ((c.tc : Thread Cert.AdamLaneIdeal.nD Cert.AdamLaneIdeal.τ).loc Cert.AdamLaneIdeal.main_v0_1) = v1 c
          ∧ r.2.mem ((c.tc : Thread Cert.AdamLaneIdeal.nD Cert.AdamLaneIdeal.τ).loc Cert.AdamLaneIdeal.main_v0_2) = v2 c
          ∧ r.2.mem ((c.tc : Thread Cert.AdamLaneIdeal.nD Cert.AdamLaneIdeal.τ).loc Cert.AdamLaneIdeal.main_arg0) = m ((c.tc : Thread Cert.AdamLaneIdeal.nD Cert.AdamLaneIdeal.τ).loc Cert.AdamLaneIdeal.main_arg0)
          ∧ r.2.mem ((c.tc : Thread Cert.AdamLaneIdeal.nD Cert.AdamLaneIdeal.τ).loc Cert.AdamLaneIdeal.main_arg1) = m ((c.tc : Thread Cert.AdamLaneIdeal.nD Cert.AdamLaneIdeal.τ).loc Cert.AdamLaneIdeal.main_arg1)
          ∧ r.2.mem ((c.tc : Thread Cert.AdamLaneIdeal.nD Cert.AdamLaneIdeal.τ).loc Cert.AdamLaneIdeal.main_arg2) = m ((c.tc : Thread Cert.AdamLaneIdeal.nD Cert.AdamLaneIdeal.τ).loc Cert.AdamLaneIdeal.main_arg2)
          ∧ r.2.mem ((c.tc : Thread Cert.AdamLaneIdeal.nD Cert.AdamLaneIdeal.τ).loc Cert.AdamLaneIdeal.main_arg3) = m ((c.tc : Thread Cert.AdamLaneIdeal.nD Cert.AdamLaneIdeal.τ).loc Cert.AdamLaneIdeal.main_arg3))
      ∧ θ_run (Cert.AdamLaneRefIdeal.defs (F := Ideal)) (onTc (τ := Cert.AdamLaneRefIdeal.τ) (Cert.AdamLaneRefIdeal.main (F := Ideal))) ⟨m', fun _ => 0, g'⟩ (fun r => ∀ c : Dev Cert.AdamLaneRefIdeal.nD,
          r.2.mem ((c.tc : Thread Cert.AdamLaneRefIdeal.nD Cert.AdamLaneRefIdeal.τ).loc Cert.AdamLaneRefIdeal.main_v23) = v0 c
          ∧ r.2.mem ((c.tc : Thread Cert.AdamLaneRefIdeal.nD Cert.AdamLaneRefIdeal.τ).loc Cert.AdamLaneRefIdeal.main_v4) = v1 c
          ∧ r.2.mem ((c.tc : Thread Cert.AdamLaneRefIdeal.nD Cert.AdamLaneRefIdeal.τ).loc Cert.AdamLaneRefIdeal.main_v10) = v2 c
          ∧ r.2.mem ((c.tc : Thread Cert.AdamLaneRefIdeal.nD Cert.AdamLaneRefIdeal.τ).loc Cert.AdamLaneRefIdeal.main_arg0) = m' ((c.tc : Thread Cert.AdamLaneRefIdeal.nD Cert.AdamLaneRefIdeal.τ).loc Cert.AdamLaneRefIdeal.main_arg0)
          ∧ r.2.mem ((c.tc : Thread Cert.AdamLaneRefIdeal.nD Cert.AdamLaneRefIdeal.τ).loc Cert.AdamLaneRefIdeal.main_arg1) = m' ((c.tc : Thread Cert.AdamLaneRefIdeal.nD Cert.AdamLaneRefIdeal.τ).loc Cert.AdamLaneRefIdeal.main_arg1)
          ∧ r.2.mem ((c.tc : Thread Cert.AdamLaneRefIdeal.nD Cert.AdamLaneRefIdeal.τ).loc Cert.AdamLaneRefIdeal.main_arg2) = m' ((c.tc : Thread Cert.AdamLaneRefIdeal.nD Cert.AdamLaneRefIdeal.τ).loc Cert.AdamLaneRefIdeal.main_arg2)
          ∧ r.2.mem ((c.tc : Thread Cert.AdamLaneRefIdeal.nD Cert.AdamLaneRefIdeal.τ).loc Cert.AdamLaneRefIdeal.main_arg3) = m' ((c.tc : Thread Cert.AdamLaneRefIdeal.nD Cert.AdamLaneRefIdeal.τ).loc Cert.AdamLaneRefIdeal.main_arg3))

def preserves_AdamLora_AdamLoraIdeal : Prop :=
  True

def algebraic_AdamLoraIdeal_AdamLoraRefIdeal [hAdamLoraIdeal : Cert.AdamLoraIdeal.Facts] [hAdamLoraRefIdeal : Cert.AdamLoraRefIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg)
    (m' : (ℓ : Loc Cert.AdamLoraRefIdeal.nD Cert.AdamLoraRefIdeal.τ Cert.AdamLoraRefIdeal.sig) → Buf (Elt Ideal) ℓ) (g' : Dev Cert.AdamLoraRefIdeal.nD → PrngReg), Pre_AdamLoraIdeal m →
    (∀ c : Dev Cert.AdamLoraIdeal.nD,
      m' ((c.tc : Thread Cert.AdamLoraRefIdeal.nD Cert.AdamLoraRefIdeal.τ).loc Cert.AdamLoraRefIdeal.main_arg0) = m ((c.tc : Thread Cert.AdamLoraIdeal.nD Cert.AdamLoraIdeal.τ).loc Cert.AdamLoraIdeal.main_arg0)
      ∧ m' ((c.tc : Thread Cert.AdamLoraRefIdeal.nD Cert.AdamLoraRefIdeal.τ).loc Cert.AdamLoraRefIdeal.main_arg1) = m ((c.tc : Thread Cert.AdamLoraIdeal.nD Cert.AdamLoraIdeal.τ).loc Cert.AdamLoraIdeal.main_arg1)
      ∧ m' ((c.tc : Thread Cert.AdamLoraRefIdeal.nD Cert.AdamLoraRefIdeal.τ).loc Cert.AdamLoraRefIdeal.main_arg2) = m ((c.tc : Thread Cert.AdamLoraIdeal.nD Cert.AdamLoraIdeal.τ).loc Cert.AdamLoraIdeal.main_arg2)
      ∧ m' ((c.tc : Thread Cert.AdamLoraRefIdeal.nD Cert.AdamLoraRefIdeal.τ).loc Cert.AdamLoraRefIdeal.main_arg3) = m ((c.tc : Thread Cert.AdamLoraIdeal.nD Cert.AdamLoraIdeal.τ).loc Cert.AdamLoraIdeal.main_arg3)) →
    ∃ (v0 : (c : Dev Cert.AdamLoraIdeal.nD) → Buf (Elt Ideal) ((c.tc : Thread Cert.AdamLoraIdeal.nD Cert.AdamLoraIdeal.τ).loc Cert.AdamLoraIdeal.main_v0_0)) (v1 : (c : Dev Cert.AdamLoraIdeal.nD) → Buf (Elt Ideal) ((c.tc : Thread Cert.AdamLoraIdeal.nD Cert.AdamLoraIdeal.τ).loc Cert.AdamLoraIdeal.main_v0_1)) (v2 : (c : Dev Cert.AdamLoraIdeal.nD) → Buf (Elt Ideal) ((c.tc : Thread Cert.AdamLoraIdeal.nD Cert.AdamLoraIdeal.τ).loc Cert.AdamLoraIdeal.main_v0_2)),
      θ_run (Cert.AdamLoraIdeal.defs (F := Ideal)) (onTc (τ := Cert.AdamLoraIdeal.τ) (Cert.AdamLoraIdeal.main (F := Ideal))) ⟨m, fun _ => 0, g⟩ (fun r => ∀ c : Dev Cert.AdamLoraIdeal.nD,
          r.2.mem ((c.tc : Thread Cert.AdamLoraIdeal.nD Cert.AdamLoraIdeal.τ).loc Cert.AdamLoraIdeal.main_v0_0) = v0 c
          ∧ r.2.mem ((c.tc : Thread Cert.AdamLoraIdeal.nD Cert.AdamLoraIdeal.τ).loc Cert.AdamLoraIdeal.main_v0_1) = v1 c
          ∧ r.2.mem ((c.tc : Thread Cert.AdamLoraIdeal.nD Cert.AdamLoraIdeal.τ).loc Cert.AdamLoraIdeal.main_v0_2) = v2 c
          ∧ r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
          ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
          ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
          ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3))
      ∧ θ_run (Cert.AdamLoraRefIdeal.defs (F := Ideal)) (onTc (τ := Cert.AdamLoraRefIdeal.τ) (Cert.AdamLoraRefIdeal.main (F := Ideal))) ⟨m', fun _ => 0, g'⟩ (fun r => ∀ c : Dev Cert.AdamLoraRefIdeal.nD,
          r.2.mem ((c.tc : Thread Cert.AdamLoraRefIdeal.nD Cert.AdamLoraRefIdeal.τ).loc Cert.AdamLoraRefIdeal.main_v23) = v0 c
          ∧ r.2.mem ((c.tc : Thread Cert.AdamLoraRefIdeal.nD Cert.AdamLoraRefIdeal.τ).loc Cert.AdamLoraRefIdeal.main_v4) = v1 c
          ∧ r.2.mem ((c.tc : Thread Cert.AdamLoraRefIdeal.nD Cert.AdamLoraRefIdeal.τ).loc Cert.AdamLoraRefIdeal.main_v10) = v2 c
          ∧ r.2.mem ((c.tc : Thread Cert.AdamLoraRefIdeal.nD Cert.AdamLoraRefIdeal.τ).loc Cert.AdamLoraRefIdeal.main_arg0) = m' ((c.tc : Thread Cert.AdamLoraRefIdeal.nD Cert.AdamLoraRefIdeal.τ).loc Cert.AdamLoraRefIdeal.main_arg0)
          ∧ r.2.mem ((c.tc : Thread Cert.AdamLoraRefIdeal.nD Cert.AdamLoraRefIdeal.τ).loc Cert.AdamLoraRefIdeal.main_arg1) = m' ((c.tc : Thread Cert.AdamLoraRefIdeal.nD Cert.AdamLoraRefIdeal.τ).loc Cert.AdamLoraRefIdeal.main_arg1)
          ∧ r.2.mem ((c.tc : Thread Cert.AdamLoraRefIdeal.nD Cert.AdamLoraRefIdeal.τ).loc Cert.AdamLoraRefIdeal.main_arg2) = m' ((c.tc : Thread Cert.AdamLoraRefIdeal.nD Cert.AdamLoraRefIdeal.τ).loc Cert.AdamLoraRefIdeal.main_arg2)
          ∧ r.2.mem ((c.tc : Thread Cert.AdamLoraRefIdeal.nD Cert.AdamLoraRefIdeal.τ).loc Cert.AdamLoraRefIdeal.main_arg3) = m' ((c.tc : Thread Cert.AdamLoraRefIdeal.nD Cert.AdamLoraRefIdeal.τ).loc Cert.AdamLoraRefIdeal.main_arg3))

def preserves_AdamRk_AdamRkIdeal : Prop :=
  True

def algebraic_AdamRkIdeal_AdamRkRefIdeal [hAdamRkIdeal : Cert.AdamRkIdeal.Facts] [hAdamRkRefIdeal : Cert.AdamRkRefIdeal.Facts] : Prop :=
  ∀ (m : (ℓ : Loc Cert.AdamRkIdeal.nD Cert.AdamRkIdeal.τ Cert.AdamRkIdeal.sig) → Buf (Elt Ideal) ℓ) (g : Dev Cert.AdamRkIdeal.nD → PrngReg)
    (m' : (ℓ : Loc Cert.AdamRkRefIdeal.nD Cert.AdamRkRefIdeal.τ Cert.AdamRkRefIdeal.sig) → Buf (Elt Ideal) ℓ) (g' : Dev Cert.AdamRkRefIdeal.nD → PrngReg), Pre_AdamRkIdeal m →
    (∀ c : Dev Cert.AdamRkIdeal.nD,
      m' ((c.tc : Thread Cert.AdamRkRefIdeal.nD Cert.AdamRkRefIdeal.τ).loc Cert.AdamRkRefIdeal.main_arg0) = m ((c.tc : Thread Cert.AdamRkIdeal.nD Cert.AdamRkIdeal.τ).loc Cert.AdamRkIdeal.main_arg0)
      ∧ m' ((c.tc : Thread Cert.AdamRkRefIdeal.nD Cert.AdamRkRefIdeal.τ).loc Cert.AdamRkRefIdeal.main_arg1) = m ((c.tc : Thread Cert.AdamRkIdeal.nD Cert.AdamRkIdeal.τ).loc Cert.AdamRkIdeal.main_arg1)
      ∧ m' ((c.tc : Thread Cert.AdamRkRefIdeal.nD Cert.AdamRkRefIdeal.τ).loc Cert.AdamRkRefIdeal.main_arg2) = m ((c.tc : Thread Cert.AdamRkIdeal.nD Cert.AdamRkIdeal.τ).loc Cert.AdamRkIdeal.main_arg2)
      ∧ m' ((c.tc : Thread Cert.AdamRkRefIdeal.nD Cert.AdamRkRefIdeal.τ).loc Cert.AdamRkRefIdeal.main_arg3) = m ((c.tc : Thread Cert.AdamRkIdeal.nD Cert.AdamRkIdeal.τ).loc Cert.AdamRkIdeal.main_arg3)) →
    ∃ (v0 : (c : Dev Cert.AdamRkIdeal.nD) → Buf (Elt Ideal) ((c.tc : Thread Cert.AdamRkIdeal.nD Cert.AdamRkIdeal.τ).loc Cert.AdamRkIdeal.main_v0_0)) (v1 : (c : Dev Cert.AdamRkIdeal.nD) → Buf (Elt Ideal) ((c.tc : Thread Cert.AdamRkIdeal.nD Cert.AdamRkIdeal.τ).loc Cert.AdamRkIdeal.main_v0_1)) (v2 : (c : Dev Cert.AdamRkIdeal.nD) → Buf (Elt Ideal) ((c.tc : Thread Cert.AdamRkIdeal.nD Cert.AdamRkIdeal.τ).loc Cert.AdamRkIdeal.main_v0_2)),
      θ_run (Cert.AdamRkIdeal.defs (F := Ideal)) (onTc (τ := Cert.AdamRkIdeal.τ) (Cert.AdamRkIdeal.main (F := Ideal))) ⟨m, fun _ => 0, g⟩ (fun r => ∀ c : Dev Cert.AdamRkIdeal.nD,
          r.2.mem ((c.tc : Thread Cert.AdamRkIdeal.nD Cert.AdamRkIdeal.τ).loc Cert.AdamRkIdeal.main_v0_0) = v0 c
          ∧ r.2.mem ((c.tc : Thread Cert.AdamRkIdeal.nD Cert.AdamRkIdeal.τ).loc Cert.AdamRkIdeal.main_v0_1) = v1 c
          ∧ r.2.mem ((c.tc : Thread Cert.AdamRkIdeal.nD Cert.AdamRkIdeal.τ).loc Cert.AdamRkIdeal.main_v0_2) = v2 c
          ∧ r.2.mem ((c.tc : Thread Cert.AdamRkIdeal.nD Cert.AdamRkIdeal.τ).loc Cert.AdamRkIdeal.main_arg0) = m ((c.tc : Thread Cert.AdamRkIdeal.nD Cert.AdamRkIdeal.τ).loc Cert.AdamRkIdeal.main_arg0)
          ∧ r.2.mem ((c.tc : Thread Cert.AdamRkIdeal.nD Cert.AdamRkIdeal.τ).loc Cert.AdamRkIdeal.main_arg1) = m ((c.tc : Thread Cert.AdamRkIdeal.nD Cert.AdamRkIdeal.τ).loc Cert.AdamRkIdeal.main_arg1)
          ∧ r.2.mem ((c.tc : Thread Cert.AdamRkIdeal.nD Cert.AdamRkIdeal.τ).loc Cert.AdamRkIdeal.main_arg2) = m ((c.tc : Thread Cert.AdamRkIdeal.nD Cert.AdamRkIdeal.τ).loc Cert.AdamRkIdeal.main_arg2)
          ∧ r.2.mem ((c.tc : Thread Cert.AdamRkIdeal.nD Cert.AdamRkIdeal.τ).loc Cert.AdamRkIdeal.main_arg3) = m ((c.tc : Thread Cert.AdamRkIdeal.nD Cert.AdamRkIdeal.τ).loc Cert.AdamRkIdeal.main_arg3))
      ∧ θ_run (Cert.AdamRkRefIdeal.defs (F := Ideal)) (onTc (τ := Cert.AdamRkRefIdeal.τ) (Cert.AdamRkRefIdeal.main (F := Ideal))) ⟨m', fun _ => 0, g'⟩ (fun r => ∀ c : Dev Cert.AdamRkRefIdeal.nD,
          r.2.mem ((c.tc : Thread Cert.AdamRkRefIdeal.nD Cert.AdamRkRefIdeal.τ).loc Cert.AdamRkRefIdeal.main_v23) = v0 c
          ∧ r.2.mem ((c.tc : Thread Cert.AdamRkRefIdeal.nD Cert.AdamRkRefIdeal.τ).loc Cert.AdamRkRefIdeal.main_v4) = v1 c
          ∧ r.2.mem ((c.tc : Thread Cert.AdamRkRefIdeal.nD Cert.AdamRkRefIdeal.τ).loc Cert.AdamRkRefIdeal.main_v10) = v2 c
          ∧ r.2.mem ((c.tc : Thread Cert.AdamRkRefIdeal.nD Cert.AdamRkRefIdeal.τ).loc Cert.AdamRkRefIdeal.main_arg0) = m' ((c.tc : Thread Cert.AdamRkRefIdeal.nD Cert.AdamRkRefIdeal.τ).loc Cert.AdamRkRefIdeal.main_arg0)
          ∧ r.2.mem ((c.tc : Thread Cert.AdamRkRefIdeal.nD Cert.AdamRkRefIdeal.τ).loc Cert.AdamRkRefIdeal.main_arg1) = m' ((c.tc : Thread Cert.AdamRkRefIdeal.nD Cert.AdamRkRefIdeal.τ).loc Cert.AdamRkRefIdeal.main_arg1)
          ∧ r.2.mem ((c.tc : Thread Cert.AdamRkRefIdeal.nD Cert.AdamRkRefIdeal.τ).loc Cert.AdamRkRefIdeal.main_arg2) = m' ((c.tc : Thread Cert.AdamRkRefIdeal.nD Cert.AdamRkRefIdeal.τ).loc Cert.AdamRkRefIdeal.main_arg2)
          ∧ r.2.mem ((c.tc : Thread Cert.AdamRkRefIdeal.nD Cert.AdamRkRefIdeal.τ).loc Cert.AdamRkRefIdeal.main_arg3) = m' ((c.tc : Thread Cert.AdamRkRefIdeal.nD Cert.AdamRkRefIdeal.τ).loc Cert.AdamRkRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v23) = v0 c
          ∧ r.2.mem ((c.tc : Thread Cert.AdamMlpRefIdeal.nD Cert.AdamMlpRefIdeal.τ).loc Cert.AdamMlpRefIdeal.main_v4) = v1 c
          ∧ r.2.mem ((c.tc : Thread Cert.AdamMlpRefIdeal.nD Cert.AdamMlpRefIdeal.τ).loc Cert.AdamMlpRefIdeal.main_v10) = v2 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)
      ∧ m' ((c.tc : Thread Cert.AdaBwdRefIdeal.nD Cert.AdaBwdRefIdeal.τ).loc Cert.AdaBwdRefIdeal.main_arg5) = m ((c.tc : Thread Cert.AdaBwdIdeal.nD Cert.AdaBwdIdeal.τ).loc Cert.AdaBwdIdeal.main_arg5)
      ∧ m' ((c.tc : Thread Cert.AdaBwdRefIdeal.nD Cert.AdaBwdRefIdeal.τ).loc Cert.AdaBwdRefIdeal.main_arg6) = m ((c.tc : Thread Cert.AdaBwdIdeal.nD Cert.AdaBwdIdeal.τ).loc Cert.AdaBwdIdeal.main_arg6)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4)
          ∧ r.2.mem ((c.tc : Thread Cert.AdaBwdIdeal.nD Cert.AdaBwdIdeal.τ).loc Cert.AdaBwdIdeal.main_arg5) = m ((c.tc : Thread Cert.AdaBwdIdeal.nD Cert.AdaBwdIdeal.τ).loc Cert.AdaBwdIdeal.main_arg5)
          ∧ r.2.mem ((c.tc : Thread Cert.AdaBwdIdeal.nD Cert.AdaBwdIdeal.τ).loc Cert.AdaBwdIdeal.main_arg6) = m ((c.tc : Thread Cert.AdaBwdIdeal.nD Cert.AdaBwdIdeal.τ).loc Cert.AdaBwdIdeal.main_arg6))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v12) = v0 c
          ∧ r.2.mem ((c.tc : Thread Cert.AdaBwdRefIdeal.nD Cert.AdaBwdRefIdeal.τ).loc Cert.AdaBwdRefIdeal.main_v20) = v1 c
          ∧ r.2.mem ((c.tc : Thread Cert.AdaBwdRefIdeal.nD Cert.AdaBwdRefIdeal.τ).loc Cert.AdaBwdRefIdeal.main_v21) = v2 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4)
          ∧ r.2.mem ((c.tc : Thread Cert.AdaBwdRefIdeal.nD Cert.AdaBwdRefIdeal.τ).loc Cert.AdaBwdRefIdeal.main_arg5) = m' ((c.tc : Thread Cert.AdaBwdRefIdeal.nD Cert.AdaBwdRefIdeal.τ).loc Cert.AdaBwdRefIdeal.main_arg5)
          ∧ r.2.mem ((c.tc : Thread Cert.AdaBwdRefIdeal.nD Cert.AdaBwdRefIdeal.τ).loc Cert.AdaBwdRefIdeal.main_arg6) = m' ((c.tc : Thread Cert.AdaBwdRefIdeal.nD Cert.AdaBwdRefIdeal.τ).loc Cert.AdaBwdRefIdeal.main_arg6))

def preserves_Cctx_CctxIdeal : Prop :=
  True

def algebraic_CctxIdeal_CctxRefIdeal_pre_parts_finite [hCctxIdeal : Cert.CctxIdeal.Facts] [hCctxRefIdeal : Cert.CctxRefIdeal.Facts] [hPre_parts_finite : Cert.Pre_parts_finite.Facts] : Prop :=
  ∀ (m : (ℓ : Loc Cert.CctxIdeal.nD Cert.CctxIdeal.τ Cert.CctxIdeal.sig) → Buf (Elt Ideal) ℓ) (g : Dev Cert.CctxIdeal.nD → PrngReg)
    (m' : (ℓ : Loc Cert.CctxRefIdeal.nD Cert.CctxRefIdeal.τ Cert.CctxRefIdeal.sig) → Buf (Elt Ideal) ℓ) (g' : Dev Cert.CctxRefIdeal.nD → PrngReg), Pre_CctxIdeal_parts_finite m →
    (∀ c : Dev Cert.CctxIdeal.nD,
      m' ((c.tc : Thread Cert.CctxRefIdeal.nD Cert.CctxRefIdeal.τ).loc Cert.CctxRefIdeal.main_arg0) = m ((c.tc : Thread Cert.CctxIdeal.nD Cert.CctxIdeal.τ).loc Cert.CctxIdeal.main_arg0)
      ∧ m' ((c.tc : Thread Cert.CctxRefIdeal.nD Cert.CctxRefIdeal.τ).loc Cert.CctxRefIdeal.main_arg1) = m ((c.tc : Thread Cert.CctxIdeal.nD Cert.CctxIdeal.τ).loc Cert.CctxIdeal.main_arg1)) →
    ∃ (v0 : (c : Dev Cert.CctxIdeal.nD) → Buf (Elt Ideal) ((c.tc : Thread Cert.CctxIdeal.nD Cert.CctxIdeal.τ).loc Cert.CctxIdeal.main_v0)),
      θ_run (Cert.CctxIdeal.defs (F := Ideal)) (onTc (τ := Cert.CctxIdeal.τ) (Cert.CctxIdeal.main (F := Ideal))) ⟨m, fun _ => 0, g⟩ (fun r => ∀ c : Dev Cert.CctxIdeal.nD,
          r.2.mem ((c.tc : Thread Cert.CctxIdeal.nD Cert.CctxIdeal.τ).loc Cert.CctxIdeal.main_v0) = v0 c
          ∧ r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
          ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1))
      ∧ θ_run (Cert.CctxRefIdeal.defs (F := Ideal)) (onTc (τ := Cert.CctxRefIdeal.τ) (Cert.CctxRefIdeal.main (F := Ideal))) ⟨m', fun _ => 0, g'⟩ (fun r => ∀ c : Dev Cert.CctxRefIdeal.nD,
          r.2.mem ((c.tc : Thread Cert.CctxRefIdeal.nD Cert.CctxRefIdeal.τ).loc Cert.CctxRefIdeal.main_v3) = v0 c
          ∧ r.2.mem ((c.tc : Thread Cert.CctxRefIdeal.nD Cert.CctxRefIdeal.τ).loc Cert.CctxRefIdeal.main_arg0) = m' ((c.tc : Thread Cert.CctxRefIdeal.nD Cert.CctxRefIdeal.τ).loc Cert.CctxRefIdeal.main_arg0)
          ∧ r.2.mem ((c.tc : Thread Cert.CctxRefIdeal.nD Cert.CctxRefIdeal.τ).loc Cert.CctxRefIdeal.main_arg1) = m' ((c.tc : Thread Cert.CctxRefIdeal.nD Cert.CctxRefIdeal.τ).loc Cert.CctxRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v0) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def Claim : Prop :=
  ∃ (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts) (hDwRw : Cert.DwRw.Facts) (hDwRwIdeal : Cert.DwRwIdeal.Facts) (hDwRwRefIdeal : Cert.DwRwRefIdeal.Facts) (hDwCv : Cert.DwCv.Facts) (hDwCvIdeal : Cert.DwCvIdeal.Facts) (hDwCvRefIdeal : Cert.DwCvRefIdeal.Facts) (hDwOut : Cert.DwOut.Facts) (hDwOutIdeal : Cert.DwOutIdeal.Facts) (hDwOutRefIdeal : Cert.DwOutRefIdeal.Facts) (hMlp : Cert.Mlp.Facts) (hMlpIdeal : Cert.MlpIdeal.Facts) (hMlpRefIdeal : Cert.MlpRefIdeal.Facts) (hMixPost : Cert.MixPost.Facts) (hMixPostIdeal : Cert.MixPostIdeal.Facts) (hMixPostRefIdeal : Cert.MixPostRefIdeal.Facts) (hMixIn : Cert.MixIn.Facts) (hMixInIdeal : Cert.MixInIdeal.Facts) (hMixInRefIdeal : Cert.MixInRefIdeal.Facts) (hConv : Cert.Conv.Facts) (hConvIdeal : Cert.ConvIdeal.Facts) (hConvRefIdeal : Cert.ConvRefIdeal.Facts) (hAdamRow : Cert.AdamRow.Facts) (hAdamRowIdeal : Cert.AdamRowIdeal.Facts) (hAdamRowRefIdeal : Cert.AdamRowRefIdeal.Facts) (hAdamAdaB : Cert.AdamAdaB.Facts) (hAdamAdaBIdeal : Cert.AdamAdaBIdeal.Facts) (hAdamAdaBRefIdeal : Cert.AdamAdaBRefIdeal.Facts) (hAdamShift : Cert.AdamShift.Facts) (hAdamShiftIdeal : Cert.AdamShiftIdeal.Facts) (hAdamShiftRefIdeal : Cert.AdamShiftRefIdeal.Facts) (hAdamHalf : Cert.AdamHalf.Facts) (hAdamHalfIdeal : Cert.AdamHalfIdeal.Facts) (hAdamHalfRefIdeal : Cert.AdamHalfRefIdeal.Facts) (hAdamAdaW : Cert.AdamAdaW.Facts) (hAdamAdaWIdeal : Cert.AdamAdaWIdeal.Facts) (hAdamAdaWRefIdeal : Cert.AdamAdaWRefIdeal.Facts) (hAdamIn : Cert.AdamIn.Facts) (hAdamInIdeal : Cert.AdamInIdeal.Facts) (hAdamInRefIdeal : Cert.AdamInRefIdeal.Facts) (hAdamLane : Cert.AdamLane.Facts) (hAdamLaneIdeal : Cert.AdamLaneIdeal.Facts) (hAdamLaneRefIdeal : Cert.AdamLaneRefIdeal.Facts) (hAdamLora : Cert.AdamLora.Facts) (hAdamLoraIdeal : Cert.AdamLoraIdeal.Facts) (hAdamLoraRefIdeal : Cert.AdamLoraRefIdeal.Facts) (hAdamRk : Cert.AdamRk.Facts) (hAdamRkIdeal : Cert.AdamRkIdeal.Facts) (hAdamRkRefIdeal : Cert.AdamRkRefIdeal.Facts) (hAdamGate : Cert.AdamGate.Facts) (hAdamGateIdeal : Cert.AdamGateIdeal.Facts) (hAdamGateRefIdeal : Cert.AdamGateRefIdeal.Facts) (hAdamConv : Cert.AdamConv.Facts) (hAdamConvIdeal : Cert.AdamConvIdeal.Facts) (hAdamConvRefIdeal : Cert.AdamConvRefIdeal.Facts) (hAdamOut : Cert.AdamOut.Facts) (hAdamOutIdeal : Cert.AdamOutIdeal.Facts) (hAdamOutRefIdeal : Cert.AdamOutRefIdeal.Facts) (hAdamMlp : Cert.AdamMlp.Facts) (hAdamMlpIdeal : Cert.AdamMlpIdeal.Facts) (hAdamMlpRefIdeal : Cert.AdamMlpRefIdeal.Facts) (hAdaBwd : Cert.AdaBwd.Facts) (hAdaBwdIdeal : Cert.AdaBwdIdeal.Facts) (hAdaBwdRefIdeal : Cert.AdaBwdRefIdeal.Facts) (hCctx : Cert.Cctx.Facts) (hCctxIdeal : Cert.CctxIdeal.Facts) (hCctxRefIdeal : Cert.CctxRefIdeal.Facts) (hSumSmall : Cert.SumSmall.Facts) (hSumSmallIdeal : Cert.SumSmallIdeal.Facts) (hSumSmallRefIdeal : Cert.SumSmallRefIdeal.Facts) (hSumIn : Cert.SumIn.Facts) (hSumInIdeal : Cert.SumInIdeal.Facts) (hSumInRefIdeal : Cert.SumInRefIdeal.Facts) (hPre_conv_finite : Cert.Pre_conv_finite.Facts) (hPre_parts_finite : Cert.Pre_parts_finite.Facts),
    quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_DwRw (hDwRw := hDwRw)
    ∧ quiescent_DwRwIdeal (hDwRwIdeal := hDwRwIdeal)
    ∧ quiescent_DwRwRefIdeal (hDwRwRefIdeal := hDwRwRefIdeal)
    ∧ quiescent_DwCv (hDwCv := hDwCv)
    ∧ quiescent_DwCvIdeal (hDwCvIdeal := hDwCvIdeal)
    ∧ quiescent_DwCvRefIdeal (hDwCvRefIdeal := hDwCvRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MixPost (hMixPost := hMixPost)
    ∧ quiescent_MixPostIdeal (hMixPostIdeal := hMixPostIdeal)
    ∧ quiescent_MixPostRefIdeal (hMixPostRefIdeal := hMixPostRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamShift (hAdamShift := hAdamShift)
    ∧ quiescent_AdamShiftIdeal (hAdamShiftIdeal := hAdamShiftIdeal)
    ∧ quiescent_AdamShiftRefIdeal (hAdamShiftRefIdeal := hAdamShiftRefIdeal)
    ∧ quiescent_AdamHalf (hAdamHalf := hAdamHalf)
    ∧ quiescent_AdamHalfIdeal (hAdamHalfIdeal := hAdamHalfIdeal)
    ∧ quiescent_AdamHalfRefIdeal (hAdamHalfRefIdeal := hAdamHalfRefIdeal)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamLane (hAdamLane := hAdamLane)
    ∧ quiescent_AdamLaneIdeal (hAdamLaneIdeal := hAdamLaneIdeal)
    ∧ quiescent_AdamLaneRefIdeal (hAdamLaneRefIdeal := hAdamLaneRefIdeal)
    ∧ quiescent_AdamLora (hAdamLora := hAdamLora)
    ∧ quiescent_AdamLoraIdeal (hAdamLoraIdeal := hAdamLoraIdeal)
    ∧ quiescent_AdamLoraRefIdeal (hAdamLoraRefIdeal := hAdamLoraRefIdeal)
    ∧ quiescent_AdamRk (hAdamRk := hAdamRk)
    ∧ quiescent_AdamRkIdeal (hAdamRkIdeal := hAdamRkIdeal)
    ∧ quiescent_AdamRkRefIdeal (hAdamRkRefIdeal := hAdamRkRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_Cctx (hCctx := hCctx)
    ∧ quiescent_CctxIdeal (hCctxIdeal := hCctxIdeal)
    ∧ quiescent_CctxIdeal_pre_parts_finite (hCctxIdeal := hCctxIdeal) (hPre_parts_finite := hPre_parts_finite)
    ∧ quiescent_CctxRefIdeal (hCctxRefIdeal := hCctxRefIdeal)
    ∧ quiescent_CctxRefIdeal_pre_parts_finite (hCctxRefIdeal := hCctxRefIdeal) (hPre_parts_finite := hPre_parts_finite)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumIn (hSumIn := hSumIn)
    ∧ quiescent_SumInIdeal (hSumInIdeal := hSumInIdeal)
    ∧ quiescent_SumInRefIdeal (hSumInRefIdeal := hSumInRefIdeal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
    ∧ preserves_DwRw_DwRwIdeal
    ∧ algebraic_DwRwIdeal_DwRwRefIdeal (hDwRwIdeal := hDwRwIdeal) (hDwRwRefIdeal := hDwRwRefIdeal)
    ∧ preserves_DwCv_DwCvIdeal
    ∧ algebraic_DwCvIdeal_DwCvRefIdeal (hDwCvIdeal := hDwCvIdeal) (hDwCvRefIdeal := hDwCvRefIdeal)
    ∧ preserves_DwOut_DwOutIdeal
    ∧ algebraic_DwOutIdeal_DwOutRefIdeal (hDwOutIdeal := hDwOutIdeal) (hDwOutRefIdeal := hDwOutRefIdeal)
    ∧ preserves_Mlp_MlpIdeal
    ∧ algebraic_MlpIdeal_MlpRefIdeal (hMlpIdeal := hMlpIdeal) (hMlpRefIdeal := hMlpRefIdeal)
    ∧ preserves_MixPost_MixPostIdeal
    ∧ algebraic_MixPostIdeal_MixPostRefIdeal (hMixPostIdeal := hMixPostIdeal) (hMixPostRefIdeal := hMixPostRefIdeal)
    ∧ preserves_MixIn_MixInIdeal
    ∧ algebraic_MixInIdeal_MixInRefIdeal (hMixInIdeal := hMixInIdeal) (hMixInRefIdeal := hMixInRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_AdamRow_AdamRowIdeal
    ∧ algebraic_AdamRowIdeal_AdamRowRefIdeal (hAdamRowIdeal := hAdamRowIdeal) (hAdamRowRefIdeal := hAdamRowRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamShift_AdamShiftIdeal
    ∧ algebraic_AdamShiftIdeal_AdamShiftRefIdeal (hAdamShiftIdeal := hAdamShiftIdeal) (hAdamShiftRefIdeal := hAdamShiftRefIdeal)
    ∧ preserves_AdamHalf_AdamHalfIdeal
    ∧ algebraic_AdamHalfIdeal_AdamHalfRefIdeal (hAdamHalfIdeal := hAdamHalfIdeal) (hAdamHalfRefIdeal := hAdamHalfRefIdeal)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamIn_AdamInIdeal
    ∧ algebraic_AdamInIdeal_AdamInRefIdeal (hAdamInIdeal := hAdamInIdeal) (hAdamInRefIdeal := hAdamInRefIdeal)
    ∧ preserves_AdamLane_AdamLaneIdeal
    ∧ algebraic_AdamLaneIdeal_AdamLaneRefIdeal (hAdamLaneIdeal := hAdamLaneIdeal) (hAdamLaneRefIdeal := hAdamLaneRefIdeal)
    ∧ preserves_AdamLora_AdamLoraIdeal
    ∧ algebraic_AdamLoraIdeal_AdamLoraRefIdeal (hAdamLoraIdeal := hAdamLoraIdeal) (hAdamLoraRefIdeal := hAdamLoraRefIdeal)
    ∧ preserves_AdamRk_AdamRkIdeal
    ∧ algebraic_AdamRkIdeal_AdamRkRefIdeal (hAdamRkIdeal := hAdamRkIdeal) (hAdamRkRefIdeal := hAdamRkRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_Cctx_CctxIdeal
    ∧ algebraic_CctxIdeal_CctxRefIdeal_pre_parts_finite (hCctxIdeal := hCctxIdeal) (hCctxRefIdeal := hCctxRefIdeal) (hPre_parts_finite := hPre_parts_finite)
    ∧ preserves_SumSmall_SumSmallIdeal
    ∧ algebraic_SumSmallIdeal_SumSmallRefIdeal (hSumSmallIdeal := hSumSmallIdeal) (hSumSmallRefIdeal := hSumSmallRefIdeal)
    ∧ preserves_SumIn_SumInIdeal
    ∧ algebraic_SumInIdeal_SumInRefIdeal (hSumInIdeal := hSumInIdeal) (hSumInRefIdeal := hSumInRefIdeal)
-- ==== Pre_conv_finite.lean ====
abbrev S9216x1024 : Shape := ⟨2, ![9216, 1024]⟩
abbrev S31x512 : Shape := ⟨2, ![31, 512]⟩
abbrev S512 : Shape := ⟨1, ![512]⟩
abbrev S4x2304x1024 : Shape := ⟨3, ![4, 2304, 1024]⟩
abbrev S4x2048x1024 : Shape := ⟨3, ![4, 2048, 1024]⟩
abbrev S4x2048x512 : Shape := ⟨3, ![4, 2048, 512]⟩
abbrev S_ : Shape := ⟨0, ![]⟩
abbrev S1x1x512 : Shape := ⟨3, ![1, 1, 512]⟩

class Facts : Prop where
  shapeCasts_S9216x1024_S4x2304x1024 : S9216x1024.ShapeCasts S4x2304x1024
  slices_S4x2304x1024_S4x2048x1024_0_256_0 : S4x2304x1024.Slices ![0, 256, 0] S4x2048x1024
  slices_S4x2048x1024_S4x2048x512_0_0_512 : S4x2048x1024.Slices ![0, 0, 512] S4x2048x512
  bcast_S_S4x2048x512 : S_.BroadcastsInDim S4x2048x512 (![] : Fin 0 → Fin S4x2048x512.rank)
  bcast_S_S512 : S_.BroadcastsInDim S512 (![] : Fin 0 → Fin S512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)

variable [Facts]

def fn {F : FTy → Type} [FloatOps F] (main_arg0 : FVec F S9216x1024 .f32) (main_arg1 : FVec F S9216x1024 .f32) (main_arg2 : FVec F S31x512 .f32) (main_arg3 : FVec F S512 .f32) (main_arg4 : FVec F S512 .f32) (main_arg5 : FVec F S512 .f32) : IVec S4x2048x512 1 :=
  let main_v0 : FVec F S4x2304x1024 .f32 := shapeCast S4x2304x1024 main_arg0 shapeCasts_S9216x1024_S4x2304x1024
  let main_v1 : FVec F S4x2048x1024 .f32 := (extractStridedSlice S4x2048x1024 ![0, 256, 0] · slices_S4x2304x1024_S4x2048x1024_0_256_0) main_v0
  let main_v2 : FVec F S4x2048x512 .f32 := (extractStridedSlice S4x2048x512 ![0, 0, 512] · slices_S4x2048x1024_S4x2048x512_0_0_512) main_v1
  let main_v3 : FVec F S4x2048x512 .f32 := Host.absf main_v2
  let main_cst : FVec F S_ .f32 := constant S_ .f32 0x7F800000#32
  let main_v4 : FVec F S4x2048x512 .f32 := broadcastInDim S4x2048x512 ![] bcast_S_S4x2048x512 main_cst
  let main_v5 : IVec S4x2048x512 1 := cmpf .olt main_v3 main_v4
  let main_v6 : FVec F S512 .f32 := Host.absf main_arg4
  let main_cst_0 : FVec F S_ .f32 := constant S_ .f32 0x7F800000#32
  let main_v7 : FVec F S512 .f32 := broadcastInDim S512 ![] bcast_S_S512 main_cst_0
  let main_v8 : IVec S512 1 := cmpf .olt main_v6 main_v7
  let main_v9 : IVec S1x1x512 1 := broadcastInDim S1x1x512 ![2] bcast_S512_S1x1x512_2 main_v8
  let main_v10 : IVec S4x2048x512 1 := broadcastInDim S4x2048x512 ![0, 1, 2] bcast_S1x1x512_S4x2048x512_0_1_2 main_v9
  let main_v11 : IVec S4x2048x512 1 := andi main_v5 main_v10
  main_v11
-- ==== Pre_parts_finite.lean ====
abbrev S4x8x1024 : Shape := ⟨3, ![4, 8, 1024]⟩
abbrev S1x1024 : Shape := ⟨2, ![1, 1024]⟩
abbrev S4x1x1024 : Shape := ⟨3, ![4, 1, 1024]⟩
abbrev S_ : Shape := ⟨0, ![]⟩

class Facts : Prop where
  slices_S4x8x1024_S4x1x1024_0_0_0 : S4x8x1024.Slices ![0, 0, 0] S4x1x1024
  bcast_S_S4x1x1024 : S_.BroadcastsInDim S4x1x1024 (![] : Fin 0 → Fin S4x1x1024.rank)

variable [Facts]

def fn {F : FTy → Type} [FloatOps F] (main_arg0 : FVec F S4x8x1024 .f32) (main_arg1 : FVec F S1x1024 .f32) : IVec S4x1x1024 1 :=
  let main_v0 : FVec F S4x1x1024 .f32 := (extractStridedSlice S4x1x1024 ![0, 0, 0] · slices_S4x8x1024_S4x1x1024_0_0_0) main_arg0
  let main_v1 : FVec F S4x1x1024 .f32 := Host.absf main_v0
  let main_cst : FVec F S_ .f32 := constant S_ .f32 0x7F800000#32
  let main_v2 : FVec F S4x1x1024 .f32 := broadcastInDim S4x1x1024 ![] bcast_S_S4x1x1024 main_cst
  let main_v3 : IVec S4x1x1024 1 := cmpf .olt main_v1 main_v2
  main_v3
-- ==== Dw1.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dw2.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwRw.lean ====
abbrev S9216x1024 : Shape := ⟨2, ![9216, 1024]⟩
abbrev S9216x2304 : Shape := ⟨2, ![9216, 2304]⟩
abbrev S1024x2304 : Shape := ⟨2, ![1024, 2304]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x2304, .f32⟩
  | .hbm, ⟨2, _⟩ => ⟨S9216x1024, .bf16⟩
  | .hbm, ⟨3, _⟩ => ⟨S9216x2304, .bf16⟩
  | .hbm, ⟨4, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRwRefIdeal.lean ====
abbrev S9216x1024 : Shape := ⟨2, ![9216, 1024]⟩
abbrev S9216x2304 : Shape := ⟨2, ![9216, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x2304, .f32⟩
  | .hbm, ⟨2, _⟩ => ⟨S_, .f32⟩
  | .hbm, ⟨3, _⟩ => ⟨S1024x2304, .f32⟩
  | .hbm, ⟨4, _⟩ => ⟨S9216x2304, .f32⟩
  | .hbm, ⟨5, _⟩ => ⟨S2304x1024, .f32⟩
  | .hbm, ⟨6, _⟩ => ⟨S1024x2304, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwCv.lean ====
abbrev S9216x1024 : Shape := ⟨2, ![9216, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .bf16⟩
  | .hbm, ⟨3, _⟩ => ⟨S9216x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwCvRefIdeal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S1024x1024, .f32⟩
  | .hbm, ⟨6, _⟩ => ⟨S1024x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S8192x1024 : Shape := ⟨2, ![8192, 1024]⟩
abbrev S9216x1024 : Shape := ⟨2, ![9216, 1024]⟩
abbrev S1024x1024 : Shape := ⟨2, ![1024, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S9216x1024, .f32⟩
  | .hbm, ⟨2, _⟩ => ⟨S8192x1024, .bf16⟩
  | .hbm, ⟨3, _⟩ => ⟨S9216x1024, .bf16⟩
  | .hbm, ⟨4, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg2 c8_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg2 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c1_i32_4 : BitVec 32 := 1#32
  let v18 : BitVec 32 := Scalar.addi v17 c1_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![v29.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S9216x1024 : Shape := ⟨2, ![9216, 1024]⟩
abbrev S4x2304x1024 : Shape := ⟨3, ![4, 2304, 1024]⟩
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S9216x1024, .f32⟩
  | .hbm, ⟨2, _⟩ => ⟨S4x2304x1024, .f32⟩
  | .hbm, ⟨3, _⟩ => ⟨S4x2048x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mlp.lean ====
abbrev S8192x1024 : Shape := ⟨2, ![8192, 1024]⟩
abbrev S4x2x6x1024 : Shape := ⟨4, ![4, 2, 6, 1024]⟩
abbrev S1x1024 : Shape := ⟨2, ![1, 1024]⟩
abbrev S1024x4096 : Shape := ⟨2, ![1024, 4096]⟩
abbrev S4096x1024 : Shape := ⟨2, ![4096, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S1024x4x1024 : Shape := ⟨3, ![1024, 4, 1024]⟩
abbrev S4x1024x1024 : Shape := ⟨3, ![4, 1024, 1024]⟩
abbrev S4x256x1024 : Shape := ⟨3, ![4, 256, 1024]⟩
abbrev S4x2304x1024 : Shape := ⟨3, ![4, 2304, 1024]⟩
abbrev S8192x4096 : Shape := ⟨2, ![8192, 4096]⟩
abbrev S4x2x1024 : Shape := ⟨3, ![4, 2, 1024]⟩
abbrev S512x1024 : Shape := ⟨2, ![512, 1024]⟩
abbrev S1x1x6x1024 : Shape := ⟨4, ![1, 1, 6, 1024]⟩
abbrev S1x1024x1024 : Shape := ⟨3, ![1, 1024, 1024]⟩
abbrev S1x2x1024 : Shape := ⟨3, ![1, 2, 1024]⟩
abbrev S1024x1024 : Shape := ⟨2, ![1024, 1024]⟩
abbrev S512 : Shape := ⟨1, ![512]⟩
abbrev S512x1 : Shape := ⟨2, ![512, 1]⟩
abbrev S1x1x1x1024 : Shape := ⟨4, ![1, 1, 1, 1024]⟩

abbrev nBuf : Space → Nat
  | .hbm => 51
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x2x6x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x1x1x1024, .f32⟩
  | .hbm, ⟨26, _⟩ => ⟨S4x1x1024, .f32⟩
  | .hbm, ⟨27, _⟩ => ⟨S4x1x1x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | .hbm, ⟨37, _⟩ => ⟨S8192x1024, .bf16⟩
  | .hbm, ⟨38, _⟩ => ⟨S1024x4x1024, .f32⟩
  | .hbm, ⟨39, _⟩ => ⟨S4x1024x1024, .f32⟩
  | .hbm, ⟨40, _⟩ => ⟨S4x1024x1024, .f32⟩
  | .hbm, ⟨41, _⟩ => ⟨S_, .f32⟩
  | .hbm, ⟨42, _⟩ => ⟨S4x256x1024, .f32⟩
  | .hbm, ⟨43, _⟩ => ⟨S4x2304x1024, .f32⟩
  | .hbm, ⟨44, _⟩ => ⟨S4x2304x1024, .bf16⟩
  | .hbm, ⟨45, _⟩ => ⟨S8192x1024, .bf16⟩
  | .hbm, ⟨46, _⟩ => ⟨S8192x4096, .bf16⟩
  | .hbm, ⟨47, _⟩ => ⟨S8192x4096, .bf16⟩
  | .hbm, ⟨48, _⟩ => ⟨S8192x1024, .f32⟩
  | .hbm, ⟨49, _⟩ => ⟨S4x2x1024, .f32⟩
  | .hbm, ⟨50, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S1x2x1024, .f32⟩
  | .local _ .vmem, ⟨22, _⟩ => ⟨S1x2x1024, .f32⟩
  | .local _ .vmem, ⟨23, _⟩ => ⟨S1x1024, .f32⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_25 : BitVec 32 := 0#32
  let v33 : BitVec 1 := Scalar.cmpi .ne v32 c0_i32_25
  v33

def k0_cond3 (i : grid0.Coords) : BitVec 1 :=
  let arg0 : BitVec 32 := BitVec.ofNat 32 (i 0).val
  let c4_i32 : BitVec 32 := 4#32
  let c0_i32_35 : BitVec 32 := 0#32
  let v47 : BitVec 1 := Scalar.cmpi .eq c4_i32 c0_i32_35
  let c1_i32 : BitVec 32 := 1#32
  let v48 : BitVec 32 := Scalar.select v47 c1_i32 c4_i32
  let v49 : BitVec 32 := Scalar.remsi arg0 v48
  let c0_i32_37 : BitVec 32 := 0#32
  let v51 : BitVec 1 := Scalar.cmpi .slt v49 c0_i32_37
  let c0_i32_38 : BitVec 32 := 0#32
  let v52 : BitVec 1 := Scalar.cmpi .slt v48 c0_i32_38
  let v53 : BitVec 1 := Scalar.xori v51 v52
  let c0_i32_36 : BitVec 32 := 0#32
  let v50 : BitVec 1 := Scalar.cmpi .ne v49 c0_i32_36
  let v54 : BitVec 1 := Scalar.andi v53 v50
  let v55 : BitVec 32 := Scalar.addi v49 v48
  let v56 : BitVec 32 := Scalar.select v54 v55 v49
  let c0_i32_39 : BitVec 32 := 0#32
  let v57 : BitVec 1 := Scalar.cmpi .eq v56 c0_i32_39
  let v60 : BitVec 32 := Scalar.extui v57
  let c0_i32_42 : BitVec 32 := 0#32
  let v61 : BitVec 1 := Scalar.cmpi .ne v60 c0_i32_42
  v61

def k0_cond4 (i : grid0.Coords) : BitVec 1 :=
  let arg0 : BitVec 32 := BitVec.ofNat 32 (i 0).val
  let c4_i32 : BitVec 32 := 4#32
  let c0_i32_35 : BitVec 32 := 0#32
  let v47 : BitVec 1 := Scalar.cmpi .eq c4_i32 c0_i32_35
  let c1_i32 : BitVec 32 := 1#32
  let v48 : BitVec 32 := Scalar.select v47 c1_i32 c4_i32
  let v49 : BitVec 32 := Scalar.remsi arg0 v48
  let c0_i32_37 : BitVec 32 := 0#32
  let v51 : BitVec 1 := Scalar.cmpi .slt v49 c0_i32_37
  let c0_i32_38 : BitVec 32 := 0#32
  let v52 : BitVec 1 := Scalar.cmpi .slt v48 c0_i32_38
  let v53 : BitVec 1 := Scalar.xori v51 v52
  let c0_i32_36 : BitVec 32 := 0#32
  let v50 : BitVec 1 := Scalar.cmpi .ne v49 c0_i32_36
  let v54 : BitVec 1 := Scalar.andi v53 v50
  let v55 : BitVec 32 := Scalar.addi v49 v48
  let v56 : BitVec 32 := Scalar.select v54 v55 v49
  let c0_i32_39 : BitVec 32 := 0#32
  let v57 : BitVec 1 := Scalar.cmpi .eq v56 c0_i32_39
  let v73 : BitVec 32 := Scalar.extui v57
  let c0_i32_51 : BitVec 32 := 0#32
  let v74 : BitVec 1 := Scalar.cmpi .ne v73 c0_i32_51
  v74

def k0_cond5 (i : grid0.Coords) : BitVec 1 :=
  let arg0 : BitVec 32 := BitVec.ofNat 32 (i 0).val
  let c0_i32_62 : BitVec 32 := 0#32
  let v90 : BitVec 1 := Scalar.cmpi .eq arg0 c0_i32_62
  let v91 : BitVec 32 := Scalar.extui v90
  let c0_i32_63 : BitVec 32 := 0#32
  let v92 : BitVec 1 := Scalar.cmpi .ne v91 c0_i32_63
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MlpRefIdeal.lean ====
abbrev S8192x1024 : Shape := ⟨2, ![8192, 1024]⟩
abbrev S4x2x6x1024 : Shape := ⟨4, ![4, 2, 6, 1024]⟩
abbrev S1x1024 : Shape := ⟨2, ![1, 1024]⟩
abbrev S1024x4096 : Shape := ⟨2, ![1024, 4096]⟩
abbrev S4096x1024 : Shape := ⟨2, ![4096, 1024]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S4x1024 : Shape := ⟨2, ![4, 1024]⟩
abbrev S8192x4096 : Shape := ⟨2, ![8192, 4096]⟩
abbrev S4x2x1024 : Shape := ⟨3, ![4, 2, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x2x6x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S4x2048x1024, .f32⟩
  | .hbm, ⟨8, _⟩ => ⟨S4x1x1x1024, .f32⟩
  | .hbm, ⟨9, _⟩ => ⟨S4x1x1024, .f32⟩
  | .hbm, ⟨10, _⟩ => ⟨S4x1x1x1024, .f32⟩
  | .hbm, ⟨11, _⟩ => ⟨S4x1x1024, .f32⟩
  | .hbm, ⟨12, _⟩ => ⟨S1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x4096, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x2048x4096, .f32⟩
  | .hbm, ⟨46, _⟩ => ⟨S4x2048x4096, .i1⟩
  | .hbm, ⟨47, _⟩ => ⟨S_, .f32⟩
  | .hbm, ⟨48, _⟩ => ⟨S4x2048x4096, .f32⟩
  | .hbm, ⟨49, _⟩ => ⟨S4x2048x4096, .f32⟩
  | .hbm, ⟨50, _⟩ => ⟨S_, .f32⟩
  | .hbm, ⟨51, _⟩ => ⟨S4x2048x4096, .f32⟩
  | .hbm, ⟨52, _⟩ => ⟨S4x2048x4096, .f32⟩
  | .hbm, ⟨53, _⟩ => ⟨S4x2048x1024, .f32⟩
  | .hbm, ⟨54, _⟩ => ⟨S4x2048x1024, .f32⟩
  | .hbm, ⟨55, _⟩ => ⟨S4x2048x4096, .f32⟩
  | .hbm, ⟨56, _⟩ => ⟨S4x2048x4096, .f32⟩
  | .hbm, ⟨57, _⟩ => ⟨S_, .f32⟩
  | .hbm, ⟨58, _⟩ => ⟨S4x2048x4096, .f32⟩
  | .hbm, ⟨59, _⟩ => ⟨S4x2048x4096, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S4x1024, .f32⟩
  | .hbm, ⟨64, _⟩ => ⟨S4x1x1024, .f32⟩
  | .hbm, ⟨65, _⟩ => ⟨S4x2048x1024, .f32⟩
  | .hbm, ⟨66, _⟩ => ⟨S_, .f32⟩
  | .hbm, ⟨67, _⟩ => ⟨S4x1024, .f32⟩
  | .hbm, ⟨68, _⟩ => ⟨S4x1x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S1024, .f32⟩
  | .hbm, ⟨79, _⟩ => ⟨S4x2048x1024, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1, .f32⟩
  | .hbm, ⟨87, _⟩ => ⟨S_, .f32⟩
  | .hbm, ⟨88, _⟩ => ⟨S4x2048x1, .f32⟩
  | .hbm, ⟨89, _⟩ => ⟨S4x2048x1, .f32⟩
  | .hbm, ⟨90, _⟩ => ⟨S_, .f32⟩
  | .hbm, ⟨91, _⟩ => ⟨S4x2048, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S8192x4096, .f32⟩
  | .hbm, ⟨98, _⟩ => ⟨S8192x4096, .bf16⟩
  | .hbm, ⟨99, _⟩ => ⟨S8192x4096, .f32⟩
  | .hbm, ⟨100, _⟩ => ⟨S8192x4096, .bf16⟩
  | .hbm, ⟨101, _⟩ => ⟨S8192x1024, .f32⟩
  | .hbm, ⟨102, _⟩ => ⟨S4x2x1024, .f32⟩
  | .hbm, ⟨103, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== MixPost.lean ====
abbrev S8192x1024 : Shape := ⟨2, ![8192, 1024]⟩
abbrev S4x2x6x1024 : Shape := ⟨4, ![4, 2, 6, 1024]⟩
abbrev S1x1024 : Shape := ⟨2, ![1, 1024]⟩
abbrev S1024x1024 : Shape := ⟨2, ![1024, 1024]⟩
abbrev S9216x1024 : Shape := ⟨2, ![9216, 1024]⟩
abbrev S4x1x1024 : Shape := ⟨3, ![4, 1, 1024]⟩
abbrev S256x1024 : Shape := ⟨2, ![256, 1024]⟩
abbrev S1x1x6x1024 : Shape := ⟨4, ![1, 1, 6, 1024]⟩
abbrev S1x1x1024 : Shape := ⟨3, ![1, 1, 1024]⟩
abbrev S256 : Shape := ⟨1, ![256]⟩
abbrev S256x1 : Shape := ⟨2, ![256, 1]⟩
abbrev S1x1x1x1024 : Shape := ⟨4, ![1, 1, 1, 1024]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2x6x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S9216x1024, .bf16⟩
  | .hbm, ⟨7, _⟩ => ⟨S9216x1024, .f32⟩
  | .hbm, ⟨8, _⟩ => ⟨S4x1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_1 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_2 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixPostRefIdeal.lean ====
abbrev S8192x1024 : Shape := ⟨2, ![8192, 1024]⟩
abbrev S4x2x6x1024 : Shape := ⟨4, ![4, 2, 6, 1024]⟩
abbrev S1x1024 : Shape := ⟨2, ![1, 1024]⟩
abbrev S1024x1024 : Shape := ⟨2, ![1024, 1024]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S4x256x1024 : Shape := ⟨3, ![4, 256, 1024]⟩
abbrev S4x2304x1024 : Shape := ⟨3, ![4, 2304, 1024]⟩
abbrev S9216x1024 : Shape := ⟨2, ![9216, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2x6x1024, .f32⟩
  | .hbm, ⟨3, _⟩ => ⟨S1x1024, .f32⟩
  | .hbm, ⟨4, _⟩ => ⟨S1024x1024, .f32⟩
  | .hbm, ⟨5, _⟩ => ⟨S4x2048x1024, .f32⟩
  | .hbm, ⟨6, _⟩ => ⟨S4x1x1x1024, .f32⟩
  | .hbm, ⟨7, _⟩ => ⟨S4x1x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S_, .f32⟩
  | .hbm, ⟨40, _⟩ => ⟨S1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S4x2048x1024, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S4x2048x1024, .f32⟩
  | .hbm, ⟨51, _⟩ => ⟨S4x2048x1024, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S4x256x1024, .f32⟩
  | .hbm, ⟨69, _⟩ => ⟨S4x2304x1024, .f32⟩
  | .hbm, ⟨70, _⟩ => ⟨S9216x1024, .f32⟩
  | .hbm, ⟨71, _⟩ => ⟨S9216x1024, .bf16⟩
  | .hbm, ⟨72, _⟩ => ⟨S_, .f32⟩
  | .hbm, ⟨73, _⟩ => ⟨S4x256x1024, .f32⟩
  | .hbm, ⟨74, _⟩ => ⟨S4x2304x1024, .f32⟩
  | .hbm, ⟨75, _⟩ => ⟨S9216x1024, .f32⟩
  | .hbm, ⟨76, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== MixIn.lean ====
abbrev S8192x1024 : Shape := ⟨2, ![8192, 1024]⟩
abbrev S1024x1024 : Shape := ⟨2, ![1024, 1024]⟩
abbrev S4x2x6x1024 : Shape := ⟨4, ![4, 2, 6, 1024]⟩
abbrev S1x1024 : Shape := ⟨2, ![1, 1024]⟩
abbrev S1024x2304 : Shape := ⟨2, ![1024, 2304]⟩
abbrev S9216x2304 : Shape := ⟨2, ![9216, 2304]⟩
abbrev S9216x1024 : Shape := ⟨2, ![9216, 1024]⟩
abbrev S256x1024 : Shape := ⟨2, ![256, 1024]⟩
abbrev S1x1x6x1024 : Shape := ⟨4, ![1, 1, 6, 1024]⟩
abbrev S256x2304 : Shape := ⟨2, ![256, 2304]⟩
abbrev S256 : Shape := ⟨1, ![256]⟩
abbrev S256x1 : Shape := ⟨2, ![256, 1]⟩
abbrev S1x1x1x1024 : Shape := ⟨4, ![1, 1, 1, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S4x2x6x1024, .f32⟩
  | .hbm, ⟨3, _⟩ => ⟨S1x1024, .f32⟩
  | .hbm, ⟨4, _⟩ => ⟨S1024x2304, .f32⟩
  | .hbm, ⟨5, _⟩ => ⟨S1024x1024, .f32⟩
  | .hbm, ⟨6, _⟩ => ⟨S1024x2304, .bf16⟩
  | .hbm, ⟨7, _⟩ => ⟨S1024x1024, .bf16⟩
  | .hbm, ⟨8, _⟩ => ⟨S9216x2304, .f32⟩
  | .hbm, ⟨9, _⟩ => ⟨S9216x1024, .f32⟩
  | .hbm, ⟨10, _⟩ => ⟨S9216x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1024x2304, .bf16⟩
  | .local _ .vmem, ⟨8, _⟩ => ⟨S1024x1024, .bf16⟩
  | .local _ .vmem, ⟨9, _⟩ => ⟨S256x2304, .f32⟩
  | .local _ .vmem, ⟨10, _⟩ => ⟨S256x2304, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_1 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixInRefIdeal.lean ====
abbrev S8192x1024 : Shape := ⟨2, ![8192, 1024]⟩
abbrev S1024x1024 : Shape := ⟨2, ![1024, 1024]⟩
abbrev S4x2x6x1024 : Shape := ⟨4, ![4, 2, 6, 1024]⟩
abbrev S1x1024 : Shape := ⟨2, ![1, 1024]⟩
abbrev S1024x2304 : Shape := ⟨2, ![1024, 2304]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x256x1024 : Shape := ⟨3, ![4, 256, 1024]⟩
abbrev S4x256 : Shape := ⟨2, ![4, 256]⟩
abbrev S4x256x1 : Shape := ⟨3, ![4, 256, 1]⟩
abbrev S4x2304x1024 : Shape := ⟨3, ![4, 2304, 1024]⟩
abbrev S9216x1024 : Shape := ⟨2, ![9216, 1024]⟩
abbrev S9216x2304 : Shape := ⟨2, ![9216, 2304]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S4x2x6x1024, .f32⟩
  | .hbm, ⟨3, _⟩ => ⟨S1x1024, .f32⟩
  | .hbm, ⟨4, _⟩ => ⟨S1024x2304, .f32⟩
  | .hbm, ⟨5, _⟩ => ⟨S1024x1024, .f32⟩
  | .hbm, ⟨6, _⟩ => ⟨S4x2048x1024, .f32⟩
  | .hbm, ⟨7, _⟩ => ⟨S1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1x1024, .f32⟩
  | .hbm, ⟨25, _⟩ => ⟨S4x1x1024, .f32⟩
  | .hbm, ⟨26, _⟩ => ⟨S4x1x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x256x1024, .f32⟩
  | .hbm, ⟨36, _⟩ => ⟨S1024, .f32⟩
  | .hbm, ⟨37, _⟩ => ⟨S4x256x1024, .f32⟩
  | .hbm, ⟨38, _⟩ => ⟨S_, .f32⟩
  | .hbm, ⟨39, _⟩ => ⟨S4x256, .f32⟩
  | .hbm, ⟨40, _⟩ => ⟨S4x256x1, .f32⟩
  | .hbm, ⟨41, _⟩ => ⟨S_, .f32⟩
  | .hbm, ⟨42, _⟩ => ⟨S4x256x1, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S4x256x1, .f32⟩
  | .hbm, ⟨48, _⟩ => ⟨S4x256x1024, .f32⟩
  | .hbm, ⟨49, _⟩ => ⟨S4x256x1024, .f32⟩
  | .hbm, ⟨50, _⟩ => ⟨S1x1x1024, .f32⟩
  | .hbm, ⟨51, _⟩ => ⟨S4x256x1024, .f32⟩
  | .hbm, ⟨52, _⟩ => ⟨S4x256x1024, .f32⟩
  | .hbm, ⟨53, _⟩ => ⟨S4x1x1x1024, .f32⟩
  | .hbm, ⟨54, _⟩ => ⟨S4x1x1024, .f32⟩
  | .hbm, ⟨55, _⟩ => ⟨S4x1x1x1024, .f32⟩
  | .hbm, ⟨56, _⟩ => ⟨S4x1x1024, .f32⟩
  | .hbm, ⟨57, _⟩ => ⟨S_, .f32⟩
  | .hbm, ⟨58, _⟩ => ⟨S4x1x1024, .f32⟩
  | .hbm, ⟨59, _⟩ => ⟨S4x1x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x256x1024, .f32⟩
  | .hbm, ⟨64, _⟩ => ⟨S4x2304x1024, .f32⟩
  | .hbm, ⟨65, _⟩ => ⟨S9216x1024, .f32⟩
  | .hbm, ⟨66, _⟩ => ⟨S9216x2304, .f32⟩
  | .hbm, ⟨67, _⟩ => ⟨S9216x1024, .f32⟩
  | .hbm, ⟨68, _⟩ => ⟨S9216x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Conv.lean ====
abbrev S9216x1024 : Shape := ⟨2, ![9216, 1024]⟩
abbrev S31x512 : Shape := ⟨2, ![31, 512]⟩
abbrev S512 : Shape := ⟨1, ![512]⟩
abbrev S4x2304x1024 : Shape := ⟨3, ![4, 2304, 1024]⟩
abbrev S4x2048x1024 : Shape := ⟨3, ![4, 2048, 1024]⟩
abbrev S4x2048x512 : Shape := ⟨3, ![4, 2048, 512]⟩
abbrev S_ : Shape := ⟨0, ![]⟩
abbrev S128x64x512 : Shape := ⟨3, ![128, 64, 512]⟩
abbrev S31x64x64x512 : Shape := ⟨4, ![31, 64, 64, 512]⟩
abbrev S31x4096x512 : Shape := ⟨3, ![31, 4096, 512]⟩
abbrev S31x1x512 : Shape := ⟨3, ![31, 1, 512]⟩
abbrev S4096x512 : Shape := ⟨2, ![4096, 512]⟩
abbrev S64x64x512 : Shape := ⟨3, ![64, 64, 512]⟩
abbrev S512x64x128 : Shape := ⟨3, ![512, 64, 128]⟩
abbrev S1x1x512 : Shape := ⟨3, ![1, 1, 512]⟩
abbrev S8192x512 : Shape := ⟨2, ![8192, 512]⟩
abbrev S1x512 : Shape := ⟨2, ![1, 512]⟩
abbrev S32x512 : Shape := ⟨2, ![32, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 56
  | .vmem => 16
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S4x2304x1024, .f32⟩
  | .hbm, ⟨7, _⟩ => ⟨S4x2048x1024, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S_, .f32⟩
  | .hbm, ⟨13, _⟩ => ⟨S4x2048x512, .f32⟩
  | .hbm, ⟨14, _⟩ => ⟨S4x2048x512, .f32⟩
  | .hbm, ⟨15, _⟩ => ⟨S_, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S128x64x512, .f32⟩
  | .hbm, ⟨20, _⟩ => ⟨S31x64x64x512, .i32⟩
  | .hbm, ⟨21, _⟩ => ⟨S31x64x64x512, .i32⟩
  | .hbm, ⟨22, _⟩ => ⟨S31x64x64x512, .i32⟩
  | .hbm, ⟨23, _⟩ => ⟨S31x64x64x512, .i32⟩
  | .hbm, ⟨24, _⟩ => ⟨S_, .i32⟩
  | .hbm, ⟨25, _⟩ => ⟨S31x64x64x512, .i32⟩
  | .hbm, ⟨26, _⟩ => ⟨S31x64x64x512, .i32⟩
  | .hbm, ⟨27, _⟩ => ⟨S31x64x64x512, .i1⟩
  | .hbm, ⟨28, _⟩ => ⟨S31x4096x512, .i1⟩
  | .hbm, ⟨29, _⟩ => ⟨S31x1x512, .f32⟩
  | .hbm, ⟨30, _⟩ => ⟨S_, .f32⟩
  | .hbm, ⟨31, _⟩ => ⟨S_, .f32⟩
  | .hbm, ⟨32, _⟩ => ⟨S31x4096x512, .f32⟩
  | .hbm, ⟨33, _⟩ => ⟨S31x4096x512, .f32⟩
  | .hbm, ⟨34, _⟩ => ⟨S31x4096x512, .f32⟩
  | .hbm, ⟨35, _⟩ => ⟨S_, .f32⟩
  | .hbm, ⟨36, _⟩ => ⟨S4096x512, .f32⟩
  | .hbm, ⟨37, _⟩ => ⟨S64x64x512, .f32⟩
  | .hbm, ⟨38, _⟩ => ⟨S512x64x128, .f32⟩
  | .hbm, ⟨39, _⟩ => ⟨S128x64x512, .f32⟩
  | .hbm, ⟨40, _⟩ => ⟨S4x2048x512, .f32⟩
  | .hbm, ⟨41, _⟩ => ⟨S1x1x512, .f32⟩
  | .hbm, ⟨42, _⟩ => ⟨S4x2048x512, .f32⟩
  | .hbm, ⟨43, _⟩ => ⟨S4x2048x512, .f32⟩
  | .hbm, ⟨44, _⟩ => ⟨S8192x512, .f32⟩
  | .hbm, ⟨45, _⟩ => ⟨S_, .f32⟩
  | .hbm, ⟨46, _⟩ => ⟨S1x512, .f32⟩
  | .hbm, ⟨47, _⟩ => ⟨S32x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S9216x1024, .bf16⟩
  | .hbm, ⟨52, _⟩ => ⟨S32x512, .f32⟩
  | .hbm, ⟨53, _⟩ => ⟨S1x512, .f32⟩
  | .hbm, ⟨54, _⟩ => ⟨S1x512, .f32⟩
  | .hbm, ⟨55, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x1024, .bf16⟩
  | .local _ .vmem, ⟨11, _⟩ => ⟨S256x1024, .bf16⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_v36_2 : Ref sig .tc := ⟨.hbm, 53, rfl⟩
abbrev main_v36_3 : Ref sig .tc := ⟨.hbm, 54, rfl⟩
abbrev main_v36_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .ne v9 c0_i32_3
  let v_true : BitVec 1 := 1#1
  let v14 : BitVec 1 := Scalar.xori v10 v_true
  let v15 : BitVec 32 := Scalar.extui v14
  let c0_i32_6 : BitVec 32 := 0#32
  let v16 : BitVec 1 := Scalar.cmpi .ne v15 c0_i32_6
  v16

def k0_cond3 (i : grid0.Coords) : BitVec 1 :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .ne v9 c0_i32_3
  let v17 : BitVec 32 := Scalar.extui v10
  let c0_i32_7 : BitVec 32 := 0#32
  let v18 : BitVec 1 := Scalar.cmpi .ne v17 c0_i32_7
  v18

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ConvRefIdeal.lean ====
abbrev S9216x1024 : Shape := ⟨2, ![9216, 1024]⟩
abbrev S31x512 : Shape := ⟨2, ![31, 512]⟩
abbrev S512 : Shape := ⟨1, ![512]⟩
abbrev S4x2304x1024 : Shape := ⟨3, ![4, 2304, 1024]⟩
abbrev S4x2048x1024 : Shape := ⟨3, ![4, 2048, 1024]⟩
abbrev S4x2048x512 : Shape := ⟨3, ![4, 2048, 512]⟩
abbrev S_ : Shape := ⟨0, ![]⟩
abbrev S128x64x512 : Shape := ⟨3, ![128, 64, 512]⟩
abbrev S31x64x64x512 : Shape := ⟨4, ![31, 64, 64, 512]⟩
abbrev S31x4096x512 : Shape := ⟨3, ![31, 4096, 512]⟩
abbrev S31x1x512 : Shape := ⟨3, ![31, 1, 512]⟩
abbrev S4096x512 : Shape := ⟨2, ![4096, 512]⟩
abbrev S64x64x512 : Shape := ⟨3, ![64, 64, 512]⟩
abbrev S512x64x128 : Shape := ⟨3, ![512, 64, 128]⟩
abbrev S1x1x512 : Shape := ⟨3, ![1, 1, 512]⟩
abbrev S4x2048 : Shape := ⟨2, ![4, 2048]⟩
abbrev S4x2048x1 : Shape := ⟨3, ![4, 2048, 1]⟩
abbrev S512x128x64 : Shape := ⟨3, ![512, 128, 64]⟩
abbrev S512x64x64 : Shape := ⟨3, ![512, 64, 64]⟩
abbrev S1x512 : Shape := ⟨2, ![1, 512]⟩
abbrev S32x512 : Shape := ⟨2, ![32, 512]⟩

abbrev nBuf : Space → Nat
  | .hbm => 190
  | .vmem => 0
  | .smem => 0
  | _ => 0

abbrev hbmTy0_0 (i : Nat) : BufTy := match i % 128 with
  | 0 => ⟨S9216x1024, .f32⟩
  | 1 => ⟨S9216x1024, .f32⟩
  | 2 => ⟨S31x512, .f32⟩
  | 3 => ⟨S512, .f32⟩
  | 4 => ⟨S512, .f32⟩
  | 5 => ⟨S512, .f32⟩
  | 6 => ⟨S4x2304x1024, .f32⟩
  | 7 => ⟨S4x2048x1024, .f32⟩
  | 8 => ⟨S4x2048x512, .f32⟩
  | 9 => ⟨S4x2304x1024, .f32⟩
  | 10 => ⟨S4x2048x1024, .f32⟩
  | 11 => ⟨S4x2048x512, .f32⟩
  | 12 => ⟨S4x2048x512, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S_, .f32⟩
  | 19 => ⟨S4x2048x512, .f32⟩
  | 20 => ⟨S4x2048x512, .f32⟩
  | 21 => ⟨S_, .f32⟩
  | 22 => ⟨S4x2048x512, .f32⟩
  | 23 => ⟨S4x2048x512, .f32⟩
  | 24 => ⟨S4x2048x512, .f32⟩
  | 25 => ⟨S4x2048x512, .f32⟩
  | 26 => ⟨S128x64x512, .f32⟩
  | 27 => ⟨S31x64x64x512, .i32⟩
  | 28 => ⟨S31x64x64x512, .i32⟩
  | 29 => ⟨S31x64x64x512, .i32⟩
  | 30 => ⟨S31x64x64x512, .i32⟩
  | 31 => ⟨S_, .i32⟩
  | 32 => ⟨S31x64x64x512, .i32⟩
  | 33 => ⟨S31x64x64x512, .i32⟩
  | 34 => ⟨S31x64x64x512, .i1⟩
  | 35 => ⟨S31x4096x512, .i1⟩
  | 36 => ⟨S31x1x512, .f32⟩
  | 37 => ⟨S_, .f32⟩
  | 38 => ⟨S_, .f32⟩
  | 39 => ⟨S31x4096x512, .f32⟩
  | 40 => ⟨S31x4096x512, .f32⟩
  | 41 => ⟨S31x4096x512, .f32⟩
  | 42 => ⟨S_, .f32⟩
  | 43 => ⟨S31x4096x512, .f32⟩
  | 44 => ⟨S_, .f32⟩
  | 45 => ⟨S4096x512, .f32⟩
  | 46 => ⟨S64x64x512, .f32⟩
  | 47 => ⟨S512x64x128, .f32⟩
  | 48 => ⟨S128x64x512, .f32⟩
  | 49 => ⟨S4x2048x512, .f32⟩
  | 50 => ⟨S1x1x512, .f32⟩
  | 51 => ⟨S4x2048x512, .f32⟩
  | 52 => ⟨S4x2048x512, .f32⟩
  | 53 => ⟨S_, .f32⟩
  | 54 => ⟨S4x2048, .f32⟩
  | 55 => ⟨S4x2048x1, .f32⟩
  | 56 => ⟨S_, .f32⟩
  | 57 => ⟨S4x2048x1, .f32⟩
  | 58 => ⟨S4x2048x1, .f32⟩
  | 59 => ⟨S4x2048x512, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S4x2048x512, .f32⟩
  | 72 => ⟨S4x2048x512, .f32⟩
  | 73 => ⟨S_, .f32⟩
  | 74 => ⟨S4x2048x1, .f32⟩
  | 75 => ⟨S4x2048x1, .f32⟩
  | 76 => ⟨S4x2048x1, .f32⟩
  | 77 => ⟨S4x2048x1, .f32⟩
  | 78 => ⟨S_, .f32⟩
  | 79 => ⟨S4x2048x1, .f32⟩
  | 80 => ⟨S4x2048x1, .f32⟩
  | 81 => ⟨S4x2048x512, .f32⟩
  | 82 => ⟨S4x2048x512, .f32⟩
  | 83 => ⟨S1x1x512, .f32⟩
  | 84 => ⟨S4x2048x512, .f32⟩
  | 85 => ⟨S4x2048x512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S_, .f32⟩
  | 92 => ⟨S4x2048x512, .f32⟩
  | 93 => ⟨S4x2048x512, .f32⟩
  | 94 => ⟨S_, .f32⟩
  | 95 => ⟨S4x2048x512, .f32⟩
  | 96 => ⟨S4x2048x512, .f32⟩
  | 97 => ⟨S_, .f32⟩
  | 98 => ⟨S4x2048x512, .f32⟩
  | 99 => ⟨S4x2048x512, .f32⟩
  | 100 => ⟨S4x2048x512, .f32⟩
  | 101 => ⟨S4x2048x512, .f32⟩
  | 102 => ⟨S4x2048x512, .f32⟩
  | 103 => ⟨S4x2048x512, .f32⟩
  | 104 => ⟨S4x2048x512, .f32⟩
  | 105 => ⟨S4x2048x512, .f32⟩
  | 106 => ⟨S_, .f32⟩
  | 107 => ⟨S512, .f32⟩
  | 108 => ⟨S1x1x512, .f32⟩
  | 109 => ⟨S_, .f32⟩
  | 110 => ⟨S512, .f32⟩
  | 111 => ⟨S4x2048x512, .f32⟩
  | 112 => ⟨S_, .f32⟩
  | 113 => ⟨S512, .f32⟩
  | 114 => ⟨S1x1x512, .f32⟩
  | 115 => ⟨S4x2048x512, .f32⟩
  | 116 => ⟨S4x2048x512, .f32⟩
  | 117 => ⟨S_, .f32⟩
  | 118 => ⟨S512, .f32⟩
  | 119 => ⟨S4x2048x512, .f32⟩
  | 120 => ⟨S_, .f32⟩
  | 121 => ⟨S4x2048, .f32⟩
  | 122 => ⟨S4x2048x1, .f32⟩
  | 123 => ⟨S4x2048x512, .f32⟩
  | 124 => ⟨S4x2048x512, .f32⟩
  | 125 => ⟨S4x2048x1, .f32⟩
  | 126 => ⟨S4x2048x512, .f32⟩
  | 127 => ⟨S_, .f32⟩
  | _ => ⟨S9216x1024, .f32⟩

abbrev hbmTy0_1 (i : Nat) : BufTy := match i % 128 with
  | 0 => ⟨S4x2048, .f32⟩
  | 1 => ⟨S4x2048x1, .f32⟩
  | 2 => ⟨S_, .f32⟩
  | 3 => ⟨S4x2048x1, .f32⟩
  | 4 => ⟨S4x2048x1, .f32⟩
  | 5 => ⟨S_, .f32⟩
  | 6 => ⟨S4x2048, .f32⟩
  | 7 => ⟨S4x2048x512, .f32⟩
  | 8 => ⟨S4x2048x512, .f32⟩
  | 9 => ⟨S4x2048x512, .f32⟩
  | 10 => ⟨S_, .f32⟩
  | 11 => ⟨S4x2048, .f32⟩
  | 12 => ⟨S4x2048x1, .f32⟩
  | 13 => ⟨S4x2048x512, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048, .f32⟩
  | 20 => ⟨S4x2048x512, .f32⟩
  | 21 => ⟨S4x2048x512, .f32⟩
  | 22 => ⟨S_, .f32⟩
  | 23 => ⟨S512, .f32⟩
  | 24 => ⟨S1x1x512, .f32⟩
  | 25 => ⟨S_, .f32⟩
  | 26 => ⟨S512, .f32⟩
  | 27 => ⟨S128x64x512, .f32⟩
  | 28 => ⟨S512x64x128, .f32⟩
  | 29 => ⟨S512x128x64, .f32⟩
  | 30 => ⟨S128x64x512, .f32⟩
  | 31 => ⟨S512x64x64, .f32⟩
  | 32 => ⟨S64x64x512, .f32⟩
  | 33 => ⟨S4096x512, .f32⟩
  | 34 => ⟨S31x4096x512, .f32⟩
  | 35 => ⟨S_, .f32⟩
  | 36 => ⟨S31x4096x512, .f32⟩
  | 37 => ⟨S31x4096x512, .f32⟩
  | 38 => ⟨S_, .f32⟩
  | 39 => ⟨S31x512, .f32⟩
  | 40 => ⟨S31x1x512, .f32⟩
  | 41 => ⟨S_, .f32⟩
  | 42 => ⟨S31x512, .f32⟩
  | 43 => ⟨S4x2048x512, .f32⟩
  | 44 => ⟨S4x2048x512, .f32⟩
  | 45 => ⟨S4x2048x512, .f32⟩
  | 46 => ⟨S4x2048x512, .f32⟩
  | 47 => ⟨S_, .f32⟩
  | 48 => ⟨S4x2048x1024, .f32⟩
  | 49 => ⟨S_, .f32⟩
  | 50 => ⟨S4x2048x1024, .f32⟩
  | 51 => ⟨S4x2048x1024, .f32⟩
  | 52 => ⟨S_, .f32⟩
  | 53 => ⟨S4x2304x1024, .f32⟩
  | 54 => ⟨S9216x1024, .f32⟩
  | 55 => ⟨S9216x1024, .bf16⟩
  | 56 => ⟨S_, .f32⟩
  | 57 => ⟨S1x512, .f32⟩
  | 58 => ⟨S32x512, .f32⟩
  | 59 => ⟨S1x512, .f32⟩
  | 60 => ⟨S1x512, .f32⟩
  | 61 => ⟨S1x512, .f32⟩
  | _ => ⟨S9216x1024, .f32⟩

abbrev hbmTy (i : Nat) : BufTy := match i / 128 with
  | 0 => hbmTy0_0 i
  | 1 => hbmTy0_1 i
  | _ => ⟨S9216x1024, .f32⟩

abbrev bufTy : (tb : Table) → Fin (tcTables nBuf tb) → BufTy
  | .hbm, ⟨i, _⟩ => hbmTy i
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27_0 : Ref sig .tc := ⟨.hbm, 41, rfl⟩
abbrev main_call0_cst : Ref sig .tc := ⟨.hbm, 42, rfl⟩
abbrev main_v27_1 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_v65_2 : Ref sig .tc := ⟨.hbm, 96, rfl⟩
abbrev main_call1_cst_1 : Ref sig .tc := ⟨.hbm, 97, rfl⟩
abbrev main_call1_v6 : Ref sig .tc := ⟨.hbm, 98, rfl⟩
abbrev main_call1_v7 : Ref sig .tc := ⟨.hbm, 99, rfl⟩
abbrev main_v65_1 : Ref sig .tc := ⟨.hbm, 100, rfl⟩
abbrev main_v65_0 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v66 : Ref sig .tc := ⟨.hbm, 105, rfl⟩
abbrev main_cst_11 : Ref sig .tc := ⟨.hbm, 106, rfl⟩
abbrev main_v67 : Ref sig .tc := ⟨.hbm, 107, rfl⟩
abbrev main_v68 : Ref sig .tc := ⟨.hbm, 108, rfl⟩
abbrev main_cst_12 : Ref sig .tc := ⟨.hbm, 109, rfl⟩
abbrev main_v69 : Ref sig .tc := ⟨.hbm, 110, rfl⟩
abbrev main_v70 : Ref sig .tc := ⟨.hbm, 111, rfl⟩
abbrev main_cst_13 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_cst_15 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_16 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_cst_18 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_19 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_20 : Ref sig .tc := ⟨.hbm, 143, rfl⟩
abbrev main_v95 : Ref sig .tc := ⟨.hbm, 144, rfl⟩
abbrev main_v96 : Ref sig .tc := ⟨.hbm, 145, rfl⟩
abbrev main_cst_21 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_22 : Ref sig .tc := ⟨.hbm, 150, rfl⟩
abbrev main_v100 : Ref sig .tc := ⟨.hbm, 151, rfl⟩
abbrev main_v101 : Ref sig .tc := ⟨.hbm, 152, rfl⟩
abbrev main_cst_23 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_call3_cst : Ref sig .tc := ⟨.hbm, 163, rfl⟩
abbrev main_call3_v0 : Ref sig .tc := ⟨.hbm, 164, rfl⟩
abbrev main_call3_v1 : Ref sig .tc := ⟨.hbm, 165, rfl⟩
abbrev main_call3_cst_0 : Ref sig .tc := ⟨.hbm, 166, rfl⟩
abbrev main_call3_v2 : Ref sig .tc := ⟨.hbm, 167, rfl⟩
abbrev main_v111 : Ref sig .tc := ⟨.hbm, 168, rfl⟩
abbrev main_cst_24 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_25 : Ref sig .tc := ⟨.hbm, 175, rfl⟩
abbrev main_v117 : Ref sig .tc := ⟨.hbm, 176, rfl⟩
abbrev main_cst_26 : Ref sig .tc := ⟨.hbm, 177, rfl⟩
abbrev main_v118 : Ref sig .tc := ⟨.hbm, 178, rfl⟩
abbrev main_v119 : Ref sig .tc := ⟨.hbm, 179, rfl⟩
abbrev main_cst_27 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_28 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩

abbrev nD : Nat := 1
abbrev τ : Topo := Topo.v7x

variable {F : FTy → Type} [FloatOps F]
-- ==== AdamRow.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaB.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBRefIdeal.lean ====
abbrev S1x6144 : Shape := ⟨2, ![1, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S_, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S_, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamShift.lean ====
abbrev S1x1952 : Shape := ⟨2, ![1, 1952]⟩

abbrev nBuf : Space → Nat
  | .hbm => 7
  | .vmem => 7
  | .smem => 0
  | _ => 0

abbrev bufTy : (tb : Table) → Fin (tcTables nBuf tb) → BufTy
  | .hbm, ⟨0, _⟩ => ⟨S1x1952, .f32⟩
  | .hbm, ⟨1, _⟩ => ⟨S1x1952, .f32⟩
  | .hbm, ⟨2, _⟩ => ⟨S1x1952, .f32⟩
  | .hbm, ⟨3, _⟩ => ⟨S1x1952, .f32⟩
  | .hbm, ⟨4, _⟩ => ⟨S1x1952, .f32⟩
  | .hbm, ⟨5, _⟩ => ⟨S1x1952, .f32⟩
  | .hbm, ⟨6, _⟩ => ⟨S1x1952, .f32⟩
  | .local _ .vmem, ⟨0, _⟩ => ⟨S1x1952, .f32⟩
  | .local _ .vmem, ⟨1, _⟩ => ⟨S1x1952, .f32⟩
  | .local _ .vmem, ⟨2, _⟩ => ⟨S1x1952, .f32⟩
  | .local _ .vmem, ⟨3, _⟩ => ⟨S1x1952, .f32⟩
  | .local _ .vmem, ⟨4, _⟩ => ⟨S1x1952, .f32⟩
  | .local _ .vmem, ⟨5, _⟩ => ⟨S1x1952, .f32⟩
  | .local _ .vmem, ⟨6, _⟩ => ⟨S1x1952, .f32⟩
  | _, _ => ⟨S1x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1952 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1952 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1952 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1952 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1952 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1952 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1952 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShiftIdeal.lean ====
abbrev S1x1952 : Shape := ⟨2, ![1, 1952]⟩

abbrev nBuf : Space → Nat
  | .hbm => 7
  | .vmem => 7
  | .smem => 0
  | _ => 0

abbrev bufTy : (tb : Table) → Fin (tcTables nBuf tb) → BufTy
  | .hbm, ⟨0, _⟩ => ⟨S1x1952, .f32⟩
  | .hbm, ⟨1, _⟩ => ⟨S1x1952, .f32⟩
  | .hbm, ⟨2, _⟩ => ⟨S1x1952, .f32⟩
  | .hbm, ⟨3, _⟩ => ⟨S1x1952, .f32⟩
  | .hbm, ⟨4, _⟩ => ⟨S1x1952, .f32⟩
  | .hbm, ⟨5, _⟩ => ⟨S1x1952, .f32⟩
  | .hbm, ⟨6, _⟩ => ⟨S1x1952, .f32⟩
  | .local _ .vmem, ⟨0, _⟩ => ⟨S1x1952, .f32⟩
  | .local _ .vmem, ⟨1, _⟩ => ⟨S1x1952, .f32⟩
  | .local _ .vmem, ⟨2, _⟩ => ⟨S1x1952, .f32⟩
  | .local _ .vmem, ⟨3, _⟩ => ⟨S1x1952, .f32⟩
  | .local _ .vmem, ⟨4, _⟩ => ⟨S1x1952, .f32⟩
  | .local _ .vmem, ⟨5, _⟩ => ⟨S1x1952, .f32⟩
  | .local _ .vmem, ⟨6, _⟩ => ⟨S1x1952, .f32⟩
  | _, _ => ⟨S1x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1952 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1952 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1952 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1952 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1952 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1952 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1952 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShiftRefIdeal.lean ====
abbrev S1x1952 : Shape := ⟨2, ![1, 1952]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1952, .f32⟩
  | .hbm, ⟨1, _⟩ => ⟨S1x1952, .f32⟩
  | .hbm, ⟨2, _⟩ => ⟨S1x1952, .f32⟩
  | .hbm, ⟨3, _⟩ => ⟨S1x1952, .f32⟩
  | .hbm, ⟨4, _⟩ => ⟨S_, .f32⟩
  | .hbm, ⟨5, _⟩ => ⟨S1x1952, .f32⟩
  | .hbm, ⟨6, _⟩ => ⟨S1x1952, .f32⟩
  | .hbm, ⟨7, _⟩ => ⟨S_, .f32⟩
  | .hbm, ⟨8, _⟩ => ⟨S1x1952, .f32⟩
  | .hbm, ⟨9, _⟩ => ⟨S1x1952, .f32⟩
  | .hbm, ⟨10, _⟩ => ⟨S1x1952, .f32⟩
  | .hbm, ⟨11, _⟩ => ⟨S_, .f32⟩
  | .hbm, ⟨12, _⟩ => ⟨S1x1952, .f32⟩
  | .hbm, ⟨13, _⟩ => ⟨S1x1952, .f32⟩
  | .hbm, ⟨14, _⟩ => ⟨S1x1952, .f32⟩
  | .hbm, ⟨15, _⟩ => ⟨S_, .f32⟩
  | .hbm, ⟨16, _⟩ => ⟨S1x1952, .f32⟩
  | .hbm, ⟨17, _⟩ => ⟨S1x1952, .f32⟩
  | .hbm, ⟨18, _⟩ => ⟨S1x1952, .f32⟩
  | .hbm, ⟨19, _⟩ => ⟨S_, .f32⟩
  | .hbm, ⟨20, _⟩ => ⟨S1x1952, .f32⟩
  | .hbm, ⟨21, _⟩ => ⟨S1x1952, .f32⟩
  | .hbm, ⟨22, _⟩ => ⟨S_, .f32⟩
  | .hbm, ⟨23, _⟩ => ⟨S1x1952, .f32⟩
  | .hbm, ⟨24, _⟩ => ⟨S1x1952, .f32⟩
  | .hbm, ⟨25, _⟩ => ⟨S1x1952, .f32⟩
  | .hbm, ⟨26, _⟩ => ⟨S_, .f32⟩
  | .hbm, ⟨27, _⟩ => ⟨S1x1952, .f32⟩
  | .hbm, ⟨28, _⟩ => ⟨S1x1952, .f32⟩
  | .hbm, ⟨29, _⟩ => ⟨S1x1952, .f32⟩
  | .hbm, ⟨30, _⟩ => ⟨S_, .f32⟩
  | .hbm, ⟨31, _⟩ => ⟨S1x1952, .f32⟩
  | .hbm, ⟨32, _⟩ => ⟨S1x1952, .f32⟩
  | .hbm, ⟨33, _⟩ => ⟨S1x1952, .f32⟩
  | .hbm, ⟨34, _⟩ => ⟨S_, .f32⟩
  | .hbm, ⟨35, _⟩ => ⟨S1x1952, .f32⟩
  | .hbm, ⟨36, _⟩ => ⟨S1x1952, .f32⟩
  | _, _ => ⟨S1x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHalf.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHalfIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHalfRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaW.lean ====
abbrev S1x1024x1536 : Shape := ⟨3, ![1, 1024, 1536]⟩
abbrev S1x256x1536 : Shape := ⟨3, ![1, 256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1x1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWIdeal.lean ====
abbrev S1x1024x1536 : Shape := ⟨3, ![1, 1024, 1536]⟩
abbrev S1x256x1536 : Shape := ⟨3, ![1, 256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1x1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWRefIdeal.lean ====
abbrev S1x1024x1536 : Shape := ⟨3, ![1, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1x1024x1536, .f32⟩
  | .hbm, ⟨2, _⟩ => ⟨S1x1024x1536, .f32⟩
  | .hbm, ⟨3, _⟩ => ⟨S1x1024x1536, .f32⟩
  | .hbm, ⟨4, _⟩ => ⟨S_, .f32⟩
  | .hbm, ⟨5, _⟩ => ⟨S1x1024x1536, .f32⟩
  | .hbm, ⟨6, _⟩ => ⟨S1x1024x1536, .f32⟩
  | .hbm, ⟨7, _⟩ => ⟨S_, .f32⟩
  | .hbm, ⟨8, _⟩ => ⟨S1x1024x1536, .f32⟩
  | .hbm, ⟨9, _⟩ => ⟨S1x1024x1536, .f32⟩
  | .hbm, ⟨10, _⟩ => ⟨S1x1024x1536, .f32⟩
  | .hbm, ⟨11, _⟩ => ⟨S_, .f32⟩
  | .hbm, ⟨12, _⟩ => ⟨S1x1024x1536, .f32⟩
  | .hbm, ⟨13, _⟩ => ⟨S1x1024x1536, .f32⟩
  | .hbm, ⟨14, _⟩ => ⟨S1x1024x1536, .f32⟩
  | .hbm, ⟨15, _⟩ => ⟨S_, .f32⟩
  | .hbm, ⟨16, _⟩ => ⟨S1x1024x1536, .f32⟩
  | .hbm, ⟨17, _⟩ => ⟨S1x1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S_, .f32⟩
  | .hbm, ⟨23, _⟩ => ⟨S1x1024x1536, .f32⟩
  | .hbm, ⟨24, _⟩ => ⟨S1x1024x1536, .f32⟩
  | .hbm, ⟨25, _⟩ => ⟨S1x1024x1536, .f32⟩
  | .hbm, ⟨26, _⟩ => ⟨S_, .f32⟩
  | .hbm, ⟨27, _⟩ => ⟨S1x1024x1536, .f32⟩
  | .hbm, ⟨28, _⟩ => ⟨S1x1024x1536, .f32⟩
  | .hbm, ⟨29, _⟩ => ⟨S1x1024x1536, .f32⟩
  | .hbm, ⟨30, _⟩ => ⟨S_, .f32⟩
  | .hbm, ⟨31, _⟩ => ⟨S1x1024x1536, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1x1024x744 : Shape := ⟨3, ![1, 1024, 744]⟩
abbrev S1x256x744 : Shape := ⟨3, ![1, 256, 744]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x744, .f32⟩
  | .hbm, ⟨1, _⟩ => ⟨S1x1024x744, .f32⟩
  | .hbm, ⟨2, _⟩ => ⟨S1x1024x744, .f32⟩
  | .hbm, ⟨3, _⟩ => ⟨S1x1024x744, .f32⟩
  | .hbm, ⟨4, _⟩ => ⟨S1x1024x744, .f32⟩
  | .hbm, ⟨5, _⟩ => ⟨S1x1024x744, .f32⟩
  | .hbm, ⟨6, _⟩ => ⟨S1x1024x744, .f32⟩
  | .local _ .vmem, ⟨0, _⟩ => ⟨S1x256x744, .f32⟩
  | .local _ .vmem, ⟨1, _⟩ => ⟨S1x256x744, .f32⟩
  | .local _ .vmem, ⟨2, _⟩ => ⟨S1x256x744, .f32⟩
  | .local _ .vmem, ⟨3, _⟩ => ⟨S1x256x744, .f32⟩
  | .local _ .vmem, ⟨4, _⟩ => ⟨S1x256x744, .f32⟩
  | .local _ .vmem, ⟨5, _⟩ => ⟨S1x256x744, .f32⟩
  | .local _ .vmem, ⟨6, _⟩ => ⟨S1x256x744, .f32⟩
  | .local _ .vmem, ⟨7, _⟩ => ⟨S1x256x744, .f32⟩
  | .local _ .vmem, ⟨8, _⟩ => ⟨S1x256x744, .f32⟩
  | .local _ .vmem, ⟨9, _⟩ => ⟨S1x256x744, .f32⟩
  | .local _ .vmem, ⟨10, _⟩ => ⟨S1x256x744, .f32⟩
  | .local _ .vmem, ⟨11, _⟩ => ⟨S1x256x744, .f32⟩
  | .local _ .vmem, ⟨12, _⟩ => ⟨S1x256x744, .f32⟩
  | .local _ .vmem, ⟨13, _⟩ => ⟨S1x256x744, .f32⟩
  | _, _ => ⟨S1x1024x744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x744 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x744 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x744 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x744 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x744 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x744 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x744 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1x1024x744 : Shape := ⟨3, ![1, 1024, 744]⟩
abbrev S1x256x744 : Shape := ⟨3, ![1, 256, 744]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x744, .f32⟩
  | .hbm, ⟨1, _⟩ => ⟨S1x1024x744, .f32⟩
  | .hbm, ⟨2, _⟩ => ⟨S1x1024x744, .f32⟩
  | .hbm, ⟨3, _⟩ => ⟨S1x1024x744, .f32⟩
  | .hbm, ⟨4, _⟩ => ⟨S1x1024x744, .f32⟩
  | .hbm, ⟨5, _⟩ => ⟨S1x1024x744, .f32⟩
  | .hbm, ⟨6, _⟩ => ⟨S1x1024x744, .f32⟩
  | .local _ .vmem, ⟨0, _⟩ => ⟨S1x256x744, .f32⟩
  | .local _ .vmem, ⟨1, _⟩ => ⟨S1x256x744, .f32⟩
  | .local _ .vmem, ⟨2, _⟩ => ⟨S1x256x744, .f32⟩
  | .local _ .vmem, ⟨3, _⟩ => ⟨S1x256x744, .f32⟩
  | .local _ .vmem, ⟨4, _⟩ => ⟨S1x256x744, .f32⟩
  | .local _ .vmem, ⟨5, _⟩ => ⟨S1x256x744, .f32⟩
  | .local _ .vmem, ⟨6, _⟩ => ⟨S1x256x744, .f32⟩
  | .local _ .vmem, ⟨7, _⟩ => ⟨S1x256x744, .f32⟩
  | .local _ .vmem, ⟨8, _⟩ => ⟨S1x256x744, .f32⟩
  | .local _ .vmem, ⟨9, _⟩ => ⟨S1x256x744, .f32⟩
  | .local _ .vmem, ⟨10, _⟩ => ⟨S1x256x744, .f32⟩
  | .local _ .vmem, ⟨11, _⟩ => ⟨S1x256x744, .f32⟩
  | .local _ .vmem, ⟨12, _⟩ => ⟨S1x256x744, .f32⟩
  | .local _ .vmem, ⟨13, _⟩ => ⟨S1x256x744, .f32⟩
  | _, _ => ⟨S1x1024x744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x744 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x744 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x744 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x744 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x744 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x744 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x744 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x1024x744 : Shape := ⟨3, ![1, 1024, 744]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x744, .f32⟩
  | .hbm, ⟨1, _⟩ => ⟨S1x1024x744, .f32⟩
  | .hbm, ⟨2, _⟩ => ⟨S1x1024x744, .f32⟩
  | .hbm, ⟨3, _⟩ => ⟨S1x1024x744, .f32⟩
  | .hbm, ⟨4, _⟩ => ⟨S_, .f32⟩
  | .hbm, ⟨5, _⟩ => ⟨S1x1024x744, .f32⟩
  | .hbm, ⟨6, _⟩ => ⟨S1x1024x744, .f32⟩
  | .hbm, ⟨7, _⟩ => ⟨S_, .f32⟩
  | .hbm, ⟨8, _⟩ => ⟨S1x1024x744, .f32⟩
  | .hbm, ⟨9, _⟩ => ⟨S1x1024x744, .f32⟩
  | .hbm, ⟨10, _⟩ => ⟨S1x1024x744, .f32⟩
  | .hbm, ⟨11, _⟩ => ⟨S_, .f32⟩
  | .hbm, ⟨12, _⟩ => ⟨S1x1024x744, .f32⟩
  | .hbm, ⟨13, _⟩ => ⟨S1x1024x744, .f32⟩
  | .hbm, ⟨14, _⟩ => ⟨S1x1024x744, .f32⟩
  | .hbm, ⟨15, _⟩ => ⟨S_, .f32⟩
  | .hbm, ⟨16, _⟩ => ⟨S1x1024x744, .f32⟩
  | .hbm, ⟨17, _⟩ => ⟨S1x1024x744, .f32⟩
  | .hbm, ⟨18, _⟩ => ⟨S1x1024x744, .f32⟩
  | .hbm, ⟨19, _⟩ => ⟨S_, .f32⟩
  | .hbm, ⟨20, _⟩ => ⟨S1x1024x744, .f32⟩
  | .hbm, ⟨21, _⟩ => ⟨S1x1024x744, .f32⟩
  | .hbm, ⟨22, _⟩ => ⟨S_, .f32⟩
  | .hbm, ⟨23, _⟩ => ⟨S1x1024x744, .f32⟩
  | .hbm, ⟨24, _⟩ => ⟨S1x1024x744, .f32⟩
  | .hbm, ⟨25, _⟩ => ⟨S1x1024x744, .f32⟩
  | .hbm, ⟨26, _⟩ => ⟨S_, .f32⟩
  | .hbm, ⟨27, _⟩ => ⟨S1x1024x744, .f32⟩
  | .hbm, ⟨28, _⟩ => ⟨S1x1024x744, .f32⟩
  | .hbm, ⟨29, _⟩ => ⟨S1x1024x744, .f32⟩
  | .hbm, ⟨30, _⟩ => ⟨S_, .f32⟩
  | .hbm, ⟨31, _⟩ => ⟨S1x1024x744, .f32⟩
  | .hbm, ⟨32, _⟩ => ⟨S1x1024x744, .f32⟩
  | .hbm, ⟨33, _⟩ => ⟨S1x1024x744, .f32⟩
  | .hbm, ⟨34, _⟩ => ⟨S_, .f32⟩
  | .hbm, ⟨35, _⟩ => ⟨S1x1024x744, .f32⟩
  | .hbm, ⟨36, _⟩ => ⟨S1x1024x744, .f32⟩
  | _, _ => ⟨S1x1024x744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLane.lean ====
abbrev S1x2x128 : Shape := ⟨3, ![1, 2, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | _, _ => ⟨S1x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLaneIdeal.lean ====
abbrev S1x2x128 : Shape := ⟨3, ![1, 2, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | _, _ => ⟨S1x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLaneRefIdeal.lean ====
abbrev S1x2x128 : Shape := ⟨3, ![1, 2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S_, .f32⟩
  | .hbm, ⟨5, _⟩ => ⟨S1x2x128, .f32⟩
  | .hbm, ⟨6, _⟩ => ⟨S1x2x128, .f32⟩
  | .hbm, ⟨7, _⟩ => ⟨S_, .f32⟩
  | .hbm, ⟨8, _⟩ => ⟨S1x2x128, .f32⟩
  | .hbm, ⟨9, _⟩ => ⟨S1x2x128, .f32⟩
  | .hbm, ⟨10, _⟩ => ⟨S1x2x128, .f32⟩
  | .hbm, ⟨11, _⟩ => ⟨S_, .f32⟩
  | .hbm, ⟨12, _⟩ => ⟨S1x2x128, .f32⟩
  | .hbm, ⟨13, _⟩ => ⟨S1x2x128, .f32⟩
  | .hbm, ⟨14, _⟩ => ⟨S1x2x128, .f32⟩
  | .hbm, ⟨15, _⟩ => ⟨S_, .f32⟩
  | .hbm, ⟨16, _⟩ => ⟨S1x2x128, .f32⟩
  | .hbm, ⟨17, _⟩ => ⟨S1x2x128, .f32⟩
  | .hbm, ⟨18, _⟩ => ⟨S1x2x128, .f32⟩
  | .hbm, ⟨19, _⟩ => ⟨S_, .f32⟩
  | .hbm, ⟨20, _⟩ => ⟨S1x2x128, .f32⟩
  | .hbm, ⟨21, _⟩ => ⟨S1x2x128, .f32⟩
  | .hbm, ⟨22, _⟩ => ⟨S_, .f32⟩
  | .hbm, ⟨23, _⟩ => ⟨S1x2x128, .f32⟩
  | .hbm, ⟨24, _⟩ => ⟨S1x2x128, .f32⟩
  | .hbm, ⟨25, _⟩ => ⟨S1x2x128, .f32⟩
  | .hbm, ⟨26, _⟩ => ⟨S_, .f32⟩
  | .hbm, ⟨27, _⟩ => ⟨S1x2x128, .f32⟩
  | .hbm, ⟨28, _⟩ => ⟨S1x2x128, .f32⟩
  | .hbm, ⟨29, _⟩ => ⟨S1x2x128, .f32⟩
  | .hbm, ⟨30, _⟩ => ⟨S_, .f32⟩
  | .hbm, ⟨31, _⟩ => ⟨S1x2x128, .f32⟩
  | .hbm, ⟨32, _⟩ => ⟨S1x2x128, .f32⟩
  | .hbm, ⟨33, _⟩ => ⟨S1x2x128, .f32⟩
  | .hbm, ⟨34, _⟩ => ⟨S_, .f32⟩
  | .hbm, ⟨35, _⟩ => ⟨S1x2x128, .f32⟩
  | .hbm, ⟨36, _⟩ => ⟨S1x2x128, .f32⟩
  | _, _ => ⟨S1x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLora.lean ====
abbrev S1x2x64x128 : Shape := ⟨4, ![1, 2, 64, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x2x64x128, .f32⟩
  | .hbm, ⟨1, _⟩ => ⟨S1x2x64x128, .f32⟩
  | .hbm, ⟨2, _⟩ => ⟨S1x2x64x128, .f32⟩
  | .hbm, ⟨3, _⟩ => ⟨S1x2x64x128, .f32⟩
  | .hbm, ⟨4, _⟩ => ⟨S1x2x64x128, .f32⟩
  | .hbm, ⟨5, _⟩ => ⟨S1x2x64x128, .f32⟩
  | .hbm, ⟨6, _⟩ => ⟨S1x2x64x128, .f32⟩
  | .local _ .vmem, ⟨0, _⟩ => ⟨S1x2x64x128, .f32⟩
  | .local _ .vmem, ⟨1, _⟩ => ⟨S1x2x64x128, .f32⟩
  | .local _ .vmem, ⟨2, _⟩ => ⟨S1x2x64x128, .f32⟩
  | .local _ .vmem, ⟨3, _⟩ => ⟨S1x2x64x128, .f32⟩
  | .local _ .vmem, ⟨4, _⟩ => ⟨S1x2x64x128, .f32⟩
  | .local _ .vmem, ⟨5, _⟩ => ⟨S1x2x64x128, .f32⟩
  | .local _ .vmem, ⟨6, _⟩ => ⟨S1x2x64x128, .f32⟩
  | _, _ => ⟨S1x2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S1x2x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLoraIdeal.lean ====
abbrev S1x2x64x128 : Shape := ⟨4, ![1, 2, 64, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x2x64x128, .f32⟩
  | .hbm, ⟨1, _⟩ => ⟨S1x2x64x128, .f32⟩
  | .hbm, ⟨2, _⟩ => ⟨S1x2x64x128, .f32⟩
  | .hbm, ⟨3, _⟩ => ⟨S1x2x64x128, .f32⟩
  | .hbm, ⟨4, _⟩ => ⟨S1x2x64x128, .f32⟩
  | .hbm, ⟨5, _⟩ => ⟨S1x2x64x128, .f32⟩
  | .hbm, ⟨6, _⟩ => ⟨S1x2x64x128, .f32⟩
  | .local _ .vmem, ⟨0, _⟩ => ⟨S1x2x64x128, .f32⟩
  | .local _ .vmem, ⟨1, _⟩ => ⟨S1x2x64x128, .f32⟩
  | .local _ .vmem, ⟨2, _⟩ => ⟨S1x2x64x128, .f32⟩
  | .local _ .vmem, ⟨3, _⟩ => ⟨S1x2x64x128, .f32⟩
  | .local _ .vmem, ⟨4, _⟩ => ⟨S1x2x64x128, .f32⟩
  | .local _ .vmem, ⟨5, _⟩ => ⟨S1x2x64x128, .f32⟩
  | .local _ .vmem, ⟨6, _⟩ => ⟨S1x2x64x128, .f32⟩
  | _, _ => ⟨S1x2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S1x2x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLoraRefIdeal.lean ====
abbrev S1x2x64x128 : Shape := ⟨4, ![1, 2, 64, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x64x128, .f32⟩
  | .hbm, ⟨1, _⟩ => ⟨S1x2x64x128, .f32⟩
  | .hbm, ⟨2, _⟩ => ⟨S1x2x64x128, .f32⟩
  | .hbm, ⟨3, _⟩ => ⟨S1x2x64x128, .f32⟩
  | .hbm, ⟨4, _⟩ => ⟨S_, .f32⟩
  | .hbm, ⟨5, _⟩ => ⟨S1x2x64x128, .f32⟩
  | .hbm, ⟨6, _⟩ => ⟨S1x2x64x128, .f32⟩
  | .hbm, ⟨7, _⟩ => ⟨S_, .f32⟩
  | .hbm, ⟨8, _⟩ => ⟨S1x2x64x128, .f32⟩
  | .hbm, ⟨9, _⟩ => ⟨S1x2x64x128, .f32⟩
  | .hbm, ⟨10, _⟩ => ⟨S1x2x64x128, .f32⟩
  | .hbm, ⟨11, _⟩ => ⟨S_, .f32⟩
  | .hbm, ⟨12, _⟩ => ⟨S1x2x64x128, .f32⟩
  | .hbm, ⟨13, _⟩ => ⟨S1x2x64x128, .f32⟩
  | .hbm, ⟨14, _⟩ => ⟨S1x2x64x128, .f32⟩
  | .hbm, ⟨15, _⟩ => ⟨S_, .f32⟩
  | .hbm, ⟨16, _⟩ => ⟨S1x2x64x128, .f32⟩
  | .hbm, ⟨17, _⟩ => ⟨S1x2x64x128, .f32⟩
  | .hbm, ⟨18, _⟩ => ⟨S1x2x64x128, .f32⟩
  | .hbm, ⟨19, _⟩ => ⟨S_, .f32⟩
  | .hbm, ⟨20, _⟩ => ⟨S1x2x64x128, .f32⟩
  | .hbm, ⟨21, _⟩ => ⟨S1x2x64x128, .f32⟩
  | .hbm, ⟨22, _⟩ => ⟨S_, .f32⟩
  | .hbm, ⟨23, _⟩ => ⟨S1x2x64x128, .f32⟩
  | .hbm, ⟨24, _⟩ => ⟨S1x2x64x128, .f32⟩
  | .hbm, ⟨25, _⟩ => ⟨S1x2x64x128, .f32⟩
  | .hbm, ⟨26, _⟩ => ⟨S_, .f32⟩
  | .hbm, ⟨27, _⟩ => ⟨S1x2x64x128, .f32⟩
  | .hbm, ⟨28, _⟩ => ⟨S1x2x64x128, .f32⟩
  | .hbm, ⟨29, _⟩ => ⟨S1x2x64x128, .f32⟩
  | .hbm, ⟨30, _⟩ => ⟨S_, .f32⟩
  | .hbm, ⟨31, _⟩ => ⟨S1x2x64x128, .f32⟩
  | .hbm, ⟨32, _⟩ => ⟨S1x2x64x128, .f32⟩
  | .hbm, ⟨33, _⟩ => ⟨S1x2x64x128, .f32⟩
  | .hbm, ⟨34, _⟩ => ⟨S_, .f32⟩
  | .hbm, ⟨35, _⟩ => ⟨S1x2x64x128, .f32⟩
  | .hbm, ⟨36, _⟩ => ⟨S1x2x64x128, .f32⟩
  | _, _ => ⟨S1x2x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRk.lean ====
abbrev S1x8x64 : Shape := ⟨3, ![1, 8, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S1x8x64, .f32⟩
  | .hbm, ⟨5, _⟩ => ⟨S1x8x64, .f32⟩
  | .hbm, ⟨6, _⟩ => ⟨S1x8x64, .f32⟩
  | .local _ .vmem, ⟨0, _⟩ => ⟨S1x8x64, .f32⟩
  | .local _ .vmem, ⟨1, _⟩ => ⟨S1x8x64, .f32⟩
  | .local _ .vmem, ⟨2, _⟩ => ⟨S1x8x64, .f32⟩
  | .local _ .vmem, ⟨3, _⟩ => ⟨S1x8x64, .f32⟩
  | .local _ .vmem, ⟨4, _⟩ => ⟨S1x8x64, .f32⟩
  | .local _ .vmem, ⟨5, _⟩ => ⟨S1x8x64, .f32⟩
  | .local _ .vmem, ⟨6, _⟩ => ⟨S1x8x64, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRkIdeal.lean ====
abbrev S1x8x64 : Shape := ⟨3, ![1, 8, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S1x8x64, .f32⟩
  | .hbm, ⟨5, _⟩ => ⟨S1x8x64, .f32⟩
  | .hbm, ⟨6, _⟩ => ⟨S1x8x64, .f32⟩
  | .local _ .vmem, ⟨0, _⟩ => ⟨S1x8x64, .f32⟩
  | .local _ .vmem, ⟨1, _⟩ => ⟨S1x8x64, .f32⟩
  | .local _ .vmem, ⟨2, _⟩ => ⟨S1x8x64, .f32⟩
  | .local _ .vmem, ⟨3, _⟩ => ⟨S1x8x64, .f32⟩
  | .local _ .vmem, ⟨4, _⟩ => ⟨S1x8x64, .f32⟩
  | .local _ .vmem, ⟨5, _⟩ => ⟨S1x8x64, .f32⟩
  | .local _ .vmem, ⟨6, _⟩ => ⟨S1x8x64, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRkRefIdeal.lean ====
abbrev S1x8x64 : Shape := ⟨3, ![1, 8, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S_, .f32⟩
  | .hbm, ⟨5, _⟩ => ⟨S1x8x64, .f32⟩
  | .hbm, ⟨6, _⟩ => ⟨S1x8x64, .f32⟩
  | .hbm, ⟨7, _⟩ => ⟨S_, .f32⟩
  | .hbm, ⟨8, _⟩ => ⟨S1x8x64, .f32⟩
  | .hbm, ⟨9, _⟩ => ⟨S1x8x64, .f32⟩
  | .hbm, ⟨10, _⟩ => ⟨S1x8x64, .f32⟩
  | .hbm, ⟨11, _⟩ => ⟨S_, .f32⟩
  | .hbm, ⟨12, _⟩ => ⟨S1x8x64, .f32⟩
  | .hbm, ⟨13, _⟩ => ⟨S1x8x64, .f32⟩
  | .hbm, ⟨14, _⟩ => ⟨S1x8x64, .f32⟩
  | .hbm, ⟨15, _⟩ => ⟨S_, .f32⟩
  | .hbm, ⟨16, _⟩ => ⟨S1x8x64, .f32⟩
  | .hbm, ⟨17, _⟩ => ⟨S1x8x64, .f32⟩
  | .hbm, ⟨18, _⟩ => ⟨S1x8x64, .f32⟩
  | .hbm, ⟨19, _⟩ => ⟨S_, .f32⟩
  | .hbm, ⟨20, _⟩ => ⟨S1x8x64, .f32⟩
  | .hbm, ⟨21, _⟩ => ⟨S1x8x64, .f32⟩
  | .hbm, ⟨22, _⟩ => ⟨S_, .f32⟩
  | .hbm, ⟨23, _⟩ => ⟨S1x8x64, .f32⟩
  | .hbm, ⟨24, _⟩ => ⟨S1x8x64, .f32⟩
  | .hbm, ⟨25, _⟩ => ⟨S1x8x64, .f32⟩
  | .hbm, ⟨26, _⟩ => ⟨S_, .f32⟩
  | .hbm, ⟨27, _⟩ => ⟨S1x8x64, .f32⟩
  | .hbm, ⟨28, _⟩ => ⟨S1x8x64, .f32⟩
  | .hbm, ⟨29, _⟩ => ⟨S1x8x64, .f32⟩
  | .hbm, ⟨30, _⟩ => ⟨S_, .f32⟩
  | .hbm, ⟨31, _⟩ => ⟨S1x8x64, .f32⟩
  | .hbm, ⟨32, _⟩ => ⟨S1x8x64, .f32⟩
  | .hbm, ⟨33, _⟩ => ⟨S1x8x64, .f32⟩
  | .hbm, ⟨34, _⟩ => ⟨S_, .f32⟩
  | .hbm, ⟨35, _⟩ => ⟨S1x8x64, .f32⟩
  | .hbm, ⟨36, _⟩ => ⟨S1x8x64, .f32⟩
  | _, _ => ⟨S1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1x160x128 : Shape := ⟨3, ![1, 160, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S1x160x128, .f32⟩
  | .hbm, ⟨5, _⟩ => ⟨S1x160x128, .f32⟩
  | .hbm, ⟨6, _⟩ => ⟨S1x160x128, .f32⟩
  | .local _ .vmem, ⟨0, _⟩ => ⟨S1x160x128, .f32⟩
  | .local _ .vmem, ⟨1, _⟩ => ⟨S1x160x128, .f32⟩
  | .local _ .vmem, ⟨2, _⟩ => ⟨S1x160x128, .f32⟩
  | .local _ .vmem, ⟨3, _⟩ => ⟨S1x160x128, .f32⟩
  | .local _ .vmem, ⟨4, _⟩ => ⟨S1x160x128, .f32⟩
  | .local _ .vmem, ⟨5, _⟩ => ⟨S1x160x128, .f32⟩
  | .local _ .vmem, ⟨6, _⟩ => ⟨S1x160x128, .f32⟩
  | _, _ => ⟨S1x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateIdeal.lean ====
abbrev S1x160x128 : Shape := ⟨3, ![1, 160, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S1x160x128, .f32⟩
  | .hbm, ⟨5, _⟩ => ⟨S1x160x128, .f32⟩
  | .hbm, ⟨6, _⟩ => ⟨S1x160x128, .f32⟩
  | .local _ .vmem, ⟨0, _⟩ => ⟨S1x160x128, .f32⟩
  | .local _ .vmem, ⟨1, _⟩ => ⟨S1x160x128, .f32⟩
  | .local _ .vmem, ⟨2, _⟩ => ⟨S1x160x128, .f32⟩
  | .local _ .vmem, ⟨3, _⟩ => ⟨S1x160x128, .f32⟩
  | .local _ .vmem, ⟨4, _⟩ => ⟨S1x160x128, .f32⟩
  | .local _ .vmem, ⟨5, _⟩ => ⟨S1x160x128, .f32⟩
  | .local _ .vmem, ⟨6, _⟩ => ⟨S1x160x128, .f32⟩
  | _, _ => ⟨S1x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateRefIdeal.lean ====
abbrev S1x160x128 : Shape := ⟨3, ![1, 160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S_, .f32⟩
  | .hbm, ⟨5, _⟩ => ⟨S1x160x128, .f32⟩
  | .hbm, ⟨6, _⟩ => ⟨S1x160x128, .f32⟩
  | .hbm, ⟨7, _⟩ => ⟨S_, .f32⟩
  | .hbm, ⟨8, _⟩ => ⟨S1x160x128, .f32⟩
  | .hbm, ⟨9, _⟩ => ⟨S1x160x128, .f32⟩
  | .hbm, ⟨10, _⟩ => ⟨S1x160x128, .f32⟩
  | .hbm, ⟨11, _⟩ => ⟨S_, .f32⟩
  | .hbm, ⟨12, _⟩ => ⟨S1x160x128, .f32⟩
  | .hbm, ⟨13, _⟩ => ⟨S1x160x128, .f32⟩
  | .hbm, ⟨14, _⟩ => ⟨S1x160x128, .f32⟩
  | .hbm, ⟨15, _⟩ => ⟨S_, .f32⟩
  | .hbm, ⟨16, _⟩ => ⟨S1x160x128, .f32⟩
  | .hbm, ⟨17, _⟩ => ⟨S1x160x128, .f32⟩
  | .hbm, ⟨18, _⟩ => ⟨S1x160x128, .f32⟩
  | .hbm, ⟨19, _⟩ => ⟨S_, .f32⟩
  | .hbm, ⟨20, _⟩ => ⟨S1x160x128, .f32⟩
  | .hbm, ⟨21, _⟩ => ⟨S1x160x128, .f32⟩
  | .hbm, ⟨22, _⟩ => ⟨S_, .f32⟩
  | .hbm, ⟨23, _⟩ => ⟨S1x160x128, .f32⟩
  | .hbm, ⟨24, _⟩ => ⟨S1x160x128, .f32⟩
  | .hbm, ⟨25, _⟩ => ⟨S1x160x128, .f32⟩
  | .hbm, ⟨26, _⟩ => ⟨S_, .f32⟩
  | .hbm, ⟨27, _⟩ => ⟨S1x160x128, .f32⟩
  | .hbm, ⟨28, _⟩ => ⟨S1x160x128, .f32⟩
  | .hbm, ⟨29, _⟩ => ⟨S1x160x128, .f32⟩
  | .hbm, ⟨30, _⟩ => ⟨S_, .f32⟩
  | .hbm, ⟨31, _⟩ => ⟨S1x160x128, .f32⟩
  | .hbm, ⟨32, _⟩ => ⟨S1x160x128, .f32⟩
  | .hbm, ⟨33, _⟩ => ⟨S1x160x128, .f32⟩
  | .hbm, ⟨34, _⟩ => ⟨S_, .f32⟩
  | .hbm, ⟨35, _⟩ => ⟨S1x160x128, .f32⟩
  | .hbm, ⟨36, _⟩ => ⟨S1x160x128, .f32⟩
  | _, _ => ⟨S1x160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S1x31x128 : Shape := ⟨3, ![1, 31, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S1x31x128, .f32⟩
  | .hbm, ⟨5, _⟩ => ⟨S1x31x128, .f32⟩
  | .hbm, ⟨6, _⟩ => ⟨S1x31x128, .f32⟩
  | .local _ .vmem, ⟨0, _⟩ => ⟨S1x31x128, .f32⟩
  | .local _ .vmem, ⟨1, _⟩ => ⟨S1x31x128, .f32⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | _, _ => ⟨S1x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S1x31x128 : Shape := ⟨3, ![1, 31, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S1x31x128, .f32⟩
  | .hbm, ⟨5, _⟩ => ⟨S1x31x128, .f32⟩
  | .hbm, ⟨6, _⟩ => ⟨S1x31x128, .f32⟩
  | .local _ .vmem, ⟨0, _⟩ => ⟨S1x31x128, .f32⟩
  | .local _ .vmem, ⟨1, _⟩ => ⟨S1x31x128, .f32⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | _, _ => ⟨S1x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S1x31x128 : Shape := ⟨3, ![1, 31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S_, .f32⟩
  | .hbm, ⟨5, _⟩ => ⟨S1x31x128, .f32⟩
  | .hbm, ⟨6, _⟩ => ⟨S1x31x128, .f32⟩
  | .hbm, ⟨7, _⟩ => ⟨S_, .f32⟩
  | .hbm, ⟨8, _⟩ => ⟨S1x31x128, .f32⟩
  | .hbm, ⟨9, _⟩ => ⟨S1x31x128, .f32⟩
  | .hbm, ⟨10, _⟩ => ⟨S1x31x128, .f32⟩
  | .hbm, ⟨11, _⟩ => ⟨S_, .f32⟩
  | .hbm, ⟨12, _⟩ => ⟨S1x31x128, .f32⟩
  | .hbm, ⟨13, _⟩ => ⟨S1x31x128, .f32⟩
  | .hbm, ⟨14, _⟩ => ⟨S1x31x128, .f32⟩
  | .hbm, ⟨15, _⟩ => ⟨S_, .f32⟩
  | .hbm, ⟨16, _⟩ => ⟨S1x31x128, .f32⟩
  | .hbm, ⟨17, _⟩ => ⟨S1x31x128, .f32⟩
  | .hbm, ⟨18, _⟩ => ⟨S1x31x128, .f32⟩
  | .hbm, ⟨19, _⟩ => ⟨S_, .f32⟩
  | .hbm, ⟨20, _⟩ => ⟨S1x31x128, .f32⟩
  | .hbm, ⟨21, _⟩ => ⟨S1x31x128, .f32⟩
  | .hbm, ⟨22, _⟩ => ⟨S_, .f32⟩
  | .hbm, ⟨23, _⟩ => ⟨S1x31x128, .f32⟩
  | .hbm, ⟨24, _⟩ => ⟨S1x31x128, .f32⟩
  | .hbm, ⟨25, _⟩ => ⟨S1x31x128, .f32⟩
  | .hbm, ⟨26, _⟩ => ⟨S_, .f32⟩
  | .hbm, ⟨27, _⟩ => ⟨S1x31x128, .f32⟩
  | .hbm, ⟨28, _⟩ => ⟨S1x31x128, .f32⟩
  | .hbm, ⟨29, _⟩ => ⟨S1x31x128, .f32⟩
  | .hbm, ⟨30, _⟩ => ⟨S_, .f32⟩
  | .hbm, ⟨31, _⟩ => ⟨S1x31x128, .f32⟩
  | .hbm, ⟨32, _⟩ => ⟨S1x31x128, .f32⟩
  | .hbm, ⟨33, _⟩ => ⟨S1x31x128, .f32⟩
  | .hbm, ⟨34, _⟩ => ⟨S_, .f32⟩
  | .hbm, ⟨35, _⟩ => ⟨S1x31x128, .f32⟩
  | .hbm, ⟨36, _⟩ => ⟨S1x31x128, .f32⟩
  | _, _ => ⟨S1x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlp.lean ====
abbrev S1x1024x1024 : Shape := ⟨3, ![1, 1024, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpRefIdeal.lean ====
abbrev S1x1024x1024 : Shape := ⟨3, ![1, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S_, .f32⟩
  | .hbm, ⟨5, _⟩ => ⟨S1x1024x1024, .f32⟩
  | .hbm, ⟨6, _⟩ => ⟨S1x1024x1024, .f32⟩
  | .hbm, ⟨7, _⟩ => ⟨S_, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S_, .f32⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBwd.lean ====
abbrev S32x1024 : Shape := ⟨2, ![32, 1024]⟩
abbrev S1x1024 : Shape := ⟨2, ![1, 1024]⟩
abbrev S1024x1536 : Shape := ⟨2, ![1024, 1536]⟩
abbrev S32x6144 : Shape := ⟨2, ![32, 6144]⟩
abbrev S32x1536 : Shape := ⟨2, ![32, 1536]⟩
abbrev S1x6144 : Shape := ⟨2, ![1, 6144]⟩
abbrev S8x1024 : Shape := ⟨2, ![8, 1024]⟩
abbrev S7x1024 : Shape := ⟨2, ![7, 1024]⟩
abbrev S40x1024 : Shape := ⟨2, ![40, 1024]⟩
abbrev S1536 : Shape := ⟨1, ![1536]⟩
abbrev S1x1536 : Shape := ⟨2, ![1, 1536]⟩
abbrev S7x1536 : Shape := ⟨2, ![7, 1536]⟩
abbrev S40x1536 : Shape := ⟨2, ![40, 1536]⟩
abbrev S6144 : Shape := ⟨1, ![6144]⟩
abbrev S8x1536 : Shape := ⟨2, ![8, 1536]⟩

abbrev nBuf : Space → Nat
  | .hbm => 10
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x1536, .f32⟩
  | .hbm, ⟨3, _⟩ => ⟨S32x6144, .f32⟩
  | .hbm, ⟨4, _⟩ => ⟨S32x6144, .f32⟩
  | .hbm, ⟨5, _⟩ => ⟨S32x1536, .f32⟩
  | .hbm, ⟨6, _⟩ => ⟨S32x1536, .f32⟩
  | .hbm, ⟨7, _⟩ => ⟨S1024x1536, .f32⟩
  | .hbm, ⟨8, _⟩ => ⟨S1x6144, .f32⟩
  | .hbm, ⟨9, _⟩ => ⟨S8x1024, .f32⟩
  | .local _ .vmem, ⟨0, _⟩ => ⟨S32x1024, .f32⟩
  | .local _ .vmem, ⟨1, _⟩ => ⟨S1x1024, .f32⟩
  | .local _ .vmem, ⟨2, _⟩ => ⟨S1024x1536, .f32⟩
  | .local _ .vmem, ⟨3, _⟩ => ⟨S32x6144, .f32⟩
  | .local _ .vmem, ⟨4, _⟩ => ⟨S32x6144, .f32⟩
  | .local _ .vmem, ⟨5, _⟩ => ⟨S32x1536, .f32⟩
  | .local _ .vmem, ⟨6, _⟩ => ⟨S32x1536, .f32⟩
  | .local _ .vmem, ⟨7, _⟩ => ⟨S1024x1536, .f32⟩
  | .local _ .vmem, ⟨8, _⟩ => ⟨S1x6144, .f32⟩
  | .local _ .vmem, ⟨9, _⟩ => ⟨S8x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== AdaBwdRefIdeal.lean ====
abbrev S32x1024 : Shape := ⟨2, ![32, 1024]⟩
abbrev S1x1024 : Shape := ⟨2, ![1, 1024]⟩
abbrev S1024x1536 : Shape := ⟨2, ![1024, 1536]⟩
abbrev S32x6144 : Shape := ⟨2, ![32, 6144]⟩
abbrev S32x1536 : Shape := ⟨2, ![32, 1536]⟩
abbrev S_ : Shape := ⟨0, ![]⟩
abbrev S1x1536 : Shape := ⟨2, ![1, 1536]⟩
abbrev S1536 : Shape := ⟨1, ![1536]⟩
abbrev S1536x1024 : Shape := ⟨2, ![1536, 1024]⟩
abbrev S1x6144 : Shape := ⟨2, ![1, 6144]⟩
abbrev S6144 : Shape := ⟨1, ![6144]⟩
abbrev S8x1024 : Shape := ⟨2, ![8, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x1536, .f32⟩
  | .hbm, ⟨3, _⟩ => ⟨S32x6144, .f32⟩
  | .hbm, ⟨4, _⟩ => ⟨S32x6144, .f32⟩
  | .hbm, ⟨5, _⟩ => ⟨S32x1536, .f32⟩
  | .hbm, ⟨6, _⟩ => ⟨S32x1536, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S32x1536, .f32⟩
  | .hbm, ⟨26, _⟩ => ⟨S1x1536, .f32⟩
  | .hbm, ⟨27, _⟩ => ⟨S32x1536, .f32⟩
  | .hbm, ⟨28, _⟩ => ⟨S_, .f32⟩
  | .hbm, ⟨29, _⟩ => ⟨S1536, .f32⟩
  | .hbm, ⟨30, _⟩ => ⟨S1x1536, .f32⟩
  | .hbm, ⟨31, _⟩ => ⟨S1536x1024, .f32⟩
  | .hbm, ⟨32, _⟩ => ⟨S1024x1536, .f32⟩
  | .hbm, ⟨33, _⟩ => ⟨S1x1024, .f32⟩
  | .hbm, ⟨34, _⟩ => ⟨S1536x1024, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1x6144, .f32⟩
  | .hbm, ⟨39, _⟩ => ⟨S32x6144, .f32⟩
  | .hbm, ⟨40, _⟩ => ⟨S32x6144, .f32⟩
  | .hbm, ⟨41, _⟩ => ⟨S_, .f32⟩
  | .hbm, ⟨42, _⟩ => ⟨S6144, .f32⟩
  | .hbm, ⟨43, _⟩ => ⟨S1x6144, .f32⟩
  | .hbm, ⟨44, _⟩ => ⟨S_, .f32⟩
  | .hbm, ⟨45, _⟩ => ⟨S6144, .f32⟩
  | .hbm, ⟨46, _⟩ => ⟨S1x6144, .f32⟩
  | .hbm, ⟨47, _⟩ => ⟨S1x6144, .f32⟩
  | .hbm, ⟨48, _⟩ => ⟨S_, .i32⟩
  | .hbm, ⟨49, _⟩ => ⟨S_, .f32⟩
  | .hbm, ⟨50, _⟩ => ⟨S8x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_call2_v0 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Cctx.lean ====
abbrev S4x8x1024 : Shape := ⟨3, ![4, 8, 1024]⟩
abbrev S1x1024 : Shape := ⟨2, ![1, 1024]⟩
abbrev S1x1x1024 : Shape := ⟨3, ![1, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x8x1024, .f32⟩
  | .hbm, ⟨1, _⟩ => ⟨S1x1024, .f32⟩
  | .hbm, ⟨2, _⟩ => ⟨S1x1024, .f32⟩
  | .local _ .vmem, ⟨0, _⟩ => ⟨S4x8x1024, .f32⟩
  | .local _ .vmem, ⟨1, _⟩ => ⟨S1x1024, .f32⟩
  | .local _ .vmem, ⟨2, _⟩ => ⟨S1x1024, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CctxRefIdeal.lean ====
abbrev S4x8x1024 : Shape := ⟨3, ![4, 8, 1024]⟩
abbrev S1x1024 : Shape := ⟨2, ![1, 1024]⟩
abbrev S_ : Shape := ⟨0, ![]⟩
abbrev S4x1x1024 : Shape := ⟨3, ![4, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4x1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== SumSmall.lean ====
abbrev S4x480x512 : Shape := ⟨3, ![4, 480, 512]⟩
abbrev S480x512 : Shape := ⟨2, ![480, 512]⟩
abbrev S1x480x512 : Shape := ⟨3, ![1, 480, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x480x512, .f32⟩
  | .hbm, ⟨1, _⟩ => ⟨S480x512, .f32⟩
  | .local _ .vmem, ⟨0, _⟩ => ⟨S4x480x512, .f32⟩
  | .local _ .vmem, ⟨1, _⟩ => ⟨S480x512, .f32⟩
  | _, _ => ⟨S4x480x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x480x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S480x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S4x480x512 : Shape := ⟨3, ![4, 480, 512]⟩
abbrev S480x512 : Shape := ⟨2, ![480, 512]⟩
abbrev S1x480x512 : Shape := ⟨3, ![1, 480, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x480x512, .f32⟩
  | .hbm, ⟨1, _⟩ => ⟨S480x512, .f32⟩
  | .local _ .vmem, ⟨0, _⟩ => ⟨S4x480x512, .f32⟩
  | .local _ .vmem, ⟨1, _⟩ => ⟨S480x512, .f32⟩
  | _, _ => ⟨S4x480x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x480x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S480x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S4x480x512 : Shape := ⟨3, ![4, 480, 512]⟩
abbrev S_ : Shape := ⟨0, ![]⟩
abbrev S480x512 : Shape := ⟨2, ![480, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x480x512, .f32⟩
  | .hbm, ⟨1, _⟩ => ⟨S_, .f32⟩
  | .hbm, ⟨2, _⟩ => ⟨S480x512, .f32⟩
  | _, _ => ⟨S4x480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumIn.lean ====
abbrev S4x512x744 : Shape := ⟨3, ![4, 512, 744]⟩
abbrev S512x744 : Shape := ⟨2, ![512, 744]⟩
abbrev S1x512x744 : Shape := ⟨3, ![1, 512, 744]⟩

abbrev nBuf : Space → Nat
  | .hbm => 2
  | .vmem => 2
  | .smem => 0
  | _ => 0

abbrev bufTy : (tb : Table) → Fin (tcTables nBuf tb) → BufTy
  | .hbm, ⟨0, _⟩ => ⟨S4x512x744, .f32⟩
  | .hbm, ⟨1, _⟩ => ⟨S512x744, .f32⟩
  | .local _ .vmem, ⟨0, _⟩ => ⟨S4x512x744, .f32⟩
  | .local _ .vmem, ⟨1, _⟩ => ⟨S512x744, .f32⟩
  | _, _ => ⟨S4x512x744, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x744 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x744 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumInRefIdeal.lean ====
abbrev S4x512x744 : Shape := ⟨3, ![4, 512, 744]⟩
abbrev S_ : Shape := ⟨0, ![]⟩
abbrev S512x744 : Shape := ⟨2, ![512, 744]⟩

abbrev nBuf : Space → Nat
  | .hbm => 3
  | .vmem => 0
  | .smem => 0
  | _ => 0

abbrev bufTy : (tb : Table) → Fin (tcTables nBuf tb) → BufTy
  | .hbm, ⟨0, _⟩ => ⟨S4x512x744, .f32⟩
  | .hbm, ⟨1, _⟩ => ⟨S_, .f32⟩
  | .hbm, ⟨2, _⟩ => ⟨S512x744, .f32⟩
  | _, _ => ⟨S4x512x744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Adamw.lean ====
/-
  The optimiser's update of one weight, element by element, over the extended reals.
-/
module

public import Idealize.ShloMosaic.Lib.Pointwise

@[expose] public section

noncomputable section

namespace Cert.Adamw

open Idealize.ShloMosaic

variable {s : Shape}

/-- The new mean of the gradients. -/
def newM (g m : FVec Ideal s .f32) : FVec Ideal s .f32 := fun i =>
  Ideal.ofBits .f32 0x3F666666#32 * m i + Ideal.ofBits .f32 0x3DCCCCCD#32 * g i

/-- The new mean of their squares. -/
def newV (g v : FVec Ideal s .f32) : FVec Ideal s .f32 := fun i =>
  Ideal.ofBits .f32 0x3F7FBE77#32 * v i + Ideal.ofBits .f32 0x3A83126F#32 * (g i * g i)

/-- The step of the weight: the corrected mean over the root of the corrected mean square, and the decay. -/
def delta (w g m v : FVec Ideal s .f32) : FVec Ideal s .f32 := fun i =>
  Ideal.ofBits .f32 0xBA83126F#32
    * (Ideal.div (Ideal.div (newM g m i) (Ideal.ofBits .f32 0x3F26BD02#32))
        (Ideal.sqrt (Ideal.div (newV g v i) (Ideal.ofBits .f32 0x3C231ACC#32)) + Ideal.ofBits .f32 0x322BCC77#32)
      + Ideal.ofBits .f32 0x3C23D70A#32 * w i)

end Cert.Adamw

end
-- ==== Proof.Dw1Value.lean ====
/-
  The weight gradient `dw_mlp1`: the call walks the tokens in 8 tiles of 1024 and adds each tile's products into the block of the
  result it holds; the reference is one product over all tokens. Over the extended reals both are the same sum, regrouped.
-/
module

public import proofs.«01_k».proof.Proof.Gen.Dw1Ideal.Value
public import proofs.«01_k».proof.Proof.Gen.Dw1RefIdeal.Run
public import Idealize.ShloMosaic.Lib.Pipeline.ValueKit
public import Idealize.ShloMosaic.Lib.Pointwise

@[expose] public section

set_option maxRecDepth 16384

noncomputable section

namespace Cert.Dw1Ideal.Math

open Cert.Dw1Ideal Cert.Dw1Ideal.Gen
open Idealize.ShloMosaic Idealize.ShloMosaic.TcCoe Idealize.SL.Sem
open Idealize.ShloMosaic.Pipeline (Dat)

variable (m : (ℓ : Loc nD τ sig) → Buf (Elt Ideal) ℓ)

/-- The block the first token tile starts from is zero. -/
theorem zero_apply (j : S1024x1024.Idx) : k0_pay1 (F := Ideal) j = 0 := by pointwise [k0_pay1]

/-- One token tile adds its 1024 products to each entry of the block. -/
theorem step_apply (x : FVec Ideal S1024x1024 .bf16) (y : FVec Ideal S1024x1024 .bf16) (acc : FVec Ideal S1024x1024 .f32) (j : S1024x1024.Idx) :
    k0_pay2 (F := Ideal) x y acc j = acc j + ∑ k : Fin 1024, x (ix2 k (j 0)) * y (ix2 k (j 1)) := by
  pointwise [k0_pay2]

/-- Which blocks a grid point reads and writes. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The reference's result, as a function of its two arguments. -/
abbrev product (a : FVec Ideal Cert.Dw1RefIdeal.S8192x1024 .f32) (b : FVec Ideal Cert.Dw1RefIdeal.S8192x4096 .f32) :
    FVec Ideal Cert.Dw1RefIdeal.S1024x4096 .f32 :=
  transpose Cert.Dw1RefIdeal.S1024x4096 [1, 0] (Host.dotGeneral (F := Ideal) (φ₁ := .f32) (φ₂ := .f32)
    Cert.Dw1RefIdeal.dot_S8192x4096_S8192x1024_S4096x1024_0_0_1_1_n_n none b a) Cert.Dw1RefIdeal.Facts₀.transposes_S4096x1024_S1024x4096_1_0

/-- The reference's result at an entry: the sum over all tokens. -/
theorem product_apply (a : FVec Ideal Cert.Dw1RefIdeal.S8192x1024 .f32) (b : FVec Ideal Cert.Dw1RefIdeal.S8192x4096 .f32) (j : Cert.Dw1RefIdeal.S1024x4096.Idx) :
    product a b j = ∑ k : Fin 8192, b (ix2 k (j 1)) * a (ix2 k (j 0)) := by
  pointwise [product]

/-- The kernel's result is the reference's product. -/
theorem final (c : Dev nD) :
    (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [step_apply, zero_apply])
    (fun t h j => by rw [outsAt0_B m c t h]; frame_out; rw [step_apply]) t ((flush0_2 t).mp hf) _, zero_add, product_apply]
  refine Fin.sum_mul_add_congr fun s k hl => ?_
  rw [mul_comm]
  blk_point [iblk, V, idx t, idx ⟨_, Pipeline.run_point_lt_of_flush t ((flush0_2 t).mp hf) s⟩]

end Cert.Dw1Ideal.Math

end
-- ==== Proof.Dw2Value.lean ====
/-
  The weight gradient `dw_mlp2`: the call walks the tokens in 8 tiles of 1024 and adds each tile's products into the block of the
  result it holds; the reference is one product over all tokens. Over the extended reals both are the same sum, regrouped.
-/
module

public import proofs.«01_k».proof.Proof.Gen.Dw2Ideal.Value
public import proofs.«01_k».proof.Proof.Gen.Dw2RefIdeal.Run
public import Idealize.ShloMosaic.Lib.Pipeline.ValueKit
public import Idealize.ShloMosaic.Lib.Pointwise

@[expose] public section

set_option maxRecDepth 16384

noncomputable section

namespace Cert.Dw2Ideal.Math

open Cert.Dw2Ideal Cert.Dw2Ideal.Gen
open Idealize.ShloMosaic Idealize.ShloMosaic.TcCoe Idealize.SL.Sem
open Idealize.ShloMosaic.Pipeline (Dat)

variable (m : (ℓ : Loc nD τ sig) → Buf (Elt Ideal) ℓ)

/-- The block the first token tile starts from is zero. -/
theorem zero_apply (j : S1024x1024.Idx) : k0_pay1 (F := Ideal) j = 0 := by pointwise [k0_pay1]

/-- One token tile adds its 1024 products to each entry of the block. -/
theorem step_apply (x : FVec Ideal S1024x1024 .bf16) (y : FVec Ideal S1024x1024 .bf16) (acc : FVec Ideal S1024x1024 .f32) (j : S1024x1024.Idx) :
    k0_pay2 (F := Ideal) x y acc j = acc j + ∑ k : Fin 1024, x (ix2 k (j 0)) * y (ix2 k (j 1)) := by
  pointwise [k0_pay2]

/-- Which blocks a grid point reads and writes. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The reference's result, as a function of its two arguments. -/
abbrev product (a : FVec Ideal Cert.Dw2RefIdeal.S8192x4096 .f32) (b : FVec Ideal Cert.Dw2RefIdeal.S8192x1024 .f32) :
    FVec Ideal Cert.Dw2RefIdeal.S4096x1024 .f32 :=
  transpose Cert.Dw2RefIdeal.S4096x1024 [1, 0] (Host.dotGeneral (F := Ideal) (φ₁ := .f32) (φ₂ := .f32)
    Cert.Dw2RefIdeal.dot_S8192x1024_S8192x4096_S1024x4096_0_0_1_1_n_n none b a) Cert.Dw2RefIdeal.Facts₀.transposes_S1024x4096_S4096x1024_1_0

/-- The reference's result at an entry: the sum over all tokens. -/
theorem product_apply (a : FVec Ideal Cert.Dw2RefIdeal.S8192x4096 .f32) (b : FVec Ideal Cert.Dw2RefIdeal.S8192x1024 .f32) (j : Cert.Dw2RefIdeal.S4096x1024.Idx) :
    product a b j = ∑ k : Fin 8192, b (ix2 k (j 1)) * a (ix2 k (j 0)) := by
  pointwise [product]

/-- The kernel's result is the reference's product. -/
theorem final (c : Dev nD) :
    (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [step_apply, zero_apply])
    (fun t h j => by rw [outsAt0_B m c t h]; frame_out; rw [step_apply]) t ((flush0_2 t).mp hf) _, zero_add, product_apply]
  refine Fin.sum_mul_add_congr fun s k hl => ?_
  rw [mul_comm]
  blk_point [iblk, V, idx t, idx ⟨_, Pipeline.run_point_lt_of_flush t ((flush0_2 t).mp hf) s⟩]

end Cert.Dw2Ideal.Math

end
-- ==== Proof.DwRwValue.lean ====
/-
  The weight gradient `dw_in_rw`: the call walks the tokens in 9 tiles of 1024 and adds each tile's products into the block of the
  result it holds; the reference is one product over all tokens. Over the extended reals both are the same sum, regrouped.
-/
module

public import proofs.«01_k».proof.Proof.Gen.DwRwIdeal.Value
public import proofs.«01_k».proof.Proof.Gen.DwRwRefIdeal.Run
public import Idealize.ShloMosaic.Lib.Pipeline.ValueKit
public import Idealize.ShloMosaic.Lib.Pointwise

@[expose] public section

set_option maxRecDepth 16384

noncomputable section

namespace Cert.DwRwIdeal.Math

open Cert.DwRwIdeal Cert.DwRwIdeal.Gen
open Idealize.ShloMosaic Idealize.ShloMosaic.TcCoe Idealize.SL.Sem
open Idealize.ShloMosaic.Pipeline (Dat)

variable (m : (ℓ : Loc nD τ sig) → Buf (Elt Ideal) ℓ)

/-- The block the first token tile starts from is zero. -/
theorem zero_apply (j : S1024x768.Idx) : k0_pay1 (F := Ideal) j = 0 := by pointwise [k0_pay1]

/-- One token tile adds its 1024 products to each entry of the block. -/
theorem step_apply (x : FVec Ideal S1024x1024 .bf16) (y : FVec Ideal S1024x768 .bf16) (acc : FVec Ideal S1024x768 .f32) (j : S1024x768.Idx) :
    k0_pay2 (F := Ideal) x y acc j = acc j + ∑ k : Fin 1024, x (ix2 k (j 0)) * y (ix2 k (j 1)) := by
  pointwise [k0_pay2]

/-- Which blocks a grid point reads and writes. -/
theorem idx : ∀ t : Fin cfg0.N, win0_0.index t = ![t.val % 9, 0] ∧ win0_1.index t = ![t.val % 9, t.val / 9] ∧ win0_2.index t = ![0, t.val / 9] :=
  (by decide +kernel : ∀ t : Fin grid0.N, _)

/-- The reference's result, as a function of its two arguments. -/
abbrev product (a : FVec Ideal Cert.DwRwRefIdeal.S9216x1024 .f32) (b : FVec Ideal Cert.DwRwRefIdeal.S9216x2304 .f32) :
    FVec Ideal Cert.DwRwRefIdeal.S1024x2304 .f32 :=
  transpose Cert.DwRwRefIdeal.S1024x2304 [1, 0] (Host.dotGeneral (F := Ideal) (φ₁ := .f32) (φ₂ := .f32)
    Cert.DwRwRefIdeal.dot_S9216x2304_S9216x1024_S2304x1024_0_0_1_1_n_n none b a) Cert.DwRwRefIdeal.Facts₀.transposes_S2304x1024_S1024x2304_1_0

/-- The reference's result at an entry: the sum over all tokens. -/
theorem product_apply (a : FVec Ideal Cert.DwRwRefIdeal.S9216x1024 .f32) (b : FVec Ideal Cert.DwRwRefIdeal.S9216x2304 .f32) (j : Cert.DwRwRefIdeal.S1024x2304.Idx) :
    product a b j = ∑ k : Fin 9216, b (ix2 k (j 1)) * a (ix2 k (j 0)) := by
  pointwise [product]

/-- The kernel's result is the reference's product. -/
theorem final (c : Dev nD) :
    (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 9 (fun _ => 0) _
    (fun t h j => by rw [outsAt0_A m c t h]; frame_out; rw [step_apply, zero_apply])
    (fun t h j => by rw [outsAt0_B m c t h]; frame_out; rw [step_apply]) t ((flush0_2 t).mp hf) _, zero_add, product_apply]
  refine Fin.sum_mul_add_congr fun s k hl => ?_
  rw [mul_comm]
  blk_point [iblk, V, idx t, idx ⟨_, Pipeline.run_point_lt_of_flush t ((flush0_2 t).mp hf) s⟩]

end Cert.DwRwIdeal.Math

end
-- ==== Proof.DwCvValue.lean ====
/-
  The weight gradient `dw_in_cv`: the call walks the tokens in 9 tiles of 1024 and adds each tile's products into the block of the
  result it holds; the reference is one product over all tokens. Over the extended reals both are the same sum, regrouped.
-/
module

public import proofs.«01_k».proof.Proof.Gen.DwCvIdeal.Value
public import proofs.«01_k».proof.Proof.Gen.DwCvRefIdeal.Run
public import Idealize.ShloMosaic.Lib.Pipeline.ValueKit
public import Idealize.ShloMosaic.Lib.Pointwise

@[expose] public section

set_option maxRecDepth 16384

noncomputable section

namespace Cert.DwCvIdeal.Math

open Cert.DwCvIdeal Cert.DwCvIdeal.Gen
open Idealize.ShloMosaic Idealize.ShloMosaic.TcCoe Idealize.SL.Sem
open Idealize.ShloMosaic.Pipeline (Dat)

variable (m : (ℓ : Loc nD τ sig) → Buf (Elt Ideal) ℓ)

/-- The block the first token tile starts from is zero. -/
theorem zero_apply (j : S1024x1024.Idx) : k0_pay1 (F := Ideal) j = 0 := by pointwise [k0_pay1]

/-- One token tile adds its 1024 products to each entry of the block. -/
theorem step_apply (x : FVec Ideal S1024x1024 .bf16) (y : FVec Ideal S1024x1024 .bf16) (acc : FVec Ideal S1024x1024 .f32) (j : S1024x1024.Idx) :
    k0_pay2 (F := Ideal) x y acc j = acc j + ∑ k : Fin 1024, x (ix2 k (j 0)) * y (ix2 k (j 1)) := by
  pointwise [k0_pay2]

/-- Which blocks a grid point reads and writes. -/
theorem idx : ∀ t : Fin cfg0.N, win0_0.index t = ![t.val % 9, 0] ∧ win0_1.index t = ![t.val % 9, 0] ∧ win0_2.index t = ![0, 0] :=
  (by decide +kernel : ∀ t : Fin grid0.N, _)

/-- The reference's result, as a function of its two arguments. -/
abbrev product (a : FVec Ideal Cert.DwCvRefIdeal.S9216x1024 .f32) (b : FVec Ideal Cert.DwCvRefIdeal.S9216x1024 .f32) :
    FVec Ideal Cert.DwCvRefIdeal.S1024x1024 .f32 :=
  transpose Cert.DwCvRefIdeal.S1024x1024 [1, 0] (Host.dotGeneral (F := Ideal) (φ₁ := .f32) (φ₂ := .f32)
    Cert.DwCvRefIdeal.dot_S9216x1024_S9216x1024_S1024x1024_0_0_1_1_n_n none b a) Cert.DwCvRefIdeal.Facts₀.transposes_S1024x1024_S1024x1024_1_0

/-- The reference's result at an entry: the sum over all tokens. -/
theorem product_apply (a : FVec Ideal Cert.DwCvRefIdeal.S9216x1024 .f32) (b : FVec Ideal Cert.DwCvRefIdeal.S9216x1024 .f32) (j : Cert.DwCvRefIdeal.S1024x1024.Idx) :
    product a b j = ∑ k : Fin 9216, b (ix2 k (j 1)) * a (ix2 k (j 0)) := by
  pointwise [product]

/-- The kernel's result is the reference's product. -/
theorem final (c : Dev nD) :
    (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 9 (fun _ => 0) _
    (fun t h j => by rw [outsAt0_A m c t h]; frame_out; rw [step_apply, zero_apply])
    (fun t h j => by rw [outsAt0_B m c t h]; frame_out; rw [step_apply]) t ((flush0_2 t).mp hf) _, zero_add, product_apply]
  refine Fin.sum_mul_add_congr fun s k hl => ?_
  rw [mul_comm]
  blk_point [iblk, V, idx t, idx ⟨_, Pipeline.run_point_lt_of_flush t ((flush0_2 t).mp hf) s⟩]

end Cert.DwCvIdeal.Math

end
-- ==== Proof.DwOutValue.lean ====
/-
  The weight gradient `dw_out`: the call walks the tokens in 32 tiles of 256 and adds each tile's products into the block of the
  result it holds; the reference is one product over all tokens. Over the extended reals both are the same sum, regrouped.
-/
module

public import proofs.«01_k».proof.Proof.Gen.DwOutIdeal.Value
public import proofs.«01_k».proof.Proof.Gen.DwOutRefIdeal.Run
public import Idealize.ShloMosaic.Lib.Pipeline.ValueKit
public import Idealize.ShloMosaic.Lib.Pointwise

@[expose] public section

set_option maxRecDepth 16384

noncomputable section

namespace Cert.DwOutIdeal.Math

open Cert.DwOutIdeal Cert.DwOutIdeal.Gen
open Idealize.ShloMosaic Idealize.ShloMosaic.TcCoe Idealize.SL.Sem
open Idealize.ShloMosaic.Pipeline (Dat)

variable (m : (ℓ : Loc nD τ sig) → Buf (Elt Ideal) ℓ)

/-- The block the first token tile starts from is zero. -/
theorem zero_apply (j : S1024x1024.Idx) : k0_pay1 (F := Ideal) j = 0 := by pointwise [k0_pay1]

/-- One token tile adds its 256 products to each entry of the block. -/
theorem step_apply (x : FVec Ideal S256x1024 .bf16) (y : FVec Ideal S256x1024 .bf16) (acc : FVec Ideal S1024x1024 .f32) (j : S1024x1024.Idx) :
    k0_pay2 (F := Ideal) x y acc j = acc j + ∑ k : Fin 256, x (ix2 k (j 0)) * y (ix2 k (j 1)) := by
  pointwise [k0_pay2]

/-- Which blocks a grid point reads and writes. -/
theorem idx : ∀ t : Fin cfg0.N, win0_0.index t = ![t.val % 32, 0] ∧ win0_1.index t = ![t.val / 8 * 9 + 1 + t.val % 8, 0] ∧ win0_2.index t = ![0, 0] :=
  (by decide +kernel : ∀ t : Fin grid0.N, _)

/-- The reference's result, as a function of its two arguments. -/
abbrev product (a : FVec Ideal Cert.DwOutRefIdeal.S8192x1024 .f32) (b : FVec Ideal Cert.DwOutRefIdeal.S9216x1024 .f32) :
    FVec Ideal Cert.DwOutRefIdeal.S1024x1024 .f32 :=
  transpose Cert.DwOutRefIdeal.S1024x1024 [1, 0] (Host.dotGeneral (F := Ideal) (φ₁ := .f32) (φ₂ := .f32)
    Cert.DwOutRefIdeal.dot_S8192x1024_S8192x1024_S1024x1024_0_0_1_1_n_n none (shapeCast Cert.DwOutRefIdeal.S8192x1024 (extractStridedSlice Cert.DwOutRefIdeal.S4x2048x1024 ![0, 256, 0] (shapeCast Cert.DwOutRefIdeal.S4x2304x1024 b Cert.DwOutRefIdeal.Facts₀.shapeCasts_S9216x1024_S4x2304x1024) Cert.DwOutRefIdeal.Facts₀.slices_S4x2304x1024_S4x2048x1024_0_256_0) Cert.DwOutRefIdeal.Facts₀.shapeCasts_S4x2048x1024_S8192x1024) a) Cert.DwOutRefIdeal.Facts₀.transposes_S1024x1024_S1024x1024_1_0

/-- The reference's result at an entry: the sum over all tokens. -/
theorem product_apply (a : FVec Ideal Cert.DwOutRefIdeal.S8192x1024 .f32) (b : FVec Ideal Cert.DwOutRefIdeal.S9216x1024 .f32) (j : Cert.DwOutRefIdeal.S1024x1024.Idx) :
    product a b j = ∑ k : Fin 8192, b (ix2 ⟨k.val / 2048 * 2304 + (256 + k.val % 2048), by omega⟩ (j 1)) * a (ix2 k (j 0)) := by
  pointwise [product]

/-- The kernel's result is the reference's product. -/
theorem final (c : Dev nD) :
    (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 32 (fun _ => 0) _
    (fun t h j => by rw [outsAt0_A m c t h]; frame_out; rw [step_apply, zero_apply])
    (fun t h j => by rw [outsAt0_B m c t h]; frame_out; rw [step_apply]) t ((flush0_2 t).mp hf) _, zero_add, product_apply]
  refine Fin.sum_mul_add_congr fun s k hl => ?_
  rw [mul_comm]
  blk_point [iblk, V, idx t, idx ⟨_, Pipeline.run_point_lt_of_flush t ((flush0_2 t).mp hf) s⟩]

end Cert.DwOutIdeal.Math

end
-- ==== Proof.RowNorm.lean ====
/-
  The gradient of a root-mean-square normalisation of one row, over the extended reals. A row whose mean square is infinite is
  scaled by zero, and then both forms of the gradient are zero; otherwise the scale is a positive real, and a positive real
  distributes over every sum of extended reals, so nothing need be finite.
-/
module

public import Idealize.ShloMosaic.Lib.Pointwise
public import Idealize.ShloMosaic.Lib.IdealHost

@[expose] public section

noncomputable section

namespace Cert.RowNorm

open Idealize.ShloMosaic

theorem two_f32 : Ideal.ofBits .f32 0x40000000#32 = 2 := by
  rw [show (2 : EReal) = ((2 : ℝ) : EReal) by norm_cast]
  simp [Ideal.ofBits, Ideal.ieee, -EReal.coe_mul]; norm_num

theorem n1024_f32 : Ideal.ofBits .f32 0x44800000#32 = ((1024 : ℝ) : EReal) := by
  simp [Ideal.ofBits, Ideal.ieee, -EReal.coe_mul]; norm_num

theorem half_f32 : Ideal.ofBits .f32 0xBF000000#32 = ((-(1 / 2) : ℝ) : EReal) := by
  simp [Ideal.ofBits, Ideal.ieee, -EReal.coe_mul, -EReal.coe_neg]; norm_num

/-- The small constant under the root is a positive real. -/
theorem eps_f32 : ∃ e : ℝ, 0 < e ∧ Ideal.ofBits .f32 0x358637BD#32 = (e : EReal) := by
  refine ⟨_, ?_, by simp [Ideal.ofBits, Ideal.ieee, -EReal.coe_mul]; rfl⟩
  norm_num

/-- A positive real factor goes through a sum. -/
theorem mul_sum_of_pos {ι : Type*} (s : Finset ι) (f : ι → EReal) {c : ℝ} (hc : 0 < c) : (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc.le) (EReal.coe_ne_top c), ih]

/-- A sum of squares is not negative. -/
theorem sumsq_nonneg {ι : Type*} [Fintype ι] (x : ι → EReal) : 0 ≤ ∑ i, x i * x i := by
  refine Finset.sum_nonneg fun i _ => ?_
  induction x i with
  | bot => simp
  | top => simp
  | coe r => exact_mod_cast mul_self_nonneg r

theorem halves (y : EReal) : ((-(1 / 2) : ℝ) : EReal) * y + ((-(1 / 2) : ℝ) : EReal) * y = -y := by
  induction y with
  | bot => rw [EReal.coe_mul_bot_of_neg (by norm_num)]; simp
  | top => rw [EReal.coe_mul_top_of_neg (by norm_num)]; simp
  | coe r => norm_cast; ring_nf

/-- What the mean square is, and what follows for the scale: either the scale is zero and so is its quotient by the mean square,
    or it is a positive real whose square is the mean square's inverse. -/
theorem scale_cases {ι : Type*} [Fintype ι] (x : ι → EReal) {n e : ℝ} (hn : 0 < n) (he : 0 < e) :
    (Ideal.rsqrt (Ideal.div (∑ i, x i * x i) (n : EReal) + (e : EReal)) = 0 ∧
      Ideal.div (Ideal.rsqrt (Ideal.div (∑ i, x i * x i) (n : EReal) + (e : EReal))) (Ideal.div (∑ i, x i * x i) (n : EReal) + (e : EReal)) = 0) ∨
    ∃ s : ℝ, 0 < s ∧ Ideal.rsqrt (Ideal.div (∑ i, x i * x i) (n : EReal) + (e : EReal)) = (s : EReal) ∧
      Ideal.div (Ideal.rsqrt (Ideal.div (∑ i, x i * x i) (n : EReal) + (e : EReal))) (Ideal.div (∑ i, x i * x i) (n : EReal) + (e : EReal))
        = ((s * s * s : ℝ) : EReal) := by
  have h := sumsq_nonneg x
  generalize (∑ i, x i * x i) = q at h
  rw [Ideal.div_coe hn.ne']
  induction q with
  | bot => simp at h
  | top =>
    left
    rw [EReal.top_mul_coe_of_pos (by positivity), EReal.top_add_coe]
    refine ⟨rfl, ?_⟩
    rw [Ideal.rsqrt_top]; exact Ideal.zero_div (by simp)
  | coe r =>
    right
    have hr : 0 ≤ r := by exact_mod_cast h
    have hv : 0 < r * (1 / n) + e := by positivity
    rw [← EReal.coe_mul, ← EReal.coe_add, Ideal.rsqrt_coe, if_neg hv.not_gt, if_neg hv.ne']
    refine ⟨(Real.sqrt (r * (1 / n) + e))⁻¹, by positivity, rfl, ?_⟩
    rw [Ideal.div_coe hv.ne', ← EReal.coe_mul]
    congr 1
    have hs : Real.sqrt (r * (1 / n) + e) * Real.sqrt (r * (1 / n) + e) = r * (1 / n) + e := Real.mul_self_sqrt hv.le
    generalize Real.sqrt (r * (1 / n) + e) = w at hs
    rw [← hs, one_div, mul_inv, mul_assoc]

/-- The two forms of the gradient agree: the row's own gradient less its projection on the normalised row, scaled; and what
    differentiating the squares, the mean and the root one after the other gives. -/
theorem grad_eq {ι : Type*} [Fintype ι] (x d : ι → EReal) (dx : EReal) (i : ι) {n e : ℝ} (hn : 0 < n) (he : 0 < e) {s q : EReal}
    (hs : s = Ideal.rsqrt (Ideal.div (∑ k, x k * x k) (n : EReal) + (e : EReal)))
    (hq : q = Ideal.div s (Ideal.div (∑ k, x k * x k) (n : EReal) + (e : EReal))) :
    dx + s * (d i - x i * s * Ideal.div (∑ k, d k * (x k * s)) (n : EReal))
      = dx + d i * s + x i * Ideal.div ((∑ k, x k * d k) * (((-(1 / 2) : ℝ) : EReal) * q)) (n : EReal)
        + Ideal.div ((∑ k, x k * d k) * (((-(1 / 2) : ℝ) : EReal) * q)) (n : EReal) * x i := by
  rw [Ideal.div_coe hn.ne', Ideal.div_coe hn.ne']
  rcases scale_cases x hn he with ⟨h, h'⟩ | ⟨r, hr, h, h'⟩
  · rw [← hs] at h h'; rw [← hq] at h'
    simp [h, h']
  · rw [← hs] at h h'; rw [← hq] at h'
    rw [h, h', show ∑ k, d k * (x k * (r : EReal)) = (r : EReal) * ∑ k, x k * d k by
      rw [mul_sum_of_pos _ _ hr]; exact Finset.sum_congr rfl fun k _ => by ac_rfl]
    generalize (∑ k, x k * d k) = Q
    rw [sub_eq_add_neg, EReal.left_distrib_of_nonneg_of_ne_top (EReal.coe_nonneg.mpr hr.le) (EReal.coe_ne_top r), mul_neg,
      show (r : EReal) * (x i * (r : EReal) * ((r : EReal) * Q * ((1 / n : ℝ) : EReal))) = x i * (Q * ((r * r * r : ℝ) : EReal) * ((1 / n : ℝ) : EReal)) by
        rw [EReal.coe_mul, EReal.coe_mul]; ac_rfl, ← halves, mul_comm (r : EReal) (d i), add_assoc, add_assoc]
    congr 2
    congr 1 <;> ac_rfl

end Cert.RowNorm

end
-- ==== Proof.MlpPay.lean ====
/-
  The backward call of the squared-relu MLP, one grid point at a time: what each value the body stores is at an index, over the
  extended reals.
-/
module

public import proofs.«01_k».proof.Proof.Gen.MlpIdeal.Skeleton
public import Idealize.ShloMosaic.Lib.Pointwise
public import proofs.«01_k».proof.Proof.RowNorm

@[expose] public section

set_option maxRecDepth 16384

noncomputable section

namespace Cert.MlpIdeal.Math

open Cert.MlpIdeal Cert.MlpIdeal.Gen Cert.RowNorm
open Idealize.ShloMosaic Idealize.ShloMosaic.TcCoe Idealize.SL.Sem

/-- The relu of the first product. -/
theorem pay13_apply (v0 : Vec Ideal S512x1024 .bf16) (v2 : Vec Ideal S1x1024x1024 .bf16) (j : S512x1024.Idx) :
    k0_pay13 (F := Ideal) v0 v2 j = max (∑ k : Fin 1024, v0 (ix2 (j 0) k) * v2 (ix3 0 k (j 1))) 0 := by
  pointwise [k0_pay13]

/-- The squared relu. -/
theorem pay14_apply (v0 : Vec Ideal S512x1024 .bf16) (v2 : Vec Ideal S1x1024x1024 .bf16) (j : S512x1024.Idx) :
    k0_pay14 (F := Ideal) v0 v2 j = k0_pay13 (F := Ideal) v0 v2 j * k0_pay13 (F := Ideal) v0 v2 j := rfl

/-- The gradient at the first product. -/
theorem pay15_apply (v0 : Vec Ideal S512x1024 .bf16) (v2 : Vec Ideal S1x1024x1024 .bf16) (v10 : Vec Ideal S512x1024 .bf16)
    (v12 : Vec Ideal S1x1024x1024 .bf16) (j : S512x1024.Idx) :
    k0_pay15 (F := Ideal) v0 v2 v10 v12 j
      = (∑ k : Fin 1024, v10 (ix2 (j 0) k) * v12 (ix3 0 (j 1) k)) * (2 * max (∑ k : Fin 1024, v0 (ix2 (j 0) k) * v2 (ix3 0 k (j 1))) 0) := by
  pointwise [k0_pay15, k0_pay13]
  rw [two_f32]

/-- One block of the hidden axis adds its products to the gradient at the normalised input. -/
theorem pay17_apply (v0 : Vec Ideal S512x1024 .bf16) (v2 : Vec Ideal S1x1024x1024 .bf16) (v10 : Vec Ideal S512x1024 .bf16)
    (v12 : Vec Ideal S1x1024x1024 .bf16) (v20 : Vec Ideal S1x1024x1024 .bf16) (v26 : Vec Ideal S512x1024 .f32) (j : S512x1024.Idx) :
    k0_pay17 (F := Ideal) v0 v2 v10 v12 v20 v26 j
      = v26 j + ∑ k : Fin 1024, k0_pay15 (F := Ideal) v0 v2 v10 v12 (ix2 (j 0) k) * v20 (ix3 0 (j 1) k) := by
  pointwise [k0_pay17]

theorem pay1_apply (v : FVec Ideal S512x1024 .f32) (j : S512x1024.Idx) : k0_pay1 (F := Ideal) v j = v j := by pointwise [k0_pay1]

theorem pay16_apply (j : S512x1024.Idx) : k0_pay16 (F := Ideal) j = 0 := by pointwise [k0_pay16]

theorem pay5_apply (j : S1x1x1024.Idx) : k0_pay5 (F := Ideal) j = 0 := by pointwise [k0_pay5]

theorem pay7_apply (j : S1x1x1024.Idx) : k0_pay7 (F := Ideal) j = 0 := by pointwise [k0_pay7]

theorem pay10_apply (j : S1x1024.Idx) : k0_pay10 (F := Ideal) j = 0 := by pointwise [k0_pay10]

/-- The reciprocal root mean square of a row. -/
theorem pay3_apply (x : Vec Ideal S512x1024 .f32) (j : S512x1.Idx) :
    k0_pay3 (F := Ideal) x j
      = Ideal.rsqrt (Ideal.div (∑ k : Fin 1024, x (ix2 (j 0) k) * x (ix2 (j 0) k)) (Ideal.ofBits .f32 0x44800000#32) + Ideal.ofBits .f32 0x358637BD#32) := by
  pointwise [k0_pay3]

/-- The normalised row. -/
theorem pay4_apply (x : Vec Ideal S512x1024 .f32) (j : S512x1024.Idx) :
    k0_pay4 (F := Ideal) x j = x j * k0_pay3 (F := Ideal) x (ix2 (j 0) 0) := by
  pointwise [k0_pay4]

/-- The shift's gradient grows by the tile's rows. -/
theorem pay6_apply (dh : Vec Ideal S512x1024 .f32) (acc : Vec Ideal S1x1x1024 .f32) (j : S1x1x1024.Idx) :
    k0_pay6 (F := Ideal) dh acc j = acc j + ∑ r : Fin 512, dh (ix2 r (j 2)) := by
  pointwise [k0_pay6]

/-- The scale's gradient grows by the tile's rows. -/
theorem pay8_apply (xn : FVec Ideal S512x1024 .f32) (g : Vec Ideal S1x1024 .f32) (dh : Vec Ideal S512x1024 .f32) (acc : Vec Ideal S1x1x1024 .f32)
    (j : S1x1x1024.Idx) :
    k0_pay8 (F := Ideal) xn g dh acc j = acc j + ∑ r : Fin 512, dh (ix2 r (j 2)) * (xn (ix2 r (j 2)) * g (ix2 0 (j 2))) := by
  pointwise [k0_pay8]

theorem pay9_apply (dh : Vec Ideal S512x1024 .f32) (sc : Vec Ideal S1x1x1x1024 .f32) (j : S512x1024.Idx) :
    k0_pay9 (F := Ideal) dh sc j = dh j * (1 + sc (ix4 0 0 0 (j 1))) := by
  pointwise [k0_pay9]

/-- The gain's gradient grows by the tile's rows. -/
theorem pay11_apply (xn : FVec Ideal S512x1024 .f32) (dh : Vec Ideal S512x1024 .f32) (sc : Vec Ideal S1x1x1x1024 .f32) (acc : Vec Ideal S1x1024 .f32)
    (j : S1x1024.Idx) :
    k0_pay11 (F := Ideal) xn dh sc acc j = acc j + ∑ r : Fin 512, k0_pay9 (F := Ideal) dh sc (ix2 r (j 1)) * xn (ix2 r (j 1)) := by
  pointwise [k0_pay11]

theorem pay12_apply (g : Vec Ideal S1x1024 .f32) (dh : Vec Ideal S512x1024 .f32) (sc : Vec Ideal S1x1x1x1024 .f32) (j : S512x1024.Idx) :
    k0_pay12 (F := Ideal) g dh sc j = k0_pay9 (F := Ideal) dh sc j * g (ix2 0 (j 1)) := by
  pointwise [k0_pay12]

/-- The input's gradient: the passed-on gradient and the normalisation's. -/
theorem pay2_apply (s : FVec Ideal S512x1 .f32) (xn : FVec Ideal S512x1024 .f32) (d : FVec Ideal S512x1024 .f32) (dx : Vec Ideal S512x1024 .f32)
    (j : S512x1024.Idx) :
    k0_pay2 (F := Ideal) s xn d dx j = dx j + s (ix2 (j 0) 0) * (d j
      - xn j * Ideal.div (∑ k : Fin 1024, d (ix2 (j 0) k) * xn (ix2 (j 0) k)) (Ideal.ofBits .f32 0x44800000#32)) := by
  pointwise [k0_pay2]

end Cert.MlpIdeal.Math

end
-- ==== Proof.Sums.lean ====
/-
  Two facts about sums that the modules share: a sum over the two leading axes of a rank-three array, and a sum over consecutive
  tiles of equal length.
-/
module

public import Idealize.ShloMosaic.Lib.Pointwise
public import Idealize.ShloMosaic.Lib.Pipeline.ValueKit

@[expose] public section

noncomputable section

namespace Cert.Sums

open Idealize.ShloMosaic

/-- The positions of a rank-three array that a reduction over the two leading axes sends to `j`. -/
theorem drop_lead {n0 n1 n2 : ℕ} (h : (⟨3, ![n0, n1, n2]⟩ : Shape).ReducesTo [0, 1] ⟨1, ![n2]⟩) (l : Fin n2) (i : (⟨3, ![n0, n1, n2]⟩ : Shape).Idx) :
    h.drop i = ix1 l ↔ ∃ k : Fin n0 × Fin n1, ix3 k.1 k.2 l = i := by
  refine ⟨fun e => ⟨(i 0, i 1), ?_⟩, ?_⟩
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

/-- The sum of a rank-three array over its two leading axes. -/
theorem hostReduceAdd_lead {n0 n1 n2 : ℕ} (h : (⟨3, ![n0, n1, n2]⟩ : Shape).ReducesTo [0, 1] ⟨1, ![n2]⟩) (v : (⟨3, ![n0, n1, n2]⟩ : Shape).Idx → EReal)
    (init : EReal) (l : Fin n2) :
    Ideal.hostReduceAdd h v init (ix1 l) = init + ∑ a : Fin n0, ∑ b : Fin n1, v (ix3 a b l) := by
  refine congrArg (init + ·) ((Finset.sum_filter_eq_sum_of_fiber _ (fun k : Fin n0 × Fin n1 => ix3 k.1 k.2 l) (fun p q e => Prod.ext (congrFun e 0) (congrFun e 1))
    (drop_lead h l) v).trans ?_)
  rw [Fintype.sum_prod_type]

/-- A sum over `p * n` positions is the sum over `p` tiles of `n`. -/
theorem sum_tiles {p n : ℕ} (f : Fin (p * n) → EReal) :
    ∑ k, f k = ∑ a : Fin p, ∑ b : Fin n, f ⟨a.val * n + b.val, by
      have := a.isLt; have := b.isLt
      calc a.val * n + b.val < a.val * n + n := by omega
        _ = (a.val + 1) * n := by ring
        _ ≤ p * n := Nat.mul_le_mul_right _ (by omega)⟩ := by
  rw [← finProdFinEquiv.sum_comp, Fintype.sum_prod_type]
  refine Finset.sum_congr rfl fun a _ => Finset.sum_congr rfl fun b _ => congrArg f (Fin.ext ?_)
  simp [finProdFinEquiv, mul_comm, add_comm]

end Cert.Sums

end
-- ==== Proof.MlpRef.lean ====
/-
  The reference of the MLP's backward call, at an index: the forward lines of the block's MLP and what differentiating them gives.
-/
module

public import proofs.«01_k».proof.Proof.Gen.MlpRefIdeal.Run
public import proofs.«01_k».proof.Proof.RowNorm
public import proofs.«01_k».proof.Proof.Sums
public import Idealize.ShloMosaic.Lib.Pointwise

@[expose] public section

set_option maxRecDepth 16384

noncomputable section

namespace Cert.MlpRefIdeal.Math

open Cert.MlpRefIdeal Cert.MlpRefIdeal.Gen Cert.MlpRefIdeal.Value
open Idealize.ShloMosaic Idealize.ShloMosaic.TcCoe Idealize.SL.Sem
open Cert.RowNorm

/-- The mean square of each token, with the small constant. -/
def meanSq (x : FVec Ideal S8192x1024 .f32) : FVec Ideal S4x2048x1 .f32 :=
  (addf (Host.divf (broadcastInDim S4x2048x1 ![0, 1] bcast_S4x2048_S4x2048x1_0_1 (Host.reduceAdd (mulf (shapeCast S4x2048x1024 x shapeCasts_S8192x1024_S4x2048x1024) (shapeCast S4x2048x1024 x shapeCasts_S8192x1024_S4x2048x1024)) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))

/-- The reciprocal root mean square. -/
def rstd (x : FVec Ideal S8192x1024 .f32) : FVec Ideal S4x2048x1 .f32 :=
  (Host.rsqrt (meanSq x))

/-- The derivative of the reciprocal root. -/
def rstdGrad (x : FVec Ideal S8192x1024 .f32) : FVec Ideal S4x2048x1 .f32 :=
  (mulf (broadcastInDim S4x2048x1 ![] bcast_S_S4x2048x1 (constant (F := Ideal) S_ .f32 0xBF000000#32)) (Host.divf (rstd x) (meanSq x)))

/-- The normalised tokens. -/
def normed (x : FVec Ideal S8192x1024 .f32) : FVec Ideal S4x2048x1024 .f32 :=
  (mulf (shapeCast S4x2048x1024 x shapeCasts_S8192x1024_S4x2048x1024) (broadcastInDim S4x2048x1024 ![0, 1, 2] bcast_S4x2048x1_S4x2048x1024_0_1_2 (rstd x)))

/-- … with the gain. -/
def gained (x : FVec Ideal S8192x1024 .f32) (g : FVec Ideal S1x1024 .f32) : FVec Ideal S4x2048x1024 .f32 :=
  (mulf (normed x) (broadcastInDim S4x2048x1024 ![0, 1, 2] bcast_S1x1x1024_S4x2048x1024_0_1_2 (broadcastInDim S1x1x1024 ![2] bcast_S1024_S1x1x1024_2 (shapeCast S1024 g shapeCasts_S1x1024_S1024))))

/-- One plus the scale of the modulation. -/
def onePlus (mo : FVec Ideal S4x2x6x1024 .f32) : FVec Ideal S4x1x1024 .f32 :=
  (addf (broadcastInDim S4x1x1024 ![] bcast_S_S4x1x1024 (constant (F := Ideal) S_ .f32 0x3F800000#32)) (shapeCast S4x1x1024 (extractStridedSlice S4x1x1x1024 ![0, 1, 4, 0] mo slices_S4x2x6x1024_S4x1x1x1024_0_1_4_0) shapeCasts_S4x1x1x1024_S4x1x1024))

/-- The modulated tokens, which the first product takes. -/
def hidden (x : FVec Ideal S8192x1024 .f32) (mo : FVec Ideal S4x2x6x1024 .f32) (g : FVec Ideal S1x1024 .f32) : FVec Ideal S4x2048x1024 .f32 :=
  (addf (mulf (gained x g) (broadcastInDim S4x2048x1024 ![0, 1, 2] bcast_S4x1x1024_S4x2048x1024_0_1_2 (onePlus mo))) (broadcastInDim S4x2048x1024 ![0, 1, 2] bcast_S4x1x1024_S4x2048x1024_0_1_2 (shapeCast S4x1x1024 (extractStridedSlice S4x1x1x1024 ![0, 1, 3, 0] mo slices_S4x2x6x1024_S4x1x1x1024_0_1_3_0) shapeCasts_S4x1x1x1024_S4x1x1024)))

/-- The first product. -/
def pre (x : FVec Ideal S8192x1024 .f32) (mo : FVec Ideal S4x2x6x1024 .f32) (g : FVec Ideal S1x1024 .f32) (w1 : FVec Ideal S1024x4096 .f32) : FVec Ideal S4x2048x4096 .f32 :=
  (Host.dotGeneral (F := Ideal) (φ₁ := .f32) (φ₂ := .f32) dot_S4x2048x1024_S1024x4096_S4x2048x4096_2_0_01_1_n_n none (hidden x mo g) w1)

/-- Its relu. -/
def act (x : FVec Ideal S8192x1024 .f32) (mo : FVec Ideal S4x2x6x1024 .f32) (g : FVec Ideal S1x1024 .f32) (w1 : FVec Ideal S1024x4096 .f32) : FVec Ideal S4x2048x4096 .f32 :=
  (maximumf (pre x mo g w1) ((broadcastInDim S4x2048x4096 ![] bcast_S_S4x2048x4096) (constant (F := Ideal) S_ .f32 0x00000000#32)))

/-- The gradient at the first product. -/
def dPre (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2048x4096 .f32 :=
  (select (cmpf .ogt (pre x mo g w1) (broadcastInDim S4x2048x4096 ![] bcast_S_S4x2048x4096 (constant (F := Ideal) S_ .f32 0x00000000#32))) (mulf (Host.dotGeneral (F := Ideal) (φ₁ := .f32) (φ₂ := .f32) dot_S4x2048x1024_S4096x1024_S4x2048x4096_2_1_01_0_n_n none (shapeCast S4x2048x1024 dm shapeCasts_S8192x1024_S4x2048x1024) w2) (mulf (broadcastInDim S4x2048x4096 ![] bcast_S_S4x2048x4096 (constant (F := Ideal) S_ .f32 0x40000000#32)) (act x mo g w1))) (broadcastInDim S4x2048x4096 ![] bcast_S_S4x2048x4096 (constant (F := Ideal) S_ .f32 0x00000000#32)))

/-- The gradient at the modulated tokens. -/
def dHidden (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2048x1024 .f32 :=
  (Host.dotGeneral (F := Ideal) (φ₁ := .f32) (φ₂ := .f32) dot_S4x2048x4096_S1024x4096_S4x2048x1024_2_1_01_0_n_n none (dPre dm x mo g w1 w2) w1)

/-- The gradient at the tokens with the gain. -/
def dGained (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2048x1024 .f32 :=
  (mulf (dHidden dm x mo g w1 w2) (broadcastInDim S4x2048x1024 ![0, 1, 2] bcast_S4x1x1024_S4x2048x1024_0_1_2 (onePlus mo)))

/-- The gradient at the normalised tokens. -/
def dNormed (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2048x1024 .f32 :=
  (mulf (dGained dm x mo g w1 w2) (broadcastInDim S4x2048x1024 ![0, 1, 2] bcast_S1x1x1024_S4x2048x1024_0_1_2 (broadcastInDim S1x1x1024 ![2] bcast_S1024_S1x1x1024_2 (shapeCast S1024 g shapeCasts_S1x1024_S1024))))

/-- A token's product with its gradient. -/
def proj (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2048 .f32 :=
  (Host.reduceAdd (mulf (shapeCast S4x2048x1024 x shapeCasts_S8192x1024_S4x2048x1024) (dNormed dm x mo g w1 w2)) (constant (F := Ideal) S_ .f32 0x00000000#32) reducesTo_S4x2048x1024_S4x2048_d2 h_S_)

/-- The gradient through the mean square. -/
def projGrad (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2048x1 .f32 :=
  (Host.divf (mulf (shapeCast S4x2048x1 (proj dm x mo g w1 w2) shapeCasts_S4x2048_S4x2048x1) (rstdGrad x)) (broadcastInDim S4x2048x1 ![] bcast_S_S4x2048x1 (constant (F := Ideal) S_ .f32 0x44800000#32)))

/-- The squared relu. -/
def outF (x : FVec Ideal S8192x1024 .f32) (mo : FVec Ideal S4x2x6x1024 .f32) (g : FVec Ideal S1x1024 .f32) (w1 : FVec Ideal S1024x4096 .f32) : FVec Ideal S8192x4096 .bf16 :=
  (truncf .bf16 (shapeCast S8192x4096 (mulf (act x mo g w1) (act x mo g w1)) shapeCasts_S4x2048x4096_S8192x4096) bitsLt_bf16_f32)

/-- The gradient at the first product, by token. -/
def outDa (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S8192x4096 .bf16 :=
  (truncf .bf16 (shapeCast S8192x4096 (dPre dm x mo g w1 w2) shapeCasts_S4x2048x4096_S8192x4096) bitsLt_bf16_f32)

/-- The gradient at the call's input. -/
def outDx (dm : FVec Ideal S8192x1024 .f32) (x : FVec Ideal S8192x1024 .f32) (dx : FVec Ideal S8192x1024 .f32) (mo : FVec Ideal S4x2x6x1024 .f32) (g : FVec Ideal S1x1024 .f32) (w1 : FVec Ideal S1024x4096 .f32) (w2 : FVec Ideal S4096x1024 .f32) : FVec Ideal S8192x1024 .f32 :=
  (shapeCast S8192x1024 (addf (addf (addf (shapeCast S4x2048x1024 dx shapeCasts_S8192x1024_S4x2048x1024) (mulf (dNormed dm x mo g w1 w2) (broadcastInDim S4x2048x1024 ![0, 1, 2] bcast_S4x2048x1_S4x2048x1024_0_1_2 (rstd x)))) (mulf (shapeCast S4x2048x1024 x shapeCasts_S8192x1024_S4x2048x1024) (broadcastInDim S4x2048x1024 ![0, 1] bcast_S4x2048_S4x2048x1024_0_1 (Host.reduceAdd (projGrad dm x mo g w1 w2) (constant (F := Ideal) S_ .f32 0x00000000#32) reducesTo_S4x2048x1_S4x2048_d2 h_S_)))) (mulf (broadcastInDim S4x2048x1024 ![0, 1] bcast_S4x2048_S4x2048x1024_0_1 (Host.reduceAdd (projGrad dm x mo g w1 w2) (constant (F := Ideal) S_ .f32 0x00000000#32) reducesTo_S4x2048x1_S4x2048_d2 h_S_)) (shapeCast S4x2048x1024 x shapeCasts_S8192x1024_S4x2048x1024))) shapeCasts_S4x2048x1024_S8192x1024)

/-- The gradients at the modulation's shift and scale. -/
def outDmod (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S4x2x1024 .f32 :=
  (concatenate S4x2x1024 1 [⟨S4x1x1024, (shapeCast S4x1x1024 (Host.reduceAdd (dHidden dm x mo g w1 w2) (constant (F := Ideal) S_ .f32 0x00000000#32) reducesTo_S4x2048x1024_S4x1024_d1 h_S_) shapeCasts_S4x1024_S4x1x1024)⟩, ⟨S4x1x1024, (shapeCast S4x1x1024 (Host.reduceAdd (mulf (gained x g) (dHidden dm x mo g w1 w2)) (constant (F := Ideal) S_ .f32 0x00000000#32) reducesTo_S4x2048x1024_S4x1024_d1 h_S_) shapeCasts_S4x1024_S4x1x1024)⟩] concatenates_S4x1x1024_S4x1x1024_S4x2x1024_d1)

/-- The gradient at the gain. -/
def outDg (dm : FVec Ideal S8192x1024 .f32) (x : FVec Ideal S8192x1024 .f32) (mo : FVec Ideal S4x2x6x1024 .f32) (g : FVec Ideal S1x1024 .f32) (w1 : FVec Ideal S1024x4096 .f32) (w2 : FVec Ideal S4096x1024 .f32) : FVec Ideal S1x1024 .f32 :=
  (shapeCast S1x1024 (Host.reduceAdd (shapeCast S1x1x1024 (Host.reduceAdd (mulf (normed x) (dGained dm x mo g w1 w2)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024)

section
variable (dm x dx : FVec Ideal S8192x1024 .f32) (mo : FVec Ideal S4x2x6x1024 .f32) (g : FVec Ideal S1x1024 .f32) (w1 : FVec Ideal S1024x4096 .f32)
  (w2 : FVec Ideal S4096x1024 .f32)

/-- Token `r` of the flat list, as an index of the arrays by batch and position. -/
abbrev tok {n : ℕ} (r : Fin 8192) (d : Fin n) : (⟨3, ![4, 2048, n]⟩ : Shape).Idx :=
  ix3 ⟨r.val / 2048, by have := r.isLt; omega⟩ ⟨r.val % 2048, Nat.mod_lt _ (by decide)⟩ d

theorem meanSq_apply (r : Fin 8192) :
    meanSq x (tok r 0) = Ideal.div (∑ k : Fin 1024, x (ix2 r k) * x (ix2 r k)) (Ideal.ofBits .f32 0x44800000#32) + Ideal.ofBits .f32 0x358637BD#32 := by
  pointwise [meanSq]

theorem rstd_apply (j : S4x2048x1.Idx) : rstd x j = Ideal.rsqrt (meanSq x j) := by pointwise [rstd]

theorem rstdGrad_apply (j : S4x2048x1.Idx) : rstdGrad x j = Ideal.ofBits .f32 0xBF000000#32 * Ideal.div (rstd x j) (meanSq x j) := by
  pointwise [rstdGrad]

theorem normed_apply (r : Fin 8192) (d : Fin 1024) : normed x (tok r d) = x (ix2 r d) * rstd x (tok r 0) := by
  pointwise [normed]
  exact congrArg (fun i => x (ix2 i d) * rstd x (tok r 0)) (Fin.ext (Nat.div_add_mod' r.val 2048))

theorem gained_apply (j : S4x2048x1024.Idx) : gained x g j = normed x j * g (ix2 0 (j 2)) := by pointwise [gained]

theorem onePlus_apply (j : S4x1x1024.Idx) : onePlus mo j = 1 + mo (ix4 (j 0) 1 4 (j 2)) := by pointwise [onePlus]

theorem pre_apply (j : S4x2048x4096.Idx) : pre x mo g w1 j = ∑ d : Fin 1024, hidden x mo g (ix3 (j 0) (j 1) d) * w1 (ix2 d (j 2)) := by
  pointwise [pre]

theorem act_apply (j : S4x2048x4096.Idx) : act x mo g w1 j = max (pre x mo g w1 j) 0 := by pointwise [act]

/-- Where the relu is closed its own factor is zero, so the selection changes nothing. -/
theorem dPre_apply (r : Fin 8192) (k : Fin 4096) :
    dPre dm x mo g w1 w2 (tok r k) = (∑ d : Fin 1024, dm (ix2 r d) * w2 (ix2 k d)) * (2 * act x mo g w1 (tok r k)) := by
  pointwise [dPre]
  split_ifs with h
  · rw [two_f32]
  · rw [act_apply, max_eq_right (not_lt.mp h), mul_zero, mul_zero]

theorem dHidden_apply (j : S4x2048x1024.Idx) :
    dHidden dm x mo g w1 w2 j = ∑ k : Fin 4096, dPre dm x mo g w1 w2 (ix3 (j 0) (j 1) k) * w1 (ix2 (j 2) k) := by
  pointwise [dHidden]

theorem dGained_apply (j : S4x2048x1024.Idx) : dGained dm x mo g w1 w2 j = dHidden dm x mo g w1 w2 j * (1 + mo (ix4 (j 0) 1 4 (j 2))) := by
  pointwise [dGained, onePlus]

theorem dNormed_apply (j : S4x2048x1024.Idx) : dNormed dm x mo g w1 w2 j = dGained dm x mo g w1 w2 j * g (ix2 0 (j 2)) := by
  pointwise [dNormed]

theorem projGrad_apply (r : Fin 8192) :
    projGrad dm x mo g w1 w2 (tok r 0)
      = Ideal.div ((∑ k : Fin 1024, x (ix2 r k) * dNormed dm x mo g w1 w2 (tok r k)) * rstdGrad x (tok r 0)) (Ideal.ofBits .f32 0x44800000#32) := by
  pointwise [projGrad, proj]

theorem outF_apply (j : S8192x4096.Idx) : outF x mo g w1 j = act x mo g w1 (tok (j 0) (j 1)) * act x mo g w1 (tok (j 0) (j 1)) := by
  pointwise [outF]

theorem outDa_apply (j : S8192x4096.Idx) : outDa dm x mo g w1 w2 j = dPre dm x mo g w1 w2 (tok (j 0) (j 1)) := by
  pointwise [outDa]

/-- The gradient at the call's input, in the form a normalisation's gradient is usually computed in. -/
theorem outDx_apply (r : Fin 8192) (d : Fin 1024) :
    outDx dm x dx mo g w1 w2 (ix2 r d) = dx (ix2 r d) + rstd x (tok r 0) * (dNormed dm x mo g w1 w2 (tok r d)
      - normed x (tok r d) * Ideal.div (∑ k : Fin 1024, dNormed dm x mo g w1 w2 (tok r k) * normed x (tok r k)) (Ideal.ofBits .f32 0x44800000#32)) := by
  obtain ⟨e, he, hE⟩ := eps_f32
  have key := grad_eq (fun k => x (ix2 r k)) (fun k => dNormed dm x mo g w1 w2 (tok r k)) (dx (ix2 r d)) d (n := 1024) (e := e) (by norm_num) he
    (s := rstd x (tok r 0)) (q := Ideal.div (rstd x (tok r 0)) (meanSq x (tok r 0))) (by rw [rstd_apply, meanSq_apply, n1024_f32, hE])
    (by rw [meanSq_apply, n1024_f32, hE])
  have hp := projGrad_apply dm x mo g w1 w2 r
  rw [rstdGrad_apply, half_f32, n1024_f32] at hp
  rw [← hp] at key
  simp only [normed_apply, n1024_f32]
  refine Eq.trans ?_ key.symm
  pointwise [outDx]
  simp only [Fin.sum_univ_one]

theorem outDmod_apply (j : S4x2x1024.Idx) :
    outDmod dm x mo g w1 w2 j = if (j 1).val < 1 then ∑ n : Fin 2048, dHidden dm x mo g w1 w2 (ix3 (j 0) n (j 2))
      else ∑ n : Fin 2048, gained x g (ix3 (j 0) n (j 2)) * dHidden dm x mo g w1 w2 (ix3 (j 0) n (j 2)) := by
  pointwise [outDmod]
  rfl

theorem outDg_apply (j : S1x1024.Idx) :
    outDg dm x mo g w1 w2 j = ∑ b : Fin 4, ∑ n : Fin 2048, normed x (ix3 b n (j 1)) * dGained dm x mo g w1 w2 (ix3 b n (j 1)) := by
  pointwise [outDg]
  refine (Cert.Sums.hostReduceAdd_lead _ _ _ _).trans ?_
  pointwise
  simp only [Fin.sum_univ_one]
  refine (Cert.Sums.hostReduceAdd_lead _ _ _ _).trans ?_
  pointwise

end

/-- The reference's run, each result by its name here. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v73) = outF (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v75) = outDa (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v76) = outDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v77) = outDmod (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v78) = outDg (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := Ideal)) _ _).mono (fun r h c => ?_) (run m ρ)
  exact ⟨(h c).1.trans rfl, (h c).2.1.trans rfl, (h c).2.2.1.trans rfl, (h c).2.2.2.1.trans rfl, (h c).2.2.2.2.1.trans rfl, (h c).2.2.2.2.2⟩

end Cert.MlpRefIdeal.Math

end
-- ==== Proof.MlpBlk.lean ====
/-
  The backward call of the squared-relu MLP: the grid has 16 row tiles of 512 tokens and, within each, 4 blocks of 1024 of the hidden
  axis. Here: which blocks a grid point reads, as entries of the call's arguments, and what the first steps of a point compute from
  them, named as in the reference.
-/
module

public import proofs.«01_k».proof.Proof.Gen.MlpIdeal.Value
public import proofs.«01_k».proof.Proof.MlpPay
public import proofs.«01_k».proof.Proof.MlpRef
public import Idealize.ShloMosaic.Lib.Pipeline.ValueKit
public import Idealize.ShloMosaic.Lib.Pipeline.ReadBack

@[expose] public section

set_option maxRecDepth 16384

noncomputable section

namespace Cert.MlpIdeal.Math

open Cert.MlpIdeal Cert.MlpIdeal.Gen Cert.RowNorm
open Cert.MlpRefIdeal.Math (tok hidden pre act dPre dHidden dGained dNormed rstd normed gained outF outDa outDx outDmod outDg)
open Idealize.ShloMosaic Idealize.ShloMosaic.TcCoe Idealize.SL.Sem
open Idealize.ShloMosaic.Pipeline (Dat)

variable (m : (ℓ : Loc nD τ sig) → Buf (Elt Ideal) ℓ)

/-- The arguments, each as an array of its shape. -/
abbrev aDm (c : Dev nD) : FVec Ideal S8192x1024 .f32 := m ((c.tc : Thread nD τ).loc main_arg0)
abbrev aX (c : Dev nD) : FVec Ideal S8192x1024 .f32 := m ((c.tc : Thread nD τ).loc main_arg1)
abbrev aDx (c : Dev nD) : FVec Ideal S8192x1024 .f32 := m ((c.tc : Thread nD τ).loc main_arg2)
abbrev aMod (c : Dev nD) : FVec Ideal S4x2x6x1024 .f32 := m ((c.tc : Thread nD τ).loc main_arg3)
abbrev aG (c : Dev nD) : FVec Ideal S1x1024 .f32 := m ((c.tc : Thread nD τ).loc main_arg4)
abbrev aW1 (c : Dev nD) : FVec Ideal S1024x4096 .f32 := m ((c.tc : Thread nD τ).loc main_arg5)
abbrev aW2 (c : Dev nD) : FVec Ideal S4096x1024 .f32 := m ((c.tc : Thread nD τ).loc main_arg6)

/-- Which blocks a grid point reads. -/
theorem idxIn : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 16, 1, 0, 0] ∧ win0_5.index t = ![0, 0] ∧ win0_6.index t = ![t.val % 4, 0, 0]
    ∧ win0_7.index t = ![t.val % 4, 1, 0] :=
  (by decide +kernel : ∀ t : Fin grid0.N, _)

/-- There are 64 grid points. -/
theorem lt64 (t : Fin cfg0.N) : t.val < 64 := t.isLt

/-- Row `i` of point `t`'s row tile. -/
abbrev row (t : Fin cfg0.N) (i : Fin 512) : Fin 8192 := ⟨t.val / 4 * 512 + i.val, by have := lt64 t; have := i.isLt; omega⟩

/-- Column `k` of point `t`'s block of the hidden axis. -/
abbrev col (t : Fin cfg0.N) (k : Fin 1024) : Fin 4096 := ⟨t.val % 4 * 1024 + k.val, by have := k.isLt; omega⟩

theorem blkX (c : Dev nD) (t : Fin cfg0.N) (i : Fin 512) (d : Fin 1024) : iblk m c 2 t (ix2 i d) = aX m c (ix2 (row t i) d) := by
  blk_point [iblk, V, idxIn t]

theorem blkDx (c : Dev nD) (t : Fin cfg0.N) (i : Fin 512) (d : Fin 1024) : iblk m c 3 t (ix2 i d) = aDx m c (ix2 (row t i) d) := by
  blk_point [iblk, V, idxIn t]

theorem blkDm (c : Dev nD) (t : Fin cfg0.N) (i : Fin 512) (d : Fin 1024) : iblk m c 1 t (ix2 i d) = aDm m c (ix2 (row t i) d) := by
  blk_point [iblk, V, idxIn t]

theorem blkG (c : Dev nD) (t : Fin cfg0.N) (d : Fin 1024) : iblk m c 5 t (ix2 0 d) = aG m c (ix2 0 d) := by
  blk_point [iblk, V, idxIn t]

theorem blkSc (c : Dev nD) (t : Fin cfg0.N) (k : Fin 6) (d : Fin 1024) :
    iblk m c 4 t (ix4 0 0 k d) = aMod m c (ix4 ⟨t.val / 16, by have := lt64 t; omega⟩ 1 k d) := by
  blk_point [iblk, V, idxIn t]

/-- The modulated, normalised input as the call receives it. -/
def hFlat (x : FVec Ideal S8192x1024 .f32) (mo : FVec Ideal S4x2x6x1024 .f32) (g : FVec Ideal S1x1024 .f32) : FVec Ideal S8192x1024 .bf16 :=
  truncf .bf16 (shapeCast S8192x1024 (hidden x mo g) shapeCasts_S4x2048x1024_S8192x1024) bitsLt_bf16_f32

theorem hFlat_apply (x : FVec Ideal S8192x1024 .f32) (mo : FVec Ideal S4x2x6x1024 .f32) (g : FVec Ideal S1x1024 .f32) (r : Fin 8192) (d : Fin 1024) :
    hFlat x mo g (ix2 r d) = hidden x mo g (tok r d) := by pointwise [hFlat]

theorem V26 (c : Dev nD) : V m c main_v26 = hFlat (aX m c) (aMod m c) (aG m c) := by
  unfold_abbrev_sides
  after_results
  rfl

theorem blkH (c : Dev nD) (t : Fin cfg0.N) (i : Fin 512) (d : Fin 1024) :
    iblk m c 0 t (ix2 i d) = hidden (aX m c) (aMod m c) (aG m c) (tok (row t i) d) := by
  rw [← hFlat_apply, ← V26]
  blk_point [iblk, idxIn t]

/-- Both weights in one array, block by block of the hidden axis: 1024 rows of the first, 1024 of the second, and 256 rows of zeros. -/
def wl (w1 : FVec Ideal S1024x4096 .f32) (w2 : FVec Ideal S4096x1024 .f32) : FVec Ideal S4x2304x1024 .bf16 :=
  truncf .bf16 (concatenate S4x2304x1024 1
    [⟨S4x1024x1024, transpose S4x1024x1024 [1, 0, 2] (shapeCast S1024x4x1024 w1 shapeCasts_S1024x4096_S1024x4x1024) transposes_S1024x4x1024_S4x1024x1024_1_0_2⟩,
     ⟨S4x1024x1024, shapeCast S4x1024x1024 w2 shapeCasts_S4096x1024_S4x1024x1024⟩,
     ⟨S4x256x1024, broadcastInDim S4x256x1024 ![] bcast_S_S4x256x1024 (constant (F := Ideal) S_ .f32 0x00000000#32)⟩]
    concatenates_S4x1024x1024_S4x1024x1024_S4x256x1024_S4x2304x1024_d1 : FVec Ideal S4x2304x1024 .f32) bitsLt_bf16_f32

theorem V32 (c : Dev nD) : V m c main_v32 = wl (aW1 m c) (aW2 m c) := by
  unfold_abbrev_sides
  after_results
  rfl

theorem wl_first (w1 : FVec Ideal S1024x4096 .f32) (w2 : FVec Ideal S4096x1024 .f32) (b : Fin 4) (d k : Fin 1024) :
    wl w1 w2 (ix3 b ⟨d.val, by have := d.isLt; omega⟩ k) = w1 (ix2 d ⟨b.val * 1024 + k.val, by have := b.isLt; have := k.isLt; omega⟩) := by
  pointwise [wl]

theorem wl_second (w1 : FVec Ideal S1024x4096 .f32) (w2 : FVec Ideal S4096x1024 .f32) (b : Fin 4) (d k : Fin 1024) :
    wl w1 w2 (ix3 b ⟨1024 + d.val, by have := d.isLt; omega⟩ k) = w2 (ix2 ⟨b.val * 1024 + d.val, by have := b.isLt; have := d.isLt; omega⟩ k) := by
  pointwise [wl]

theorem blkW1 (c : Dev nD) (t : Fin cfg0.N) (d : Fin 1024) (k : Fin 1024) :
    X0_6 m c t (ix3 0 d k) = aW1 m c (ix2 d (col t k)) := by
  rw [← wl_first (aW1 m c) (aW2 m c) ⟨t.val % 4, Nat.mod_lt _ (by decide)⟩ d k, ← V32]
  unfold X0_6 Pipeline.Window.fill
  rw [dif_pos (moved0_6 t _)]
  blk_point [iblk, idxIn t]

theorem blkW2 (c : Dev nD) (t : Fin cfg0.N) (k : Fin 1024) (d : Fin 1024) :
    X0_7 m c t (ix3 0 k d) = aW2 m c (ix2 (col t k) d) := by
  rw [← wl_second (aW1 m c) (aW2 m c) ⟨t.val % 4, Nat.mod_lt _ (by decide)⟩ k d, ← V32]
  unfold X0_7 Pipeline.Window.fill
  rw [dif_pos (moved0_7 t _)]
  blk_point [iblk, idxIn t]

end Cert.MlpIdeal.Math

end
-- ==== Proof.MlpTile.lean ====
/-
  The backward call of the squared-relu MLP: what one grid point leaves in each block it holds.
-/
module

public import proofs.«01_k».proof.Proof.MlpBlk

@[expose] public section

set_option maxRecDepth 16384

noncomputable section

namespace Cert.MlpIdeal.Math

open Cert.MlpIdeal Cert.MlpIdeal.Gen Cert.RowNorm
open Cert.MlpRefIdeal.Math (tok hidden pre act dPre dHidden dGained dNormed rstd normed gained outF outDa outDx outDmod outDg act_apply pre_apply dPre_apply)
open Idealize.ShloMosaic Idealize.ShloMosaic.TcCoe Idealize.SL.Sem
open Idealize.ShloMosaic.Pipeline (Dat)

variable (m : (ℓ : Loc nD τ sig) → Buf (Elt Ideal) ℓ)

/-- The kinds of grid point: the first block of a row tile, a middle one, and the last one of the very first tile, of a tile inside
a batch, or of a later batch's first tile. -/
theorem kinds (t : Fin cfg0.N) :
    (t.val % 4 = 0 ∧ ¬t.val % 4 = 3) ∨ (¬t.val % 4 = 0 ∧ ¬t.val % 4 = 3)
      ∨ (¬t.val % 4 = 0 ∧ t.val % 4 = 3 ∧ (t.val % 16 = 0 ∨ t.val % 16 = 1 ∨ t.val % 16 = 2 ∨ t.val % 16 = 3) ∧ t.val < 4)
      ∨ (¬t.val % 4 = 0 ∧ t.val % 4 = 3 ∧ ¬(t.val % 16 = 0 ∨ t.val % 16 = 1 ∨ t.val % 16 = 2 ∨ t.val % 16 = 3) ∧ ¬t.val < 4)
      ∨ (¬t.val % 4 = 0 ∧ t.val % 4 = 3 ∧ (t.val % 16 = 0 ∨ t.val % 16 = 1 ∨ t.val % 16 = 2 ∨ t.val % 16 = 3) ∧ ¬t.val < 4) := by
  omega

theorem tileAct (c : Dev nD) (t : Fin cfg0.N) (i : Fin 512) (k : Fin 1024) :
    k0_pay13 (F := Ideal) (iblk m c 0 t) (X0_6 m c t) (ix2 i k) = act (aX m c) (aMod m c) (aG m c) (aW1 m c) (tok (row t i) (col t k)) := by
  rw [pay13_apply, act_apply, pre_apply]
  exact congrArg (max · 0) (Finset.sum_congr rfl fun d _ => congrArg₂ (· * ·) (blkH m c t i d) (blkW1 m c t d k))

theorem tileDa (c : Dev nD) (t : Fin cfg0.N) (i : Fin 512) (k : Fin 1024) :
    k0_pay15 (F := Ideal) (iblk m c 0 t) (X0_6 m c t) (iblk m c 1 t) (X0_7 m c t) (ix2 i k)
      = dPre (aDm m c) (aX m c) (aMod m c) (aG m c) (aW1 m c) (aW2 m c) (tok (row t i) (col t k)) := by
  rw [pay15_apply, dPre_apply, ← pay13_apply]
  exact congrArg₂ (· * ·) (Finset.sum_congr rfl fun d _ => congrArg₂ (· * ·) (blkDm m c t i d) (blkW2 m c t k d)) (congrArg (2 * ·) (tileAct m c t i k))

/-- The products one grid point adds to the gradient at the modulated input. -/
abbrev tileDh (c : Dev nD) (t : Fin cfg0.N) (i : Fin 512) (d : Fin 1024) : EReal :=
  ∑ k : Fin 1024, dPre (aDm m c) (aX m c) (aMod m c) (aG m c) (aW1 m c) (aW2 m c) (tok (row t i) (col t k)) * aW1 m c (ix2 d (col t k))

theorem tileStep (c : Dev nD) (t : Fin cfg0.N) (acc : Vec Ideal S512x1024 .f32) (i : Fin 512) (d : Fin 1024) :
    k0_pay17 (F := Ideal) (iblk m c 0 t) (X0_6 m c t) (iblk m c 1 t) (X0_7 m c t) (X0_6 m c t) acc (ix2 i d) = acc (ix2 i d) + tileDh m c t i d := by
  rw [pay17_apply]
  exact congrArg (_ + ·) (Finset.sum_congr rfl fun k _ => congrArg₂ (· * ·) (tileDa m c t i k) (blkW1 m c t d k))

theorem out8 (c : Dev nD) (t : Fin cfg0.N) : (outsAt0 m c t.val t.isLt).1 = k0_pay14 (F := Ideal) (iblk m c 0 t) (X0_6 m c t) := by
  rcases kinds t with ⟨h0, h1⟩ | ⟨h0, h1⟩ | ⟨h0, h1, h2, h4⟩ | ⟨h0, h1, h2, h4⟩ | ⟨h0, h1, h2, h4⟩
  · rw [outsAt0_A m c t h0 h1]; frame_out
  · rw [outsAt0_B m c t h0 h1]; frame_out
  · rw [outsAt0_C m c t h0 h1 h2 h2 h4]; frame_out
  · rw [outsAt0_D m c t h0 h1 h2 h2 h4]; frame_out
  · rw [outsAt0_E m c t h0 h1 h2 h2 h4]; frame_out

theorem out9 (c : Dev nD) (t : Fin cfg0.N) :
    (outsAt0 m c t.val t.isLt).2.1 = k0_pay15 (F := Ideal) (iblk m c 0 t) (X0_6 m c t) (iblk m c 1 t) (X0_7 m c t) := by
  rcases kinds t with ⟨h0, h1⟩ | ⟨h0, h1⟩ | ⟨h0, h1, h2, h4⟩ | ⟨h0, h1, h2, h4⟩ | ⟨h0, h1, h2, h4⟩
  · rw [outsAt0_A m c t h0 h1]; frame_out
  · rw [outsAt0_B m c t h0 h1]; frame_out
  · rw [outsAt0_C m c t h0 h1 h2 h2 h4]; frame_out
  · rw [outsAt0_D m c t h0 h1 h2 h2 h4]; frame_out
  · rw [outsAt0_E m c t h0 h1 h2 h2 h4]; frame_out

theorem scr_A (c : Dev nD) (t : Fin cfg0.N) (h : t.val % 4 = 0) (i : Fin 512) (d : Fin 1024) :
    (outsAt0 m c t.val t.isLt).2.2.2.2.2 (ix2 i d) = tileDh m c t i d := by
  rw [outsAt0_A m c t h (by omega)]; frame_out
  rw [pay1_apply, tileStep, pay16_apply]
  exact zero_add _

theorem scr_step (c : Dev nD) (t : Fin cfg0.N) (h : ¬t.val % 4 = 0) (i : Fin 512) (d : Fin 1024) :
    (outsAt0 m c t.val t.isLt).2.2.2.2.2 (ix2 i d)
      = (outsAt0 m c (t.val - 1) (Nat.lt_of_le_of_lt (Nat.sub_le _ _) t.isLt)).2.2.2.2.2 (ix2 i d) + tileDh m c t i d := by
  rcases kinds t with ⟨h0, h1⟩ | ⟨h0, h1⟩ | ⟨h0, h1, h2, h4⟩ | ⟨h0, h1, h2, h4⟩ | ⟨h0, h1, h2, h4⟩
  · exact absurd h0 h
  · rw [outsAt0_B m c t h0 h1]; frame_out
    simp only [read_unread_whole]; rw [pay1_apply, tileStep]
  · rw [outsAt0_C m c t h0 h1 h2 h2 h4]; frame_out
    simp only [read_unread_whole]; rw [pay1_apply, tileStep]
  · rw [outsAt0_D m c t h0 h1 h2 h2 h4]; frame_out
    simp only [read_unread_whole]; rw [pay1_apply, tileStep]
  · rw [outsAt0_E m c t h0 h1 h2 h2 h4]; frame_out
    simp only [read_unread_whole]; rw [pay1_apply, tileStep]

/-- The scale row of the tile's batch. -/
abbrev scale (c : Dev nD) (t : Fin cfg0.N) : Vec Ideal S1x1x1x1024 .f32 :=
  View.ld (iblk m c 4 t) (Rect.unit ![0, 0, 4, 0] ![1, 1, 1, 1024] inb_S1x1x6x1024_S1x1x1x1024_0_0_4_0)

theorem out10 (c : Dev nD) (t : Fin cfg0.N) (h : t.val % 4 = 3) :
    (outsAt0 m c t.val t.isLt).2.2.1 = k0_pay2 (F := Ideal) (k0_pay3 (iblk m c 2 t)) (k0_pay4 (iblk m c 2 t))
      (k0_pay12 (iblk m c 5 t) ((outsAt0 m c t.val t.isLt).2.2.2.2.2) (scale m c t)) (iblk m c 3 t) := by
  rcases kinds t with ⟨h0, h1⟩ | ⟨h0, h1⟩ | ⟨h0, h1, h2, h4⟩ | ⟨h0, h1, h2, h4⟩ | ⟨h0, h1, h2, h4⟩
  · exact absurd h h1
  · exact absurd h h1
  · rw [outsAt0_C m c t h0 h1 h2 h2 h4]; frame_out; rfl
  · rw [outsAt0_D m c t h0 h1 h2 h2 h4]; frame_out; rfl
  · rw [outsAt0_E m c t h0 h1 h2 h2 h4]; frame_out; rfl

/-- The two rows of the block that holds the modulation's gradients: the shift's and the scale's. -/
abbrev rowShift : Rect S1x2x1024 := Rect.unit ![0, 0, 0] ![1, 1, 1024] inb_S1x2x1024_S1x1x1024_0_0_0
abbrev rowScale : Rect S1x2x1024 := Rect.unit ![0, 1, 0] ![1, 1, 1024] inb_S1x2x1024_S1x1x1024_0_1_0

theorem shift_emb (d : Fin 1024) : rowShift.emb (ix3 0 0 d : S1x1x1024.Idx) = (ix3 0 0 d : S1x2x1024.Idx) := by
  funext a
  refine Fin.ext ?_
  match a with
  | ⟨0, _⟩ => rfl
  | ⟨1, _⟩ => rfl
  | ⟨2, _⟩ => show 0 + 1 * d.val = d.val; omega

theorem scale_emb (d : Fin 1024) : rowScale.emb (ix3 0 0 d : S1x1x1024.Idx) = (ix3 0 1 d : S1x2x1024.Idx) := by
  funext a
  refine Fin.ext ?_
  match a with
  | ⟨0, _⟩ => rfl
  | ⟨1, _⟩ => rfl
  | ⟨2, _⟩ => show 0 + 1 * d.val = d.val; omega

theorem rows_disj : LoadRect.disj rowScale rowShift.toLoadRect = true := by decide

theorem shift_not_mem (d : Fin 1024) : (ix3 0 0 d : S1x2x1024.Idx) ∉ rowScale.set := by
  rw [← shift_emb]
  exact LoadRect.idx_not_mem_of_disj (B := rowShift.toLoadRect) rows_disj _

theorem canon_scale (p : S1x1x1024.Idx → EReal) (L : List (View.Piece (Elt Ideal) S1x2x1024 .f32)) (d : Fin 1024) :
    View.canon (Val := Elt Ideal) (⟨rowScale, p⟩ :: L) (ix3 0 1 d) = p (ix3 0 0 d) := by
  rw [← scale_emb, View.canon_cons_emb]

theorem canon_shift (p : S1x1x1024.Idx → EReal) (L : List (View.Piece (Elt Ideal) S1x2x1024 .f32)) (d : Fin 1024) :
    View.canon (Val := Elt Ideal) (⟨rowShift, p⟩ :: L) (ix3 0 0 d) = p (ix3 0 0 d) := by
  rw [← shift_emb, View.canon_cons_emb]

theorem canon_skip (p : S1x1x1024.Idx → EReal) (L : List (View.Piece (Elt Ideal) S1x2x1024 .f32)) (d : Fin 1024) :
    View.canon (Val := Elt Ideal) (⟨rowScale, p⟩ :: L) (ix3 0 0 d) = View.canon (Val := Elt Ideal) L (ix3 0 0 d) := by
  rw [View.canon_cons_of_not_mem]
  exact shift_not_mem d

theorem shift_C (c : Dev nD) (t : Fin cfg0.N) (h0 : ¬t.val % 4 = 0) (h1 : t.val % 4 = 3) (h2 : (t.val % 16 = 0 ∨ t.val % 16 = 1 ∨ t.val % 16 = 2 ∨ t.val % 16 = 3)) (h4 : t.val < 4) (d : Fin 1024) :
    (outsAt0 m c t.val t.isLt).2.2.2.1 (ix3 0 0 d) = 0 + ∑ r : Fin 512, (outsAt0 m c t.val t.isLt).2.2.2.2.2 (ix2 r d) := by
  rw [outsAt0_C m c t h0 h1 h2 h2 h4]; frame_out
  simp (disch := decide) only [↓ View.readCov_skip, ↓ View.readCov_cons_toLoadRect]
  rw [canon_skip, canon_skip, canon_shift, pay6_apply]
  rw [pay5_apply]; rfl

theorem scale_C (c : Dev nD) (t : Fin cfg0.N) (h0 : ¬t.val % 4 = 0) (h1 : t.val % 4 = 3) (h2 : (t.val % 16 = 0 ∨ t.val % 16 = 1 ∨ t.val % 16 = 2 ∨ t.val % 16 = 3)) (h4 : t.val < 4) (d : Fin 1024) :
    (outsAt0 m c t.val t.isLt).2.2.2.1 (ix3 0 1 d) = 0 + ∑ r : Fin 512, (outsAt0 m c t.val t.isLt).2.2.2.2.2 (ix2 r d) * (k0_pay4 (F := Ideal) (iblk m c 2 t) (ix2 r d) * iblk m c 5 t (ix2 0 d)) := by
  rw [outsAt0_C m c t h0 h1 h2 h2 h4]; frame_out
  simp (disch := decide) only [↓ View.readCov_skip, ↓ View.readCov_cons_toLoadRect]
  rw [canon_scale, pay8_apply]
  rw [pay7_apply]; rfl

theorem shift_D (c : Dev nD) (t : Fin cfg0.N) (h0 : ¬t.val % 4 = 0) (h1 : t.val % 4 = 3) (h2 : ¬(t.val % 16 = 0 ∨ t.val % 16 = 1 ∨ t.val % 16 = 2 ∨ t.val % 16 = 3)) (h4 : ¬t.val < 4) (d : Fin 1024) :
    (outsAt0 m c t.val t.isLt).2.2.2.1 (ix3 0 0 d) = (outsAt0 m c (t.val - 1) (Nat.lt_of_le_of_lt (Nat.sub_le _ _) t.isLt)).2.2.2.1 (ix3 0 0 d) + ∑ r : Fin 512, (outsAt0 m c t.val t.isLt).2.2.2.2.2 (ix2 r d) := by
  rw [outsAt0_D m c t h0 h1 h2 h2 h4]; frame_out
  rw [canon_skip, canon_shift, pay6_apply]
  exact congrArg (· + _) (congrArg (outsAt0 m c (t.val - 1) (Nat.lt_of_le_of_lt (Nat.sub_le _ _) t.isLt)).2.2.2.1 (shift_emb d))

theorem scale_D (c : Dev nD) (t : Fin cfg0.N) (h0 : ¬t.val % 4 = 0) (h1 : t.val % 4 = 3) (h2 : ¬(t.val % 16 = 0 ∨ t.val % 16 = 1 ∨ t.val % 16 = 2 ∨ t.val % 16 = 3)) (h4 : ¬t.val < 4) (d : Fin 1024) :
    (outsAt0 m c t.val t.isLt).2.2.2.1 (ix3 0 1 d) = (outsAt0 m c (t.val - 1) (Nat.lt_of_le_of_lt (Nat.sub_le _ _) t.isLt)).2.2.2.1 (ix3 0 1 d) + ∑ r : Fin 512, (outsAt0 m c t.val t.isLt).2.2.2.2.2 (ix2 r d) * (k0_pay4 (F := Ideal) (iblk m c 2 t) (ix2 r d) * iblk m c 5 t (ix2 0 d)) := by
  rw [outsAt0_D m c t h0 h1 h2 h2 h4]; frame_out
  rw [canon_scale, pay8_apply]
  exact congrArg (· + _) (congrArg (outsAt0 m c (t.val - 1) (Nat.lt_of_le_of_lt (Nat.sub_le _ _) t.isLt)).2.2.2.1 (scale_emb d))

theorem shift_E (c : Dev nD) (t : Fin cfg0.N) (h0 : ¬t.val % 4 = 0) (h1 : t.val % 4 = 3) (h2 : (t.val % 16 = 0 ∨ t.val % 16 = 1 ∨ t.val % 16 = 2 ∨ t.val % 16 = 3)) (h4 : ¬t.val < 4) (d : Fin 1024) :
    (outsAt0 m c t.val t.isLt).2.2.2.1 (ix3 0 0 d) = 0 + ∑ r : Fin 512, (outsAt0 m c t.val t.isLt).2.2.2.2.2 (ix2 r d) := by
  rw [outsAt0_E m c t h0 h1 h2 h2 h4]; frame_out
  simp (disch := decide) only [↓ View.readCov_skip, ↓ View.readCov_cons_toLoadRect]
  rw [canon_skip, canon_skip, canon_shift, pay6_apply]
  rw [pay5_apply]; rfl

theorem scale_E (c : Dev nD) (t : Fin cfg0.N) (h0 : ¬t.val % 4 = 0) (h1 : t.val % 4 = 3) (h2 : (t.val % 16 = 0 ∨ t.val % 16 = 1 ∨ t.val % 16 = 2 ∨ t.val % 16 = 3)) (h4 : ¬t.val < 4) (d : Fin 1024) :
    (outsAt0 m c t.val t.isLt).2.2.2.1 (ix3 0 1 d) = 0 + ∑ r : Fin 512, (outsAt0 m c t.val t.isLt).2.2.2.2.2 (ix2 r d) * (k0_pay4 (F := Ideal) (iblk m c 2 t) (ix2 r d) * iblk m c 5 t (ix2 0 d)) := by
  rw [outsAt0_E m c t h0 h1 h2 h2 h4]; frame_out
  simp (disch := decide) only [↓ View.readCov_skip, ↓ View.readCov_cons_toLoadRect]
  rw [canon_scale, pay8_apply]
  rw [pay7_apply]; rfl

theorem gain_C (c : Dev nD) (t : Fin cfg0.N) (h0 : ¬t.val % 4 = 0) (h1 : t.val % 4 = 3) (h2 : (t.val % 16 = 0 ∨ t.val % 16 = 1 ∨ t.val % 16 = 2 ∨ t.val % 16 = 3)) (h4 : t.val < 4) (d : Fin 1024) :
    (outsAt0 m c t.val t.isLt).2.2.2.2.1 (ix2 0 d) = 0 + ∑ r : Fin 512, k0_pay9 (F := Ideal) (outsAt0 m c t.val t.isLt).2.2.2.2.2 (scale m c t) (ix2 r d) * k0_pay4 (F := Ideal) (iblk m c 2 t) (ix2 r d) := by
  rw [outsAt0_C m c t h0 h1 h2 h2 h4]; frame_out
  rw [pay11_apply]
  rw [pay10_apply]; rfl

theorem gain_D (c : Dev nD) (t : Fin cfg0.N) (h0 : ¬t.val % 4 = 0) (h1 : t.val % 4 = 3) (h2 : ¬(t.val % 16 = 0 ∨ t.val % 16 = 1 ∨ t.val % 16 = 2 ∨ t.val % 16 = 3)) (h4 : ¬t.val < 4) (d : Fin 1024) :
    (outsAt0 m c t.val t.isLt).2.2.2.2.1 (ix2 0 d) = (outsAt0 m c (t.val - 1) (Nat.lt_of_le_of_lt (Nat.sub_le _ _) t.isLt)).2.2.2.2.1 (ix2 0 d) + ∑ r : Fin 512, k0_pay9 (F := Ideal) (outsAt0 m c t.val t.isLt).2.2.2.2.2 (scale m c t) (ix2 r d) * k0_pay4 (F := Ideal) (iblk m c 2 t) (ix2 r d) := by
  rw [outsAt0_D m c t h0 h1 h2 h2 h4]; frame_out
  rw [pay11_apply]
  rfl

theorem gain_E (c : Dev nD) (t : Fin cfg0.N) (h0 : ¬t.val % 4 = 0) (h1 : t.val % 4 = 3) (h2 : (t.val % 16 = 0 ∨ t.val % 16 = 1 ∨ t.val % 16 = 2 ∨ t.val % 16 = 3)) (h4 : ¬t.val < 4) (d : Fin 1024) :
    (outsAt0 m c t.val t.isLt).2.2.2.2.1 (ix2 0 d) = (outsAt0 m c (t.val - 1) (Nat.lt_of_le_of_lt (Nat.sub_le _ _) t.isLt)).2.2.2.2.1 (ix2 0 d) + ∑ r : Fin 512, k0_pay9 (F := Ideal) (outsAt0 m c t.val t.isLt).2.2.2.2.2 (scale m c t) (ix2 r d) * k0_pay4 (F := Ideal) (iblk m c 2 t) (ix2 r d) := by
  rw [outsAt0_E m c t h0 h1 h2 h2 h4]; frame_out
  rw [pay11_apply]
  rfl

theorem mod_carry (c : Dev nD) (t : Fin cfg0.N) (h : ¬t.val % 4 = 3) (ht : t.val ≠ 0) :
    (outsAt0 m c t.val t.isLt).2.2.2.1 = (outsAt0 m c (t.val - 1) (Nat.lt_of_le_of_lt (Nat.sub_le _ _) t.isLt)).2.2.2.1 := by
  rcases kinds t with ⟨h0, h1⟩ | ⟨h0, h1⟩ | ⟨h0, h1, h2, h4⟩ | ⟨h0, h1, h2, h4⟩ | ⟨h0, h1, h2, h4⟩
  · rw [outsAt0_A m c t h0 h1]
    dsimp only [out0_A_11]
  · rw [outsAt0_B m c t h0 h1]
    dsimp only [out0_B_11]
  · exact absurd h1 h
  · exact absurd h1 h
  · exact absurd h1 h

theorem gain_carry (c : Dev nD) (t : Fin cfg0.N) (h : ¬t.val % 4 = 3) (ht : t.val ≠ 0) :
    (outsAt0 m c t.val t.isLt).2.2.2.2.1 = (outsAt0 m c (t.val - 1) (Nat.lt_of_le_of_lt (Nat.sub_le _ _) t.isLt)).2.2.2.2.1 := by
  rcases kinds t with ⟨h0, h1⟩ | ⟨h0, h1⟩ | ⟨h0, h1, h2, h4⟩ | ⟨h0, h1, h2, h4⟩ | ⟨h0, h1, h2, h4⟩
  · rw [outsAt0_A m c t h0 h1]
    dsimp only [out0_A_12]
  · rw [outsAt0_B m c t h0 h1]
    dsimp only [out0_B_12]
  · exact absurd h1 h
  · exact absurd h1 h
  · exact absurd h1 h

end Cert.MlpIdeal.Math

end
-- ==== Proof.MlpValue.lean ====
/-
  The backward call of the squared-relu MLP: each of its five results is the reference's.
-/
module

public import proofs.«01_k».proof.Proof.MlpTile

@[expose] public section

set_option maxRecDepth 16384

noncomputable section

namespace Cert.MlpIdeal.Math

open Cert.MlpIdeal Cert.MlpIdeal.Gen Cert.RowNorm
open Cert.MlpRefIdeal.Math (tok hidden pre act dPre dHidden dGained dNormed rstd normed gained outF outDa outDx outDmod outDg act_apply pre_apply dPre_apply
  dHidden_apply dGained_apply dNormed_apply rstd_apply meanSq_apply normed_apply gained_apply outF_apply outDa_apply outDx_apply outDmod_apply outDg_apply)
open Idealize.ShloMosaic Idealize.ShloMosaic.TcCoe Idealize.SL.Sem
open Idealize.ShloMosaic.Pipeline (Dat)

variable (m : (ℓ : Loc nD τ sig) → Buf (Elt Ideal) ℓ)

/-- After the last block of a row tile the scratch holds the gradient at the modulated input. -/
theorem dh_eq (c : Dev nD) (t : Fin cfg0.N) (h : t.val % 4 = 3) (i : Fin 512) (d : Fin 1024) :
    (outsAt0 m c t.val t.isLt).2.2.2.2.2 (ix2 i d) = dHidden (aDm m c) (aX m c) (aMod m c) (aG m c) (aW1 m c) (aW2 m c) (tok (row t i) d) := by
  refine (Pipeline.eq_sum_fin_of_reset_step_apply_of_flush (fun n h (j : Fin 512 × Fin 1024) => ((outsAt0 m c n h).2.2.2.2.2 (ix2 j.1 j.2) : EReal)) 4
    (fun _ => 0) (fun t j => tileDh m c t j.1 j.2) (fun t h j => (scr_A m c t h j.1 j.2).trans (zero_add _).symm) (fun t h j => scr_step m c t h j.1 j.2)
    t h (i, d)).trans ?_
  rw [zero_add, dHidden_apply]
  refine Fin.sum_mul_add_congr fun s k hl => ?_
  have hs := s.isLt
  have hr : row ⟨4 * (t.val / 4) + s.val, Pipeline.run_point_lt_of_flush t h s⟩ i = row t i := by
    refine Fin.ext ?_
    show (4 * (t.val / 4) + s.val) / 4 * 512 + i.val = t.val / 4 * 512 + i.val
    rw [show (4 * (t.val / 4) + s.val) / 4 = t.val / 4 by omega]
  have hc : col ⟨4 * (t.val / 4) + s.val, Pipeline.run_point_lt_of_flush t h s⟩ k = ⟨s.val * 1024 + k.val, hl⟩ := by
    refine Fin.ext ?_
    show (4 * (t.val / 4) + s.val) % 4 * 1024 + k.val = s.val * 1024 + k.val
    rw [show (4 * (t.val / 4) + s.val) % 4 = s.val by omega]
  rw [hr, hc]
  rfl

/-- What the rows of a tile are, named as in the reference. -/
theorem tileRstd (c : Dev nD) (t : Fin cfg0.N) (i : Fin 512) : k0_pay3 (F := Ideal) (iblk m c 2 t) (ix2 i 0) = rstd (aX m c) (tok (row t i) 0) := by
  rw [pay3_apply, rstd_apply, meanSq_apply]
  exact congrArg (fun s => Ideal.rsqrt (Ideal.div s _ + _)) (Finset.sum_congr rfl fun d _ => congrArg₂ (· * ·) (blkX m c t i d) (blkX m c t i d))

theorem tileNormed (c : Dev nD) (t : Fin cfg0.N) (i : Fin 512) (d : Fin 1024) :
    k0_pay4 (F := Ideal) (iblk m c 2 t) (ix2 i d) = normed (aX m c) (tok (row t i) d) := by
  rw [pay4_apply, normed_apply]
  exact congrArg₂ (· * ·) (blkX m c t i d) (tileRstd m c t i)

theorem tileScale (c : Dev nD) (t : Fin cfg0.N) (i : Fin 512) (d : Fin 1024) :
    scale m c t (ix4 0 0 0 d) = aMod m c (ix4 ⟨(row t i).val / 2048, by have := (row t i).isLt; omega⟩ 1 4 d) := by
  have hb : (⟨(row t i).val / 2048, by have := (row t i).isLt; omega⟩ : Fin 4) = ⟨t.val / 16, by have := lt64 t; omega⟩ :=
    Fin.ext (by show (t.val / 4 * 512 + i.val) / 2048 = t.val / 16; have := i.isLt; omega)
  rw [hb, ← blkSc]
  refine congrArg (iblk m c 4 t) ?_
  funext a
  refine Fin.ext ?_
  match a with
  | ⟨0, _⟩ => rfl
  | ⟨1, _⟩ => rfl
  | ⟨2, _⟩ => rfl
  | ⟨3, _⟩ => show 0 + 1 * d.val = d.val; omega

theorem tileDGained (c : Dev nD) (t : Fin cfg0.N) (h : t.val % 4 = 3) (i : Fin 512) (d : Fin 1024) :
    k0_pay9 (F := Ideal) (outsAt0 m c t.val t.isLt).2.2.2.2.2 (scale m c t) (ix2 i d)
      = dGained (aDm m c) (aX m c) (aMod m c) (aG m c) (aW1 m c) (aW2 m c) (tok (row t i) d) := by
  rw [pay9_apply, dGained_apply]
  exact congrArg₂ (· * ·) (dh_eq m c t h i d) (congrArg (1 + ·) (tileScale m c t i d))

theorem tileDNormed (c : Dev nD) (t : Fin cfg0.N) (h : t.val % 4 = 3) (i : Fin 512) (d : Fin 1024) :
    k0_pay12 (F := Ideal) (iblk m c 5 t) (outsAt0 m c t.val t.isLt).2.2.2.2.2 (scale m c t) (ix2 i d)
      = dNormed (aDm m c) (aX m c) (aMod m c) (aG m c) (aW1 m c) (aW2 m c) (tok (row t i) d) := by
  rw [pay12_apply, dNormed_apply]
  exact congrArg₂ (· * ·) (tileDGained m c t h i d) (blkG m c t d)

theorem tileDx (c : Dev nD) (t : Fin cfg0.N) (h : t.val % 4 = 3) (i : Fin 512) (d : Fin 1024) :
    k0_pay2 (F := Ideal) (k0_pay3 (iblk m c 2 t)) (k0_pay4 (iblk m c 2 t))
      (k0_pay12 (iblk m c 5 t) (outsAt0 m c t.val t.isLt).2.2.2.2.2 (scale m c t)) (iblk m c 3 t) (ix2 i d)
      = outDx (aDm m c) (aX m c) (aDx m c) (aMod m c) (aG m c) (aW1 m c) (aW2 m c) (ix2 (row t i) d) := by
  rw [pay2_apply, outDx_apply]
  have hsum : (∑ k : Fin 1024, k0_pay12 (F := Ideal) (iblk m c 5 t) (outsAt0 m c t.val t.isLt).2.2.2.2.2 (scale m c t) (ix2 i k) * k0_pay4 (F := Ideal) (iblk m c 2 t) (ix2 i k))
      = ∑ k : Fin 1024, dNormed (aDm m c) (aX m c) (aMod m c) (aG m c) (aW1 m c) (aW2 m c) (tok (row t i) k) * normed (aX m c) (tok (row t i) k) :=
    Finset.sum_congr rfl fun k _ => congrArg₂ (· * ·) (tileDNormed m c t h i k) (tileNormed m c t i k)
  rw [tileDNormed m c t h i d, tileNormed m c t i d]
  exact congrArg₂ (· + ·) (blkDx m c t i d) (congrArg₂ (· * ·) (tileRstd m c t i)
    (congrArg (fun s => dNormed (aDm m c) (aX m c) (aMod m c) (aG m c) (aW1 m c) (aW2 m c) (tok (row t i) d) - normed (aX m c) (tok (row t i) d) * Ideal.div s _) hsum))

/-- Which blocks a grid point writes. -/
theorem idxOut : ∀ t : Fin cfg0.N, win0_8.index t = ![t.val / 4, t.val % 4] ∧ win0_9.index t = ![t.val / 4, t.val % 4] ∧ win0_10.index t = ![t.val / 4, 0]
    ∧ win0_11.index t = ![t.val / 16, 0, 0] ∧ win0_12.index t = ![0, 0] :=
  (by decide +kernel : ∀ t : Fin grid0.N, _)

theorem emb8 (t : Fin cfg0.N) (i : Fin 512) (k : Fin 1024) : (win0_8.blk t).view.emb (ix2 i k : S512x1024.Idx) = (ix2 (row t i) (col t k) : S8192x4096.Idx) := by
  blk_ext [idxOut t]

theorem emb9 (t : Fin cfg0.N) (i : Fin 512) (k : Fin 1024) : (win0_9.blk t).view.emb (ix2 i k : S512x1024.Idx) = (ix2 (row t i) (col t k) : S8192x4096.Idx) := by
  blk_ext [idxOut t]

theorem emb10 (t : Fin cfg0.N) (i : Fin 512) (d : Fin 1024) : (win0_10.blk t).view.emb (ix2 i d : S512x1024.Idx) = (ix2 (row t i) d : S8192x1024.Idx) := by
  blk_ext [idxOut t]

theorem emb11 (t : Fin cfg0.N) (p : Fin 2) (d : Fin 1024) :
    (win0_11.blk t).view.emb (ix3 0 p d : S1x2x1024.Idx) = (ix3 ⟨t.val / 16, by have := lt64 t; omega⟩ p d : S4x2x1024.Idx) := by
  blk_ext [idxOut t]

theorem eta2 {a b : ℕ} (y : (⟨2, ![a, b]⟩ : Shape).Idx) : ∃ (i : Fin a) (k : Fin b), y = ix2 i k :=
  ⟨y 0, y 1, by funext q; match q with | ⟨0, _⟩ => rfl | ⟨1, _⟩ => rfl⟩

theorem eta3 {a b e : ℕ} (y : (⟨3, ![a, b, e]⟩ : Shape).Idx) : ∃ (i : Fin a) (k : Fin b) (l : Fin e), y = ix3 i k l :=
  ⟨y 0, y 1, y 2, by funext q; match q with | ⟨0, _⟩ => rfl | ⟨1, _⟩ => rfl | ⟨2, _⟩ => rfl⟩

theorem final8 (c : Dev nD) : (dats m 0 c).arrAt 8 cfg0.N = outF (aX m c) (aMod m c) (aG m c) (aW1 m c) := by
  refine (dats m 0 c).arrAt_eq_of_covers 8 _ (by decide +kernel) fun t hf y => ?_
  blk_simp
  obtain ⟨i, k, rfl⟩ := eta2 (a := 512) (b := 1024) y
  rw [after0_8, out8, emb8, outF_apply, pay14_apply]
  exact congrArg₂ (· * ·) (tileAct m c t i k) (tileAct m c t i k)

theorem final9 (c : Dev nD) : (dats m 0 c).arrAt 9 cfg0.N = outDa (aDm m c) (aX m c) (aMod m c) (aG m c) (aW1 m c) (aW2 m c) := by
  refine (dats m 0 c).arrAt_eq_of_covers 9 _ (by decide +kernel) fun t hf y => ?_
  blk_simp
  obtain ⟨i, k, rfl⟩ := eta2 (a := 512) (b := 1024) y
  rw [after0_9, out9, emb9, outDa_apply]
  exact tileDa m c t i k

theorem final10 (c : Dev nD) : (dats m 0 c).arrAt 10 cfg0.N = outDx (aDm m c) (aX m c) (aDx m c) (aMod m c) (aG m c) (aW1 m c) (aW2 m c) := by
  refine (dats m 0 c).arrAt_eq_of_covers 10 _ (by decide +kernel) fun t hf y => ?_
  blk_simp
  have h := (flush0_10 t).mp hf
  obtain ⟨i, k, rfl⟩ := eta2 (a := 512) (b := 1024) y
  rw [after0_10, out10 m c t h, emb10]
  exact tileDx m c t h i k

theorem outs_congr (c : Dev nD) {a b : ℕ} (e : a = b) (ha : a < cfg0.N) (hb : b < cfg0.N) : outsAt0 m c a ha = outsAt0 m c b hb := by
  subst e; rfl

/-- Between the last block of one row tile and the last block of the next, the two accumulated blocks are carried along. -/
theorem mod_carry4 (c : Dev nD) (t : Fin cfg0.N) (h : t.val % 4 = 3) (ht : 4 ≤ t.val) (hb : t.val - 1 < cfg0.N) (hb' : t.val - 4 < cfg0.N) :
    (outsAt0 m c (t.val - 1) hb).2.2.2.1 = (outsAt0 m c (t.val - 4) hb').2.2.2.1 := by
  have e1 := mod_carry m c ⟨t.val - 1, hb⟩ (by show ¬(t.val - 1) % 4 = 3; omega) (by show t.val - 1 ≠ 0; omega)
  have e2 := mod_carry m c ⟨t.val - 1 - 1, by omega⟩ (by show ¬(t.val - 1 - 1) % 4 = 3; omega) (by show t.val - 1 - 1 ≠ 0; omega)
  have e3 := mod_carry m c ⟨t.val - 1 - 1 - 1, by omega⟩ (by show ¬(t.val - 1 - 1 - 1) % 4 = 3; omega) (by show t.val - 1 - 1 - 1 ≠ 0; omega)
  exact e1.trans (e2.trans (e3.trans (congrArg (fun p => p.2.2.2.1) (outs_congr m c (show t.val - 1 - 1 - 1 - 1 = t.val - 4 by omega) _ _))))

theorem gain_carry4 (c : Dev nD) (t : Fin cfg0.N) (h : t.val % 4 = 3) (ht : 4 ≤ t.val) (hb : t.val - 1 < cfg0.N) (hb' : t.val - 4 < cfg0.N) :
    (outsAt0 m c (t.val - 1) hb).2.2.2.2.1 = (outsAt0 m c (t.val - 4) hb').2.2.2.2.1 := by
  have e1 := gain_carry m c ⟨t.val - 1, hb⟩ (by show ¬(t.val - 1) % 4 = 3; omega) (by show t.val - 1 ≠ 0; omega)
  have e2 := gain_carry m c ⟨t.val - 1 - 1, by omega⟩ (by show ¬(t.val - 1 - 1) % 4 = 3; omega) (by show t.val - 1 - 1 ≠ 0; omega)
  have e3 := gain_carry m c ⟨t.val - 1 - 1 - 1, by omega⟩ (by show ¬(t.val - 1 - 1 - 1) % 4 = 3; omega) (by show t.val - 1 - 1 - 1 ≠ 0; omega)
  exact e1.trans (e2.trans (e3.trans (congrArg (fun p => p.2.2.2.2.1) (outs_congr m c (show t.val - 1 - 1 - 1 - 1 = t.val - 4 by omega) _ _))))

/-- The last point of row tile `q`. -/
abbrev lastOf (q : Fin 16) : Fin cfg0.N := ⟨4 * q.val + 3, by show 4 * q.val + 3 < 64; have := q.isLt; omega⟩

theorem lastOf_lt (n : ℕ) (h : n < 16) : 4 * n + 3 < cfg0.N := by show 4 * n + 3 < 64; omega

theorem shift_sum (c : Dev nD) (q : Fin 16) (hq : q.val % 4 = 3) (d : Fin 1024) :
    (outsAt0 m c (4 * q.val + 3) (lastOf q).isLt).2.2.2.1 (ix3 0 0 d)
      = ∑ s : Fin 4, ∑ r : Fin 512, dHidden (aDm m c) (aX m c) (aMod m c) (aG m c) (aW1 m c) (aW2 m c) (tok (row (lastOf ⟨4 * (q.val / 4) + s.val, Pipeline.run_point_lt_of_flush q hq s⟩) r) d) := by
  refine (Pipeline.eq_sum_fin_of_reset_step_apply_of_flush (N := 16)
    (fun n h (d : Fin 1024) => ((outsAt0 m c (4 * n + 3) (lastOf_lt n h)).2.2.2.1 (ix3 0 0 d) : EReal)) 4
    (fun _ => 0) (fun q d => ∑ r : Fin 512, dHidden (aDm m c) (aX m c) (aMod m c) (aG m c) (aW1 m c) (aW2 m c) (tok (row (lastOf q) r) d)) ?_ ?_ q hq d).trans (zero_add _)
  · intro q h d
    have h2 : (4 * q.val + 3) % 16 = 0 ∨ (4 * q.val + 3) % 16 = 1 ∨ (4 * q.val + 3) % 16 = 2 ∨ (4 * q.val + 3) % 16 = 3 := by omega
    have key : (outsAt0 m c (4 * q.val + 3) (lastOf q).isLt).2.2.2.1 (ix3 0 0 d)
        = 0 + ∑ r : Fin 512, (outsAt0 m c (4 * q.val + 3) (lastOf q).isLt).2.2.2.2.2 (ix2 r d) := by
      by_cases h4 : 4 * q.val + 3 < 4
      · exact shift_C m c (lastOf q) (by show ¬(4 * q.val + 3) % 4 = 0; omega) (by show (4 * q.val + 3) % 4 = 3; omega) h2 h4 d
      · exact shift_E m c (lastOf q) (by show ¬(4 * q.val + 3) % 4 = 0; omega) (by show (4 * q.val + 3) % 4 = 3; omega) h2 h4 d
    exact key.trans (congrArg (0 + ·) (Finset.sum_congr rfl fun r _ => dh_eq m c (lastOf q) (by show (4 * q.val + 3) % 4 = 3; omega) r d))
  · intro q h d
    have h2 : ¬((4 * q.val + 3) % 16 = 0 ∨ (4 * q.val + 3) % 16 = 1 ∨ (4 * q.val + 3) % 16 = 2 ∨ (4 * q.val + 3) % 16 = 3) := by omega
    refine (shift_D m c (lastOf q) (by show ¬(4 * q.val + 3) % 4 = 0; omega) (by show (4 * q.val + 3) % 4 = 3; omega) h2
      (by show ¬(4 * q.val + 3) < 4; omega) d).trans ?_
    refine congrArg₂ (· + ·) (congrFun ?_ _) (Finset.sum_congr rfl fun r _ => dh_eq m c (lastOf q) (by show (4 * q.val + 3) % 4 = 3; omega) r d)
    exact (mod_carry4 m c (lastOf q) (by show (4 * q.val + 3) % 4 = 3; omega) (by show 4 ≤ 4 * q.val + 3; omega) _
      (Nat.lt_of_le_of_lt (Nat.sub_le _ _) (lastOf q).isLt)).trans (congrArg (fun p => p.2.2.2.1) (outs_congr m c (by show 4 * q.val + 3 - 4 = 4 * (q.val - 1) + 3; omega) _ _))

theorem scaleTerm (c : Dev nD) (q : Fin 16) (d : Fin 1024) :
    (∑ r : Fin 512, (outsAt0 m c (lastOf q).val (lastOf q).isLt).2.2.2.2.2 (ix2 r d)
        * (k0_pay4 (F := Ideal) (iblk m c 2 (lastOf q)) (ix2 r d) * iblk m c 5 (lastOf q) (ix2 0 d)) : EReal)
      = ∑ r : Fin 512, gained (aX m c) (aG m c) (tok (row (lastOf q) r) d) * dHidden (aDm m c) (aX m c) (aMod m c) (aG m c) (aW1 m c) (aW2 m c) (tok (row (lastOf q) r) d) := by
  refine Finset.sum_congr rfl fun r _ => ?_
  rw [gained_apply]
  exact (congrArg₂ (· * ·) (dh_eq m c (lastOf q) (by show (4 * q.val + 3) % 4 = 3; omega) r d) (congrArg₂ (· * ·) (tileNormed m c (lastOf q) r d) (blkG m c (lastOf q) d))).trans (mul_comm _ _)

theorem scale_sum (c : Dev nD) (q : Fin 16) (hq : q.val % 4 = 3) (d : Fin 1024) :
    (outsAt0 m c (4 * q.val + 3) (lastOf q).isLt).2.2.2.1 (ix3 0 1 d)
      = ∑ s : Fin 4, ∑ r : Fin 512, gained (aX m c) (aG m c) (tok (row (lastOf ⟨4 * (q.val / 4) + s.val, Pipeline.run_point_lt_of_flush q hq s⟩) r) d)
        * dHidden (aDm m c) (aX m c) (aMod m c) (aG m c) (aW1 m c) (aW2 m c) (tok (row (lastOf ⟨4 * (q.val / 4) + s.val, Pipeline.run_point_lt_of_flush q hq s⟩) r) d) := by
  refine (Pipeline.eq_sum_fin_of_reset_step_apply_of_flush (N := 16)
    (fun n h (d : Fin 1024) => ((outsAt0 m c (4 * n + 3) (lastOf_lt n h)).2.2.2.1 (ix3 0 1 d) : EReal)) 4
    (fun _ => 0) (fun q d => ∑ r : Fin 512, gained (aX m c) (aG m c) (tok (row (lastOf q) r) d) * dHidden (aDm m c) (aX m c) (aMod m c) (aG m c) (aW1 m c) (aW2 m c) (tok (row (lastOf q) r) d)) ?_ ?_ q hq d).trans (zero_add _)
  · intro q h d
    have h2 : (4 * q.val + 3) % 16 = 0 ∨ (4 * q.val + 3) % 16 = 1 ∨ (4 * q.val + 3) % 16 = 2 ∨ (4 * q.val + 3) % 16 = 3 := by omega
    have key : (outsAt0 m c (4 * q.val + 3) (lastOf q).isLt).2.2.2.1 (ix3 0 1 d)
        = 0 + ∑ r : Fin 512, (outsAt0 m c (lastOf q).val (lastOf q).isLt).2.2.2.2.2 (ix2 r d)
        * (k0_pay4 (F := Ideal) (iblk m c 2 (lastOf q)) (ix2 r d) * iblk m c 5 (lastOf q) (ix2 0 d)) := by
      by_cases h4 : 4 * q.val + 3 < 4
      · exact scale_C m c (lastOf q) (by show ¬(4 * q.val + 3) % 4 = 0; omega) (by show (4 * q.val + 3) % 4 = 3; omega) h2 h4 d
      · exact scale_E m c (lastOf q) (by show ¬(4 * q.val + 3) % 4 = 0; omega) (by show (4 * q.val + 3) % 4 = 3; omega) h2 h4 d
    exact key.trans (congrArg (0 + ·) (scaleTerm m c q d))
  · intro q h d
    have h2 : ¬((4 * q.val + 3) % 16 = 0 ∨ (4 * q.val + 3) % 16 = 1 ∨ (4 * q.val + 3) % 16 = 2 ∨ (4 * q.val + 3) % 16 = 3) := by omega
    refine (scale_D m c (lastOf q) (by show ¬(4 * q.val + 3) % 4 = 0; omega) (by show (4 * q.val + 3) % 4 = 3; omega) h2
      (by show ¬(4 * q.val + 3) < 4; omega) d).trans ?_
    refine congrArg₂ (· + ·) (congrFun ?_ _) (scaleTerm m c q d)
    exact (mod_carry4 m c (lastOf q) (by show (4 * q.val + 3) % 4 = 3; omega) (by show 4 ≤ 4 * q.val + 3; omega) _
      (Nat.lt_of_le_of_lt (Nat.sub_le _ _) (lastOf q).isLt)).trans (congrArg (fun p => p.2.2.2.1) (outs_congr m c (by show 4 * q.val + 3 - 4 = 4 * (q.val - 1) + 3; omega) _ _))

theorem gain_sum (c : Dev nD) (q : Fin 16) (hq : q.val % 16 = 15) (d : Fin 1024) :
    (outsAt0 m c (4 * q.val + 3) (lastOf q).isLt).2.2.2.2.1 (ix2 0 d)
      = ∑ s : Fin 16, ∑ r : Fin 512, normed (aX m c) (tok (row (lastOf ⟨16 * (q.val / 16) + s.val, Pipeline.run_point_lt_of_flush q hq s⟩) r) d)
        * dGained (aDm m c) (aX m c) (aMod m c) (aG m c) (aW1 m c) (aW2 m c) (tok (row (lastOf ⟨16 * (q.val / 16) + s.val, Pipeline.run_point_lt_of_flush q hq s⟩) r) d) := by
  have term : ∀ (q : Fin 16) (d : Fin 1024),
      (∑ r : Fin 512, k0_pay9 (F := Ideal) (outsAt0 m c (lastOf q).val (lastOf q).isLt).2.2.2.2.2 (scale m c (lastOf q)) (ix2 r d)
        * k0_pay4 (F := Ideal) (iblk m c 2 (lastOf q)) (ix2 r d) : EReal)
        = ∑ r : Fin 512, normed (aX m c) (tok (row (lastOf q) r) d) * dGained (aDm m c) (aX m c) (aMod m c) (aG m c) (aW1 m c) (aW2 m c) (tok (row (lastOf q) r) d) := fun q d =>
    Finset.sum_congr rfl fun r _ => (congrArg₂ (· * ·) (tileDGained m c (lastOf q) (by show (4 * q.val + 3) % 4 = 3; omega) r d) (tileNormed m c (lastOf q) r d)).trans (mul_comm _ _)
  refine (Pipeline.eq_sum_fin_of_reset_step_apply_of_flush (N := 16)
    (fun n h (d : Fin 1024) => ((outsAt0 m c (4 * n + 3) (lastOf_lt n h)).2.2.2.2.1 (ix2 0 d) : EReal)) 16
    (fun _ => 0) (fun q d => ∑ r : Fin 512, normed (aX m c) (tok (row (lastOf q) r) d) * dGained (aDm m c) (aX m c) (aMod m c) (aG m c) (aW1 m c) (aW2 m c) (tok (row (lastOf q) r) d)) ?_ ?_ q hq d).trans (zero_add _)
  · intro q h d
    have hq := q.isLt
    exact (gain_C m c (lastOf q) (by show ¬(4 * q.val + 3) % 4 = 0; omega) (by show (4 * q.val + 3) % 4 = 3; omega)
      (by show (4 * q.val + 3) % 16 = 0 ∨ (4 * q.val + 3) % 16 = 1 ∨ (4 * q.val + 3) % 16 = 2 ∨ (4 * q.val + 3) % 16 = 3; omega)
      (by show 4 * q.val + 3 < 4; omega) d).trans (congrArg (0 + ·) (term q d))
  · intro q h d
    have key : (outsAt0 m c (4 * q.val + 3) (lastOf q).isLt).2.2.2.2.1 (ix2 0 d)
        = (outsAt0 m c ((lastOf q).val - 1) (Nat.lt_of_le_of_lt (Nat.sub_le _ _) (lastOf q).isLt)).2.2.2.2.1 (ix2 0 d)
          + ∑ r : Fin 512, k0_pay9 (F := Ideal) (outsAt0 m c (lastOf q).val (lastOf q).isLt).2.2.2.2.2 (scale m c (lastOf q)) (ix2 r d)
            * k0_pay4 (F := Ideal) (iblk m c 2 (lastOf q)) (ix2 r d) := by
      by_cases h2 : (4 * q.val + 3) % 16 = 0 ∨ (4 * q.val + 3) % 16 = 1 ∨ (4 * q.val + 3) % 16 = 2 ∨ (4 * q.val + 3) % 16 = 3
      · exact gain_E m c (lastOf q) (by show ¬(4 * q.val + 3) % 4 = 0; omega) (by show (4 * q.val + 3) % 4 = 3; omega) h2 (by show ¬(4 * q.val + 3) < 4; omega) d
      · exact gain_D m c (lastOf q) (by show ¬(4 * q.val + 3) % 4 = 0; omega) (by show (4 * q.val + 3) % 4 = 3; omega) h2 (by show ¬(4 * q.val + 3) < 4; omega) d
    refine key.trans (congrArg₂ (· + ·) (congrFun ?_ _) (term q d))
    exact (gain_carry4 m c (lastOf q) (by show (4 * q.val + 3) % 4 = 3; omega) (by show 4 ≤ 4 * q.val + 3; omega) _
      (Nat.lt_of_le_of_lt (Nat.sub_le _ _) (lastOf q).isLt)).trans (congrArg (fun p => p.2.2.2.2.1) (outs_congr m c (by show 4 * q.val + 3 - 4 = 4 * (q.val - 1) + 3; omega) _ _))

/-- Row `r` of a batch's `s`-th tile is position `512 s + r` of that batch. -/
theorem tok_batch (b : Fin 4) (s : Fin 4) (r : Fin 512) (d : Fin 1024) (q : Fin 16) (hq : q.val = 4 * b.val + s.val) (h : s.val * 512 + r.val < 2048) :
    (tok (row (lastOf q) r) d : (⟨3, ![4, 2048, 1024]⟩ : Shape).Idx) = ix3 b ⟨s.val * 512 + r.val, h⟩ d := by
  have hs := s.isLt; have hr := r.isLt
  have h1 : (row (lastOf q) r).val = q.val * 512 + r.val := by show (4 * q.val + 3) / 4 * 512 + r.val = _; omega
  have e0 : (⟨(row (lastOf q) r).val / 2048, by have := (row (lastOf q) r).isLt; omega⟩ : Fin 4) = b := Fin.ext (by show (row (lastOf q) r).val / 2048 = _; omega)
  have e1 : (⟨(row (lastOf q) r).val % 2048, Nat.mod_lt _ (by decide)⟩ : Fin 2048) = ⟨s.val * 512 + r.val, h⟩ := Fin.ext (by show (row (lastOf q) r).val % 2048 = s.val * 512 + r.val; omega)
  show ix3 _ _ d = _
  rw [e0, e1]

theorem final11 (c : Dev nD) : (dats m 0 c).arrAt 11 cfg0.N = outDmod (aDm m c) (aX m c) (aMod m c) (aG m c) (aW1 m c) (aW2 m c) := by
  refine (dats m 0 c).arrAt_eq_of_covers 11 _ (by decide +kernel) fun t hf y => ?_
  blk_simp
  have h := (flush0_11 t).mp hf
  have ht := lt64 t
  obtain ⟨z, p, d, rfl⟩ := eta3 (a := 1) (b := 2) (e := 1024) y
  obtain rfl : z = 0 := Subsingleton.elim _ _
  rw [after0_11, emb11, outDmod_apply]
  have hq : (⟨t.val / 4, by omega⟩ : Fin 16).val % 4 = 3 := by show t.val / 4 % 4 = 3; omega
  have ho := outs_congr m c (show t.val = 4 * (⟨t.val / 4, by omega⟩ : Fin 16).val + 3 by show t.val = 4 * (t.val / 4) + 3; omega) t.isLt (lastOf ⟨t.val / 4, by omega⟩).isLt
  rw [ho]
  match p with
  | ⟨0, _⟩ =>
    refine Eq.trans ?_ (if_pos (show (0 : ℕ) < 1 by decide)).symm
    refine (shift_sum m c ⟨t.val / 4, by omega⟩ hq d).trans ?_
    refine Fin.sum_mul_add_congr fun s r hl => ?_
    rw [tok_batch ⟨t.val / 16, by omega⟩ s r d _ (by show 4 * (t.val / 4 / 4) + s.val = 4 * (t.val / 16) + s.val; omega) hl]
    rfl
  | ⟨1, _⟩ =>
    refine Eq.trans ?_ (if_neg (show ¬(1 : ℕ) < 1 by decide)).symm
    refine (scale_sum m c ⟨t.val / 4, by omega⟩ hq d).trans ?_
    refine Fin.sum_mul_add_congr fun s r hl => ?_
    rw [tok_batch ⟨t.val / 16, by omega⟩ s r d _ (by show 4 * (t.val / 4 / 4) + s.val = 4 * (t.val / 16) + s.val; omega) hl]
    rfl

theorem final12 (c : Dev nD) : (dats m 0 c).arrAt 12 cfg0.N = outDg (aDm m c) (aX m c) (aMod m c) (aG m c) (aW1 m c) (aW2 m c) := by
  refine (dats m 0 c).arrAt_eq_of_covers 12 _ (by decide +kernel) fun t hf y => ?_
  blk_simp
  have h := (flush0_12 t).mp hf
  have ht := lt64 t
  obtain ⟨z, d, rfl⟩ := eta2 (a := 1) (b := 1024) y
  obtain rfl : z = 0 := Subsingleton.elim _ _
  have e : (win0_12.blk t).view.emb (ix2 0 d : S1x1024.Idx) = (ix2 0 d : S1x1024.Idx) := by blk_ext [idxOut t]
  rw [after0_12, e, outDg_apply]
  have ho := outs_congr m c (show t.val = 4 * (15 : Fin 16).val + 3 by show t.val = 4 * 15 + 3; omega) t.isLt (lastOf 15).isLt
  rw [ho]
  refine (gain_sum m c 15 rfl d).trans ?_
  refine (Fin.sum_mul_add_congr (f := fun l : Fin 8192 => (normed (aX m c) (tok l d) * dGained (aDm m c) (aX m c) (aMod m c) (aG m c) (aW1 m c) (aW2 m c) (tok l d) : EReal)) fun s r hl => ?_).trans
    (Fin.sum_mul_add_congr fun b n hl => ?_).symm
  · have hr : row (lastOf ⟨16 * ((15 : Fin 16).val / 16) + s.val, Pipeline.run_point_lt_of_flush 15 rfl s⟩) r = ⟨s.val * 512 + r.val, hl⟩ := by
      refine Fin.ext ?_
      show (4 * (16 * (15 / 16) + s.val) + 3) / 4 * 512 + r.val = s.val * 512 + r.val
      omega
    rw [hr]
  · have ht : (tok ⟨b.val * 2048 + n.val, hl⟩ d : (⟨3, ![4, 2048, 1024]⟩ : Shape).Idx) = ix3 b n d := by
      have hb := b.isLt; have hn := n.isLt
      have e0 : (⟨(b.val * 2048 + n.val) / 2048, by omega⟩ : Fin 4) = b := Fin.ext (by show (b.val * 2048 + n.val) / 2048 = _; omega)
      have e1 : (⟨(b.val * 2048 + n.val) % 2048, Nat.mod_lt _ (by decide)⟩ : Fin 2048) = n := Fin.ext (by show (b.val * 2048 + n.val) % 2048 = _; omega)
      show ix3 _ _ d = _
      rw [e0, e1]
    rw [ht]
    rfl

end Cert.MlpIdeal.Math

end
-- ==== Proof.MixPostPay.lean ====
/-
  The backward call of the mixing branch's last steps, one grid point at a time: what each value the body stores is at an index, over
  the extended reals.
-/
module

public import proofs.«01_k».proof.Proof.Gen.MixPostIdeal.Skeleton
public import Idealize.ShloMosaic.Lib.Pointwise
public import proofs.«01_k».proof.Proof.RowNorm

@[expose] public section

set_option maxRecDepth 16384

noncomputable section

namespace Cert.MixPostIdeal.Math

open Cert.MixPostIdeal Cert.MixPostIdeal.Gen Cert.RowNorm
open Idealize.ShloMosaic Idealize.ShloMosaic.TcCoe Idealize.SL.Sem

/-- The word that says whether a tile holds latent tokens. -/
theorem latWord : ∀ t : Fin grid0.N,
    (Scalar.extui (Scalar.cmpi .ne (Scalar.select (Scalar.andi (Scalar.xori (Scalar.cmpi .slt (Scalar.remsi (BitVec.ofNat 32 (grid0.coords t 0).val) (Scalar.select (Scalar.cmpi .eq 9#32 0#32) 1#32 9#32)) 0#32) (Scalar.cmpi .slt (Scalar.select (Scalar.cmpi .eq 9#32 0#32) 1#32 9#32) 0#32)) (Scalar.cmpi .ne (Scalar.remsi (BitVec.ofNat 32 (grid0.coords t 0).val) (Scalar.select (Scalar.cmpi .eq 9#32 0#32) 1#32 9#32)) 0#32)) (Scalar.addi (Scalar.remsi (BitVec.ofNat 32 (grid0.coords t 0).val) (Scalar.select (Scalar.cmpi .eq 9#32 0#32) 1#32 9#32)) (Scalar.select (Scalar.cmpi .eq 9#32 0#32) 1#32 9#32)) (Scalar.remsi (BitVec.ofNat 32 (grid0.coords t 0).val) (Scalar.select (Scalar.cmpi .eq 9#32 0#32) 1#32 9#32))) 0#32) : BitVec 32)
      = if t.val % 9 = 0 then 0#32 else 1#32 := by
  decide +kernel

/-- One for a tile of latent tokens, zero for a tile of the context. -/
theorem pay3_eq (t : Fin grid0.N) : k0_pay3 (F := Ideal) (grid0.coords t) = if t.val % 9 = 0 then 0 else 1 := by
  refine (congrArg (fun b : BitVec 32 => (Scalar.sitofp .f32 b : Ideal .f32)) (latWord t)).trans ?_
  split_ifs
  · show ((((0#32 : BitVec 32).toInt : ℝ)) : EReal) = 0
    simp
  · show ((((1#32 : BitVec 32).toInt : ℝ)) : EReal) = 1
    rw [show (1#32 : BitVec 32).toInt = 1 from by decide]; simp

/-- The incoming gradient, zero in the context. -/
theorem pay4_apply (i : grid0.Coords) (v : Vec Ideal S256x1024 .f32) (j : S256x1024.Idx) :
    k0_pay4 (F := Ideal) i v j = v j * k0_pay3 (F := Ideal) i := by pointwise [k0_pay4]

/-- The reciprocal root mean square of a row. -/
theorem pay5_apply (x : Vec Ideal S256x1024 .f32) (j : S256x1.Idx) :
    k0_pay5 (F := Ideal) x j
      = Ideal.rsqrt (Ideal.div (∑ k : Fin 1024, x (ix2 (j 0) k) * x (ix2 (j 0) k)) (Ideal.ofBits .f32 0x44800000#32) + Ideal.ofBits .f32 0x358637BD#32) := by
  pointwise [k0_pay5]

/-- The normalised row. -/
theorem pay6_apply (x : Vec Ideal S256x1024 .f32) (j : S256x1024.Idx) :
    k0_pay6 (F := Ideal) x j = x j * k0_pay5 (F := Ideal) x (ix2 (j 0) 0) := by
  pointwise [k0_pay6]

/-- The gate's row. -/
theorem pay7_apply (v : Vec Ideal S1x1x1x1024 .f32) (j : S1x1024.Idx) : k0_pay7 (F := Ideal) v j = v (ix4 0 0 0 (j 1)) := by
  pointwise [k0_pay7]

/-- The tile's share of the gate's gradient. -/
theorem pay8_apply (i : grid0.Coords) (v : Vec Ideal S256x1024 .f32) (x : Vec Ideal S256x1024 .f32) (g : Vec Ideal S1x1024 .f32) (j : S1x1024.Idx) :
    k0_pay8 (F := Ideal) i v x g j
      = ∑ r : Fin 256, k0_pay4 (F := Ideal) i v (ix2 r (j 1)) * k0_pay6 (F := Ideal) x (ix2 r (j 1)) * g (ix2 0 (j 1)) := by
  pointwise [k0_pay8]

theorem pay9_apply (j : S1x1x1024.Idx) : k0_pay9 (F := Ideal) j = 0 := by pointwise [k0_pay9]

theorem pay10_apply (v : FVec Ideal S1x1024 .f32) (acc : Vec Ideal S1x1x1024 .f32) (j : S1x1x1024.Idx) :
    k0_pay10 (F := Ideal) v acc j = acc j + v (ix2 0 (j 2)) := by pointwise [k0_pay10]

theorem pay11_apply (j : S1x1024.Idx) : k0_pay11 (F := Ideal) j = 0 := by pointwise [k0_pay11]

/-- The gain's gradient grows by the tile's rows. -/
theorem pay12_apply (dy xn : FVec Ideal S256x1024 .f32) (ga : FVec Ideal S1x1024 .f32) (acc : Vec Ideal S1x1024 .f32) (j : S1x1024.Idx) :
    k0_pay12 (F := Ideal) dy xn ga acc j = acc j + ∑ r : Fin 256, dy (ix2 r (j 1)) * ga (ix2 0 (j 1)) * xn (ix2 r (j 1)) := by
  pointwise [k0_pay12]

theorem pay13_apply (dy : FVec Ideal S256x1024 .f32) (ga : FVec Ideal S1x1024 .f32) (g : Vec Ideal S1x1024 .f32) (j : S256x1024.Idx) :
    k0_pay13 (F := Ideal) dy ga g j = dy j * ga (ix2 0 (j 1)) * g (ix2 0 (j 1)) := by
  pointwise [k0_pay13]

theorem pay14_apply (dy xn : FVec Ideal S256x1024 .f32) (ga : FVec Ideal S1x1024 .f32) (g : Vec Ideal S1x1024 .f32) (j : S256x1024.Idx) :
    k0_pay14 (F := Ideal) dy xn ga g j = k0_pay13 (F := Ideal) dy ga g j * xn j := by
  pointwise [k0_pay14]

/-- The gradient at the mixed tokens. -/
theorem pay1_apply (l : Ideal .f32) (s : FVec Ideal S256x1 .f32) (xn d p : FVec Ideal S256x1024 .f32) (j : S256x1024.Idx) :
    k0_pay1 (F := Ideal) l s xn d p j
      = s (ix2 (j 0) 0) * (d j - xn j * Ideal.div (∑ k : Fin 1024, p (ix2 (j 0) k)) (Ideal.ofBits .f32 0x44800000#32)) * l := by
  pointwise [k0_pay1]

/-- Its product with the transposed output weight. -/
theorem pay2_apply (l : Ideal .f32) (s : FVec Ideal S256x1 .f32) (xn d p : FVec Ideal S256x1024 .f32) (w : Vec Ideal S1024x1024 .bf16) (j : S256x1024.Idx) :
    k0_pay2 (F := Ideal) l s xn d p w j = ∑ k : Fin 1024, k0_pay1 (F := Ideal) l s xn d p (ix2 (j 0) k) * w (ix2 (j 1) k) := by
  pointwise [k0_pay2]

end Cert.MixPostIdeal.Math

end
-- ==== Proof.MixPostRef.lean ====
/-
  The reference of the mixing branch's last steps, backward, at an index: the gate, the root-mean-square normalisation and the output
  product, and what differentiating them gives.
-/
module

public import proofs.«01_k».proof.Proof.Gen.MixPostRefIdeal.Run
public import proofs.«01_k».proof.Proof.RowNorm
public import proofs.«01_k».proof.Proof.Sums
public import Idealize.ShloMosaic.Lib.Pointwise

@[expose] public section

set_option maxRecDepth 16384

noncomputable section

namespace Cert.MixPostRefIdeal.Math

open Cert.MixPostRefIdeal Cert.MixPostRefIdeal.Gen Cert.MixPostRefIdeal.Value
open Idealize.ShloMosaic Idealize.ShloMosaic.TcCoe Idealize.SL.Sem
open Cert.RowNorm

/-- The mean square of each token, with the small constant. -/
def meanSq (x : FVec Ideal S8192x1024 .f32) : FVec Ideal S4x2048x1 .f32 :=
  (addf (Host.divf (broadcastInDim S4x2048x1 ![0, 1] bcast_S4x2048_S4x2048x1_0_1 (Host.reduceAdd (mulf (shapeCast S4x2048x1024 x shapeCasts_S8192x1024_S4x2048x1024) (shapeCast S4x2048x1024 x shapeCasts_S8192x1024_S4x2048x1024)) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))

/-- The reciprocal root mean square. -/
def rstd (x : FVec Ideal S8192x1024 .f32) : FVec Ideal S4x2048x1 .f32 :=
  (Host.rsqrt (meanSq x))

/-- The derivative of the reciprocal root. -/
def rstdGrad (x : FVec Ideal S8192x1024 .f32) : FVec Ideal S4x2048x1 .f32 :=
  (mulf (broadcastInDim S4x2048x1 ![] bcast_S_S4x2048x1 (constant (F := Ideal) S_ .f32 0xBF000000#32)) (Host.divf (rstd x) (meanSq x)))

/-- The normalised tokens. -/
def normed (x : FVec Ideal S8192x1024 .f32) : FVec Ideal S4x2048x1024 .f32 :=
  (mulf (shapeCast S4x2048x1024 x shapeCasts_S8192x1024_S4x2048x1024) (broadcastInDim S4x2048x1024 ![0, 1, 2] bcast_S4x2048x1_S4x2048x1024_0_1_2 (rstd x)))

/-- … with the gain. -/
def gained (x : FVec Ideal S8192x1024 .f32) (g : FVec Ideal S1x1024 .f32) : FVec Ideal S4x2048x1024 .f32 :=
  (mulf (normed x) (broadcastInDim S4x2048x1024 ![0, 1, 2] bcast_S1x1x1024_S4x2048x1024_0_1_2 (broadcastInDim S1x1x1024 ![2] bcast_S1024_S1x1x1024_2 (shapeCast S1024 g shapeCasts_S1x1024_S1024))))

/-- The gradient at the tokens with the gain. -/
def dGained (dy : FVec Ideal S8192x1024 .f32) (mo : FVec Ideal S4x2x6x1024 .f32) : FVec Ideal S4x2048x1024 .f32 :=
  (mulf (broadcastInDim S4x2048x1024 ![0, 1, 2] bcast_S4x1x1024_S4x2048x1024_0_1_2 (shapeCast S4x1x1024 (extractStridedSlice S4x1x1x1024 ![0, 1, 2, 0] mo slices_S4x2x6x1024_S4x1x1x1024_0_1_2_0) shapeCasts_S4x1x1x1024_S4x1x1024)) (shapeCast S4x2048x1024 dy shapeCasts_S8192x1024_S4x2048x1024))

/-- The gradient at the gate. -/
def outDgate (dy : FVec Ideal S8192x1024 .f32) (x : FVec Ideal S8192x1024 .f32) (g : FVec Ideal S1x1024 .f32) : FVec Ideal S4x1x1024 .f32 :=
  (shapeCast S4x1x1024 (Host.reduceAdd (mulf (shapeCast S4x2048x1024 dy shapeCasts_S8192x1024_S4x2048x1024) (gained x g)) (constant (F := Ideal) S_ .f32 0x00000000#32) reducesTo_S4x2048x1024_S4x1024_d1 h_S_) shapeCasts_S4x1024_S4x1x1024)

/-- The gradient at the normalised tokens. -/
def dNormed (dy : FVec Ideal S8192x1024 .f32) (mo : FVec Ideal S4x2x6x1024 .f32) (g : FVec Ideal S1x1024 .f32) : FVec Ideal S4x2048x1024 .f32 :=
  (mulf (dGained dy mo) (broadcastInDim S4x2048x1024 ![0, 1, 2] bcast_S1x1x1024_S4x2048x1024_0_1_2 (broadcastInDim S1x1x1024 ![2] bcast_S1024_S1x1x1024_2 (shapeCast S1024 g shapeCasts_S1x1024_S1024))))

/-- The gradient through the mean square. -/
def projGrad (dy : FVec Ideal S8192x1024 .f32) (x : FVec Ideal S8192x1024 .f32) (mo : FVec Ideal S4x2x6x1024 .f32) (g : FVec Ideal S1x1024 .f32) : FVec Ideal S4x2048x1 .f32 :=
  (Host.divf (mulf (shapeCast S4x2048x1 (Host.reduceAdd (mulf (shapeCast S4x2048x1024 x shapeCasts_S8192x1024_S4x2048x1024) (dNormed dy mo g)) (constant (F := Ideal) S_ .f32 0x00000000#32) reducesTo_S4x2048x1024_S4x2048_d2 h_S_) shapeCasts_S4x2048_S4x2048x1) (rstdGrad x)) (broadcastInDim S4x2048x1 ![] bcast_S_S4x2048x1 (constant (F := Ideal) S_ .f32 0x44800000#32)))

/-- The gradient at the mixed tokens. -/
def dMix (dy : FVec Ideal S8192x1024 .f32) (x : FVec Ideal S8192x1024 .f32) (mo : FVec Ideal S4x2x6x1024 .f32) (g : FVec Ideal S1x1024 .f32) : FVec Ideal S4x2048x1024 .f32 :=
  (addf (addf (mulf (dNormed dy mo g) (broadcastInDim S4x2048x1024 ![0, 1, 2] bcast_S4x2048x1_S4x2048x1024_0_1_2 (rstd x))) (mulf (shapeCast S4x2048x1024 x shapeCasts_S8192x1024_S4x2048x1024) (broadcastInDim S4x2048x1024 ![0, 1] bcast_S4x2048_S4x2048x1024_0_1 (Host.reduceAdd (projGrad dy x mo g) (constant (F := Ideal) S_ .f32 0x00000000#32) reducesTo_S4x2048x1_S4x2048_d2 h_S_)))) (mulf (broadcastInDim S4x2048x1024 ![0, 1] bcast_S4x2048_S4x2048x1024_0_1 (Host.reduceAdd (projGrad dy x mo g) (constant (F := Ideal) S_ .f32 0x00000000#32) reducesTo_S4x2048x1_S4x2048_d2 h_S_)) (shapeCast S4x2048x1024 x shapeCasts_S8192x1024_S4x2048x1024)))

/-- The gradient at the concatenated groups, by the transposed output product. -/
def dCat (dy : FVec Ideal S8192x1024 .f32) (x : FVec Ideal S8192x1024 .f32) (mo : FVec Ideal S4x2x6x1024 .f32) (g : FVec Ideal S1x1024 .f32) (w : FVec Ideal S1024x1024 .f32) : FVec Ideal S4x2048x1024 .f32 :=
  (Host.dotGeneral (F := Ideal) (φ₁ := .f32) (φ₂ := .f32) dot_S4x2048x1024_S1024x1024_S4x2048x1024_2_1_01_0_n_n none (dMix dy x mo g) w)

/-- The gradient at the mixed tokens, the context rows zero. -/
def outDmix (dy : FVec Ideal S8192x1024 .f32) (x : FVec Ideal S8192x1024 .f32) (mo : FVec Ideal S4x2x6x1024 .f32) (g : FVec Ideal S1x1024 .f32) : FVec Ideal S9216x1024 .bf16 :=
  (truncf .bf16 (shapeCast S9216x1024 (concatenate S4x2304x1024 1 [⟨S4x256x1024, (broadcastInDim S4x256x1024 ![] bcast_S_S4x256x1024 (constant (F := Ideal) S_ .f32 0x00000000#32))⟩, ⟨S4x2048x1024, (dMix dy x mo g)⟩] concatenates_S4x256x1024_S4x2048x1024_S4x2304x1024_d1) shapeCasts_S4x2304x1024_S9216x1024) bitsLt_bf16_f32)

/-- The gradient at the groups, the context rows zero. -/
def outDcat (dy : FVec Ideal S8192x1024 .f32) (x : FVec Ideal S8192x1024 .f32) (mo : FVec Ideal S4x2x6x1024 .f32) (g : FVec Ideal S1x1024 .f32) (w : FVec Ideal S1024x1024 .f32) : FVec Ideal S9216x1024 .f32 :=
  (shapeCast S9216x1024 (concatenate S4x2304x1024 1 [⟨S4x256x1024, (broadcastInDim S4x256x1024 ![] bcast_S_S4x256x1024 (constant (F := Ideal) S_ .f32 0x00000000#32))⟩, ⟨S4x2048x1024, (dCat dy x mo g w)⟩] concatenates_S4x256x1024_S4x2048x1024_S4x2304x1024_d1) shapeCasts_S4x2304x1024_S9216x1024)

/-- The gradient at the gain. -/
def outDpg (dy : FVec Ideal S8192x1024 .f32) (x : FVec Ideal S8192x1024 .f32) (mo : FVec Ideal S4x2x6x1024 .f32) : FVec Ideal S1x1024 .f32 :=
  (shapeCast S1x1024 (Host.reduceAdd (shapeCast S1x1x1024 (Host.reduceAdd (mulf (normed x) (dGained dy mo)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024)

section

variable (dy : FVec Ideal S8192x1024 .f32) (x : FVec Ideal S8192x1024 .f32) (mo : FVec Ideal S4x2x6x1024 .f32) (g : FVec Ideal S1x1024 .f32)
  (w : FVec Ideal S1024x1024 .f32)

/-- Token `r` of all, as batch and position. -/
abbrev tok {k : ℕ} (r : Fin 8192) (d : Fin k) : (⟨3, ![4, 2048, k]⟩ : Shape).Idx :=
  ix3 ⟨r.val / 2048, by have := r.isLt; omega⟩ ⟨r.val % 2048, Nat.mod_lt _ (by decide)⟩ d

theorem meanSq_apply (r : Fin 8192) :
    meanSq x (tok r 0) = Ideal.div (∑ k : Fin 1024, x (ix2 r k) * x (ix2 r k)) (Ideal.ofBits .f32 0x44800000#32) + Ideal.ofBits .f32 0x358637BD#32 := by
  pointwise [meanSq]

theorem rstd_apply (j : S4x2048x1.Idx) : rstd x j = Ideal.rsqrt (meanSq x j) := by pointwise [rstd]

theorem rstdGrad_apply (j : S4x2048x1.Idx) : rstdGrad x j = Ideal.ofBits .f32 0xBF000000#32 * Ideal.div (rstd x j) (meanSq x j) := by
  pointwise [rstdGrad]

theorem normed_apply (r : Fin 8192) (d : Fin 1024) : normed x (tok r d) = x (ix2 r d) * rstd x (tok r 0) := by
  pointwise [normed]
  exact congrArg (fun i => x (ix2 i d) * rstd x (tok r 0)) (Fin.ext (Nat.div_add_mod' r.val 2048))

theorem gained_apply (j : S4x2048x1024.Idx) : gained x g j = normed x j * g (ix2 0 (j 2)) := by pointwise [gained]

theorem dGained_apply (r : Fin 8192) (d : Fin 1024) :
    dGained dy mo (tok r d) = mo (ix4 ⟨r.val / 2048, by have := r.isLt; omega⟩ 1 2 d) * dy (ix2 r d) := by
  pointwise [dGained]
  exact congrArg (fun i => mo _ * dy (ix2 i d)) (Fin.ext (Nat.div_add_mod' r.val 2048))

theorem dNormed_apply (j : S4x2048x1024.Idx) : dNormed dy mo g j = dGained dy mo j * g (ix2 0 (j 2)) := by
  pointwise [dNormed]

theorem projGrad_apply (r : Fin 8192) :
    projGrad dy x mo g (tok r 0)
      = Ideal.div ((∑ k : Fin 1024, x (ix2 r k) * dNormed dy mo g (tok r k)) * rstdGrad x (tok r 0)) (Ideal.ofBits .f32 0x44800000#32) := by
  pointwise [projGrad]

/-- The gradient at the mixed tokens, in the form a normalisation's gradient is usually computed in. -/
theorem dMix_apply (r : Fin 8192) (d : Fin 1024) :
    dMix dy x mo g (tok r d) = rstd x (tok r 0) * (dNormed dy mo g (tok r d)
      - normed x (tok r d) * Ideal.div (∑ k : Fin 1024, dNormed dy mo g (tok r k) * normed x (tok r k)) (Ideal.ofBits .f32 0x44800000#32)) := by
  obtain ⟨e, he, hE⟩ := eps_f32
  have key := grad_eq (fun k => x (ix2 r k)) (fun k => dNormed dy mo g (tok r k)) 0 d (n := 1024) (e := e) (by norm_num) he
    (s := rstd x (tok r 0)) (q := Ideal.div (rstd x (tok r 0)) (meanSq x (tok r 0))) (by rw [rstd_apply, meanSq_apply, n1024_f32, hE])
    (by rw [meanSq_apply, n1024_f32, hE])
  have hp := projGrad_apply dy x mo g r
  rw [rstdGrad_apply, half_f32, n1024_f32] at hp
  rw [← hp, zero_add, zero_add] at key
  simp only [normed_apply, n1024_f32]
  refine Eq.trans ?_ key.symm
  pointwise [dMix]
  simp only [Fin.sum_univ_one]
  exact congrArg (fun i => dNormed dy mo g (tok r d) * rstd x (tok r 0) + x (ix2 i d) * projGrad dy x mo g (tok r 0) + projGrad dy x mo g (tok r 0) * x (ix2 i d))
    (Fin.ext (Nat.div_add_mod' r.val 2048))

theorem dCat_apply (j : S4x2048x1024.Idx) :
    dCat dy x mo g w j = ∑ k : Fin 1024, dMix dy x mo g (ix3 (j 0) (j 1) k) * w (ix2 (j 2) k) := by
  pointwise [dCat]

theorem outDmix_apply (b : Fin 4) (n : Fin 2304) (d : Fin 1024) (h : b.val * 2304 + n.val < 9216) :
    outDmix dy x mo g (ix2 ⟨b.val * 2304 + n.val, h⟩ d) = if h : n.val < 256 then 0 else dMix dy x mo g (ix3 b ⟨n.val - 256, by have := n.isLt; omega⟩ d) := by
  pointwise [outDmix]

theorem outDcat_apply (b : Fin 4) (n : Fin 2304) (d : Fin 1024) (h : b.val * 2304 + n.val < 9216) :
    outDcat dy x mo g w (ix2 ⟨b.val * 2304 + n.val, h⟩ d) = if h : n.val < 256 then 0 else dCat dy x mo g w (ix3 b ⟨n.val - 256, by have := n.isLt; omega⟩ d) := by
  pointwise [outDcat]

theorem outDgate_apply (b : Fin 4) (d : Fin 1024) :
    outDgate dy x g (ix3 b 0 d) = ∑ n : Fin 2048, dy (ix2 ⟨b.val * 2048 + n.val, by have := b.isLt; have := n.isLt; omega⟩ d) * gained x g (ix3 b n d) := by
  pointwise [outDgate]

theorem outDpg_apply (j : S1x1024.Idx) :
    outDpg dy x mo j = ∑ b : Fin 4, ∑ n : Fin 2048, normed x (ix3 b n (j 1)) * dGained dy mo (ix3 b n (j 1)) := by
  pointwise [outDpg]
  refine (Cert.Sums.hostReduceAdd_lead _ _ _ _).trans ?_
  pointwise
  simp only [Fin.sum_univ_one]
  refine (Cert.Sums.hostReduceAdd_lead _ _ _ _).trans ?_
  pointwise

end

/-- The reference's run, each result by its name here. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54) = outDmix (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v57) = outDcat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v27) = outDgate (m ((c.tc : Thread nD τ).loc main_arg0)) (m ((c.tc : Thread nD τ).loc main_arg1)) (m ((c.tc : Thread nD τ).loc main_arg3))
      ∧ r.2.mem ((c.tc : Thread nD τ).loc main_v58) = outDpg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (run m ρ)
  exact ⟨(h c).1.trans rfl, (h c).2.1.trans rfl, (h c).2.2.1.trans rfl, (h c).2.2.2.1.trans rfl, (h c).2.2.2.2⟩

end Cert.MixPostRefIdeal.Math

end
-- ==== Proof.MixPostValue.lean ====
/-
  The backward call of the mixing branch's last steps: the grid has 36 tiles of 256 tokens, 9 for each batch entry, of which the first
  holds the context. Each of the call's four results is the reference's.
-/
module

public import proofs.«01_k».proof.Proof.Gen.MixPostIdeal.Value
public import proofs.«01_k».proof.Proof.MixPostPay
public import proofs.«01_k».proof.Proof.MixPostRef
public import Idealize.ShloMosaic.Lib.Pipeline.ValueKit
public import Idealize.ShloMosaic.Lib.Pipeline.ReadBack

@[expose] public section

set_option maxRecDepth 16384

noncomputable section

namespace Cert.MixPostIdeal.Math

open Cert.MixPostIdeal Cert.MixPostIdeal.Gen Cert.RowNorm
open Cert.MixPostRefIdeal.Math (tok rstd normed gained dGained dNormed dMix dCat outDmix outDcat outDgate outDpg rstd_apply meanSq_apply normed_apply gained_apply
  dGained_apply dNormed_apply dMix_apply dCat_apply outDmix_apply outDcat_apply outDgate_apply outDpg_apply)
open Idealize.ShloMosaic Idealize.ShloMosaic.TcCoe Idealize.SL.Sem
open Idealize.ShloMosaic.Pipeline (Dat)

variable (m : (ℓ : Loc nD τ sig) → Buf (Elt Ideal) ℓ)

/-- The arguments, each as an array of its shape. -/
abbrev aDy (c : Dev nD) : FVec Ideal S8192x1024 .f32 := m ((c.tc : Thread nD τ).loc main_arg0)
abbrev aX (c : Dev nD) : FVec Ideal S8192x1024 .f32 := m ((c.tc : Thread nD τ).loc main_arg1)
abbrev aMod (c : Dev nD) : FVec Ideal S4x2x6x1024 .f32 := m ((c.tc : Thread nD τ).loc main_arg2)
abbrev aG (c : Dev nD) : FVec Ideal S1x1024 .f32 := m ((c.tc : Thread nD τ).loc main_arg3)
abbrev aW (c : Dev nD) : FVec Ideal S1024x1024 .f32 := m ((c.tc : Thread nD τ).loc main_arg4)

/-- Which blocks a grid point reads. -/
theorem idxIn : ∀ t : Fin cfg0.N, win0_0.index t = ![t.val / 9 * 8 + (t.val % 9 - 1), 0] ∧ win0_1.index t = ![t.val / 9 * 8 + (t.val % 9 - 1), 0]
    ∧ win0_2.index t = ![t.val / 9, 1, 0, 0] ∧ win0_3.index t = ![0, 0] ∧ win0_4.index t = ![0, 0] :=
  (by decide +kernel : ∀ t : Fin grid0.N, _)

/-- Which blocks it writes. -/
theorem idxOut : ∀ t : Fin cfg0.N, win0_5.index t = ![t.val, 0] ∧ win0_6.index t = ![t.val, 0] ∧ win0_7.index t = ![t.val / 9, 0, 0]
    ∧ win0_8.index t = ![0, 0] :=
  (by decide +kernel : ∀ t : Fin grid0.N, _)

/-- There are 36 grid points. -/
theorem lt36 (t : Fin cfg0.N) : t.val < 36 := t.isLt

/-- Row `i` of point `t`'s tile among the latent tokens. -/
abbrev row (t : Fin cfg0.N) (i : Fin 256) : Fin 8192 :=
  ⟨(t.val / 9 * 8 + (t.val % 9 - 1)) * 256 + i.val, by have := lt36 t; have := i.isLt; omega⟩

theorem blkDy (c : Dev nD) (t : Fin cfg0.N) (i : Fin 256) (d : Fin 1024) : iblk m c 0 t (ix2 i d) = aDy m c (ix2 (row t i) d) := by
  blk_point [iblk, V, idxIn t]

theorem blkX (c : Dev nD) (t : Fin cfg0.N) (i : Fin 256) (d : Fin 1024) : iblk m c 1 t (ix2 i d) = aX m c (ix2 (row t i) d) := by
  blk_point [iblk, V, idxIn t]

theorem blkMod (c : Dev nD) (t : Fin cfg0.N) (k : Fin 6) (d : Fin 1024) :
    iblk m c 2 t (ix4 0 0 k d) = aMod m c (ix4 ⟨t.val / 9, by have := lt36 t; omega⟩ 1 k d) := by
  blk_point [iblk, V, idxIn t]

theorem blkG (c : Dev nD) (t : Fin cfg0.N) (d : Fin 1024) : iblk m c 3 t (ix2 0 d) = aG m c (ix2 0 d) := by
  blk_point [iblk, V, idxIn t]

/-- The output weight as the call receives it. -/
def wCast (w : FVec Ideal S1024x1024 .f32) : FVec Ideal S1024x1024 .bf16 := truncf .bf16 w bitsLt_bf16_f32

theorem V0 (c : Dev nD) : V m c main_v0 = wCast (aW m c) := by
  unfold_abbrev_sides
  after_results
  rfl

theorem blkW (c : Dev nD) (t : Fin cfg0.N) (i d : Fin 1024) : iblk m c 4 t (ix2 i d) = aW m c (ix2 i d) := by
  rw [show aW m c (ix2 i d) = wCast (aW m c) (ix2 i d) from rfl, ← V0]
  blk_point [iblk, idxIn t]

/-- The gate's row of the tile's batch entry. -/
abbrev gate (c : Dev nD) (t : Fin cfg0.N) : Vec Ideal S1x1x1x1024 .f32 :=
  View.ld (iblk m c 2 t) (Rect.unit ![0, 0, 2, 0] ![1, 1, 1, 1024] inb_S1x1x6x1024_S1x1x1x1024_0_0_2_0)

theorem gate_apply (c : Dev nD) (t : Fin cfg0.N) (i : Fin 256) (d : Fin 1024) :
    gate m c t (ix4 0 0 0 d) = aMod m c (ix4 ⟨(row t i).val / 2048, by have := (row t i).isLt; omega⟩ 1 2 d) := by
  have hb : (⟨(row t i).val / 2048, by have := (row t i).isLt; omega⟩ : Fin 4) = ⟨t.val / 9, by have := lt36 t; omega⟩ :=
    Fin.ext (by show ((t.val / 9 * 8 + (t.val % 9 - 1)) * 256 + i.val) / 2048 = t.val / 9; have := i.isLt; omega)
  rw [hb, ← blkMod]
  refine congrArg (iblk m c 2 t) ?_
  funext a
  refine Fin.ext ?_
  match a with
  | ⟨0, _⟩ => rfl
  | ⟨1, _⟩ => rfl
  | ⟨2, _⟩ => rfl
  | ⟨3, _⟩ => show 0 + 1 * d.val = d.val; omega

/-- The kinds of grid point: a context tile, the first of all or of a later batch entry, and a tile of latent tokens. -/
theorem kinds (t : Fin cfg0.N) : (t.val % 9 = 0 ∧ t.val % 36 = 0) ∨ (¬t.val % 9 = 0 ∧ ¬t.val % 36 = 0) ∨ (t.val % 9 = 0 ∧ ¬t.val % 36 = 0) := by
  omega

/-- What a point computes: its gradient at the mixed tokens. -/
abbrev tileMix (c : Dev nD) (t : Fin cfg0.N) : FVec Ideal S256x1024 .bf16 :=
  k0_pay1 (F := Ideal) (k0_pay3 (grid0.coords t)) (k0_pay5 (iblk m c 1 t)) (k0_pay6 (iblk m c 1 t))
    (k0_pay13 (k0_pay4 (grid0.coords t) (iblk m c 0 t)) (k0_pay7 (gate m c t)) (iblk m c 3 t))
    (k0_pay14 (k0_pay4 (grid0.coords t) (iblk m c 0 t)) (k0_pay6 (iblk m c 1 t)) (k0_pay7 (gate m c t)) (iblk m c 3 t))

theorem out5 (c : Dev nD) (t : Fin cfg0.N) : (outsAt0 m c t.val t.isLt).1 = tileMix m c t := by
  rcases kinds t with ⟨h0, h1⟩ | ⟨h0, h1⟩ | ⟨h0, h1⟩
  · rw [outsAt0_A m c t h0 h1]; frame_out; rfl
  · rw [outsAt0_B m c t h0 h1]; frame_out; rfl
  · rw [outsAt0_C m c t h0 h1]; frame_out; rfl

theorem out6 (c : Dev nD) (t : Fin cfg0.N) : (outsAt0 m c t.val t.isLt).2.1 =
    k0_pay2 (F := Ideal) (k0_pay3 (grid0.coords t)) (k0_pay5 (iblk m c 1 t)) (k0_pay6 (iblk m c 1 t))
    (k0_pay13 (k0_pay4 (grid0.coords t) (iblk m c 0 t)) (k0_pay7 (gate m c t)) (iblk m c 3 t))
    (k0_pay14 (k0_pay4 (grid0.coords t) (iblk m c 0 t)) (k0_pay6 (iblk m c 1 t)) (k0_pay7 (gate m c t)) (iblk m c 3 t)) (iblk m c 4 t) := by
  rcases kinds t with ⟨h0, h1⟩ | ⟨h0, h1⟩ | ⟨h0, h1⟩
  · rw [outsAt0_A m c t h0 h1]; frame_out; rfl
  · rw [outsAt0_B m c t h0 h1]; frame_out; rfl
  · rw [outsAt0_C m c t h0 h1]; frame_out; rfl

theorem out7_reset (c : Dev nD) (t : Fin cfg0.N) (h : t.val % 9 = 0) (d : Fin 1024) :
    (outsAt0 m c t.val t.isLt).2.2.1 (ix3 0 0 d)
      = 0 + k0_pay8 (F := Ideal) (grid0.coords t) (iblk m c 0 t) (iblk m c 1 t) (iblk m c 3 t) (ix2 0 d) := by
  rcases kinds t with ⟨h0, h1⟩ | ⟨h0, h1⟩ | ⟨h0, h1⟩
  · rw [outsAt0_A m c t h0 h1]; frame_out
    rw [pay10_apply, pay9_apply]; rfl
  · exact absurd h h0
  · rw [outsAt0_C m c t h0 h1]; frame_out
    rw [pay10_apply, pay9_apply]; rfl

theorem out7_step (c : Dev nD) (t : Fin cfg0.N) (h : ¬t.val % 9 = 0) (d : Fin 1024) :
    (outsAt0 m c t.val t.isLt).2.2.1 (ix3 0 0 d)
      = (outsAt0 m c (t.val - 1) (Nat.lt_of_le_of_lt (Nat.sub_le _ _) t.isLt)).2.2.1 (ix3 0 0 d)
        + k0_pay8 (F := Ideal) (grid0.coords t) (iblk m c 0 t) (iblk m c 1 t) (iblk m c 3 t) (ix2 0 d) := by
  rw [outsAt0_B m c t h (by omega)]; frame_out
  rw [pay10_apply]; rfl

/-- The tile's share of the gain's gradient. -/
abbrev tileGain (c : Dev nD) (t : Fin cfg0.N) (d : Fin 1024) : EReal :=
  ∑ r : Fin 256, k0_pay4 (F := Ideal) (grid0.coords t) (iblk m c 0 t) (ix2 r d) * k0_pay7 (F := Ideal) (gate m c t) (ix2 0 d)
    * k0_pay6 (F := Ideal) (iblk m c 1 t) (ix2 r d)

theorem out8_reset (c : Dev nD) (t : Fin cfg0.N) (h : t.val % 36 = 0) (d : Fin 1024) :
    (outsAt0 m c t.val t.isLt).2.2.2 (ix2 0 d) = 0 + tileGain m c t d := by
  rw [outsAt0_A m c t (by omega) h]; frame_out
  rw [pay12_apply, pay11_apply]; rfl

theorem out8_step (c : Dev nD) (t : Fin cfg0.N) (h : ¬t.val % 36 = 0) (d : Fin 1024) :
    (outsAt0 m c t.val t.isLt).2.2.2 (ix2 0 d)
      = (outsAt0 m c (t.val - 1) (Nat.lt_of_le_of_lt (Nat.sub_le _ _) t.isLt)).2.2.2 (ix2 0 d) + tileGain m c t d := by
  rcases kinds t with ⟨h0, h1⟩ | ⟨h0, h1⟩ | ⟨h0, h1⟩
  · exact absurd h1 h
  · rw [outsAt0_B m c t h0 h1]; frame_out
    rw [pay12_apply]; rfl
  · rw [outsAt0_C m c t h0 h1]; frame_out
    rw [pay12_apply]; rfl

theorem lat_one (t : Fin cfg0.N) (h : ¬t.val % 9 = 0) : k0_pay3 (F := Ideal) (grid0.coords t) = 1 := (pay3_eq t).trans (if_neg h)

theorem lat_zero (t : Fin cfg0.N) (h : t.val % 9 = 0) : k0_pay3 (F := Ideal) (grid0.coords t) = 0 := (pay3_eq t).trans (if_pos h)

/-- What the rows of a tile are, named as in the reference. -/
theorem tileRstd (c : Dev nD) (t : Fin cfg0.N) (i : Fin 256) : k0_pay5 (F := Ideal) (iblk m c 1 t) (ix2 i 0) = rstd (aX m c) (tok (row t i) 0) := by
  rw [pay5_apply, rstd_apply, meanSq_apply]
  exact congrArg (fun s => Ideal.rsqrt (Ideal.div s _ + _)) (Finset.sum_congr rfl fun d _ => congrArg₂ (· * ·) (blkX m c t i d) (blkX m c t i d))

theorem tileNormed (c : Dev nD) (t : Fin cfg0.N) (i : Fin 256) (d : Fin 1024) :
    k0_pay6 (F := Ideal) (iblk m c 1 t) (ix2 i d) = normed (aX m c) (tok (row t i) d) := by
  rw [pay6_apply, normed_apply]
  exact congrArg₂ (· * ·) (blkX m c t i d) (tileRstd m c t i)

theorem tileDy (c : Dev nD) (t : Fin cfg0.N) (h : ¬t.val % 9 = 0) (i : Fin 256) (d : Fin 1024) :
    k0_pay4 (F := Ideal) (grid0.coords t) (iblk m c 0 t) (ix2 i d) = aDy m c (ix2 (row t i) d) := by
  rw [pay4_apply, lat_one t h, mul_one]
  exact blkDy m c t i d

theorem tileDy_zero (c : Dev nD) (t : Fin cfg0.N) (h : t.val % 9 = 0) (i : Fin 256) (d : Fin 1024) :
    k0_pay4 (F := Ideal) (grid0.coords t) (iblk m c 0 t) (ix2 i d) = 0 := by
  rw [pay4_apply, lat_zero t h, mul_zero]

theorem tileDGained (c : Dev nD) (t : Fin cfg0.N) (h : ¬t.val % 9 = 0) (i : Fin 256) (d : Fin 1024) :
    k0_pay4 (F := Ideal) (grid0.coords t) (iblk m c 0 t) (ix2 i d) * k0_pay7 (F := Ideal) (gate m c t) (ix2 0 d)
      = dGained (aDy m c) (aMod m c) (tok (row t i) d) := by
  rw [dGained_apply, tileDy m c t h, pay7_apply, mul_comm]
  exact congrArg (· * _) (gate_apply m c t i d)

theorem tileDNormed (c : Dev nD) (t : Fin cfg0.N) (h : ¬t.val % 9 = 0) (i : Fin 256) (d : Fin 1024) :
    k0_pay13 (F := Ideal) (k0_pay4 (grid0.coords t) (iblk m c 0 t)) (k0_pay7 (gate m c t)) (iblk m c 3 t) (ix2 i d)
      = dNormed (aDy m c) (aMod m c) (aG m c) (tok (row t i) d) := by
  rw [pay13_apply, dNormed_apply]
  exact congrArg₂ (· * ·) (tileDGained m c t h i d) (blkG m c t d)

theorem tileMix_lat (c : Dev nD) (t : Fin cfg0.N) (h : ¬t.val % 9 = 0) (i : Fin 256) (d : Fin 1024) :
    tileMix m c t (ix2 i d) = dMix (aDy m c) (aX m c) (aMod m c) (aG m c) (tok (row t i) d) := by
  refine (pay1_apply _ _ _ _ _ _).trans ?_
  rw [dMix_apply, lat_one t h, mul_one]
  have hsum : (∑ k : Fin 1024, k0_pay14 (F := Ideal) (k0_pay4 (grid0.coords t) (iblk m c 0 t)) (k0_pay6 (iblk m c 1 t)) (k0_pay7 (gate m c t)) (iblk m c 3 t) (ix2 i k))
      = ∑ k : Fin 1024, dNormed (aDy m c) (aMod m c) (aG m c) (tok (row t i) k) * normed (aX m c) (tok (row t i) k) :=
    Finset.sum_congr rfl fun k _ => (pay14_apply _ _ _ _ _).trans (congrArg₂ (· * ·) (tileDNormed m c t h i k) (tileNormed m c t i k))
  rw [tileDNormed m c t h i d, tileNormed m c t i d]
  exact congrArg₂ (· * ·) (tileRstd m c t i)
    (congrArg (fun s => dNormed (aDy m c) (aMod m c) (aG m c) (tok (row t i) d) - normed (aX m c) (tok (row t i) d) * Ideal.div s _) hsum)

theorem tileMix_ctx (c : Dev nD) (t : Fin cfg0.N) (h : t.val % 9 = 0) (i : Fin 256) (d : Fin 1024) : tileMix m c t (ix2 i d) = 0 := by
  refine (pay1_apply _ _ _ _ _ _).trans ?_
  rw [lat_zero t h, mul_zero]

theorem emb5 (t : Fin cfg0.N) (i : Fin 256) (d : Fin 1024) (h : t.val / 9 * 2304 + (t.val % 9 * 256 + i.val) < 9216) :
    (win0_5.blk t).view.emb (ix2 i d : S256x1024.Idx) = (ix2 ⟨t.val / 9 * 2304 + (t.val % 9 * 256 + i.val), h⟩ d : S9216x1024.Idx) := by
  have e : t.val / 9 * 2304 + (t.val % 9 * 256 + i.val) = t.val * 256 + i.val := by omega
  refine Eq.trans (b := (ix2 ⟨t.val * 256 + i.val, by omega⟩ d : S9216x1024.Idx)) ?_ (congrArg (fun n : Fin 9216 => (ix2 n d : S9216x1024.Idx)) (Fin.ext e.symm))
  blk_ext [idxOut t]

theorem emb6 (t : Fin cfg0.N) (i : Fin 256) (d : Fin 1024) (h : t.val / 9 * 2304 + (t.val % 9 * 256 + i.val) < 9216) :
    (win0_6.blk t).view.emb (ix2 i d : S256x1024.Idx) = (ix2 ⟨t.val / 9 * 2304 + (t.val % 9 * 256 + i.val), h⟩ d : S9216x1024.Idx) := by
  have e : t.val / 9 * 2304 + (t.val % 9 * 256 + i.val) = t.val * 256 + i.val := by omega
  refine Eq.trans (b := (ix2 ⟨t.val * 256 + i.val, by omega⟩ d : S9216x1024.Idx)) ?_ (congrArg (fun n : Fin 9216 => (ix2 n d : S9216x1024.Idx)) (Fin.ext e.symm))
  blk_ext [idxOut t]

theorem emb7 (t : Fin cfg0.N) (d : Fin 1024) :
    (win0_7.blk t).view.emb (ix3 0 0 d : S1x1x1024.Idx) = (ix3 ⟨t.val / 9, by have := lt36 t; omega⟩ 0 d : S4x1x1024.Idx) := by
  blk_ext [idxOut t]

theorem eta2 {a b : ℕ} (y : (⟨2, ![a, b]⟩ : Shape).Idx) : ∃ (i : Fin a) (k : Fin b), y = ix2 i k :=
  ⟨y 0, y 1, by funext q; match q with | ⟨0, _⟩ => rfl | ⟨1, _⟩ => rfl⟩

theorem eta3 {a b e : ℕ} (y : (⟨3, ![a, b, e]⟩ : Shape).Idx) : ∃ (i : Fin a) (k : Fin b) (l : Fin e), y = ix3 i k l :=
  ⟨y 0, y 1, y 2, by funext q; match q with | ⟨0, _⟩ => rfl | ⟨1, _⟩ => rfl | ⟨2, _⟩ => rfl⟩

/-- A latent tile's row, by batch entry and position. -/
theorem tok_row (t : Fin cfg0.N) (h : ¬t.val % 9 = 0) (i : Fin 256) (d : Fin 1024) (hb : t.val / 9 < 4) (hn : t.val % 9 * 256 + i.val - 256 < 2048) :
    (tok (row t i) d : (⟨3, ![4, 2048, 1024]⟩ : Shape).Idx) = ix3 ⟨t.val / 9, hb⟩ ⟨t.val % 9 * 256 + i.val - 256, hn⟩ d := by
  have hi := i.isLt
  have e0 : (⟨(row t i).val / 2048, by have := (row t i).isLt; omega⟩ : Fin 4) = ⟨t.val / 9, hb⟩ :=
    Fin.ext (by show ((t.val / 9 * 8 + (t.val % 9 - 1)) * 256 + i.val) / 2048 = t.val / 9; omega)
  have e1 : (⟨(row t i).val % 2048, Nat.mod_lt _ (by decide)⟩ : Fin 2048) = ⟨t.val % 9 * 256 + i.val - 256, hn⟩ :=
    Fin.ext (by show ((t.val / 9 * 8 + (t.val % 9 - 1)) * 256 + i.val) % 2048 = t.val % 9 * 256 + i.val - 256; omega)
  show ix3 _ _ d = _
  rw [e0, e1]

theorem tileMix_eq (c : Dev nD) (t : Fin cfg0.N) (i : Fin 256) (d : Fin 1024) (h : t.val / 9 * 2304 + (t.val % 9 * 256 + i.val) < 9216) :
    tileMix m c t (ix2 i d) = outDmix (aDy m c) (aX m c) (aMod m c) (aG m c) (ix2 ⟨t.val / 9 * 2304 + (t.val % 9 * 256 + i.val), h⟩ d) := by
  have ht := lt36 t
  have hi := i.isLt
  refine Eq.trans ?_ (outDmix_apply (aDy m c) (aX m c) (aMod m c) (aG m c) ⟨t.val / 9, by omega⟩ ⟨t.val % 9 * 256 + i.val, by omega⟩ d h).symm
  by_cases h0 : t.val % 9 = 0
  · rw [dif_pos (by show t.val % 9 * 256 + i.val < 256; omega)]
    exact tileMix_ctx m c t h0 i d
  · rw [dif_neg (by show ¬t.val % 9 * 256 + i.val < 256; omega), tileMix_lat m c t h0 i d]
    exact congrArg _ (tok_row t h0 i d _ _)

theorem final5 (c : Dev nD) : (dats m 0 c).arrAt 5 cfg0.N = outDmix (aDy m c) (aX m c) (aMod m c) (aG m c) := by
  refine (dats m 0 c).arrAt_eq_of_covers 5 _ (by decide +kernel) fun t hf y => ?_
  blk_simp
  obtain ⟨i, d, rfl⟩ := eta2 (a := 256) (b := 1024) y
  have ht := lt36 t
  have hi := i.isLt
  rw [after0_5, out5, emb5 t i d (by omega)]
  exact tileMix_eq m c t i d _

/-- What a point computes: its gradient at the groups. -/
abbrev tileCat (c : Dev nD) (t : Fin cfg0.N) : FVec Ideal S256x1024 .f32 :=
  k0_pay2 (F := Ideal) (k0_pay3 (grid0.coords t)) (k0_pay5 (iblk m c 1 t)) (k0_pay6 (iblk m c 1 t))
    (k0_pay13 (k0_pay4 (grid0.coords t) (iblk m c 0 t)) (k0_pay7 (gate m c t)) (iblk m c 3 t))
    (k0_pay14 (k0_pay4 (grid0.coords t) (iblk m c 0 t)) (k0_pay6 (iblk m c 1 t)) (k0_pay7 (gate m c t)) (iblk m c 3 t)) (iblk m c 4 t)

theorem tileCat_eq (c : Dev nD) (t : Fin cfg0.N) (i : Fin 256) (d : Fin 1024) (h : t.val / 9 * 2304 + (t.val % 9 * 256 + i.val) < 9216) :
    tileCat m c t (ix2 i d) = outDcat (aDy m c) (aX m c) (aMod m c) (aG m c) (aW m c) (ix2 ⟨t.val / 9 * 2304 + (t.val % 9 * 256 + i.val), h⟩ d) := by
  have ht := lt36 t
  have hi := i.isLt
  refine Eq.trans ?_ (outDcat_apply (aDy m c) (aX m c) (aMod m c) (aG m c) (aW m c) ⟨t.val / 9, by omega⟩ ⟨t.val % 9 * 256 + i.val, by omega⟩ d h).symm
  refine (pay2_apply _ _ _ _ _ _ _).trans ?_
  by_cases h0 : t.val % 9 = 0
  · rw [dif_pos (by show t.val % 9 * 256 + i.val < 256; omega)]
    exact Finset.sum_eq_zero fun k _ => (congrArg (fun a : EReal => a * iblk m c 4 t (ix2 d k)) (tileMix_ctx m c t h0 i k)).trans (zero_mul _)
  · rw [dif_neg (by show ¬t.val % 9 * 256 + i.val < 256; omega), dCat_apply]
    exact Finset.sum_congr rfl fun k _ => congrArg₂ (· * ·) ((tileMix_lat m c t h0 i k).trans (congrArg _ (tok_row t h0 i k _ _))) (blkW m c t d k)

theorem final6 (c : Dev nD) : (dats m 0 c).arrAt 6 cfg0.N = outDcat (aDy m c) (aX m c) (aMod m c) (aG m c) (aW m c) := by
  refine (dats m 0 c).arrAt_eq_of_covers 6 _ (by decide +kernel) fun t hf y => ?_
  blk_simp
  obtain ⟨i, d, rfl⟩ := eta2 (a := 256) (b := 1024) y
  have ht := lt36 t
  have hi := i.isLt
  rw [after0_6, out6, emb6 t i d (by omega)]
  exact tileCat_eq m c t i d _

/-- A tile's share of the gate's gradient, and of the gain's. -/
abbrev gateTerm (c : Dev nD) (t : Fin cfg0.N) (d : Fin 1024) : EReal :=
  if t.val % 9 = 0 then 0 else ∑ r : Fin 256, aDy m c (ix2 (row t r) d) * gained (aX m c) (aG m c) (tok (row t r) d)

abbrev gainTerm (c : Dev nD) (t : Fin cfg0.N) (d : Fin 1024) : EReal :=
  if t.val % 9 = 0 then 0 else ∑ r : Fin 256, normed (aX m c) (tok (row t r) d) * dGained (aDy m c) (aMod m c) (tok (row t r) d)

theorem gateTerm_eq (c : Dev nD) (t : Fin cfg0.N) (d : Fin 1024) :
    k0_pay8 (F := Ideal) (grid0.coords t) (iblk m c 0 t) (iblk m c 1 t) (iblk m c 3 t) (ix2 0 d) = gateTerm m c t d := by
  rw [pay8_apply]
  by_cases h : t.val % 9 = 0
  · refine Eq.trans ?_ (if_pos h).symm
    exact Finset.sum_eq_zero fun r _ => (congrArg (fun a => a * _ * _) (tileDy_zero m c t h r d)).trans (by rw [zero_mul, zero_mul])
  · refine Eq.trans ?_ (if_neg h).symm
    refine Finset.sum_congr rfl fun r _ => ?_
    rw [gained_apply]
    exact (congrArg₂ (· * ·) (congrArg₂ (· * ·) (tileDy m c t h r d) (tileNormed m c t r d)) (blkG m c t d)).trans (mul_assoc _ _ _)

theorem gainTerm_eq (c : Dev nD) (t : Fin cfg0.N) (d : Fin 1024) : tileGain m c t d = gainTerm m c t d := by
  by_cases h : t.val % 9 = 0
  · refine Eq.trans ?_ (if_pos h).symm
    exact Finset.sum_eq_zero fun r _ => (congrArg (fun a => a * _ * _) (tileDy_zero m c t h r d)).trans (by rw [zero_mul, zero_mul])
  · refine Eq.trans ?_ (if_neg h).symm
    refine Finset.sum_congr rfl fun r _ => ?_
    exact (congrArg₂ (· * ·) (tileDGained m c t h r d) (tileNormed m c t r d)).trans (mul_comm _ _)

/-- The latent tiles of one batch entry, row by row, are its tokens. -/
theorem batch_sum (f : (⟨3, ![4, 2048, 1024]⟩ : Shape).Idx → EReal) (b : Fin 4) (d : Fin 1024) (p : Fin 9 → Fin cfg0.N) (hp : ∀ s, (p s).val = 9 * b.val + s.val) :
    (∑ s : Fin 9, if (p s).val % 9 = 0 then (0 : EReal) else ∑ r : Fin 256, f (tok (row (p s) r) d)) = ∑ n : Fin 2048, f (ix3 b n d) := by
  have hb := b.isLt
  rw [Fin.sum_univ_succ, if_pos (by rw [hp]; show (9 * b.val + 0) % 9 = 0; omega), zero_add]
  refine (Finset.sum_congr rfl fun s _ => if_neg (by rw [hp]; show ¬(9 * b.val + (s.val + 1)) % 9 = 0; have := s.isLt; omega)).trans ?_
  refine Fin.sum_mul_add_congr fun s r hl => ?_
  have hs := s.isLt
  have hr := r.isLt
  have hv : (p s.succ).val = 9 * b.val + (s.val + 1) := hp s.succ
  have hl' : s.val * 256 + r.val < 2048 := hl
  refine congrArg f ((tok_row (p s.succ) (by omega) r d (by omega) (by omega)).trans ?_)
  have e0 : (⟨(p s.succ).val / 9, by omega⟩ : Fin 4) = b := Fin.ext (by show (p s.succ).val / 9 = b.val; omega)
  have e1 : (⟨(p s.succ).val % 9 * 256 + r.val - 256, by omega⟩ : Fin 2048) = ⟨s.val * 256 + r.val, hl⟩ :=
    Fin.ext (by show (p s.succ).val % 9 * 256 + r.val - 256 = s.val * 256 + r.val; omega)
  rw [e0, e1]

theorem row_div (t : Fin cfg0.N) (r : Fin 256) : (row t r).val / 2048 * 2048 + (row t r).val % 2048 = (row t r).val := Nat.div_add_mod' _ _

theorem outs_congr (c : Dev nD) {a b : ℕ} (e : a = b) (ha : a < cfg0.N) (hb : b < cfg0.N) : outsAt0 m c a ha = outsAt0 m c b hb := by
  subst e; rfl

theorem gate_run (c : Dev nD) (t : Fin cfg0.N) (h : t.val % 9 = 8) (d : Fin 1024) :
    (outsAt0 m c t.val t.isLt).2.2.1 (ix3 0 0 d) = ∑ s : Fin 9, gateTerm m c ⟨9 * (t.val / 9) + s.val, Pipeline.run_point_lt_of_flush t h s⟩ d :=
  (Pipeline.eq_sum_fin_of_reset_step_apply_of_flush (fun n h (d : Fin 1024) => ((outsAt0 m c n h).2.2.1 (ix3 0 0 d) : EReal)) 9
    (fun _ => 0) (fun t d => gateTerm m c t d) (fun t h d => (out7_reset m c t h d).trans (congrArg (0 + ·) (gateTerm_eq m c t d)))
    (fun t h d => (out7_step m c t h d).trans (congrArg (_ + ·) (gateTerm_eq m c t d))) t h d).trans (zero_add _)

theorem gain_run (c : Dev nD) (t : Fin cfg0.N) (h : t.val % 36 = 35) (d : Fin 1024) :
    (outsAt0 m c t.val t.isLt).2.2.2 (ix2 0 d) = ∑ s : Fin 36, gainTerm m c ⟨36 * (t.val / 36) + s.val, Pipeline.run_point_lt_of_flush t h s⟩ d :=
  (Pipeline.eq_sum_fin_of_reset_step_apply_of_flush (fun n h (d : Fin 1024) => ((outsAt0 m c n h).2.2.2 (ix2 0 d) : EReal)) 36
    (fun _ => 0) (fun t d => gainTerm m c t d) (fun t h d => (out8_reset m c t h d).trans (congrArg (0 + ·) (gainTerm_eq m c t d)))
    (fun t h d => (out8_step m c t h d).trans (congrArg (_ + ·) (gainTerm_eq m c t d))) t h d).trans (zero_add _)

theorem gate_total (c : Dev nD) (t : Fin cfg0.N) (h : t.val % 9 = 8) (d : Fin 1024) :
    (outsAt0 m c t.val t.isLt).2.2.1 (ix3 0 0 d) = outDgate (aDy m c) (aX m c) (aG m c) (ix3 ⟨t.val / 9, by have := lt36 t; omega⟩ 0 d) := by
  have ht := lt36 t
  rw [outDgate_apply]
  refine (gate_run m c t h d).trans (Eq.trans ?_ (batch_sum (fun j => aDy m c (ix2 ⟨(j 0).val * 2048 + (j 1).val, by
    have h0 : (j 0).val < 4 := (j 0).isLt
    have h1 : (j 1).val < 2048 := (j 1).isLt
    omega⟩ (j 2)) * gained (aX m c) (aG m c) j) ⟨t.val / 9, by omega⟩ d (fun s => ⟨9 * (t.val / 9) + s.val, Pipeline.run_point_lt_of_flush t h s⟩) (fun s => rfl)))
  refine Finset.sum_congr rfl fun s _ => ?_
  refine if_congr Iff.rfl rfl (Finset.sum_congr rfl fun r _ => congrArg (fun n : Fin 8192 => aDy m c (ix2 n d) * _) (Fin.ext ?_))
  exact (row_div _ r).symm

theorem gain_total (c : Dev nD) (t : Fin cfg0.N) (h : t.val % 36 = 35) (d : Fin 1024) :
    (outsAt0 m c t.val t.isLt).2.2.2 (ix2 0 d) = outDpg (aDy m c) (aX m c) (aMod m c) (ix2 0 d) := by
  have ht := lt36 t
  rw [outDpg_apply]
  refine (gain_run m c t h d).trans ?_
  refine (Cert.Sums.sum_tiles (p := 4) (n := 9) (fun s => gainTerm m c ⟨36 * (t.val / 36) + s.val, Pipeline.run_point_lt_of_flush t h s⟩ d)).trans ?_
  refine Finset.sum_congr rfl fun b _ => ?_
  exact batch_sum (fun j => normed (aX m c) j * dGained (aDy m c) (aMod m c) j) b d
    (fun s => ⟨36 * (t.val / 36) + (b.val * 9 + s.val), Pipeline.run_point_lt_of_flush t h ⟨b.val * 9 + s.val, by have := b.isLt; have := s.isLt; omega⟩⟩)
    (fun s => by show 36 * (t.val / 36) + (b.val * 9 + s.val) = 9 * b.val + s.val; omega)

theorem final7 (c : Dev nD) : (dats m 0 c).arrAt 7 cfg0.N = outDgate (aDy m c) (aX m c) (aG m c) := by
  refine (dats m 0 c).arrAt_eq_of_covers 7 _ (by decide +kernel) fun t hf y => ?_
  blk_simp
  obtain ⟨z, p, d, rfl⟩ := eta3 (a := 1) (b := 1) (e := 1024) y
  obtain rfl : z = 0 := Subsingleton.elim _ _
  obtain rfl : p = 0 := Subsingleton.elim _ _
  rw [after0_7, emb7]
  exact gate_total m c t ((flush0_7 t).mp hf) d

theorem final8 (c : Dev nD) : (dats m 0 c).arrAt 8 cfg0.N = outDpg (aDy m c) (aX m c) (aMod m c) := by
  refine (dats m 0 c).arrAt_eq_of_covers 8 _ (by decide +kernel) fun t hf y => ?_
  blk_simp
  obtain ⟨z, d, rfl⟩ := eta2 (a := 1) (b := 1024) y
  obtain rfl : z = 0 := Subsingleton.elim _ _
  have e : (win0_8.blk t).view.emb (ix2 0 d : S1x1024.Idx) = (ix2 0 d : S1x1024.Idx) := by blk_ext [idxOut t]
  rw [after0_8, e]
  exact gain_total m c t ((flush0_8 t).mp hf) d

end Cert.MixPostIdeal.Math

end
-- ==== Proof.MixInPay.lean ====
/-
  The call for the mixer's input, one grid point at a time: what each value the body stores is at an index, over the extended reals.
-/
module

public import proofs.«01_k».proof.Proof.Gen.MixInIdeal.Skeleton
public import Idealize.ShloMosaic.Lib.Pointwise

@[expose] public section

set_option maxRecDepth 16384

noncomputable section

namespace Cert.MixInIdeal.Math

open Cert.MixInIdeal Cert.MixInIdeal.Gen
open Idealize.ShloMosaic Idealize.ShloMosaic.TcCoe Idealize.SL.Sem

/-- The word that says whether a tile holds context tokens. -/
def ctxBits (i : grid0.Coords) : BitVec 32 :=
  let v1 : BitVec 32 := Scalar.select (Scalar.cmpi .eq 9#32 0#32) 1#32 9#32
  let v2 : BitVec 32 := Scalar.remsi (BitVec.ofNat 32 (i 0).val) v1
  Scalar.extui (Scalar.cmpi .eq (Scalar.select (Scalar.andi (Scalar.xori (Scalar.cmpi .slt v2 0#32) (Scalar.cmpi .slt v1 0#32)) (Scalar.cmpi .ne v2 0#32)) (Scalar.addi v2 v1) v2) 0#32)

theorem ctxBits_eq : ∀ t : Fin grid0.N, ctxBits (grid0.coords t) = if t.val % 9 = 0 then 1#32 else 0#32 := by
  decide +kernel

/-- One for a tile of context tokens, zero for a tile of latent tokens. -/
def ctxWord (i : grid0.Coords) : Ideal .f32 := Scalar.sitofp .f32 (ctxBits i)

theorem ctxWord_eq (t : Fin grid0.N) : ctxWord (grid0.coords t) = if t.val % 9 = 0 then 1 else 0 := by
  unfold ctxWord
  rw [ctxBits_eq]
  split_ifs
  · show ((((1#32 : BitVec 32).toInt : ℝ)) : EReal) = 1
    rw [show (1#32 : BitVec 32).toInt = 1 from by decide]; simp
  · show ((((0#32 : BitVec 32).toInt : ℝ)) : EReal) = 0
    simp

theorem one_f32 : Ideal.ofBits .f32 0x3F800000#32 = 1 := by
  simp [Ideal.ofBits, Ideal.ieee, -EReal.coe_mul]; norm_num

/-- The tile's tokens, chosen between the context's and the latents'. -/
def tile (i : grid0.Coords) (ct x : Vec Ideal S256x1024 .f32) (r : Fin 256) (d : Fin 1024) : EReal :=
  ct (ix2 r d) * ctxWord i + x (ix2 r d) * (Ideal.ofBits .f32 0x3F800000#32 - ctxWord i)

theorem tile_ctx (t : Fin grid0.N) (h : t.val % 9 = 0) (ct x : Vec Ideal S256x1024 .f32) (r : Fin 256) (d : Fin 1024) :
    tile (grid0.coords t) ct x r d = ct (ix2 r d) := by
  have e : (1 : EReal) - 1 = 0 := by rw [show (1 : EReal) = ((1 : ℝ) : EReal) from rfl, ← EReal.coe_sub]; simp
  unfold tile
  rw [ctxWord_eq, if_pos h, one_f32, e, mul_one, mul_zero, add_zero]

theorem tile_lat (t : Fin grid0.N) (h : ¬t.val % 9 = 0) (ct x : Vec Ideal S256x1024 .f32) (r : Fin 256) (d : Fin 1024) :
    tile (grid0.coords t) ct x r d = x (ix2 r d) := by
  unfold tile
  rw [ctxWord_eq, if_neg h, one_f32, sub_zero, mul_one, mul_zero, zero_add]

/-- The tile's tokens, normalised and scaled by the gain. -/
theorem pay4_apply (i : grid0.Coords) (ct x : Vec Ideal S256x1024 .f32) (g : Vec Ideal S1x1024 .f32) (r : Fin 256) (d : Fin 1024) :
    k0_pay4 (F := Ideal) i ct x g (ix2 r d)
      = tile i ct x r d * Ideal.rsqrt (Ideal.div (∑ k : Fin 1024, tile i ct x r k * tile i ct x r k) (Ideal.ofBits .f32 0x44800000#32)
          + Ideal.ofBits .f32 0x358637BD#32) * g (ix2 0 d) := by
  pointwise [k0_pay4, tile, ctxWord, ctxBits]

theorem pay5_apply (v : Vec Ideal S1x1x1x1024 .f32) (j : S1x1024.Idx) : k0_pay5 (F := Ideal) v j = v (ix4 0 0 0 (j 1)) := by
  pointwise [k0_pay5]

theorem pay6_apply (j : S1x1024.Idx) : k0_pay6 (F := Ideal) j = Ideal.ofBits .f32 0x3F800000#32 := by
  pointwise [k0_pay6]

/-- The modulated tokens. -/
theorem pay1_apply (p : FVec Ideal S256x1024 .f32) (s o : FVec Ideal S1x1024 .f32) (h : Vec Ideal S1x1x1x1024 .f32) (j : S256x1024.Idx) :
    k0_pay1 (F := Ideal) p s o h j = p j * (o (ix2 0 (j 1)) + s (ix2 0 (j 1))) + h (ix4 0 0 0 (j 1)) := by
  pointwise [k0_pay1]

/-- Their product with the first weight. -/
theorem pay2_apply (p : FVec Ideal S256x1024 .f32) (s o : FVec Ideal S1x1024 .f32) (h : Vec Ideal S1x1x1x1024 .f32) (w : Vec Ideal S1024x2304 .bf16)
    (j : S256x2304.Idx) : k0_pay2 (F := Ideal) p s o h w j = ∑ k : Fin 1024, k0_pay1 (F := Ideal) p s o h (ix2 (j 0) k) * w (ix2 k (j 1)) := by
  pointwise [k0_pay2]

/-- Their product with the second weight. -/
theorem pay3_apply (p : FVec Ideal S256x1024 .f32) (s o : FVec Ideal S1x1024 .f32) (h : Vec Ideal S1x1x1x1024 .f32) (w : Vec Ideal S1024x1024 .bf16)
    (j : S256x1024.Idx) : k0_pay3 (F := Ideal) p s o h w j = ∑ k : Fin 1024, k0_pay1 (F := Ideal) p s o h (ix2 (j 0) k) * w (ix2 k (j 1)) := by
  pointwise [k0_pay3]

end Cert.MixInIdeal.Math

end
-- ==== Proof.MixInRef.lean ====
/-
  The reference of the mixer's input: every token, latent or context, is normalised by its root mean square, scaled by the gain, and
  modulated by its batch entry's rows; the tokens are multiplied by two weights.
-/
module

public import proofs.«01_k».proof.Proof.Gen.MixInRefIdeal.Run
public import Idealize.ShloMosaic.Lib.Pointwise

@[expose] public section

set_option maxRecDepth 16384

noncomputable section

namespace Cert.MixInRefIdeal.Math

open Cert.MixInRefIdeal Cert.MixInRefIdeal.Gen Cert.MixInRefIdeal.Value
open Idealize.ShloMosaic Idealize.ShloMosaic.TcCoe Idealize.SL.Sem

/-- The reciprocal root mean square of a row of 1024 entries. -/
def rowRstd (v : Fin 1024 → EReal) : EReal :=
  Ideal.rsqrt (Ideal.div (∑ k : Fin 1024, v k * v k) (Ideal.ofBits .f32 0x44800000#32) + Ideal.ofBits .f32 0x358637BD#32)

/-- A row normalised, scaled by the gain `g`, and modulated by the scale `s` and the shift `h`. -/
def rowHid (v g s h : Fin 1024 → EReal) (d : Fin 1024) : EReal :=
  v d * rowRstd v * g d * (Ideal.ofBits .f32 0x3F800000#32 + s d) + h d

/-- The reciprocal root mean square of each latent token. -/
def rstdX (x : FVec Ideal S8192x1024 .f32) : FVec Ideal S4x2048x1 .f32 :=
  (Host.rsqrt (addf (Host.divf (broadcastInDim S4x2048x1 ![0, 1] bcast_S4x2048_S4x2048x1_0_1 (Host.reduceAdd (mulf (shapeCast S4x2048x1024 x shapeCasts_S8192x1024_S4x2048x1024) (shapeCast S4x2048x1024 x shapeCasts_S8192x1024_S4x2048x1024)) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32))))

/-- The modulated latent tokens. -/
def hidX (x : FVec Ideal S8192x1024 .f32) (mo : FVec Ideal S4x2x6x1024 .f32) (g : FVec Ideal S1x1024 .f32) : FVec Ideal S4x2048x1024 .f32 :=
  (addf (mulf (mulf (mulf (shapeCast S4x2048x1024 x shapeCasts_S8192x1024_S4x2048x1024) (broadcastInDim S4x2048x1024 ![0, 1, 2] bcast_S4x2048x1_S4x2048x1024_0_1_2 (rstdX x))) (broadcastInDim S4x2048x1024 ![0, 1, 2] bcast_S1x1x1024_S4x2048x1024_0_1_2 (broadcastInDim S1x1x1024 ![2] bcast_S1024_S1x1x1024_2 (shapeCast S1024 g shapeCasts_S1x1024_S1024)))) (broadcastInDim S4x2048x1024 ![0, 1, 2] bcast_S4x1x1024_S4x2048x1024_0_1_2 (addf (broadcastInDim S4x1x1024 ![] bcast_S_S4x1x1024 (constant (F := Ideal) S_ .f32 0x3F800000#32)) (shapeCast S4x1x1024 (extractStridedSlice S4x1x1x1024 ![0, 1, 1, 0] mo slices_S4x2x6x1024_S4x1x1x1024_0_1_1_0) shapeCasts_S4x1x1x1024_S4x1x1024)))) (broadcastInDim S4x2048x1024 ![0, 1, 2] bcast_S4x1x1024_S4x2048x1024_0_1_2 (shapeCast S4x1x1024 (extractStridedSlice S4x1x1x1024 ![0, 1, 0, 0] mo slices_S4x2x6x1024_S4x1x1x1024_0_1_0_0) shapeCasts_S4x1x1x1024_S4x1x1024)))

/-- The reciprocal root mean square of each context token. -/
def rstdC (ct : FVec Ideal S1024x1024 .f32) : FVec Ideal S4x256x1 .f32 :=
  (Host.rsqrt (addf (Host.divf (broadcastInDim S4x256x1 ![0, 1] bcast_S4x256_S4x256x1_0_1 (Host.reduceAdd (mulf (shapeCast S4x256x1024 ct shapeCasts_S1024x1024_S4x256x1024) (shapeCast S4x256x1024 ct shapeCasts_S1024x1024_S4x256x1024)) (constant (F := Ideal) S_ .f32 0x00000000#32) reducesTo_S4x256x1024_S4x256_d2 h_S_)) (broadcastInDim S4x256x1 ![] bcast_S_S4x256x1 (constant (F := Ideal) S_ .f32 0x44800000#32))) (broadcastInDim S4x256x1 ![] bcast_S_S4x256x1 (constant (F := Ideal) S_ .f32 0x358637BD#32))))

/-- The modulated context tokens. -/
def hidC (ct : FVec Ideal S1024x1024 .f32) (mo : FVec Ideal S4x2x6x1024 .f32) (g : FVec Ideal S1x1024 .f32) : FVec Ideal S4x256x1024 .f32 :=
  (addf (mulf (mulf (mulf (shapeCast S4x256x1024 ct shapeCasts_S1024x1024_S4x256x1024) (broadcastInDim S4x256x1024 ![0, 1, 2] bcast_S4x256x1_S4x256x1024_0_1_2 (rstdC ct))) (broadcastInDim S4x256x1024 ![0, 1, 2] bcast_S1x1x1024_S4x256x1024_0_1_2 (broadcastInDim S1x1x1024 ![2] bcast_S1024_S1x1x1024_2 (shapeCast S1024 g shapeCasts_S1x1024_S1024)))) (broadcastInDim S4x256x1024 ![0, 1, 2] bcast_S4x1x1024_S4x256x1024_0_1_2 (addf (broadcastInDim S4x1x1024 ![] bcast_S_S4x1x1024 (constant (F := Ideal) S_ .f32 0x3F800000#32)) (shapeCast S4x1x1024 (extractStridedSlice S4x1x1x1024 ![0, 0, 1, 0] mo slices_S4x2x6x1024_S4x1x1x1024_0_0_1_0) shapeCasts_S4x1x1x1024_S4x1x1024)))) (broadcastInDim S4x256x1024 ![0, 1, 2] bcast_S4x1x1024_S4x256x1024_0_1_2 (shapeCast S4x1x1024 (extractStridedSlice S4x1x1x1024 ![0, 0, 0, 0] mo slices_S4x2x6x1024_S4x1x1x1024_0_0_0_0) shapeCasts_S4x1x1x1024_S4x1x1024)))

/-- All tokens, each batch entry's context first. -/
def hid (x : FVec Ideal S8192x1024 .f32) (ct : FVec Ideal S1024x1024 .f32) (mo : FVec Ideal S4x2x6x1024 .f32) (g : FVec Ideal S1x1024 .f32) : FVec Ideal S9216x1024 .f32 :=
  (shapeCast S9216x1024 (concatenate S4x2304x1024 1 [⟨S4x256x1024, (hidC ct mo g)⟩, ⟨S4x2048x1024, (hidX x mo g)⟩] concatenates_S4x256x1024_S4x2048x1024_S4x2304x1024_d1) shapeCasts_S4x2304x1024_S9216x1024)

/-- Their product with the recurrence's weight. -/
def outRw (x : FVec Ideal S8192x1024 .f32) (ct : FVec Ideal S1024x1024 .f32) (mo : FVec Ideal S4x2x6x1024 .f32) (g : FVec Ideal S1x1024 .f32) (wr : FVec Ideal S1024x2304 .f32) : FVec Ideal S9216x2304 .f32 :=
  (Host.dotGeneral (F := Ideal) (φ₁ := .f32) (φ₂ := .f32) dot_S9216x1024_S1024x2304_S9216x2304_1_0_0_1_n_n none (hid x ct mo g) wr)

/-- Their product with the convolution's weight. -/
def outCv (x : FVec Ideal S8192x1024 .f32) (ct : FVec Ideal S1024x1024 .f32) (mo : FVec Ideal S4x2x6x1024 .f32) (g : FVec Ideal S1x1024 .f32) (wc : FVec Ideal S1024x1024 .f32) : FVec Ideal S9216x1024 .f32 :=
  (Host.dotGeneral (F := Ideal) (φ₁ := .f32) (φ₂ := .f32) dot_S9216x1024_S1024x1024_S9216x1024_1_0_0_1_n_n none (hid x ct mo g) wc)

/-- The tokens themselves. -/
def outH (x : FVec Ideal S8192x1024 .f32) (ct : FVec Ideal S1024x1024 .f32) (mo : FVec Ideal S4x2x6x1024 .f32) (g : FVec Ideal S1x1024 .f32) : FVec Ideal S9216x1024 .bf16 :=
  (truncf .bf16 (hid x ct mo g) bitsLt_bf16_f32)

section

variable (x : FVec Ideal S8192x1024 .f32) (ct : FVec Ideal S1024x1024 .f32) (mo : FVec Ideal S4x2x6x1024 .f32) (g : FVec Ideal S1x1024 .f32)
  (wr : FVec Ideal S1024x2304 .f32) (wc : FVec Ideal S1024x1024 .f32)

theorem rstdX_apply (b : Fin 4) (n : Fin 2048) :
    rstdX x (ix3 b n 0) = rowRstd (fun k => x (ix2 ⟨b.val * 2048 + n.val, by have := b.isLt; have := n.isLt; omega⟩ k)) := by
  pointwise [rstdX, rowRstd]

theorem rstdC_apply (b : Fin 4) (n : Fin 256) :
    rstdC ct (ix3 b n 0) = rowRstd (fun k => ct (ix2 ⟨b.val * 256 + n.val, by have := b.isLt; have := n.isLt; omega⟩ k)) := by
  pointwise [rstdC, rowRstd]

/-- A latent token. -/
theorem hidX_apply (b : Fin 4) (n : Fin 2048) (d : Fin 1024) :
    hidX x mo g (ix3 b n d) = rowHid (fun k => x (ix2 ⟨b.val * 2048 + n.val, by have := b.isLt; have := n.isLt; omega⟩ k)) (fun k => g (ix2 0 k))
      (fun k => mo (ix4 b 1 1 k)) (fun k => mo (ix4 b 1 0 k)) d := by
  unfold rowHid
  rw [← rstdX_apply]
  pointwise [hidX]

/-- A context token. -/
theorem hidC_apply (b : Fin 4) (n : Fin 256) (d : Fin 1024) :
    hidC ct mo g (ix3 b n d) = rowHid (fun k => ct (ix2 ⟨b.val * 256 + n.val, by have := b.isLt; have := n.isLt; omega⟩ k)) (fun k => g (ix2 0 k))
      (fun k => mo (ix4 b 0 1 k)) (fun k => mo (ix4 b 0 0 k)) d := by
  unfold rowHid
  rw [← rstdC_apply]
  pointwise [hidC]

theorem hid_apply (b : Fin 4) (n : Fin 2304) (d : Fin 1024) (h : b.val * 2304 + n.val < 9216) :
    hid x ct mo g (ix2 ⟨b.val * 2304 + n.val, h⟩ d) = if h : n.val < 256 then hidC ct mo g (ix3 b ⟨n.val, h⟩ d)
      else hidX x mo g (ix3 b ⟨n.val - 256, by have := n.isLt; omega⟩ d) := by
  pointwise [hid]

theorem outH_apply (j : S9216x1024.Idx) : outH x ct mo g j = hid x ct mo g j := by pointwise [outH]

theorem outRw_apply (j : S9216x2304.Idx) : outRw x ct mo g wr j = ∑ k : Fin 1024, hid x ct mo g (ix2 (j 0) k) * wr (ix2 k (j 1)) := by
  pointwise [outRw]

theorem outCv_apply (j : S9216x1024.Idx) : outCv x ct mo g wc j = ∑ k : Fin 1024, hid x ct mo g (ix2 (j 0) k) * wc (ix2 k (j 1)) := by
  pointwise [outCv]

end

/-- The reference's run, each result by its name here. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = outRw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v53) = outCv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v54) = outH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ?_) (run m ρ)
  exact ⟨(h c).1.trans rfl, (h c).2.1.trans rfl, (h c).2.2.1.trans rfl, (h c).2.2.2⟩

end Cert.MixInRefIdeal.Math

end
-- ==== Proof.MixInValue.lean ====
/-
  The call for the mixer's input: the grid has 36 tiles of 256 tokens, 9 for each batch entry, of which the first holds the context.
  Each of the call's three results is the reference's.
-/
module

public import proofs.«01_k».proof.Proof.Gen.MixInIdeal.Value
public import proofs.«01_k».proof.Proof.MixInPay
public import proofs.«01_k».proof.Proof.MixInRef
public import Idealize.ShloMosaic.Lib.Pipeline.ValueKit
public import Idealize.ShloMosaic.Lib.Pipeline.ReadBack

@[expose] public section

set_option maxRecDepth 16384

noncomputable section

namespace Cert.MixInIdeal.Math

open Cert.MixInIdeal Cert.MixInIdeal.Gen
open Cert.MixInRefIdeal.Math (rowRstd rowHid hidX hidC hid outRw outCv outH hidX_apply hidC_apply hid_apply outH_apply outRw_apply outCv_apply)
open Idealize.ShloMosaic Idealize.ShloMosaic.TcCoe Idealize.SL.Sem
open Idealize.ShloMosaic.Pipeline (Dat)

variable (m : (ℓ : Loc nD τ sig) → Buf (Elt Ideal) ℓ)

/-- The arguments, each as an array of its shape. -/
abbrev aX (c : Dev nD) : FVec Ideal S8192x1024 .f32 := m ((c.tc : Thread nD τ).loc main_arg0)
abbrev aCt (c : Dev nD) : FVec Ideal S1024x1024 .f32 := m ((c.tc : Thread nD τ).loc main_arg1)
abbrev aMod (c : Dev nD) : FVec Ideal S4x2x6x1024 .f32 := m ((c.tc : Thread nD τ).loc main_arg2)
abbrev aG (c : Dev nD) : FVec Ideal S1x1024 .f32 := m ((c.tc : Thread nD τ).loc main_arg3)
abbrev aWr (c : Dev nD) : FVec Ideal S1024x2304 .f32 := m ((c.tc : Thread nD τ).loc main_arg4)
abbrev aWc (c : Dev nD) : FVec Ideal S1024x1024 .f32 := m ((c.tc : Thread nD τ).loc main_arg5)

/-- Which blocks a grid point reads. -/
theorem idxIn : ∀ t : Fin cfg0.N, win0_0.index t = ![t.val / 9 * 8 + (t.val % 9 - 1), 0] ∧ win0_1.index t = ![t.val / 9, 0]
    ∧ win0_2.index t = ![t.val / 9, min (t.val % 9) 1, 0, 0] ∧ win0_3.index t = ![0, 0] ∧ win0_4.index t = ![0, 0] ∧ win0_5.index t = ![0, 0] :=
  (by decide +kernel : ∀ t : Fin grid0.N, _)

/-- Which blocks it writes. -/
theorem idxOut : ∀ t : Fin cfg0.N, win0_6.index t = ![t.val, 0] ∧ win0_7.index t = ![t.val, 0] ∧ win0_8.index t = ![t.val, 0] :=
  (by decide +kernel : ∀ t : Fin grid0.N, _)

/-- There are 36 grid points. -/
theorem lt36 (t : Fin cfg0.N) : t.val < 36 := t.isLt

/-- Row `i` of point `t`'s tile among the latent tokens. -/
abbrev row (t : Fin cfg0.N) (i : Fin 256) : Fin 8192 :=
  ⟨(t.val / 9 * 8 + (t.val % 9 - 1)) * 256 + i.val, by have := lt36 t; have := i.isLt; omega⟩

/-- Row `i` of point `t`'s tile among the context tokens. -/
abbrev crow (t : Fin cfg0.N) (i : Fin 256) : Fin 1024 :=
  ⟨t.val / 9 * 256 + i.val, by have := lt36 t; have := i.isLt; omega⟩

theorem blkX (c : Dev nD) (t : Fin cfg0.N) (i : Fin 256) (d : Fin 1024) : iblk m c 0 t (ix2 i d) = aX m c (ix2 (row t i) d) := by
  blk_point [iblk, V, idxIn t]

theorem blkCt (c : Dev nD) (t : Fin cfg0.N) (i : Fin 256) (d : Fin 1024) : iblk m c 1 t (ix2 i d) = aCt m c (ix2 (crow t i) d) := by
  blk_point [iblk, V, idxIn t]

theorem blkMod (c : Dev nD) (t : Fin cfg0.N) (k : Fin 6) (d : Fin 1024) :
    iblk m c 2 t (ix4 0 0 k d) = aMod m c (ix4 ⟨t.val / 9, by have := lt36 t; omega⟩ ⟨min (t.val % 9) 1, by omega⟩ k d) := by
  blk_point [iblk, V, idxIn t]

theorem blkG (c : Dev nD) (t : Fin cfg0.N) (d : Fin 1024) : iblk m c 3 t (ix2 0 d) = aG m c (ix2 0 d) := by
  blk_point [iblk, V, idxIn t]

/-- The weights as the call receives them. -/
def wrCast (w : FVec Ideal S1024x2304 .f32) : FVec Ideal S1024x2304 .bf16 := truncf .bf16 w bitsLt_bf16_f32
def wcCast (w : FVec Ideal S1024x1024 .f32) : FVec Ideal S1024x1024 .bf16 := truncf .bf16 w bitsLt_bf16_f32

theorem V0 (c : Dev nD) : V m c main_v0 = wrCast (aWr m c) := by
  unfold_abbrev_sides
  after_results
  rfl

theorem V1 (c : Dev nD) : V m c main_v1 = wcCast (aWc m c) := by
  unfold_abbrev_sides
  after_results
  rfl

theorem blkWr (c : Dev nD) (t : Fin cfg0.N) (i : Fin 1024) (d : Fin 2304) : iblk m c 4 t (ix2 i d) = aWr m c (ix2 i d) := by
  rw [show aWr m c (ix2 i d) = wrCast (aWr m c) (ix2 i d) from rfl, ← V0]
  blk_point [iblk, idxIn t]

theorem blkWc (c : Dev nD) (t : Fin cfg0.N) (i d : Fin 1024) : iblk m c 5 t (ix2 i d) = aWc m c (ix2 i d) := by
  rw [show aWc m c (ix2 i d) = wcCast (aWc m c) (ix2 i d) from rfl, ← V1]
  blk_point [iblk, idxIn t]

/-- The scale's and the shift's row of the tile's batch entry. -/
abbrev scale (c : Dev nD) (t : Fin cfg0.N) : Vec Ideal S1x1x1x1024 .f32 :=
  View.ld (iblk m c 2 t) (Rect.unit ![0, 0, 1, 0] ![1, 1, 1, 1024] inb_S1x1x6x1024_S1x1x1x1024_0_0_1_0)

abbrev shift (c : Dev nD) (t : Fin cfg0.N) : Vec Ideal S1x1x1x1024 .f32 :=
  View.ld (iblk m c 2 t) (Rect.unit ![0, 0, 0, 0] ![1, 1, 1, 1024] inb_S1x1x6x1024_S1x1x1x1024_0_0_0_0)

theorem scale_apply (c : Dev nD) (t : Fin cfg0.N) (d : Fin 1024) :
    scale m c t (ix4 0 0 0 d) = aMod m c (ix4 ⟨t.val / 9, by have := lt36 t; omega⟩ ⟨min (t.val % 9) 1, by omega⟩ 1 d) := by
  rw [← blkMod]
  refine congrArg (iblk m c 2 t) ?_
  funext a
  refine Fin.ext ?_
  match a with
  | ⟨0, _⟩ => rfl
  | ⟨1, _⟩ => rfl
  | ⟨2, _⟩ => rfl
  | ⟨3, _⟩ => show 0 + 1 * d.val = d.val; omega

theorem shift_apply (c : Dev nD) (t : Fin cfg0.N) (d : Fin 1024) :
    shift m c t (ix4 0 0 0 d) = aMod m c (ix4 ⟨t.val / 9, by have := lt36 t; omega⟩ ⟨min (t.val % 9) 1, by omega⟩ 0 d) := by
  rw [← blkMod]
  refine congrArg (iblk m c 2 t) ?_
  funext a
  refine Fin.ext ?_
  match a with
  | ⟨0, _⟩ => rfl
  | ⟨1, _⟩ => rfl
  | ⟨2, _⟩ => rfl
  | ⟨3, _⟩ => show 0 + 1 * d.val = d.val; omega

/-- What a point computes: its modulated tokens. -/
abbrev tileHid (c : Dev nD) (t : Fin cfg0.N) : FVec Ideal S256x1024 .bf16 :=
  k0_pay1 (F := Ideal) (k0_pay4 (grid0.coords t) (iblk m c 1 t) (iblk m c 0 t) (iblk m c 3 t)) (k0_pay5 (scale m c t)) k0_pay6 (shift m c t)

theorem out6 (c : Dev nD) (t : Fin cfg0.N) :
    out0_6 (grid0.coords t) (iblk m c 0 t) (iblk m c 1 t) (iblk m c 2 t) (iblk m c 3 t) (iblk m c 4 t) (iblk m c 5 t)
      = k0_pay2 (F := Ideal) (k0_pay4 (grid0.coords t) (iblk m c 1 t) (iblk m c 0 t) (iblk m c 3 t)) (k0_pay5 (scale m c t)) k0_pay6 (shift m c t) (iblk m c 4 t) := by
  unfold_out out0_6; frame_out; rfl

theorem out7 (c : Dev nD) (t : Fin cfg0.N) :
    out0_7 (grid0.coords t) (iblk m c 0 t) (iblk m c 1 t) (iblk m c 2 t) (iblk m c 3 t) (iblk m c 4 t) (iblk m c 5 t)
      = k0_pay3 (F := Ideal) (k0_pay4 (grid0.coords t) (iblk m c 1 t) (iblk m c 0 t) (iblk m c 3 t)) (k0_pay5 (scale m c t)) k0_pay6 (shift m c t) (iblk m c 5 t) := by
  unfold_out out0_7; frame_out; rfl

theorem out8 (c : Dev nD) (t : Fin cfg0.N) :
    out0_8 (grid0.coords t) (iblk m c 0 t) (iblk m c 1 t) (iblk m c 2 t) (iblk m c 3 t) (iblk m c 4 t) (iblk m c 5 t) = tileHid m c t := by
  unfold_out out0_8; frame_out; rfl

/-- A tile's row, if `v` is the row it holds. -/
theorem tileHid_row (c : Dev nD) (t : Fin cfg0.N) (i : Fin 256) (d : Fin 1024) (v : Fin 1024 → EReal)
    (hv : ∀ k, tile (grid0.coords t) (iblk m c 1 t) (iblk m c 0 t) i k = v k) (p : Fin 2) (hp : (⟨min (t.val % 9) 1, by omega⟩ : Fin 2) = p) :
    tileHid m c t (ix2 i d) = rowHid v (fun k => aG m c (ix2 0 k)) (fun k => aMod m c (ix4 ⟨t.val / 9, by have := lt36 t; omega⟩ p 1 k))
      (fun k => aMod m c (ix4 ⟨t.val / 9, by have := lt36 t; omega⟩ p 0 k)) d := by
  subst hp
  refine (pay1_apply _ _ _ _ _).trans ?_
  unfold rowHid rowRstd
  refine congrArg₂ (· + ·) (congrArg₂ (· * ·) ((pay4_apply _ _ _ _ i d).trans ?_) (congrArg₂ (· + ·) (pay6_apply _) ((pay5_apply _ _).trans (scale_apply m c t d))))
    (shift_apply m c t d)
  refine congrArg₂ (· * ·) ?_ (blkG m c t d)
  simp only [hv]

theorem tileHid_eq (c : Dev nD) (t : Fin cfg0.N) (i : Fin 256) (d : Fin 1024) (h : t.val / 9 * 2304 + (t.val % 9 * 256 + i.val) < 9216) :
    tileHid m c t (ix2 i d) = hid (aX m c) (aCt m c) (aMod m c) (aG m c) (ix2 ⟨t.val / 9 * 2304 + (t.val % 9 * 256 + i.val), h⟩ d) := by
  have ht := lt36 t
  have hi := i.isLt
  refine Eq.trans ?_ (hid_apply (aX m c) (aCt m c) (aMod m c) (aG m c) ⟨t.val / 9, by omega⟩ ⟨t.val % 9 * 256 + i.val, by omega⟩ d h).symm
  by_cases h0 : t.val % 9 = 0
  · rw [dif_pos (by show t.val % 9 * 256 + i.val < 256; omega)]
    refine Eq.trans ?_ (hidC_apply _ _ _ _ _ _).symm
    refine tileHid_row m c t i d _ (fun k => (tile_ctx t h0 _ _ i k).trans ((blkCt m c t i k).trans ?_)) 0 (Fin.ext (by show min (t.val % 9) 1 = 0; omega))
    exact congrArg (fun n : Fin 1024 => aCt m c (ix2 n k)) (Fin.ext (by show t.val / 9 * 256 + i.val = t.val / 9 * 256 + (t.val % 9 * 256 + i.val); omega))
  · rw [dif_neg (by show ¬t.val % 9 * 256 + i.val < 256; omega)]
    refine Eq.trans ?_ (hidX_apply _ _ _ _ _ _).symm
    refine tileHid_row m c t i d _ (fun k => (tile_lat t h0 _ _ i k).trans ((blkX m c t i k).trans ?_)) 1 (Fin.ext (by show min (t.val % 9) 1 = 1; omega))
    exact congrArg (fun n : Fin 8192 => aX m c (ix2 n k)) (Fin.ext (by
      show (t.val / 9 * 8 + (t.val % 9 - 1)) * 256 + i.val = t.val / 9 * 2048 + (t.val % 9 * 256 + i.val - 256); omega))

theorem emb6 (t : Fin cfg0.N) (i : Fin 256) (d : Fin 2304) (h : t.val / 9 * 2304 + (t.val % 9 * 256 + i.val) < 9216) :
    (win0_6.blk t).view.emb (ix2 i d : S256x2304.Idx) = (ix2 ⟨t.val / 9 * 2304 + (t.val % 9 * 256 + i.val), h⟩ d : S9216x2304.Idx) := by
  have e : t.val / 9 * 2304 + (t.val % 9 * 256 + i.val) = t.val * 256 + i.val := by omega
  refine Eq.trans (b := (ix2 ⟨t.val * 256 + i.val, by omega⟩ d : S9216x2304.Idx)) ?_ (congrArg (fun n : Fin 9216 => (ix2 n d : S9216x2304.Idx)) (Fin.ext e.symm))
  blk_ext [idxOut t]

theorem emb7 (t : Fin cfg0.N) (i : Fin 256) (d : Fin 1024) (h : t.val / 9 * 2304 + (t.val % 9 * 256 + i.val) < 9216) :
    (win0_7.blk t).view.emb (ix2 i d : S256x1024.Idx) = (ix2 ⟨t.val / 9 * 2304 + (t.val % 9 * 256 + i.val), h⟩ d : S9216x1024.Idx) := by
  have e : t.val / 9 * 2304 + (t.val % 9 * 256 + i.val) = t.val * 256 + i.val := by omega
  refine Eq.trans (b := (ix2 ⟨t.val * 256 + i.val, by omega⟩ d : S9216x1024.Idx)) ?_ (congrArg (fun n : Fin 9216 => (ix2 n d : S9216x1024.Idx)) (Fin.ext e.symm))
  blk_ext [idxOut t]

theorem emb8 (t : Fin cfg0.N) (i : Fin 256) (d : Fin 1024) (h : t.val / 9 * 2304 + (t.val % 9 * 256 + i.val) < 9216) :
    (win0_8.blk t).view.emb (ix2 i d : S256x1024.Idx) = (ix2 ⟨t.val / 9 * 2304 + (t.val % 9 * 256 + i.val), h⟩ d : S9216x1024.Idx) := by
  have e : t.val / 9 * 2304 + (t.val % 9 * 256 + i.val) = t.val * 256 + i.val := by omega
  refine Eq.trans (b := (ix2 ⟨t.val * 256 + i.val, by omega⟩ d : S9216x1024.Idx)) ?_ (congrArg (fun n : Fin 9216 => (ix2 n d : S9216x1024.Idx)) (Fin.ext e.symm))
  blk_ext [idxOut t]

theorem eta2 {a b : ℕ} (y : (⟨2, ![a, b]⟩ : Shape).Idx) : ∃ (i : Fin a) (k : Fin b), y = ix2 i k :=
  ⟨y 0, y 1, by funext q; match q with | ⟨0, _⟩ => rfl | ⟨1, _⟩ => rfl⟩

theorem final6 (c : Dev nD) : (dats m 0 c).arrAt 6 cfg0.N = outRw (aX m c) (aCt m c) (aMod m c) (aG m c) (aWr m c) := by
  refine (dats m 0 c).arrAt_eq_of_covers 6 _ (by decide +kernel) fun t hf y => ?_
  blk_simp
  obtain ⟨i, d, rfl⟩ := eta2 (a := 256) (b := 2304) y
  have ht := lt36 t
  have hi := i.isLt
  rw [after0_6, out6, emb6 t i d (by omega)]
  refine (pay2_apply _ _ _ _ _ _).trans (Eq.trans ?_ (outRw_apply _ _ _ _ _ _).symm)
  exact Finset.sum_congr rfl fun k _ => congrArg₂ (· * ·) (tileHid_eq m c t i k _) (blkWr m c t k d)

theorem final7 (c : Dev nD) : (dats m 0 c).arrAt 7 cfg0.N = outCv (aX m c) (aCt m c) (aMod m c) (aG m c) (aWc m c) := by
  refine (dats m 0 c).arrAt_eq_of_covers 7 _ (by decide +kernel) fun t hf y => ?_
  blk_simp
  obtain ⟨i, d, rfl⟩ := eta2 (a := 256) (b := 1024) y
  have ht := lt36 t
  have hi := i.isLt
  rw [after0_7, out7, emb7 t i d (by omega)]
  refine (pay3_apply _ _ _ _ _ _).trans (Eq.trans ?_ (outCv_apply _ _ _ _ _ _).symm)
  exact Finset.sum_congr rfl fun k _ => congrArg₂ (· * ·) (tileHid_eq m c t i k _) (blkWc m c t k d)

theorem final8 (c : Dev nD) : (dats m 0 c).arrAt 8 cfg0.N = outH (aX m c) (aCt m c) (aMod m c) (aG m c) := by
  refine (dats m 0 c).arrAt_eq_of_covers 8 _ (by decide +kernel) fun t hf y => ?_
  blk_simp
  obtain ⟨i, d, rfl⟩ := eta2 (a := 256) (b := 1024) y
  have ht := lt36 t
  have hi := i.isLt
  rw [after0_8, out8, emb8 t i d (by omega)]
  exact (tileHid_eq m c t i d _).trans (outH_apply _ _ _ _ _).symm

end Cert.MixInIdeal.Math

end
-- ==== Proof.ConvMath.lean ====
/-
  What the gradient of the Conformer convolution rests on, over the extended reals: the gradient of a layer normalisation of one row,
  the derivative of the gated linear activation, and sums along a grid row in which a tap joins an output to at most one input.
-/
module

public import Idealize.ShloMosaic.Lib.Pointwise
public import Idealize.ShloMosaic.Lib.IdealHost
public import proofs.«01_k».proof.Proof.RowNorm

@[expose] public section

noncomputable section

namespace Cert.ConvMath

open Idealize.ShloMosaic Cert.RowNorm

theorem n512_f32 : Ideal.ofBits .f32 0x44000000#32 = ((512 : ℝ) : EReal) := by
  simp [Ideal.ofBits, Ideal.ieee, -EReal.coe_mul]; norm_num

/-- The small constant of the layer normalisation is a positive real. -/
theorem epsLn_f32 : ∃ e : ℝ, 0 < e ∧ Ideal.ofBits .f32 0x3727C5AC#32 = (e : EReal) := by
  refine ⟨_, ?_, by simp [Ideal.ofBits, Ideal.ieee, -EReal.coe_mul]; rfl⟩
  norm_num

/-- A sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- If a sum of squares is finite then so is every summand. -/
theorem finite_of_sumsq {ι : Type*} [Fintype ι] (c : ι → EReal) (h : ∑ i, c i * c i ≠ ⊤) (i : ι) : ∃ r : ℝ, c i = (r : EReal) := by
  have hi : c i * c i ≤ ∑ k, c k * c k := Finset.single_le_sum (f := fun k => c k * c k) (fun k _ => by
    induction c k with
    | bot => simp
    | top => simp
    | coe r => exact_mod_cast mul_self_nonneg r) (Finset.mem_univ i)
  induction hc : c i with
  | bot => rw [hc] at hi; exact absurd (top_le_iff.mp (by simpa using hi)) h
  | top => rw [hc] at hi; exact absurd (top_le_iff.mp (by simpa using hi)) h
  | coe r => exact ⟨r, rfl⟩

/-- A difference from a fixed number that is real was of a real number, and the fixed number is one. -/
theorem finite_of_sub (x u : EReal) (h : ∃ r : ℝ, x - u = (r : EReal)) : (∃ a : ℝ, x = (a : EReal)) ∧ ∃ b : ℝ, u = (b : EReal) := by
  obtain ⟨r, h⟩ := h
  induction x with
  | bot => rw [EReal.bot_sub] at h; exact absurd h (EReal.coe_ne_bot r).symm
  | top =>
    induction u with
    | bot => rw [EReal.top_sub_bot] at h; exact absurd h (EReal.coe_ne_top r).symm
    | top => rw [EReal.sub_top] at h; exact absurd h (EReal.coe_ne_bot r).symm
    | coe b => rw [EReal.top_sub_coe] at h; exact absurd h (EReal.coe_ne_top r).symm
  | coe a =>
    induction u with
    | bot => rw [EReal.coe_sub_bot] at h; exact absurd h (EReal.coe_ne_top r).symm
    | top => rw [EReal.sub_top] at h; exact absurd h (EReal.coe_ne_bot r).symm
    | coe b => exact ⟨⟨a, rfl⟩, ⟨b, rfl⟩⟩

/-- The gradient of a layer normalisation of one row: what differentiating the mean, the squares, their mean and the root one after the
    other gives is the scaled gradient less its mean and less its projection on the normalised row. A row with an infinite entry has an
    infinite variance, is scaled by zero, and both are zero; otherwise everything is real. -/
theorem ln_grad {ι : Type*} [Fintype ι] (x d : ι → EReal) (i : ι) {n e : ℝ} (hn : 0 < n) (hcard : (Fintype.card ι : ℝ) = n) (he : 0 < e)
    (hd : ∀ k, ∃ r : ℝ, d k = (r : EReal)) {u s q : EReal} (hu : u = Ideal.div (∑ k, x k) (n : EReal))
    (hs : s = Ideal.rsqrt (Ideal.div (∑ k, (x k - u) * (x k - u)) (n : EReal) + (e : EReal)))
    (hq : q = Ideal.div s (Ideal.div (∑ k, (x k - u) * (x k - u)) (n : EReal) + (e : EReal))) :
    d i * s + Ideal.div ((∑ k, (x k - u) * d k) * (((-(1 / 2) : ℝ) : EReal) * q)) (n : EReal) * (2 * (x i - u))
        + Ideal.div ((∑ k, -(d k * s)) + ∑ k, -(Ideal.div ((∑ k, (x k - u) * d k) * (((-(1 / 2) : ℝ) : EReal) * q)) (n : EReal) * (2 * (x k - u)))) (n : EReal)
      = s * ((d i - Ideal.div (∑ k, d k) (n : EReal)) - (x i - u) * s * Ideal.div (∑ k, d k * ((x k - u) * s)) (n : EReal)) := by
  rcases scale_cases (fun k => x k - u) hn he with ⟨h, h'⟩ | ⟨r, hr, h, h'⟩
  · rw [← hs] at h h'; rw [← hq] at h'
    rw [Ideal.div_coe hn.ne', Ideal.div_coe hn.ne', Ideal.div_coe hn.ne', Ideal.div_coe hn.ne']
    simp [h, h']
  · have hfin : ∑ k, (x k - u) * (x k - u) ≠ ⊤ := by
      intro ht
      have h0 : (r : EReal) = 0 := by
        rw [← h, ht, Ideal.div_coe hn.ne', EReal.top_mul_coe_of_pos (by positivity), EReal.top_add_coe, Ideal.rsqrt_top]
      exact hr.ne' (EReal.coe_eq_zero.mp h0)
    have hc := finite_of_sumsq (fun k => x k - u) hfin
    obtain ⟨v, hv⟩ := (finite_of_sub (x i) u (hc i)).2
    choose a ha using fun k => (finite_of_sub (x k) u (hc k)).1
    choose b hb using hd
    rw [← hs] at h h'; rw [← hq] at h'
    have hsum : (v : EReal) = (((∑ k, a k) * (1 / n) : ℝ) : EReal) := by
      rw [← hv, hu, Ideal.div_coe hn.ne', EReal.coe_mul, ← coe_sum]; simp only [ha]
    have hv' : v = (∑ k, a k) * (1 / n) := EReal.coe_injective hsum
    have h0 : ∑ k, (a k - v) = 0 := by
      rw [Finset.sum_sub_distrib, Finset.sum_const, Finset.card_univ, nsmul_eq_mul, hcard, hv']; field_simp; ring
    have h2 : (2 : EReal) = ((2 : ℝ) : EReal) := by norm_cast
    simp only [Ideal.div_coe hn.ne', h, h', hv, ha, hb, h2, ← EReal.coe_mul, ← EReal.coe_add, ← EReal.coe_sub, ← EReal.coe_neg, coe_sum]
    refine congrArg _ ?_
    have e1 : ∑ k, b k * ((a k - v) * r) = r * ∑ k, (a k - v) * b k := by
      rw [Finset.mul_sum]; exact Finset.sum_congr rfl fun k _ => by ring
    have e2 : ∑ k, -(b k * r) = -(r * ∑ k, b k) := by
      rw [Finset.mul_sum, ← Finset.sum_neg_distrib]; exact Finset.sum_congr rfl fun k _ => by ring
    generalize hQ : ∑ k, (a k - v) * b k = Q at e1 ⊢
    have e3 : ∑ k, -(Q * (-(1 / 2) * (r * r * r)) * (1 / n) * (2 * (a k - v))) = 0 := by
      have : ∀ k, -(Q * (-(1 / 2) * (r * r * r)) * (1 / n) * (2 * (a k - v))) = (Q * (r * r * r) * (1 / n)) * (a k - v) := fun k => by ring
      rw [Finset.sum_congr rfl fun k _ => this k, ← Finset.mul_sum, h0, mul_zero]
    rw [e1, e2, e3]
    ring

/-- The derivative of `z · σ(z)` times a finite gradient, in the two forms. -/
theorem silu_grad (z : EReal) (a : ℝ) {s : EReal} (hs : s = Ideal.div 1 (1 + Ideal.exp (-z))) :
    (a : EReal) * s + z * (a : EReal) * (s * (1 - s)) = (a : EReal) * (s * (1 + z * (1 - s))) ∧ ∃ r : ℝ, (a : EReal) * (s * (1 + z * (1 - s))) = (r : EReal) := by
  induction z with
  | bot =>
    have h : s = 0 := hs.trans Ideal.logistic_bot
    rw [h]
    refine ⟨by simp, 0, by simp⟩
  | top =>
    have h : s = 1 := hs.trans Ideal.logistic_top
    have h1 : (1 : EReal) - 1 = 0 := by rw [show (1 : EReal) = ((1 : ℝ) : EReal) from rfl, ← EReal.coe_sub]; simp
    rw [h, h1]
    refine ⟨by simp, a, by simp⟩
  | coe r =>
    have h : s = ((1 / (1 + Real.exp (-r)) : ℝ) : EReal) := by
      have hp : (1 + Real.exp (-r) : ℝ) ≠ 0 := by positivity
      rw [hs, ← EReal.coe_neg, Ideal.exp_coe, show (1 : EReal) = ((1 : ℝ) : EReal) from rfl, ← EReal.coe_add, Ideal.div_coe hp, ← EReal.coe_mul, one_mul]
    rw [h]
    generalize (1 / (1 + Real.exp (-r)) : ℝ) = w
    rw [show (1 : EReal) = ((1 : ℝ) : EReal) from rfl]
    simp only [← EReal.coe_mul, ← EReal.coe_add, ← EReal.coe_sub]
    exact ⟨congrArg _ (by ring), _, rfl⟩

/-! One token of the convolution, `x`, through the layer normalisation and the gated linear activation, with a gradient `g` back. -/

section

variable (x g lw lb : Fin 512 → EReal) (k : Fin 512)

def rowMu : EReal := Ideal.div (∑ k, x k) (Ideal.ofBits .f32 0x44000000#32)

def rowVar : EReal := Ideal.div (∑ k, (x k - rowMu x) * (x k - rowMu x)) (Ideal.ofBits .f32 0x44000000#32) + Ideal.ofBits .f32 0x3727C5AC#32

def rowS : EReal := Ideal.rsqrt (rowVar x)

def rowHat : EReal := (x k - rowMu x) * rowS x

def rowCn : EReal := rowHat x k * lw k + lb k

def sgm (z : EReal) : EReal := Ideal.div 1 (1 + Ideal.exp (-z))

def rowDcn : EReal := g k * (sgm (rowCn x lw lb k) * (1 + rowCn x lw lb k * (1 - sgm (rowCn x lw lb k))))

def rowDc : EReal :=
  rowS x * ((rowDcn x g lw lb k * lw k - Ideal.div (∑ j, rowDcn x g lw lb j * lw j) (Ideal.ofBits .f32 0x44000000#32))
    - rowHat x k * Ideal.div (∑ j, rowDcn x g lw lb j * lw j * rowHat x j) (Ideal.ofBits .f32 0x44000000#32))

/-- The activation's gradient, as differentiating a product gives it. -/
theorem rowDcn_eq (hg : ∃ a : ℝ, g k = (a : EReal)) :
    g k * sgm (rowCn x lw lb k) + rowCn x lw lb k * g k * (sgm (rowCn x lw lb k) * (1 - sgm (rowCn x lw lb k))) = rowDcn x g lw lb k := by
  obtain ⟨a, ha⟩ := hg
  unfold rowDcn
  rw [ha]
  exact (silu_grad _ a rfl).1

theorem rowDcn_real (hg : ∃ a : ℝ, g k = (a : EReal)) : ∃ r : ℝ, rowDcn x g lw lb k = (r : EReal) := by
  obtain ⟨a, ha⟩ := hg
  unfold rowDcn
  rw [ha]
  exact (silu_grad _ a rfl).2

/-- The normalisation's gradient, as differentiating it step by step gives it. -/
theorem rowDc_eq (hg : ∀ k, ∃ a : ℝ, g k = (a : EReal)) (hw : ∀ k, ∃ a : ℝ, lw k = (a : EReal)) (d : Fin 512 → EReal) (hd : ∀ k, d k = rowDcn x g lw lb k * lw k)
    {a : EReal} (ha : a = Ideal.div ((∑ k, (x k - rowMu x) * d k) * (Ideal.ofBits .f32 0xBF000000#32 * Ideal.div (rowS x) (rowVar x))) (Ideal.ofBits .f32 0x44000000#32)) :
    d k * rowS x + a * (Ideal.ofBits .f32 0x40000000#32 * (x k - rowMu x))
        + Ideal.div ((∑ k, -(d k * rowS x)) + ∑ k, -(a * (Ideal.ofBits .f32 0x40000000#32 * (x k - rowMu x)))) (Ideal.ofBits .f32 0x44000000#32)
      = rowDc x g lw lb k := by
  obtain ⟨e, he, hE⟩ := epsLn_f32
  have hr : ∀ k, ∃ r : ℝ, d k = (r : EReal) := fun k => by
    obtain ⟨b, hb⟩ := rowDcn_real x g lw lb k (hg k)
    obtain ⟨c, hc⟩ := hw k
    exact ⟨b * c, by rw [hd, hb, hc, EReal.coe_mul]⟩
  have h := ln_grad x d k (n := 512) (e := e) (u := rowMu x) (s := rowS x) (q := Ideal.div (rowS x) (rowVar x)) (by norm_num) (by simp) he hr
    (by rw [rowMu, n512_f32]) (by rw [rowS, rowVar, n512_f32, hE]) (by rw [rowVar, n512_f32, hE])
  rw [ha, half_f32, two_f32, n512_f32, h]
  unfold rowDc rowHat
  simp only [hd, n512_f32]

end

/-- A factor goes into a sum of which at most one summand is kept. -/
theorem mul_sum_single {ι : Type*} [Fintype ι] (P : ι → Prop) [DecidablePred P] (hP : ∀ a b, P a → P b → a = b) (y : EReal) (f : ι → EReal) :
    y * (∑ j, if P j then f j else 0) = ∑ j, if P j then y * f j else 0 := by
  by_cases h : ∃ j, P j
  · obtain ⟨j, hj⟩ := h
    rw [Finset.sum_eq_single j (fun b _ hb => if_neg fun hp => hb (hP b j hp hj)) (fun h => absurd (Finset.mem_univ j) h),
      Finset.sum_eq_single j (fun b _ hb => if_neg fun hp => hb (hP b j hp hj)) (fun h => absurd (Finset.mem_univ j) h), if_pos hj, if_pos hj]
  · have h' : ∀ j, ¬P j := fun j hj => h ⟨j, hj⟩
    rw [Finset.sum_eq_zero fun j _ => if_neg (h' j), Finset.sum_eq_zero fun j _ => if_neg (h' j), mul_zero]

/-- The entry of a grid row that tap `k` joins to place `p`, or zero beyond the row's ends. -/
def shiftRow (k : ℕ) (f : Fin 64 → EReal) (p : Fin 64) : EReal :=
  if h : 15 ≤ p.val + k ∧ p.val + k < 79 then f ⟨p.val + k - 15, by omega⟩ else 0

theorem sum_shift (k : ℕ) (f : Fin 64 → EReal) (p : Fin 64) :
    (∑ i : Fin 64, if i.val + 15 = p.val + k then f i else 0) = shiftRow k f p := by
  unfold shiftRow
  split_ifs with h
  · rw [Finset.sum_eq_single ⟨p.val + k - 15, by omega⟩ (fun b _ hb => if_neg fun hp => hb (Fin.ext (by show b.val = p.val + k - 15; omega)))
      (fun h => absurd (Finset.mem_univ _) h), if_pos (by show p.val + k - 15 + 15 = p.val + k; omega)]
  · exact Finset.sum_eq_zero fun i _ => if_neg (by have := i.isLt; omega)

/-- A grid row's product with the transposed band, tap by tap. -/
theorem band_sum (dc : Fin 64 → EReal) (w : Fin 31 → EReal) (p : Fin 64) :
    (∑ i : Fin 64, dc i * ∑ j : Fin 31, if p.val + 15 = i.val + j.val then w j else 0) = ∑ j : Fin 31, w j * shiftRow (30 - j.val) dc p := by
  refine (Finset.sum_congr rfl fun i _ => mul_sum_single _ (fun a b ha hb => Fin.ext (by omega)) _ _).trans ?_
  rw [Finset.sum_comm]
  refine Finset.sum_congr rfl fun j _ => ?_
  have hj := j.isLt
  rw [← sum_shift, mul_sum_single _ (fun a b ha hb => Fin.ext (by omega))]
  exact Finset.sum_congr rfl fun i _ => if_congr (by omega) (mul_comm _ _) rfl

/-- A tap's share of the band's gradient: the outputs times the inputs it joins them to. -/
theorem tap_sum {κ : Type*} [Fintype κ] (dc u : κ → Fin 64 → EReal) (j : ℕ) :
    (∑ i : Fin 64, ∑ p : Fin 64, if p.val + 15 = i.val + j then ∑ l, dc l i * u l p else 0) = ∑ l, ∑ i : Fin 64, dc l i * shiftRow j (u l) i := by
  have h : ∀ i : Fin 64, (∑ p : Fin 64, if p.val + 15 = i.val + j then ∑ l, dc l i * u l p else 0) = ∑ l, dc l i * shiftRow j (u l) i := by
    intro i
    refine (sum_shift j (fun p => ∑ l, dc l i * u l p) i).trans ?_
    unfold shiftRow
    split_ifs
    · rfl
    · exact (Finset.sum_eq_zero fun l _ => mul_zero _).symm
  rw [Finset.sum_congr rfl fun i _ => h i, Finset.sum_comm]

/-- The token that tap `k` joins to token `n`, along the grid rows of 64. -/
def shift (k : ℕ) (f : Fin 2048 → EReal) (n : Fin 2048) : EReal :=
  if h : 15 ≤ n.val % 64 + k ∧ n.val % 64 + k < 79 then f ⟨n.val + k - 15, by have := n.isLt; omega⟩ else 0

theorem shift_eq (k : ℕ) (f : Fin 2048 → EReal) (n : Fin 2048) :
    shift k f n = shiftRow k (fun p => f ⟨n.val / 64 * 64 + p.val, by have := n.isLt; have := p.isLt; omega⟩) ⟨n.val % 64, Nat.mod_lt _ (by decide)⟩ := by
  unfold shift shiftRow
  refine dite_congr rfl (fun h => ?_) (fun _ => rfl)
  have h' : 15 ≤ n.val % 64 + k ∧ n.val % 64 + k < 79 := h
  exact congrArg f (Fin.ext (by show n.val + k - 15 = n.val / 64 * 64 + (n.val % 64 + k - 15); omega))

end Cert.ConvMath

end
-- ==== Proof.ConvRef.lean ====
/-
  The reference of the Conformer convolution's gradient at an index: the gated unit, the band of taps along a grid row, the layer
  normalisation and the gated linear activation, and what differentiating them gives.
-/
module

public import proofs.«01_k».proof.Proof.Gen.ConvRefIdeal.Run
public import proofs.«01_k».proof.Proof.ConvMath
public import proofs.«01_k».proof.Proof.Sums
public import Idealize.ShloMosaic.Lib.Pointwise

@[expose] public section

set_option maxRecDepth 16384

noncomputable section

namespace Cert.ConvRefIdeal.Math

open Cert.ConvRefIdeal Cert.ConvRefIdeal.Gen Cert.ConvRefIdeal.Value
open Idealize.ShloMosaic Idealize.ShloMosaic.TcCoe Idealize.SL.Sem
open Cert.RowNorm Cert.ConvMath

/-- The incoming gradient of the convolution group, at the latent tokens. -/
def ct (dcat : FVec Ideal S9216x1024 .f32) : FVec Ideal S4x2048x512 .f32 :=
  (extractStridedSlice S4x2048x512 ![0, 0, 512] (extractStridedSlice S4x2048x1024 ![0, 256, 0] (shapeCast S4x2304x1024 dcat shapeCasts_S9216x1024_S4x2304x1024) slices_S4x2304x1024_S4x2048x1024_0_256_0) slices_S4x2048x1024_S4x2048x512_0_0_512)

/-- The gated unit's linear half. -/
def lin (p : FVec Ideal S9216x1024 .f32) : FVec Ideal S4x2048x512 .f32 :=
  (extractStridedSlice S4x2048x512 ![0, 0, 0] (extractStridedSlice S4x2048x1024 ![0, 256, 0] (shapeCast S4x2304x1024 p shapeCasts_S9216x1024_S4x2304x1024) slices_S4x2304x1024_S4x2048x1024_0_256_0) slices_S4x2048x1024_S4x2048x512_0_0_0)

/-- The gated unit's gate. -/
def gate (p : FVec Ideal S9216x1024 .f32) : FVec Ideal S4x2048x512 .f32 :=
  (Host.divf (broadcastInDim S4x2048x512 ![] bcast_S_S4x2048x512 (constant (F := Ideal) S_ .f32 0x3F800000#32)) (addf (broadcastInDim S4x2048x512 ![] bcast_S_S4x2048x512 (constant (F := Ideal) S_ .f32 0x3F800000#32)) (Host.exp (Host.negf (extractStridedSlice S4x2048x512 ![0, 0, 512] (extractStridedSlice S4x2048x1024 ![0, 256, 0] (shapeCast S4x2304x1024 p shapeCasts_S9216x1024_S4x2304x1024) slices_S4x2304x1024_S4x2048x1024_0_256_0) slices_S4x2048x1024_S4x2048x512_0_0_512)))))

/-- The gate's derivative. -/
def gateGrad (p : FVec Ideal S9216x1024 .f32) : FVec Ideal S4x2048x512 .f32 :=
  (mulf (gate p) (subf (broadcastInDim S4x2048x512 ![] bcast_S_S4x2048x512 (constant (F := Ideal) S_ .f32 0x3F800000#32)) (gate p)))

/-- The gated unit. -/
def gated (p : FVec Ideal S9216x1024 .f32) : FVec Ideal S4x2048x512 .f32 :=
  (mulf (lin p) (gate p))

/-- Whether a tap joins an output of a grid row to an input of it. -/
def joins4 : Vec Ideal S31x64x64x512 .i1 :=
  (cmpi .eq (iotaInDim S31x64x64x512 32 2) (subi (addi (iotaInDim S31x64x64x512 32 1) (iotaInDim S31x64x64x512 32 0)) (broadcastInDim S31x64x64x512 ![] bcast_S_S31x64x64x512 (constantI S_ 32 15#32))))

/-- … with output and input as one row number. -/
def joins : Vec Ideal S31x4096x512 .i1 :=
  (shapeCast S31x4096x512 (joins4) shapeCasts_S31x64x64x512_S31x4096x512)

/-- The band of taps. -/
def bandRows (w : FVec Ideal S31x512 .f32) : FVec Ideal S4096x512 .f32 :=
  (Host.reduceAdd (select (joins) ((broadcastInDim S31x4096x512 ![0, 1, 2] bcast_S31x1x512_S31x4096x512_0_1_2) (broadcastInDim S31x1x512 ![0, 2] bcast_S31x512_S31x1x512_0_2 w)) ((broadcastInDim S31x4096x512 ![] bcast_S_S31x4096x512) (id (constant (F := Ideal) S_ .f32 0x00000000#32)))) (constant (F := Ideal) S_ .f32 0x00000000#32) reducesTo_S31x4096x512_S4096x512_d0 h_S_)

/-- … by output and input. -/
def band (w : FVec Ideal S31x512 .f32) : FVec Ideal S64x64x512 .f32 :=
  (shapeCast S64x64x512 (bandRows w) shapeCasts_S4096x512_S64x64x512)

/-- The convolution. -/
def convOut (p : FVec Ideal S9216x1024 .f32) (w : FVec Ideal S31x512 .f32) (bias : FVec Ideal S512 .f32) : FVec Ideal S4x2048x512 .f32 :=
  (addf (shapeCast S4x2048x512 (transpose S128x64x512 [2, 1, 0] (Host.dotGeneral (F := Ideal) (φ₁ := .f32) (φ₂ := .f32) dot_S64x64x512_S128x64x512_S512x64x128_1_1_0_0_2_2 none (band w) (shapeCast S128x64x512 (gated p) shapeCasts_S4x2048x512_S128x64x512)) transposes_S512x64x128_S128x64x512_2_1_0) shapeCasts_S128x64x512_S4x2048x512) (broadcastInDim S4x2048x512 ![0, 1, 2] bcast_S1x1x512_S4x2048x512_0_1_2 (broadcastInDim S1x1x512 ![2] bcast_S512_S1x1x512_2 bias)))

/-- The mean of each token. -/
def mean (cv : FVec Ideal S4x2048x512 .f32) : FVec Ideal S4x2048x1 .f32 :=
  (Host.divf (broadcastInDim S4x2048x1 ![0, 1] bcast_S4x2048_S4x2048x1_0_1 (Host.reduceAdd cv (constant (F := Ideal) S_ .f32 0x00000000#32) reducesTo_S4x2048x512_S4x2048_d2 h_S_)) (broadcastInDim S4x2048x1 ![] bcast_S_S4x2048x1 (constant (F := Ideal) S_ .f32 0x44000000#32)))

/-- Twice the centred tokens. -/
def twice (cv : FVec Ideal S4x2048x512 .f32) : FVec Ideal S4x2048x512 .f32 :=
  (mulf (broadcastInDim S4x2048x512 ![] bcast_S_S4x2048x512 (constant (F := Ideal) S_ .f32 0x40000000#32)) (subf cv (broadcastInDim S4x2048x512 ![0, 1, 2] bcast_S4x2048x1_S4x2048x512_0_1_2 (mean cv))))

/-- The centred tokens. -/
def cent (cv : FVec Ideal S4x2048x512 .f32) : FVec Ideal S4x2048x512 .f32 :=
  (subf cv (broadcastInDim S4x2048x512 ![0, 1, 2] bcast_S4x2048x1_S4x2048x512_0_1_2 (mean cv)))

/-- The variance with the small constant. -/
def varEps (cv : FVec Ideal S4x2048x512 .f32) : FVec Ideal S4x2048x1 .f32 :=
  (addf (Host.divf (broadcastInDim S4x2048x1 ![0, 1] bcast_S4x2048_S4x2048x1_0_1 (Host.reduceAdd (mulf (subf cv (broadcastInDim S4x2048x512 ![0, 1, 2] bcast_S4x2048x1_S4x2048x512_0_1_2 (mean cv))) (subf cv (broadcastInDim S4x2048x512 ![0, 1, 2] bcast_S4x2048x1_S4x2048x512_0_1_2 (mean cv)))) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x3727C5AC#32)))

/-- Its reciprocal root. -/
def rstd (cv : FVec Ideal S4x2048x512 .f32) : FVec Ideal S4x2048x1 .f32 :=
  (Host.rsqrt (varEps cv))

/-- The derivative of the reciprocal root. -/
def rstdGrad (cv : FVec Ideal S4x2048x512 .f32) : FVec Ideal S4x2048x1 .f32 :=
  (mulf (broadcastInDim S4x2048x1 ![] bcast_S_S4x2048x1 (constant (F := Ideal) S_ .f32 0xBF000000#32)) (Host.divf (rstd cv) (varEps cv)))

/-- The normalised tokens. -/
def chat (cv : FVec Ideal S4x2048x512 .f32) : FVec Ideal S4x2048x512 .f32 :=
  (mulf (cent cv) (broadcastInDim S4x2048x512 ![0, 1, 2] bcast_S4x2048x1_S4x2048x512_0_1_2 (rstd cv)))

/-- … with gain and offset. -/
def cn (cv : FVec Ideal S4x2048x512 .f32) (lw : FVec Ideal S512 .f32) (lb : FVec Ideal S512 .f32) : FVec Ideal S4x2048x512 .f32 :=
  (addf (mulf (chat cv) (broadcastInDim S4x2048x512 ![0, 1, 2] bcast_S1x1x512_S4x2048x512_0_1_2 (broadcastInDim S1x1x512 ![2] bcast_S512_S1x1x512_2 lw))) (broadcastInDim S4x2048x512 ![0, 1, 2] bcast_S1x1x512_S4x2048x512_0_1_2 (broadcastInDim S1x1x512 ![2] bcast_S512_S1x1x512_2 lb)))

/-- The logistic function of them. -/
def scn (cv : FVec Ideal S4x2048x512 .f32) (lw : FVec Ideal S512 .f32) (lb : FVec Ideal S512 .f32) : FVec Ideal S4x2048x512 .f32 :=
  (Host.divf ((broadcastInDim S4x2048x512 ![] bcast_S_S4x2048x512) (constant (F := Ideal) S_ .f32 0x3F800000#32)) (addf ((broadcastInDim S4x2048x512 ![] bcast_S_S4x2048x512) (constant (F := Ideal) S_ .f32 0x3F800000#32)) (Host.exp (Host.negf (cn cv lw lb)))))

/-- … and its derivative. -/
def scnGrad (cv : FVec Ideal S4x2048x512 .f32) (lw : FVec Ideal S512 .f32) (lb : FVec Ideal S512 .f32) : FVec Ideal S4x2048x512 .f32 :=
  (mulf (scn cv lw lb) (subf ((broadcastInDim S4x2048x512 ![] bcast_S_S4x2048x512) (constant (F := Ideal) S_ .f32 0x3F800000#32)) (scn cv lw lb)))

/-- The gradient at the normalised tokens with gain and offset. -/
def dcn (cv : FVec Ideal S4x2048x512 .f32) (g : FVec Ideal S4x2048x512 .f32) (lw : FVec Ideal S512 .f32) (lb : FVec Ideal S512 .f32) : FVec Ideal S4x2048x512 .f32 :=
  (addf (mulf g (scn cv lw lb)) (mulf (mulf (cn cv lw lb) g) (scnGrad cv lw lb)))

/-- The gradient at the normalised tokens. -/
def dchat (cv : FVec Ideal S4x2048x512 .f32) (g : FVec Ideal S4x2048x512 .f32) (lw : FVec Ideal S512 .f32) (lb : FVec Ideal S512 .f32) : FVec Ideal S4x2048x512 .f32 :=
  (mulf (dcn cv g lw lb) (broadcastInDim S4x2048x512 ![0, 1, 2] bcast_S1x1x512_S4x2048x512_0_1_2 (broadcastInDim S1x1x512 ![2] bcast_S512_S1x1x512_2 lw)))

/-- The direct part of the gradient at the convolution. -/
def dcent (cv : FVec Ideal S4x2048x512 .f32) (g : FVec Ideal S4x2048x512 .f32) (lw : FVec Ideal S512 .f32) (lb : FVec Ideal S512 .f32) : FVec Ideal S4x2048x512 .f32 :=
  (mulf (dchat cv g lw lb) (broadcastInDim S4x2048x512 ![0, 1, 2] bcast_S4x2048x1_S4x2048x512_0_1_2 (rstd cv)))

/-- The gradient at the variance. -/
def dRstd (cv : FVec Ideal S4x2048x512 .f32) (g : FVec Ideal S4x2048x512 .f32) (lw : FVec Ideal S512 .f32) (lb : FVec Ideal S512 .f32) : FVec Ideal S4x2048x1 .f32 :=
  (mulf (shapeCast S4x2048x1 (Host.reduceAdd (mulf (cent cv) (dchat cv g lw lb)) (constant (F := Ideal) S_ .f32 0x00000000#32) reducesTo_S4x2048x512_S4x2048_d2 h_S_) shapeCasts_S4x2048_S4x2048x1) (rstdGrad cv))

/-- The part through the variance. -/
def dSq (cv : FVec Ideal S4x2048x512 .f32) (g : FVec Ideal S4x2048x512 .f32) (lw : FVec Ideal S512 .f32) (lb : FVec Ideal S512 .f32) : FVec Ideal S4x2048x512 .f32 :=
  (mulf (broadcastInDim S4x2048x512 ![0, 1] bcast_S4x2048_S4x2048x512_0_1 (Host.reduceAdd (Host.divf (dRstd cv g lw lb) (broadcastInDim S4x2048x1 ![] bcast_S_S4x2048x1 (constant (F := Ideal) S_ .f32 0x44000000#32))) (constant (F := Ideal) S_ .f32 0x00000000#32) reducesTo_S4x2048x1_S4x2048_d2 h_S_)) (twice cv))

/-- The gradient at the mean, with its sign. -/
def dMean (cv : FVec Ideal S4x2048x512 .f32) (g : FVec Ideal S4x2048x512 .f32) (lw : FVec Ideal S512 .f32) (lb : FVec Ideal S512 .f32) : FVec Ideal S4x2048x1 .f32 :=
  (addf (shapeCast S4x2048x1 (Host.reduceAdd (Host.negf (dcent cv g lw lb)) (constant (F := Ideal) S_ .f32 0x00000000#32) reducesTo_S4x2048x512_S4x2048_d2 h_S_) shapeCasts_S4x2048_S4x2048x1) (shapeCast S4x2048x1 (Host.reduceAdd (Host.negf (dSq cv g lw lb)) (constant (F := Ideal) S_ .f32 0x00000000#32) reducesTo_S4x2048x512_S4x2048_d2 h_S_) shapeCasts_S4x2048_S4x2048x1))

/-- The gradient at the convolution. -/
def dConv (cv : FVec Ideal S4x2048x512 .f32) (g : FVec Ideal S4x2048x512 .f32) (lw : FVec Ideal S512 .f32) (lb : FVec Ideal S512 .f32) : FVec Ideal S4x2048x512 .f32 :=
  (addf (addf (dcent cv g lw lb) (dSq cv g lw lb)) (broadcastInDim S4x2048x512 ![0, 1] bcast_S4x2048_S4x2048x512_0_1 (Host.reduceAdd (Host.divf (dMean cv g lw lb) (broadcastInDim S4x2048x1 ![] bcast_S_S4x2048x1 (constant (F := Ideal) S_ .f32 0x44000000#32))) (constant (F := Ideal) S_ .f32 0x00000000#32) reducesTo_S4x2048x1_S4x2048_d2 h_S_)))

/-- The bias's gradient. -/
def outDb (cv : FVec Ideal S4x2048x512 .f32) (g : FVec Ideal S4x2048x512 .f32) (lw : FVec Ideal S512 .f32) (lb : FVec Ideal S512 .f32) : FVec Ideal S1x512 .f32 :=
  (shapeCast S1x512 (Host.reduceAdd (shapeCast S1x1x512 (Host.reduceAdd (dConv cv g lw lb) (constant (F := Ideal) S_ .f32 0x00000000#32) reducesTo_S4x2048x512_S512_d0_1 h_S_) shapeCasts_S512_S1x1x512) (constant (F := Ideal) S_ .f32 0x00000000#32) reducesTo_S1x1x512_S512_d0_1 h_S_) shapeCasts_S512_S1x512)

/-- The gain's gradient. -/
def outDlw (cv : FVec Ideal S4x2048x512 .f32) (g : FVec Ideal S4x2048x512 .f32) (lw : FVec Ideal S512 .f32) (lb : FVec Ideal S512 .f32) : FVec Ideal S1x512 .f32 :=
  (shapeCast S1x512 (Host.reduceAdd (shapeCast S1x1x512 (Host.reduceAdd (mulf (chat cv) (dcn cv g lw lb)) (constant (F := Ideal) S_ .f32 0x00000000#32) reducesTo_S4x2048x512_S512_d0_1 h_S_) shapeCasts_S512_S1x1x512) (constant (F := Ideal) S_ .f32 0x00000000#32) reducesTo_S1x1x512_S512_d0_1 h_S_) shapeCasts_S512_S1x512)

/-- The offset's gradient. -/
def outDlb (cv : FVec Ideal S4x2048x512 .f32) (g : FVec Ideal S4x2048x512 .f32) (lw : FVec Ideal S512 .f32) (lb : FVec Ideal S512 .f32) : FVec Ideal S1x512 .f32 :=
  (shapeCast S1x512 (Host.reduceAdd (shapeCast S1x1x512 (Host.reduceAdd (dcn cv g lw lb) (constant (F := Ideal) S_ .f32 0x00000000#32) reducesTo_S4x2048x512_S512_d0_1 h_S_) shapeCasts_S512_S1x1x512) (constant (F := Ideal) S_ .f32 0x00000000#32) reducesTo_S1x1x512_S512_d0_1 h_S_) shapeCasts_S512_S1x512)

/-- The gradient at the convolution by channel, place in the row and row. -/
def dcLines (dc : FVec Ideal S4x2048x512 .f32) : FVec Ideal S512x64x128 .f32 :=
  (transpose S512x64x128 [2, 1, 0] (shapeCast S128x64x512 dc shapeCasts_S4x2048x512_S128x64x512) transposes_S128x64x512_S512x64x128_2_1_0)

/-- The gradient at the gated unit, row by row. -/
def duLines (dc : FVec Ideal S4x2048x512 .f32) (w : FVec Ideal S31x512 .f32) : FVec Ideal S128x64x512 .f32 :=
  (transpose S128x64x512 [1, 2, 0] (Host.dotGeneral (F := Ideal) (φ₁ := .f32) (φ₂ := .f32) dot_S512x64x128_S64x64x512_S512x128x64_1_0_2_1_0_2 none (dcLines dc) (band w)) transposes_S512x128x64_S128x64x512_1_2_0)

/-- The band's gradient. -/
def dBand (dc : FVec Ideal S4x2048x512 .f32) (u : FVec Ideal S4x2048x512 .f32) : FVec Ideal S4096x512 .f32 :=
  (shapeCast S4096x512 (transpose S64x64x512 [1, 2, 0] (Host.dotGeneral (F := Ideal) (φ₁ := .f32) (φ₂ := .f32) dot_S512x64x128_S128x64x512_S512x64x64_2_0_1_1_0_2 none (dcLines dc) (shapeCast S128x64x512 u shapeCasts_S4x2048x512_S128x64x512)) transposes_S512x64x64_S64x64x512_1_2_0) shapeCasts_S64x64x512_S4096x512)

/-- The taps' gradient. -/
def dTaps (dc : FVec Ideal S4x2048x512 .f32) (u : FVec Ideal S4x2048x512 .f32) : FVec Ideal S31x512 .f32 :=
  (Host.reduceAdd ((broadcastInDim S31x1x512 ![0, 2] bcast_S31x512_S31x1x512_0_2) (Host.reduceAdd (select (joins) (broadcastInDim S31x4096x512 ![1, 2] bcast_S4096x512_S31x4096x512_1_2 (dBand dc u)) ((broadcastInDim S31x4096x512 ![] bcast_S_S31x4096x512) (constant (F := Ideal) S_ .f32 0x00000000#32))) (constant (F := Ideal) S_ .f32 0x00000000#32) reducesTo_S31x4096x512_S31x512_d1 h_S_)) (constant (F := Ideal) S_ .f32 0x00000000#32) reducesTo_S31x1x512_S31x512_d1 h_S_)

/-- … by token. -/
def dGated (dc : FVec Ideal S4x2048x512 .f32) (w : FVec Ideal S31x512 .f32) : FVec Ideal S4x2048x512 .f32 :=
  (shapeCast S4x2048x512 (duLines dc w) shapeCasts_S128x64x512_S4x2048x512)

/-- The gradient at the latent tokens of the argument. -/
def dpLat (dc : FVec Ideal S4x2048x512 .f32) (w : FVec Ideal S31x512 .f32) (p : FVec Ideal S9216x1024 .f32) : FVec Ideal S4x2048x1024 .f32 :=
  (addf (pad S4x2048x1024 ![0, 0, 512] ![0, 0, 0] ![0, 0, 0] (mulf (mulf (lin p) (dGated dc w)) (gateGrad p)) (constant (F := Ideal) S_ .f32 0x00000000#32) pads_S4x2048x512_S4x2048x1024_000_000_51200 h_S_) (pad S4x2048x1024 ![0, 0, 0] ![0, 0, 512] ![0, 0, 0] (mulf (dGated dc w) (gate p)) (constant (F := Ideal) S_ .f32 0x00000000#32) pads_S4x2048x512_S4x2048x1024_000_000_05120 h_S_))

/-- The gradient at the argument. -/
def outDp (dc : FVec Ideal S4x2048x512 .f32) (w : FVec Ideal S31x512 .f32) (p : FVec Ideal S9216x1024 .f32) : FVec Ideal S9216x1024 .bf16 :=
  (truncf .bf16 (shapeCast S9216x1024 (pad S4x2304x1024 ![0, 256, 0] ![0, 0, 0] ![0, 0, 0] (dpLat dc w p) (constant (F := Ideal) S_ .f32 0x00000000#32) pads_S4x2048x1024_S4x2304x1024_000_25600_000 h_S_) shapeCasts_S4x2304x1024_S9216x1024) bitsLt_bf16_f32)

/-- … with the row of zeros. -/
def outDw (dc : FVec Ideal S4x2048x512 .f32) (u : FVec Ideal S4x2048x512 .f32) : FVec Ideal S32x512 .f32 :=
  (concatenate S32x512 0 [⟨S31x512, (dTaps dc u)⟩, ⟨S1x512, (broadcastInDim S1x512 ![] bcast_S_S1x512 (constant (F := Ideal) S_ .f32 0x00000000#32))⟩] concatenates_S31x512_S1x512_S32x512_d0)

section

variable (dcat p : FVec Ideal S9216x1024 .f32) (w : FVec Ideal S31x512 .f32) (bias lw lb : FVec Ideal S512 .f32) (cv g u dc : FVec Ideal S4x2048x512 .f32)

/-- Latent token `n` of batch `b` among all tokens. -/
abbrev lat (b : Fin 4) (n : Fin 2048) : Fin 9216 := ⟨b.val * 2304 + (256 + n.val), by have := b.isLt; have := n.isLt; omega⟩

theorem ct_apply (b : Fin 4) (n : Fin 2048) (d : Fin 512) : ct dcat (ix3 b n d) = dcat (ix2 (lat b n) ⟨512 + d.val, by have := d.isLt; omega⟩) := by
  pointwise [ct]

theorem lin_apply (b : Fin 4) (n : Fin 2048) (d : Fin 512) : lin p (ix3 b n d) = p (ix2 (lat b n) ⟨d.val, by have := d.isLt; omega⟩) := by
  pointwise [lin]

theorem gate_apply (b : Fin 4) (n : Fin 2048) (d : Fin 512) : gate p (ix3 b n d) = sgm (p (ix2 (lat b n) ⟨512 + d.val, by have := d.isLt; omega⟩)) := by
  unfold sgm
  pointwise [gate]

theorem gateGrad_apply (j : S4x2048x512.Idx) : gateGrad p j = gate p j * (1 - gate p j) := by pointwise [gateGrad]

theorem gated_apply (j : S4x2048x512.Idx) : gated p j = lin p j * gate p j := by pointwise [gated]

/-! The layer normalisation and the activation, one token at a time. -/

/-- The channels of a token. -/
abbrev row (v : FVec Ideal S4x2048x512 .f32) (b : Fin 4) (n : Fin 2048) : Fin 512 → EReal := fun k => v (ix3 b n k)

/-- The channels of a gain. -/
abbrev chan (v : FVec Ideal S512 .f32) : Fin 512 → EReal := fun k => v (ix1 k)

theorem mean_apply (b : Fin 4) (n : Fin 2048) : mean cv (ix3 b n 0) = rowMu (row cv b n) := by
  unfold rowMu
  pointwise [mean]

theorem cent_apply (b : Fin 4) (n : Fin 2048) (d : Fin 512) : cent cv (ix3 b n d) = cv (ix3 b n d) - rowMu (row cv b n) := by
  rw [← mean_apply]
  pointwise [cent]

theorem twice_apply (b : Fin 4) (n : Fin 2048) (d : Fin 512) : twice cv (ix3 b n d) = Ideal.ofBits .f32 0x40000000#32 * (cv (ix3 b n d) - rowMu (row cv b n)) := by
  rw [← mean_apply]
  pointwise [twice]

theorem varEps_apply (b : Fin 4) (n : Fin 2048) : varEps cv (ix3 b n 0) = rowVar (row cv b n) := by
  unfold rowVar
  rw [← mean_apply]
  pointwise [varEps]

theorem rstd_apply (b : Fin 4) (n : Fin 2048) : rstd cv (ix3 b n 0) = rowS (row cv b n) := by
  unfold rowS
  rw [← varEps_apply]
  pointwise [rstd]

theorem rstdGrad_apply (b : Fin 4) (n : Fin 2048) :
    rstdGrad cv (ix3 b n 0) = Ideal.ofBits .f32 0xBF000000#32 * Ideal.div (rowS (row cv b n)) (rowVar (row cv b n)) := by
  rw [← rstd_apply, ← varEps_apply]
  pointwise [rstdGrad]

theorem chat_apply (b : Fin 4) (n : Fin 2048) (d : Fin 512) : chat cv (ix3 b n d) = rowHat (row cv b n) d := by
  unfold rowHat
  rw [← rstd_apply, ← cent_apply]
  pointwise [chat]

theorem cn_apply (b : Fin 4) (n : Fin 2048) (d : Fin 512) : cn cv lw lb (ix3 b n d) = rowCn (row cv b n) (chan lw) (chan lb) d := by
  unfold rowCn
  rw [← chat_apply]
  pointwise [cn]

theorem scn_apply (b : Fin 4) (n : Fin 2048) (d : Fin 512) : scn cv lw lb (ix3 b n d) = sgm (rowCn (row cv b n) (chan lw) (chan lb) d) := by
  unfold sgm
  rw [← cn_apply]
  pointwise [scn]

theorem scnGrad_apply (j : S4x2048x512.Idx) : scnGrad cv lw lb j = scn cv lw lb j * (1 - scn cv lw lb j) := by pointwise [scnGrad]

theorem dcn_apply (b : Fin 4) (n : Fin 2048) (d : Fin 512) (hg : ∃ a : ℝ, g (ix3 b n d) = (a : EReal)) :
    dcn cv g lw lb (ix3 b n d) = rowDcn (row cv b n) (row g b n) (chan lw) (chan lb) d := by
  rw [← rowDcn_eq _ _ _ _ _ hg, ← scn_apply, ← cn_apply, ← scnGrad_apply]
  pointwise [dcn]

theorem dchat_apply (b : Fin 4) (n : Fin 2048) (d : Fin 512) : dchat cv g lw lb (ix3 b n d) = dcn cv g lw lb (ix3 b n d) * lw (ix1 d) := by
  pointwise [dchat]

theorem dcent_apply (b : Fin 4) (n : Fin 2048) (d : Fin 512) : dcent cv g lw lb (ix3 b n d) = dchat cv g lw lb (ix3 b n d) * rowS (row cv b n) := by
  rw [← rstd_apply]
  pointwise [dcent]

theorem dRstd_apply (b : Fin 4) (n : Fin 2048) :
    dRstd cv g lw lb (ix3 b n 0) = (∑ k : Fin 512, (cv (ix3 b n k) - rowMu (row cv b n)) * dchat cv g lw lb (ix3 b n k))
      * (Ideal.ofBits .f32 0xBF000000#32 * Ideal.div (rowS (row cv b n)) (rowVar (row cv b n))) := by
  simp only [← rstdGrad_apply, ← cent_apply]
  pointwise [dRstd]

theorem dSq_apply (b : Fin 4) (n : Fin 2048) (d : Fin 512) :
    dSq cv g lw lb (ix3 b n d) = Ideal.div (dRstd cv g lw lb (ix3 b n 0)) (Ideal.ofBits .f32 0x44000000#32) * (Ideal.ofBits .f32 0x40000000#32 * (cv (ix3 b n d) - rowMu (row cv b n))) := by
  rw [← twice_apply]
  pointwise [dSq]
  simp only [Fin.sum_univ_one]

theorem dMean_apply (b : Fin 4) (n : Fin 2048) :
    dMean cv g lw lb (ix3 b n 0) = (∑ k : Fin 512, -dcent cv g lw lb (ix3 b n k)) + ∑ k : Fin 512, -dSq cv g lw lb (ix3 b n k) := by
  pointwise [dMean]

theorem dConv_open (b : Fin 4) (n : Fin 2048) (d : Fin 512) :
    dConv cv g lw lb (ix3 b n d) = dcent cv g lw lb (ix3 b n d) + dSq cv g lw lb (ix3 b n d) + Ideal.div (dMean cv g lw lb (ix3 b n 0)) (Ideal.ofBits .f32 0x44000000#32) := by
  pointwise [dConv]
  simp only [Fin.sum_univ_one]

/-- The gradient at the convolution, in the form a normalisation's gradient is usually computed in. -/
theorem dConv_apply (b : Fin 4) (n : Fin 2048) (d : Fin 512) (hg : ∀ k, ∃ a : ℝ, g (ix3 b n k) = (a : EReal)) (hw : ∀ k, ∃ a : ℝ, lw (ix1 k) = (a : EReal)) :
    dConv cv g lw lb (ix3 b n d) = rowDc (row cv b n) (row g b n) (chan lw) (chan lb) d := by
  rw [← rowDc_eq (row cv b n) (row g b n) (chan lw) (chan lb) d hg hw (fun k => dchat cv g lw lb (ix3 b n k))
    (fun k => (dchat_apply lw lb cv g b n k).trans (congrArg (· * lw (ix1 k)) (dcn_apply lw lb cv g b n k (hg k)))) rfl, dConv_open, dMean_apply]
  simp only [dSq_apply, dcent_apply, dRstd_apply]

/-! The band of taps. -/

theorem joinWord (j i q : ℕ) (hj : j < 31) (hi : i < 64) (hq : q < 64) :
    IntOp.cmpi .eq (BitVec.ofNat 32 q) (IntOp.subi (IntOp.addi (BitVec.ofNat 32 i) (BitVec.ofNat 32 j)) 15#32) = if q + 15 = i + j then 1#1 else 0#1 := by
  have e : (BitVec.ofNat 32 q = BitVec.ofNat 32 i + BitVec.ofNat 32 j - 15#32) ↔ q + 15 = i + j := by
    rw [← BitVec.toNat_inj]
    simp only [BitVec.toNat_sub, BitVec.toNat_add, BitVec.toNat_ofNat]
    omega
  by_cases h : q + 15 = i + j
  · rw [if_pos h]
    show BitVec.ofBool (BitVec.ofNat 32 q == BitVec.ofNat 32 i + BitVec.ofNat 32 j - 15#32) = 1#1
    rw [beq_iff_eq.mpr (e.mpr h)]; rfl
  · rw [if_neg h]
    show BitVec.ofBool (BitVec.ofNat 32 q == BitVec.ofNat 32 i + BitVec.ofNat 32 j - 15#32) = 0#1
    rw [beq_eq_false_iff_ne.mpr fun hh => h (e.mp hh)]; rfl

theorem joins4_apply (j : Fin 31) (i q : Fin 64) (d : Fin 512) : joins4 (ix4 j i q d) = if q.val + 15 = i.val + j.val then 1#1 else 0#1 := by
  refine Eq.trans ?_ (joinWord j.val i.val q.val j.isLt i.isLt q.isLt)
  pointwise [joins4]

theorem joins_apply (j : Fin 31) (i q : Fin 64) (d : Fin 512) (h : i.val * 64 + q.val < 4096) :
    joins (ix3 j ⟨i.val * 64 + q.val, h⟩ d) = if q.val + 15 = i.val + j.val then 1#1 else 0#1 := by
  rw [← joins4_apply j i q d]
  pointwise [joins]

theorem bandRows_apply (r : Fin 4096) (d : Fin 512) :
    bandRows w (ix2 r d) = ∑ j : Fin 31, Scalar.select (joins (ix3 j r d)) (w (ix2 j d)) (0 : EReal) := by
  have h0 : id (constant (F := Ideal) S_ .f32 0x00000000#32) ix0 = (0 : EReal) := by
    show constant (F := Ideal) S_ .f32 0x00000000#32 ix0 = (0 : EReal)
    pointwise
  pointwise [bandRows]
  rw [h0]

theorem band_apply (i q : Fin 64) (d : Fin 512) : band w (ix3 i q d) = ∑ j : Fin 31, if q.val + 15 = i.val + j.val then w (ix2 j d) else 0 := by
  have hi := i.isLt
  have hq := q.isLt
  refine Eq.trans (b := bandRows w (ix2 ⟨i.val * 64 + q.val, by omega⟩ d)) ?_ ?_
  · pointwise [band]
  · rw [bandRows_apply]
    refine Finset.sum_congr rfl fun j _ => ?_
    rw [joins_apply]
    split_ifs <;> rfl

/-- Line `l`, place `q` as batch and token. -/
abbrev lineTok (l : Fin 128) (q : Fin 64) (d : Fin 512) : S4x2048x512.Idx :=
  ix3 ⟨l.val / 32, by have := l.isLt; omega⟩ ⟨l.val % 32 * 64 + q.val, by have := q.isLt; omega⟩ d

theorem dcLines_apply (d : Fin 512) (i : Fin 64) (l : Fin 128) : dcLines dc (ix3 d i l) = dc (lineTok l i d) := by
  pointwise [dcLines]

theorem duLines_apply (l : Fin 128) (q : Fin 64) (d : Fin 512) :
    duLines dc w (ix3 l q d) = ∑ i : Fin 64, dcLines dc (ix3 d i l) * band w (ix3 i q d) := by
  pointwise [duLines]

theorem dBand_apply (i q : Fin 64) (d : Fin 512) (h : i.val * 64 + q.val < 4096) :
    dBand dc u (ix2 ⟨i.val * 64 + q.val, h⟩ d) = ∑ l : Fin 128, dcLines dc (ix3 d i l) * u (lineTok l q d) := by
  pointwise [dBand]

/-- A token's line and place. -/
theorem dGated_line (b : Fin 4) (n : Fin 2048) (d : Fin 512) :
    dGated dc w (ix3 b n d) = duLines dc w (ix3 ⟨b.val * 32 + n.val / 64, by have := b.isLt; have := n.isLt; omega⟩ ⟨n.val % 64, Nat.mod_lt _ (by decide)⟩ d) := by
  pointwise [dGated]

theorem dGated_apply (b : Fin 4) (n : Fin 2048) (d : Fin 512) :
    dGated dc w (ix3 b n d) = ∑ j : Fin 31, w (ix2 j d) * shift (30 - j.val) (fun n => dc (ix3 b n d)) n := by
  rw [dGated_line, duLines_apply]
  refine (Finset.sum_congr rfl fun i _ => congrArg₂ (· * ·) (dcLines_apply dc d i _) (band_apply w i _ d)).trans ?_
  refine (band_sum (fun i => dc (lineTok ⟨b.val * 32 + n.val / 64, by have := b.isLt; have := n.isLt; omega⟩ i d)) (fun j => w (ix2 j d))
    ⟨n.val % 64, Nat.mod_lt _ (by decide)⟩).trans (Finset.sum_congr rfl fun j _ => congrArg _ ?_)
  rw [shift_eq]
  refine congrArg (fun f => shiftRow _ f _) (funext fun q => congrArg dc ?_)
  have := n.isLt; have := b.isLt
  refine congr (congr (congrArg ix3 (Fin.ext ?_)) (Fin.ext ?_)) rfl
  · show (b.val * 32 + n.val / 64) / 32 = b.val
    omega
  · show (b.val * 32 + n.val / 64) % 32 * 64 + q.val = n.val / 64 * 64 + q.val
    omega

theorem dTaps_open (j : Fin 31) (d : Fin 512) :
    dTaps dc u (ix2 j d) = ∑ r : Fin 4096, Scalar.select (joins (ix3 j r d)) (dBand dc u (ix2 r d)) (0 : EReal) := by
  pointwise [dTaps]
  simp only [Fin.sum_univ_one]

theorem sum_lines (f : Fin 4 → Fin 2048 → EReal) :
    (∑ l : Fin 128, ∑ q : Fin 64, f ⟨l.val / 32, by have := l.isLt; omega⟩ ⟨l.val % 32 * 64 + q.val, by have := q.isLt; omega⟩) = ∑ b : Fin 4, ∑ n : Fin 2048, f b n := by
  refine (Cert.Sums.sum_tiles (p := 4) (n := 32) _).trans (Finset.sum_congr rfl fun b _ => ?_)
  refine Eq.trans ?_ (Cert.Sums.sum_tiles (p := 32) (n := 64) (f b)).symm
  refine Finset.sum_congr rfl fun l _ => Finset.sum_congr rfl fun q _ => ?_
  have := l.isLt
  congr 1
  · exact Fin.ext (by show (b.val * 32 + l.val) / 32 = b.val; omega)
  · exact Fin.ext (by show (b.val * 32 + l.val) % 32 * 64 + q.val = l.val * 64 + q.val; omega)

theorem dTaps_apply (j : Fin 31) (d : Fin 512) :
    dTaps dc u (ix2 j d) = ∑ b : Fin 4, ∑ n : Fin 2048, dc (ix3 b n d) * shift j.val (fun n => u (ix3 b n d)) n := by
  rw [dTaps_open]
  refine (Cert.Sums.sum_tiles (p := 64) (n := 64) _).trans ?_
  refine Eq.trans (b := ∑ i : Fin 64, ∑ q : Fin 64, if q.val + 15 = i.val + j.val then ∑ l : Fin 128, dc (lineTok l i d) * u (lineTok l q d) else 0) ?_ ?_
  · refine Finset.sum_congr rfl fun i _ => Finset.sum_congr rfl fun q _ => ?_
    rw [joins_apply, dBand_apply]
    simp only [dcLines_apply]
    split_ifs <;> rfl
  · refine (tap_sum (fun l i => dc (lineTok l i d)) (fun l q => u (lineTok l q d)) j.val).trans ?_
    rw [← sum_lines]
    refine Finset.sum_congr rfl fun l _ => Finset.sum_congr rfl fun q _ => congrArg _ ?_
    have := q.isLt
    rw [shift_eq]
    refine congr (congrArg _ (funext fun s => congrArg u ?_)) (Fin.ext ?_)
    · exact congrArg (fun n => ix3 _ n d) (Fin.ext (by show l.val % 32 * 64 + s.val = (l.val % 32 * 64 + q.val) / 64 * 64 + s.val; omega))
    · show q.val = (l.val % 32 * 64 + q.val) % 64
      omega

theorem outDw_tap (j : Fin 31) (d : Fin 512) : outDw dc u (ix2 ⟨j.val, by have := j.isLt; omega⟩ d) = dTaps dc u (ix2 j d) := by
  pointwise [outDw]

theorem outDw_last (d : Fin 512) : outDw dc u (ix2 31 d) = 0 := by
  pointwise [outDw]

/-! The argument's gradient. -/

theorem dpLat_lin (b : Fin 4) (n : Fin 2048) (d : Fin 512) :
    dpLat dc w p (ix3 b n ⟨d.val, by have := d.isLt; omega⟩) = dGated dc w (ix3 b n d) * gate p (ix3 b n d) := by
  pointwise [dpLat]
  rw [dif_neg (by simp), zero_add]

theorem dpLat_gate (b : Fin 4) (n : Fin 2048) (d : Fin 512) :
    dpLat dc w p (ix3 b n ⟨512 + d.val, by have := d.isLt; omega⟩) = lin p (ix3 b n d) * dGated dc w (ix3 b n d) * gateGrad p (ix3 b n d) := by
  pointwise [dpLat]

theorem outDp_ctx (b : Fin 4) (n : Fin 256) (d : Fin 1024) (h : b.val * 2304 + n.val < 9216) : outDp dc w p (ix2 ⟨b.val * 2304 + n.val, h⟩ d) = 0 := by
  pointwise [outDp]
  exact dif_neg (by have := n.isLt; omega)

theorem outDp_lat (b : Fin 4) (n : Fin 2048) (d : Fin 1024) : outDp dc w p (ix2 (lat b n) d) = dpLat dc w p (ix3 b n d) := by
  pointwise [outDp]
  have hb := b.isLt; have hn := n.isLt
  rw [dif_pos (by omega)]
  refine congrArg (dpLat dc w p) (congr (congr (congrArg ix3 (Fin.ext ?_)) (Fin.ext ?_)) rfl)
  · show (b.val * 2304 + (256 + n.val)) / 2304 = b.val
    omega
  · show (b.val * 2304 + (256 + n.val)) % 2304 - 256 = n.val
    omega

/-! The three row sums. -/

theorem outDb_apply (d : Fin 512) : outDb cv g lw lb (ix2 0 d) = ∑ b : Fin 4, ∑ n : Fin 2048, dConv cv g lw lb (ix3 b n d) := by
  pointwise [outDb]
  refine (Cert.Sums.hostReduceAdd_lead _ _ _ _).trans ?_
  pointwise
  simp only [Fin.sum_univ_one]
  refine (Cert.Sums.hostReduceAdd_lead _ _ _ _).trans ?_
  pointwise

theorem outDlw_apply (d : Fin 512) : outDlw cv g lw lb (ix2 0 d) = ∑ b : Fin 4, ∑ n : Fin 2048, chat cv (ix3 b n d) * dcn cv g lw lb (ix3 b n d) := by
  pointwise [outDlw]
  refine (Cert.Sums.hostReduceAdd_lead _ _ _ _).trans ?_
  pointwise
  simp only [Fin.sum_univ_one]
  refine (Cert.Sums.hostReduceAdd_lead _ _ _ _).trans ?_
  pointwise

theorem outDlb_apply (d : Fin 512) : outDlb cv g lw lb (ix2 0 d) = ∑ b : Fin 4, ∑ n : Fin 2048, dcn cv g lw lb (ix3 b n d) := by
  pointwise [outDlb]
  refine (Cert.Sums.hostReduceAdd_lead _ _ _ _).trans ?_
  pointwise
  simp only [Fin.sum_univ_one]
  refine (Cert.Sums.hostReduceAdd_lead _ _ _ _).trans ?_
  pointwise

end

set_option maxHeartbeats 1600000 in
/-- The reference's run, each result by its name here. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v122) = outDp (dConv (convOut (m ((c.tc : Thread nD τ).loc main_arg1)) (m ((c.tc : Thread nD τ).loc main_arg2)) (m ((c.tc : Thread nD τ).loc main_arg3))) (ct (m ((c.tc : Thread nD τ).loc main_arg0))) (m ((c.tc : Thread nD τ).loc main_arg4)) (m ((c.tc : Thread nD τ).loc main_arg5))) (m ((c.tc : Thread nD τ).loc main_arg2)) (m ((c.tc : Thread nD τ).loc main_arg1))
      ∧ r.2.mem ((c.tc : Thread nD τ).loc main_v124) = outDw (dConv (convOut (m ((c.tc : Thread nD τ).loc main_arg1)) (m ((c.tc : Thread nD τ).loc main_arg2)) (m ((c.tc : Thread nD τ).loc main_arg3))) (ct (m ((c.tc : Thread nD τ).loc main_arg0))) (m ((c.tc : Thread nD τ).loc main_arg4)) (m ((c.tc : Thread nD τ).loc main_arg5))) (gated (m ((c.tc : Thread nD τ).loc main_arg1)))
      ∧ r.2.mem ((c.tc : Thread nD τ).loc main_v125) = outDb (convOut (m ((c.tc : Thread nD τ).loc main_arg1)) (m ((c.tc : Thread nD τ).loc main_arg2)) (m ((c.tc : Thread nD τ).loc main_arg3))) (ct (m ((c.tc : Thread nD τ).loc main_arg0))) (m ((c.tc : Thread nD τ).loc main_arg4)) (m ((c.tc : Thread nD τ).loc main_arg5))
      ∧ r.2.mem ((c.tc : Thread nD τ).loc main_v126) = outDlw (convOut (m ((c.tc : Thread nD τ).loc main_arg1)) (m ((c.tc : Thread nD τ).loc main_arg2)) (m ((c.tc : Thread nD τ).loc main_arg3))) (ct (m ((c.tc : Thread nD τ).loc main_arg0))) (m ((c.tc : Thread nD τ).loc main_arg4)) (m ((c.tc : Thread nD τ).loc main_arg5))
      ∧ r.2.mem ((c.tc : Thread nD τ).loc main_v127) = outDlb (convOut (m ((c.tc : Thread nD τ).loc main_arg1)) (m ((c.tc : Thread nD τ).loc main_arg2)) (m ((c.tc : Thread nD τ).loc main_arg3))) (ct (m ((c.tc : Thread nD τ).loc main_arg0))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ?_) (run m ρ)
  exact ⟨(h c).1.trans rfl, (h c).2.1.trans rfl, (h c).2.2.1.trans rfl, (h c).2.2.2.1.trans rfl, (h c).2.2.2.2.1.trans rfl, (h c).2.2.2.2.2⟩

end Cert.ConvRefIdeal.Math

end
-- ==== Proof.ConvFinite.lean ====
/-
  The condition under which the Conformer convolution's gradient is claimed: the gradient that arrives and the normalisation's gain hold no
  infinity. Read off, it says that each of them is a real number.
-/
module

public import proofs.«01_k».proof.Pre_conv_finite
public import proofs.«01_k».proof.Proof.ConvRef

@[expose] public section

set_option maxRecDepth 16384

noncomputable section

namespace Cert.ConvFinite

open Idealize.ShloMosaic
open Cert.ConvRefIdeal Cert.ConvRefIdeal.Math

/-- The float word of the greatest value is the top element. -/
theorem infWord : Ideal.ofBits .f32 0x7F800000#32 = (⊤ : EReal) := by
  simp [Ideal.ofBits, Ideal.ieee]

/-- What the test reads at one value: its magnitude lies under the top element. -/
def isFinite (x : EReal) : BitVec 1 := BitVec.ofBool (decide (FloatOps.absf (F := Ideal) (φ := .f32) x < Ideal.ofBits .f32 0x7F800000#32))

theorem isFinite_real (x : EReal) (h : isFinite x = 1#1) : ∃ a : ℝ, x = (a : EReal) := by
  unfold isFinite at h
  rw [infWord] at h
  have hx : FloatOps.absf (F := Ideal) (φ := .f32) x < (⊤ : EReal) := by
    by_contra hn
    rw [decide_eq_false hn] at h
    exact absurd h (by decide)
  induction x with
  | bot => exact absurd hx (by simp [FloatOps.absf])
  | top => exact absurd hx (by simp [FloatOps.absf])
  | coe a => exact ⟨a, rfl⟩

theorem and_one : ∀ a b : BitVec 1, IntOp.andi a b = 1#1 → a = 1#1 ∧ b = 1#1 := by decide

variable [Cert.Pre_conv_finite.Facts]

theorem fn_apply (dcat p : FVec Ideal S9216x1024 .f32) (w : FVec Ideal S31x512 .f32) (bias lw lb : FVec Ideal S512 .f32) (b : Fin 4) (n : Fin 2048) (d : Fin 512) :
    Cert.Pre_conv_finite.fn (F := Ideal) dcat p w bias lw lb (ix3 b n d) = IntOp.andi (isFinite (ct dcat (ix3 b n d))) (isFinite (lw (ix1 d))) := by
  rw [ct_apply]
  unfold isFinite
  pointwise [Cert.Pre_conv_finite.fn]

theorem finite (dcat p : FVec Ideal S9216x1024 .f32) (w : FVec Ideal S31x512 .f32) (bias lw lb : FVec Ideal S512 .f32)
    (h : Cert.Pre_conv_finite.fn (F := Ideal) dcat p w bias lw lb = fun _ => 1#1) :
    (∀ (b : Fin 4) (n : Fin 2048) (d : Fin 512), ∃ a : ℝ, ct dcat (ix3 b n d) = (a : EReal)) ∧ ∀ d : Fin 512, ∃ a : ℝ, lw (ix1 d) = (a : EReal) := by
  have key : ∀ (b : Fin 4) (n : Fin 2048) (d : Fin 512), isFinite (ct dcat (ix3 b n d)) = 1#1 ∧ isFinite (lw (ix1 d)) = 1#1 := fun b n d =>
    and_one _ _ ((fn_apply dcat p w bias lw lb b n d).symm.trans (congrFun h (ix3 b n d)))
  exact ⟨fun b n d => isFinite_real _ (key b n d).1, fun d => isFinite_real _ (key 0 0 d).2⟩

end Cert.ConvFinite

end
-- ==== Proof.ConvPay.lean ====
/-
  The Conformer convolution's gradient, one grid point at a time: what each value the body stores is at an index, over the extended
  reals. A tap shifts a tile along its grid rows of 64 tokens; its gradient is the sum over the tile of the output's gradient times the
  shifted input, and the input's gradient is the sum over the taps of the tap times the output's gradient shifted the other way.
-/
module

public import proofs.«01_k».proof.Proof.Gen.ConvIdeal.Skeleton
public import Idealize.ShloMosaic.Lib.Pointwise
public import proofs.«01_k».proof.Proof.ConvMath

@[expose] public section

set_option maxRecDepth 16384

noncomputable section

namespace Cert.ConvIdeal.Math

open Cert.ConvIdeal Cert.ConvIdeal.Gen Cert.RowNorm Cert.ConvMath
open Idealize.ShloMosaic Idealize.ShloMosaic.TcCoe Idealize.SL.Sem

/-- A tile shifted by a tap, as the body spells it: rotated by `k` rows and kept where the shift `w` stays in the grid row. -/
def tap (w k : BitVec 32) (x : FVec Ideal S256x512 .f32) : FVec Ideal S256x512 .f32 :=
  select (andi (cmpi .sge (addi k0_pay7 (broadcast S256x512 w)) (broadcast S256x512 0#32)) (cmpi .slt (addi k0_pay7 (broadcast S256x512 w)) (broadcast S256x512 64#32)))
    (dynamicRotate 0 k none x rotates_S256x512_d0) (broadcast S256x512 (Scalar.ofBits .f32 0x00000000#32 : Ideal .f32))

/-- Whether a shift stays in a grid row. -/
def maskWord (w : BitVec 32) (r : ℕ) : BitVec 1 :=
  Scalar.andi (Scalar.cmpi .sge (Scalar.addi (Scalar.andi (BitVec.ofNat 32 r) 63#32) w) 0#32) (Scalar.cmpi .slt (Scalar.addi (Scalar.andi (BitVec.ofNat 32 r) 63#32) w) 64#32)

theorem maskWord_eq : ∀ n : Fin 31, ∀ r : Fin 256, maskWord (BitVec.ofNat 32 ((4294967281 + n.val) % 4294967296)) r.val
    = if 15 ≤ r.val % 64 + n.val ∧ r.val % 64 + n.val < 79 then 1#1 else 0#1 := by
  decide +kernel

/-- A tile shifted by tap `n` along its grid rows. -/
def rowTap (n : ℕ) (x : FVec Ideal S256x512 .f32) (r : Fin 256) (d : Fin 512) : EReal :=
  if h : 15 ≤ r.val % 64 + n ∧ r.val % 64 + n < 79 then x (ix2 ⟨r.val + n - 15, by have := r.isLt; omega⟩ d) else 0

theorem rowTap_mid (x : FVec Ideal S256x512 .f32) (r : Fin 256) (d : Fin 512) : rowTap 15 x r d = x (ix2 r d) := by
  unfold rowTap
  rw [dif_pos (by omega)]
  rfl

theorem tap_mask (w k : BitVec 32) (x : FVec Ideal S256x512 .f32) (r : Fin 256) (d : Fin 512) :
    tap w k x (ix2 r d) = Scalar.select (maskWord w r.val) (x (ix2 ⟨(r.val + 256 - k.toNat % 256) % 256, Nat.mod_lt _ (by decide)⟩ d)) (0 : EReal) := by
  pointwise [tap, k0_pay7]
  rfl

theorem tap_apply (n : ℕ) (hn : n < 31) {w k : BitVec 32} (hw : w = BitVec.ofNat 32 ((4294967281 + n) % 4294967296)) (hk : k.toNat = (271 - n) % 256)
    (x : FVec Ideal S256x512 .f32) (r : Fin 256) (d : Fin 512) : tap w k x (ix2 r d) = rowTap n x r d := by
  rw [tap_mask, hw, maskWord_eq ⟨n, hn⟩ r]
  unfold rowTap
  have hr := r.isLt
  split_ifs with h
  · have h' : 15 ≤ r.val % 64 + n ∧ r.val % 64 + n < 79 := h
    refine (if_pos rfl).trans (congrArg x (congrArg (fun i => ix2 i d) (Fin.ext ?_)))
    show (r.val + 256 - k.toNat % 256) % 256 = r.val + n - 15
    have hk' : k.toNat % 256 = (271 - n) % 256 := by rw [hk, Nat.mod_mod]
    rw [hk']
    rcases Nat.lt_or_ge n 16 with h16 | h16
    · rw [show (271 - n) % 256 = 15 - n by omega]; omega
    · rw [show (271 - n) % 256 = 271 - n by omega]; omega
  · exact if_neg (by decide)

/-- One tap's gradient, with what the tiles before had summed. -/
def dwStep (a : FVec Ideal S1x512 .f32) (D T : FVec Ideal S256x512 .f32) : FVec Ideal S1x512 .f32 :=
  addf (shapeCast S1x512 a shapeCasts_S1x512_S1x512)
    (shapeCast S1x512 (multiReduction .add [0] S512 (mulf D T) 0x00000000#32 reduces_S256x512_S512 (.inl rfl) rfl) shapeCasts_S512_S1x512)

theorem dwStep_apply (a : FVec Ideal S1x512 .f32) (D T : FVec Ideal S256x512 .f32) (d : Fin 512) :
    dwStep a D T (ix2 0 d) = a (ix2 0 d) + ∑ r : Fin 256, D (ix2 r d) * T (ix2 r d) := by
  pointwise [dwStep]

/-- One tap's share of the input's gradient, with the taps' before. -/
def duStep (acc : FVec Ideal S256x512 .f32) (row : FVec Ideal S1x512 .f32) (T : FVec Ideal S256x512 .f32) : FVec Ideal S256x512 .f32 :=
  addf acc (mulf (broadcastTo S256x512 (shapeCast S1x512 row shapeCasts_S1x512_S1x512) broadcasts_S1x512_S256x512) T)

theorem duStep_apply (acc : FVec Ideal S256x512 .f32) (row : FVec Ideal S1x512 .f32) (T : FVec Ideal S256x512 .f32) (r : Fin 256) (d : Fin 512) :
    duStep acc row T (ix2 r d) = acc (ix2 r d) + row (ix2 0 d) * T (ix2 r d) := by
  pointwise [duStep]

theorem zero_acc (r : Fin 256) (d : Fin 512) : k0_pay23 (F := Ideal) (ix2 r d) = 0 := by pointwise [k0_pay23]

/-! The taps' gradients, row by row. -/

theorem dw_0 (a : FVec Ideal S1x512 .f32) (U : FVec Ideal S256x512 .f32) (S : FVec Ideal S256x1 .f32) (C X Y : FVec Ideal S256x512 .f32) (d : Fin 512) :
    k0_pay24 (F := Ideal) k0_pay7 U S C X Y a (ix2 0 d) = a (ix2 0 d) + ∑ r : Fin 256, k0_pay21 (F := Ideal) S C X Y (ix2 r d) * rowTap 0 U r d :=
  ((congrFun (rfl : k0_pay24 (F := Ideal) k0_pay7 U S C X Y a = dwStep a (k0_pay21 (F := Ideal) S C X Y) (tap 4294967281#32 15#32 U)) _).trans (dwStep_apply _ _ _ _)).trans
    (congrArg _ (Finset.sum_congr rfl fun r _ => congrArg _ (tap_apply 0 (by decide) rfl rfl _ _ _)))

theorem dw_1 (a : FVec Ideal S1x512 .f32) (U D : FVec Ideal S256x512 .f32) (d : Fin 512) :
    k0_pay27 (F := Ideal) k0_pay7 U D a (ix2 0 d) = a (ix2 0 d) + ∑ r : Fin 256, D (ix2 r d) * rowTap 1 U r d :=
  ((congrFun (rfl : k0_pay27 (F := Ideal) k0_pay7 U D a = dwStep a D (tap 4294967282#32 14#32 U)) _).trans (dwStep_apply _ _ _ _)).trans
    (congrArg _ (Finset.sum_congr rfl fun r _ => congrArg _ (tap_apply 1 (by decide) rfl rfl _ _ _)))

theorem dw_2 (a : FVec Ideal S1x512 .f32) (U D : FVec Ideal S256x512 .f32) (d : Fin 512) :
    k0_pay32 (F := Ideal) k0_pay7 U D a (ix2 0 d) = a (ix2 0 d) + ∑ r : Fin 256, D (ix2 r d) * rowTap 2 U r d :=
  ((congrFun (rfl : k0_pay32 (F := Ideal) k0_pay7 U D a = dwStep a D (tap 4294967283#32 13#32 U)) _).trans (dwStep_apply _ _ _ _)).trans
    (congrArg _ (Finset.sum_congr rfl fun r _ => congrArg _ (tap_apply 2 (by decide) rfl rfl _ _ _)))

theorem dw_3 (a : FVec Ideal S1x512 .f32) (U D : FVec Ideal S256x512 .f32) (d : Fin 512) :
    k0_pay37 (F := Ideal) k0_pay7 U D a (ix2 0 d) = a (ix2 0 d) + ∑ r : Fin 256, D (ix2 r d) * rowTap 3 U r d :=
  ((congrFun (rfl : k0_pay37 (F := Ideal) k0_pay7 U D a = dwStep a D (tap 4294967284#32 12#32 U)) _).trans (dwStep_apply _ _ _ _)).trans
    (congrArg _ (Finset.sum_congr rfl fun r _ => congrArg _ (tap_apply 3 (by decide) rfl rfl _ _ _)))

theorem dw_4 (a : FVec Ideal S1x512 .f32) (U D : FVec Ideal S256x512 .f32) (d : Fin 512) :
    k0_pay43 (F := Ideal) k0_pay7 U D a (ix2 0 d) = a (ix2 0 d) + ∑ r : Fin 256, D (ix2 r d) * rowTap 4 U r d :=
  ((congrFun (rfl : k0_pay43 (F := Ideal) k0_pay7 U D a = dwStep a D (tap 4294967285#32 11#32 U)) _).trans (dwStep_apply _ _ _ _)).trans
    (congrArg _ (Finset.sum_congr rfl fun r _ => congrArg _ (tap_apply 4 (by decide) rfl rfl _ _ _)))

theorem dw_5 (a : FVec Ideal S1x512 .f32) (U D : FVec Ideal S256x512 .f32) (d : Fin 512) :
    k0_pay48 (F := Ideal) k0_pay7 U D a (ix2 0 d) = a (ix2 0 d) + ∑ r : Fin 256, D (ix2 r d) * rowTap 5 U r d :=
  ((congrFun (rfl : k0_pay48 (F := Ideal) k0_pay7 U D a = dwStep a D (tap 4294967286#32 10#32 U)) _).trans (dwStep_apply _ _ _ _)).trans
    (congrArg _ (Finset.sum_congr rfl fun r _ => congrArg _ (tap_apply 5 (by decide) rfl rfl _ _ _)))

theorem dw_6 (a : FVec Ideal S1x512 .f32) (U D : FVec Ideal S256x512 .f32) (d : Fin 512) :
    k0_pay50 (F := Ideal) k0_pay7 U D a (ix2 0 d) = a (ix2 0 d) + ∑ r : Fin 256, D (ix2 r d) * rowTap 6 U r d :=
  ((congrFun (rfl : k0_pay50 (F := Ideal) k0_pay7 U D a = dwStep a D (tap 4294967287#32 9#32 U)) _).trans (dwStep_apply _ _ _ _)).trans
    (congrArg _ (Finset.sum_congr rfl fun r _ => congrArg _ (tap_apply 6 (by decide) rfl rfl _ _ _)))

theorem dw_7 (a : FVec Ideal S1x512 .f32) (U D : FVec Ideal S256x512 .f32) (d : Fin 512) :
    k0_pay52 (F := Ideal) k0_pay7 U D a (ix2 0 d) = a (ix2 0 d) + ∑ r : Fin 256, D (ix2 r d) * rowTap 7 U r d :=
  ((congrFun (rfl : k0_pay52 (F := Ideal) k0_pay7 U D a = dwStep a D (tap 4294967288#32 8#32 U)) _).trans (dwStep_apply _ _ _ _)).trans
    (congrArg _ (Finset.sum_congr rfl fun r _ => congrArg _ (tap_apply 7 (by decide) rfl rfl _ _ _)))

theorem dw_8 (a : FVec Ideal S1x512 .f32) (U D : FVec Ideal S256x512 .f32) (d : Fin 512) :
    k0_pay56 (F := Ideal) k0_pay7 D (k0_pay54 a) (k0_pay55 U) 4294967289#32 (ix2 0 d) = a (ix2 0 d) + ∑ r : Fin 256, D (ix2 r d) * rowTap 8 U r d :=
  ((congrFun (rfl : k0_pay56 (F := Ideal) k0_pay7 D (k0_pay54 a) (k0_pay55 U) 4294967289#32 = dwStep a D (tap 4294967289#32 7#32 U)) _).trans (dwStep_apply _ _ _ _)).trans
    (congrArg _ (Finset.sum_congr rfl fun r _ => congrArg _ (tap_apply 8 (by decide) rfl rfl _ _ _)))

theorem dw_9 (a : FVec Ideal S1x512 .f32) (U D : FVec Ideal S256x512 .f32) (d : Fin 512) :
    k0_pay62 (F := Ideal) k0_pay7 D (k0_pay58 a) (k0_pay59 U) (k0_pay60 k0_pay7) k0_pay61 (ix2 0 d) = a (ix2 0 d) + ∑ r : Fin 256, D (ix2 r d) * rowTap 9 U r d :=
  ((congrFun (rfl : k0_pay62 (F := Ideal) k0_pay7 D (k0_pay58 a) (k0_pay59 U) (k0_pay60 k0_pay7) k0_pay61 = dwStep a D (tap 4294967290#32 6#32 U)) _).trans (dwStep_apply _ _ _ _)).trans
    (congrArg _ (Finset.sum_congr rfl fun r _ => congrArg _ (tap_apply 9 (by decide) rfl rfl _ _ _)))

theorem dw_10 (a : FVec Ideal S1x512 .f32) (U D : FVec Ideal S256x512 .f32) (d : Fin 512) :
    k0_pay68 (F := Ideal) D (k0_pay64 a) (k0_pay65 U) (k0_pay66 k0_pay7) (k0_pay67 k0_pay7) (ix2 0 d) = a (ix2 0 d) + ∑ r : Fin 256, D (ix2 r d) * rowTap 10 U r d :=
  ((congrFun (rfl : k0_pay68 (F := Ideal) D (k0_pay64 a) (k0_pay65 U) (k0_pay66 k0_pay7) (k0_pay67 k0_pay7) = dwStep a D (tap 4294967291#32 5#32 U)) _).trans (dwStep_apply _ _ _ _)).trans
    (congrArg _ (Finset.sum_congr rfl fun r _ => congrArg _ (tap_apply 10 (by decide) rfl rfl _ _ _)))

theorem dw_11 (a : FVec Ideal S1x512 .f32) (U D : FVec Ideal S256x512 .f32) (d : Fin 512) :
    k0_pay73 (F := Ideal) D (k0_pay70 a) (k0_pay71 U) (k0_pay72 k0_pay7) (ix2 0 d) = a (ix2 0 d) + ∑ r : Fin 256, D (ix2 r d) * rowTap 11 U r d :=
  ((congrFun (rfl : k0_pay73 (F := Ideal) D (k0_pay70 a) (k0_pay71 U) (k0_pay72 k0_pay7) = dwStep a D (tap 4294967292#32 4#32 U)) _).trans (dwStep_apply _ _ _ _)).trans
    (congrArg _ (Finset.sum_congr rfl fun r _ => congrArg _ (tap_apply 11 (by decide) rfl rfl _ _ _)))

theorem dw_12 (a : FVec Ideal S1x512 .f32) (U D : FVec Ideal S256x512 .f32) (d : Fin 512) :
    k0_pay77 (F := Ideal) (k0_pay75 a) (k0_pay76 k0_pay7 U D) (ix2 0 d) = a (ix2 0 d) + ∑ r : Fin 256, D (ix2 r d) * rowTap 12 U r d :=
  ((congrFun (rfl : k0_pay77 (F := Ideal) (k0_pay75 a) (k0_pay76 k0_pay7 U D) = dwStep a D (tap 4294967293#32 3#32 U)) _).trans (dwStep_apply _ _ _ _)).trans
    (congrArg _ (Finset.sum_congr rfl fun r _ => congrArg _ (tap_apply 12 (by decide) rfl rfl _ _ _)))

theorem dw_13 (a : FVec Ideal S1x512 .f32) (U D : FVec Ideal S256x512 .f32) (d : Fin 512) :
    k0_pay79 (F := Ideal) k0_pay7 U D a (ix2 0 d) = a (ix2 0 d) + ∑ r : Fin 256, D (ix2 r d) * rowTap 13 U r d :=
  ((congrFun (rfl : k0_pay79 (F := Ideal) k0_pay7 U D a = dwStep a D (tap 4294967294#32 2#32 U)) _).trans (dwStep_apply _ _ _ _)).trans
    (congrArg _ (Finset.sum_congr rfl fun r _ => congrArg _ (tap_apply 13 (by decide) rfl rfl _ _ _)))

theorem dw_14 (a : FVec Ideal S1x512 .f32) (U D : FVec Ideal S256x512 .f32) (d : Fin 512) :
    k0_pay81 (F := Ideal) k0_pay7 U D a (ix2 0 d) = a (ix2 0 d) + ∑ r : Fin 256, D (ix2 r d) * rowTap 14 U r d :=
  ((congrFun (rfl : k0_pay81 (F := Ideal) k0_pay7 U D a = dwStep a D (tap 4294967295#32 1#32 U)) _).trans (dwStep_apply _ _ _ _)).trans
    (congrArg _ (Finset.sum_congr rfl fun r _ => congrArg _ (tap_apply 14 (by decide) rfl rfl _ _ _)))

theorem dw_15 (a : FVec Ideal S1x512 .f32) (U D : FVec Ideal S256x512 .f32) (d : Fin 512) :
    k0_pay82 (F := Ideal) U D a (ix2 0 d) = a (ix2 0 d) + ∑ r : Fin 256, D (ix2 r d) * rowTap 15 U r d :=
  ((congrFun (rfl : k0_pay82 (F := Ideal) U D a = dwStep a D U) _).trans (dwStep_apply _ _ _ _)).trans
    (congrArg _ (Finset.sum_congr rfl fun r _ => congrArg _ (rowTap_mid U r d).symm))

theorem dw_16 (a : FVec Ideal S1x512 .f32) (U D : FVec Ideal S256x512 .f32) (d : Fin 512) :
    k0_pay88 (F := Ideal) D (k0_pay84 a) (k0_pay85 U) (k0_pay86 k0_pay7) (k0_pay87 k0_pay7) (ix2 0 d) = a (ix2 0 d) + ∑ r : Fin 256, D (ix2 r d) * rowTap 16 U r d :=
  ((congrFun (rfl : k0_pay88 (F := Ideal) D (k0_pay84 a) (k0_pay85 U) (k0_pay86 k0_pay7) (k0_pay87 k0_pay7) = dwStep a D (tap 1#32 255#32 U)) _).trans (dwStep_apply _ _ _ _)).trans
    (congrArg _ (Finset.sum_congr rfl fun r _ => congrArg _ (tap_apply 16 (by decide) rfl rfl _ _ _)))

theorem dw_17 (a : FVec Ideal S1x512 .f32) (U D : FVec Ideal S256x512 .f32) (d : Fin 512) :
    k0_pay93 (F := Ideal) D (k0_pay90 a) (k0_pay91 U) (k0_pay92 k0_pay7) (ix2 0 d) = a (ix2 0 d) + ∑ r : Fin 256, D (ix2 r d) * rowTap 17 U r d :=
  ((congrFun (rfl : k0_pay93 (F := Ideal) D (k0_pay90 a) (k0_pay91 U) (k0_pay92 k0_pay7) = dwStep a D (tap 2#32 254#32 U)) _).trans (dwStep_apply _ _ _ _)).trans
    (congrArg _ (Finset.sum_congr rfl fun r _ => congrArg _ (tap_apply 17 (by decide) rfl rfl _ _ _)))

theorem dw_18 (a : FVec Ideal S1x512 .f32) (U D : FVec Ideal S256x512 .f32) (d : Fin 512) :
    k0_pay97 (F := Ideal) (k0_pay95 a) (k0_pay96 k0_pay7 U D) (ix2 0 d) = a (ix2 0 d) + ∑ r : Fin 256, D (ix2 r d) * rowTap 18 U r d :=
  ((congrFun (rfl : k0_pay97 (F := Ideal) (k0_pay95 a) (k0_pay96 k0_pay7 U D) = dwStep a D (tap 3#32 253#32 U)) _).trans (dwStep_apply _ _ _ _)).trans
    (congrArg _ (Finset.sum_congr rfl fun r _ => congrArg _ (tap_apply 18 (by decide) rfl rfl _ _ _)))

theorem dw_19 (a : FVec Ideal S1x512 .f32) (U D : FVec Ideal S256x512 .f32) (d : Fin 512) :
    k0_pay99 (F := Ideal) k0_pay7 U D a (ix2 0 d) = a (ix2 0 d) + ∑ r : Fin 256, D (ix2 r d) * rowTap 19 U r d :=
  ((congrFun (rfl : k0_pay99 (F := Ideal) k0_pay7 U D a = dwStep a D (tap 4#32 252#32 U)) _).trans (dwStep_apply _ _ _ _)).trans
    (congrArg _ (Finset.sum_congr rfl fun r _ => congrArg _ (tap_apply 19 (by decide) rfl rfl _ _ _)))

theorem dw_20 (a : FVec Ideal S1x512 .f32) (U D : FVec Ideal S256x512 .f32) (d : Fin 512) :
    k0_pay101 (F := Ideal) k0_pay7 U D a (ix2 0 d) = a (ix2 0 d) + ∑ r : Fin 256, D (ix2 r d) * rowTap 20 U r d :=
  ((congrFun (rfl : k0_pay101 (F := Ideal) k0_pay7 U D a = dwStep a D (tap 5#32 251#32 U)) _).trans (dwStep_apply _ _ _ _)).trans
    (congrArg _ (Finset.sum_congr rfl fun r _ => congrArg _ (tap_apply 20 (by decide) rfl rfl _ _ _)))

theorem dw_21 (a : FVec Ideal S1x512 .f32) (U D : FVec Ideal S256x512 .f32) (d : Fin 512) :
    k0_pay103 (F := Ideal) k0_pay7 U D a (ix2 0 d) = a (ix2 0 d) + ∑ r : Fin 256, D (ix2 r d) * rowTap 21 U r d :=
  ((congrFun (rfl : k0_pay103 (F := Ideal) k0_pay7 U D a = dwStep a D (tap 6#32 250#32 U)) _).trans (dwStep_apply _ _ _ _)).trans
    (congrArg _ (Finset.sum_congr rfl fun r _ => congrArg _ (tap_apply 21 (by decide) rfl rfl _ _ _)))

theorem dw_22 (a : FVec Ideal S1x512 .f32) (U D : FVec Ideal S256x512 .f32) (d : Fin 512) :
    k0_pay106 (F := Ideal) k0_pay7 U D a (ix2 0 d) = a (ix2 0 d) + ∑ r : Fin 256, D (ix2 r d) * rowTap 22 U r d :=
  ((congrFun (rfl : k0_pay106 (F := Ideal) k0_pay7 U D a = dwStep a D (tap 7#32 249#32 U)) _).trans (dwStep_apply _ _ _ _)).trans
    (congrArg _ (Finset.sum_congr rfl fun r _ => congrArg _ (tap_apply 22 (by decide) rfl rfl _ _ _)))

theorem dw_23 (a : FVec Ideal S1x512 .f32) (U D : FVec Ideal S256x512 .f32) (d : Fin 512) :
    k0_pay111 (F := Ideal) k0_pay7 U D a (ix2 0 d) = a (ix2 0 d) + ∑ r : Fin 256, D (ix2 r d) * rowTap 23 U r d :=
  ((congrFun (rfl : k0_pay111 (F := Ideal) k0_pay7 U D a = dwStep a D (tap 8#32 248#32 U)) _).trans (dwStep_apply _ _ _ _)).trans
    (congrArg _ (Finset.sum_congr rfl fun r _ => congrArg _ (tap_apply 23 (by decide) rfl rfl _ _ _)))

theorem dw_24 (a : FVec Ideal S1x512 .f32) (U D : FVec Ideal S256x512 .f32) (d : Fin 512) :
    k0_pay116 (F := Ideal) k0_pay7 U D a (ix2 0 d) = a (ix2 0 d) + ∑ r : Fin 256, D (ix2 r d) * rowTap 24 U r d :=
  ((congrFun (rfl : k0_pay116 (F := Ideal) k0_pay7 U D a = dwStep a D (tap 9#32 247#32 U)) _).trans (dwStep_apply _ _ _ _)).trans
    (congrArg _ (Finset.sum_congr rfl fun r _ => congrArg _ (tap_apply 24 (by decide) rfl rfl _ _ _)))

theorem dw_25 (a : FVec Ideal S1x512 .f32) (U D : FVec Ideal S256x512 .f32) (d : Fin 512) :
    k0_pay122 (F := Ideal) k0_pay7 U D a (ix2 0 d) = a (ix2 0 d) + ∑ r : Fin 256, D (ix2 r d) * rowTap 25 U r d :=
  ((congrFun (rfl : k0_pay122 (F := Ideal) k0_pay7 U D a = dwStep a D (tap 10#32 246#32 U)) _).trans (dwStep_apply _ _ _ _)).trans
    (congrArg _ (Finset.sum_congr rfl fun r _ => congrArg _ (tap_apply 25 (by decide) rfl rfl _ _ _)))

theorem dw_26 (a : FVec Ideal S1x512 .f32) (U D : FVec Ideal S256x512 .f32) (d : Fin 512) :
    k0_pay127 (F := Ideal) k0_pay7 U D a (ix2 0 d) = a (ix2 0 d) + ∑ r : Fin 256, D (ix2 r d) * rowTap 26 U r d :=
  ((congrFun (rfl : k0_pay127 (F := Ideal) k0_pay7 U D a = dwStep a D (tap 11#32 245#32 U)) _).trans (dwStep_apply _ _ _ _)).trans
    (congrArg _ (Finset.sum_congr rfl fun r _ => congrArg _ (tap_apply 26 (by decide) rfl rfl _ _ _)))

theorem dw_27 (a : FVec Ideal S1x512 .f32) (U D : FVec Ideal S256x512 .f32) (d : Fin 512) :
    k0_pay129 (F := Ideal) k0_pay7 U D a (ix2 0 d) = a (ix2 0 d) + ∑ r : Fin 256, D (ix2 r d) * rowTap 27 U r d :=
  ((congrFun (rfl : k0_pay129 (F := Ideal) k0_pay7 U D a = dwStep a D (tap 12#32 244#32 U)) _).trans (dwStep_apply _ _ _ _)).trans
    (congrArg _ (Finset.sum_congr rfl fun r _ => congrArg _ (tap_apply 27 (by decide) rfl rfl _ _ _)))

theorem dw_28 (a : FVec Ideal S1x512 .f32) (U D : FVec Ideal S256x512 .f32) (d : Fin 512) :
    k0_pay131 (F := Ideal) k0_pay7 U D a (ix2 0 d) = a (ix2 0 d) + ∑ r : Fin 256, D (ix2 r d) * rowTap 28 U r d :=
  ((congrFun (rfl : k0_pay131 (F := Ideal) k0_pay7 U D a = dwStep a D (tap 13#32 243#32 U)) _).trans (dwStep_apply _ _ _ _)).trans
    (congrArg _ (Finset.sum_congr rfl fun r _ => congrArg _ (tap_apply 28 (by decide) rfl rfl _ _ _)))

theorem dw_29 (a : FVec Ideal S1x512 .f32) (U D : FVec Ideal S256x512 .f32) (d : Fin 512) :
    k0_pay135 (F := Ideal) k0_pay7 D (k0_pay133 a) (k0_pay134 U) 14#32 (ix2 0 d) = a (ix2 0 d) + ∑ r : Fin 256, D (ix2 r d) * rowTap 29 U r d :=
  ((congrFun (rfl : k0_pay135 (F := Ideal) k0_pay7 D (k0_pay133 a) (k0_pay134 U) 14#32 = dwStep a D (tap 14#32 242#32 U)) _).trans (dwStep_apply _ _ _ _)).trans
    (congrArg _ (Finset.sum_congr rfl fun r _ => congrArg _ (tap_apply 29 (by decide) rfl rfl _ _ _)))

theorem dw_30 (a : FVec Ideal S1x512 .f32) (U D : FVec Ideal S256x512 .f32) (d : Fin 512) :
    k0_pay141 (F := Ideal) k0_pay7 D (k0_pay137 a) (k0_pay138 U) (k0_pay139 k0_pay7) k0_pay140 (ix2 0 d) = a (ix2 0 d) + ∑ r : Fin 256, D (ix2 r d) * rowTap 30 U r d :=
  ((congrFun (rfl : k0_pay141 (F := Ideal) k0_pay7 D (k0_pay137 a) (k0_pay138 U) (k0_pay139 k0_pay7) k0_pay140 = dwStep a D (tap 15#32 241#32 U)) _).trans (dwStep_apply _ _ _ _)).trans
    (congrArg _ (Finset.sum_congr rfl fun r _ => congrArg _ (tap_apply 30 (by decide) rfl rfl _ _ _)))

/-! The input's gradient, tap by tap. -/

theorem du_0 (acc D : FVec Ideal S256x512 .f32) (row : FVec Ideal S1x512 .f32) (r : Fin 256) (d : Fin 512) :
    k0_pay26 (F := Ideal) k0_pay7 D acc (k0_pay25 row) (ix2 r d) = acc (ix2 r d) + row (ix2 0 d) * rowTap 30 D r d :=
  ((congrFun (rfl : k0_pay26 (F := Ideal) k0_pay7 D acc (k0_pay25 row) = duStep acc row (tap 15#32 241#32 D)) _).trans (duStep_apply _ _ _ _ _)).trans (congrArg _ (congrArg _ (tap_apply 30 (by decide) rfl rfl _ _ _)))

theorem du_1 (acc D : FVec Ideal S256x512 .f32) (row : FVec Ideal S1x512 .f32) (r : Fin 256) (d : Fin 512) :
    k0_pay31 (F := Ideal) k0_pay7 acc (k0_pay28 row) (k0_pay29 D) k0_pay30 (ix2 r d) = acc (ix2 r d) + row (ix2 0 d) * rowTap 29 D r d :=
  ((congrFun (rfl : k0_pay31 (F := Ideal) k0_pay7 acc (k0_pay28 row) (k0_pay29 D) k0_pay30 = duStep acc row (tap 14#32 242#32 D)) _).trans (duStep_apply _ _ _ _ _)).trans (congrArg _ (congrArg _ (tap_apply 29 (by decide) rfl rfl _ _ _)))

theorem du_2 (acc D : FVec Ideal S256x512 .f32) (row : FVec Ideal S1x512 .f32) (r : Fin 256) (d : Fin 512) :
    k0_pay36 (F := Ideal) k0_pay7 acc (k0_pay33 row) (k0_pay34 D) (k0_pay35 k0_pay7) (ix2 r d) = acc (ix2 r d) + row (ix2 0 d) * rowTap 28 D r d :=
  ((congrFun (rfl : k0_pay36 (F := Ideal) k0_pay7 acc (k0_pay33 row) (k0_pay34 D) (k0_pay35 k0_pay7) = duStep acc row (tap 13#32 243#32 D)) _).trans (duStep_apply _ _ _ _ _)).trans (congrArg _ (congrArg _ (tap_apply 28 (by decide) rfl rfl _ _ _)))

theorem du_3 (acc D : FVec Ideal S256x512 .f32) (row : FVec Ideal S1x512 .f32) (r : Fin 256) (d : Fin 512) :
    k0_pay42 (F := Ideal) acc (k0_pay38 row) (k0_pay39 D) (k0_pay40 k0_pay7) (k0_pay41 k0_pay7) 64#32 (ix2 r d) = acc (ix2 r d) + row (ix2 0 d) * rowTap 27 D r d :=
  ((congrFun (rfl : k0_pay42 (F := Ideal) acc (k0_pay38 row) (k0_pay39 D) (k0_pay40 k0_pay7) (k0_pay41 k0_pay7) 64#32 = duStep acc row (tap 12#32 244#32 D)) _).trans (duStep_apply _ _ _ _ _)).trans (congrArg _ (congrArg _ (tap_apply 27 (by decide) rfl rfl _ _ _)))

theorem du_4 (acc D : FVec Ideal S256x512 .f32) (row : FVec Ideal S1x512 .f32) (r : Fin 256) (d : Fin 512) :
    k0_pay47 (F := Ideal) acc (k0_pay44 row) (k0_pay45 D) (k0_pay46 k0_pay7) (FloatOps.ofBits .f32 0#32) (ix2 r d) = acc (ix2 r d) + row (ix2 0 d) * rowTap 26 D r d :=
  ((congrFun (rfl : k0_pay47 (F := Ideal) acc (k0_pay44 row) (k0_pay45 D) (k0_pay46 k0_pay7) (FloatOps.ofBits .f32 0#32) = duStep acc row (tap 11#32 245#32 D)) _).trans (duStep_apply _ _ _ _ _)).trans (congrArg _ (congrArg _ (tap_apply 26 (by decide) rfl rfl _ _ _)))

theorem du_5 (acc D : FVec Ideal S256x512 .f32) (row row' : FVec Ideal S1x512 .f32) (r : Fin 256) (d : Fin 512) :
    k0_pay51 (F := Ideal) k0_pay7 D acc (k0_pay49 k0_pay7 D row) row' (ix2 r d) = acc (ix2 r d) + row (ix2 0 d) * rowTap 25 D r d + row' (ix2 0 d) * rowTap 24 D r d := by
  have h : k0_pay51 (F := Ideal) k0_pay7 D acc (k0_pay49 k0_pay7 D row) row' = duStep (duStep acc row (tap 10#32 246#32 D)) row' (tap 9#32 247#32 D) := rfl
  rw [h, duStep_apply, duStep_apply, tap_apply 25 (by decide) rfl rfl, tap_apply 24 (by decide) rfl rfl]

theorem du_7 (acc D : FVec Ideal S256x512 .f32) (row : FVec Ideal S1x512 .f32) (r : Fin 256) (d : Fin 512) :
    k0_pay53 (F := Ideal) k0_pay7 D acc row (ix2 r d) = acc (ix2 r d) + row (ix2 0 d) * rowTap 23 D r d :=
  ((congrFun (rfl : k0_pay53 (F := Ideal) k0_pay7 D acc row = duStep acc row (tap 8#32 248#32 D)) _).trans (duStep_apply _ _ _ _ _)).trans (congrArg _ (congrArg _ (tap_apply 23 (by decide) rfl rfl _ _ _)))

theorem du_8 (acc D : FVec Ideal S256x512 .f32) (row : FVec Ideal S1x512 .f32) (r : Fin 256) (d : Fin 512) :
    k0_pay57 (F := Ideal) k0_pay7 D acc row (ix2 r d) = acc (ix2 r d) + row (ix2 0 d) * rowTap 22 D r d :=
  ((congrFun (rfl : k0_pay57 (F := Ideal) k0_pay7 D acc row = duStep acc row (tap 7#32 249#32 D)) _).trans (duStep_apply _ _ _ _ _)).trans (congrArg _ (congrArg _ (tap_apply 22 (by decide) rfl rfl _ _ _)))

theorem du_9 (acc D : FVec Ideal S256x512 .f32) (row : FVec Ideal S1x512 .f32) (r : Fin 256) (d : Fin 512) :
    k0_pay63 (F := Ideal) k0_pay7 D acc row (ix2 r d) = acc (ix2 r d) + row (ix2 0 d) * rowTap 21 D r d :=
  ((congrFun (rfl : k0_pay63 (F := Ideal) k0_pay7 D acc row = duStep acc row (tap 6#32 250#32 D)) _).trans (duStep_apply _ _ _ _ _)).trans (congrArg _ (congrArg _ (tap_apply 21 (by decide) rfl rfl _ _ _)))

theorem du_10 (acc D : FVec Ideal S256x512 .f32) (row : FVec Ideal S1x512 .f32) (r : Fin 256) (d : Fin 512) :
    k0_pay69 (F := Ideal) k0_pay7 D acc row (ix2 r d) = acc (ix2 r d) + row (ix2 0 d) * rowTap 20 D r d :=
  ((congrFun (rfl : k0_pay69 (F := Ideal) k0_pay7 D acc row = duStep acc row (tap 5#32 251#32 D)) _).trans (duStep_apply _ _ _ _ _)).trans (congrArg _ (congrArg _ (tap_apply 20 (by decide) rfl rfl _ _ _)))

theorem du_11 (acc D : FVec Ideal S256x512 .f32) (row : FVec Ideal S1x512 .f32) (r : Fin 256) (d : Fin 512) :
    k0_pay74 (F := Ideal) k0_pay7 D acc row (ix2 r d) = acc (ix2 r d) + row (ix2 0 d) * rowTap 19 D r d :=
  ((congrFun (rfl : k0_pay74 (F := Ideal) k0_pay7 D acc row = duStep acc row (tap 4#32 252#32 D)) _).trans (duStep_apply _ _ _ _ _)).trans (congrArg _ (congrArg _ (tap_apply 19 (by decide) rfl rfl _ _ _)))

theorem du_12 (acc D : FVec Ideal S256x512 .f32) (row : FVec Ideal S1x512 .f32) (r : Fin 256) (d : Fin 512) :
    k0_pay78 (F := Ideal) k0_pay7 D acc row (ix2 r d) = acc (ix2 r d) + row (ix2 0 d) * rowTap 18 D r d :=
  ((congrFun (rfl : k0_pay78 (F := Ideal) k0_pay7 D acc row = duStep acc row (tap 3#32 253#32 D)) _).trans (duStep_apply _ _ _ _ _)).trans (congrArg _ (congrArg _ (tap_apply 18 (by decide) rfl rfl _ _ _)))

theorem du_13 (acc D : FVec Ideal S256x512 .f32) (row : FVec Ideal S1x512 .f32) (r : Fin 256) (d : Fin 512) :
    k0_pay80 (F := Ideal) k0_pay7 D acc row (ix2 r d) = acc (ix2 r d) + row (ix2 0 d) * rowTap 17 D r d :=
  ((congrFun (rfl : k0_pay80 (F := Ideal) k0_pay7 D acc row = duStep acc row (tap 2#32 254#32 D)) _).trans (duStep_apply _ _ _ _ _)).trans (congrArg _ (congrArg _ (tap_apply 17 (by decide) rfl rfl _ _ _)))

theorem du_14 (acc D : FVec Ideal S256x512 .f32) (row row' : FVec Ideal S1x512 .f32) (r : Fin 256) (d : Fin 512) :
    k0_pay83 (F := Ideal) k0_pay7 D acc row row' (ix2 r d) = acc (ix2 r d) + row (ix2 0 d) * rowTap 16 D r d + row' (ix2 0 d) * rowTap 15 D r d := by
  have h : k0_pay83 (F := Ideal) k0_pay7 D acc row row' = duStep (duStep acc row (tap 1#32 255#32 D)) row' D := rfl
  rw [h, duStep_apply, duStep_apply, tap_apply 16 (by decide) rfl rfl, ← rowTap_mid D r d]

theorem du_16 (acc D : FVec Ideal S256x512 .f32) (row : FVec Ideal S1x512 .f32) (r : Fin 256) (d : Fin 512) :
    k0_pay89 (F := Ideal) k0_pay7 D acc row (ix2 r d) = acc (ix2 r d) + row (ix2 0 d) * rowTap 14 D r d :=
  ((congrFun (rfl : k0_pay89 (F := Ideal) k0_pay7 D acc row = duStep acc row (tap 4294967295#32 1#32 D)) _).trans (duStep_apply _ _ _ _ _)).trans (congrArg _ (congrArg _ (tap_apply 14 (by decide) rfl rfl _ _ _)))

theorem du_17 (acc D : FVec Ideal S256x512 .f32) (row : FVec Ideal S1x512 .f32) (r : Fin 256) (d : Fin 512) :
    k0_pay94 (F := Ideal) k0_pay7 D acc row (ix2 r d) = acc (ix2 r d) + row (ix2 0 d) * rowTap 13 D r d :=
  ((congrFun (rfl : k0_pay94 (F := Ideal) k0_pay7 D acc row = duStep acc row (tap 4294967294#32 2#32 D)) _).trans (duStep_apply _ _ _ _ _)).trans (congrArg _ (congrArg _ (tap_apply 13 (by decide) rfl rfl _ _ _)))

theorem du_18 (acc D : FVec Ideal S256x512 .f32) (row : FVec Ideal S1x512 .f32) (r : Fin 256) (d : Fin 512) :
    k0_pay98 (F := Ideal) k0_pay7 D acc row (ix2 r d) = acc (ix2 r d) + row (ix2 0 d) * rowTap 12 D r d :=
  ((congrFun (rfl : k0_pay98 (F := Ideal) k0_pay7 D acc row = duStep acc row (tap 4294967293#32 3#32 D)) _).trans (duStep_apply _ _ _ _ _)).trans (congrArg _ (congrArg _ (tap_apply 12 (by decide) rfl rfl _ _ _)))

theorem du_19 (acc D : FVec Ideal S256x512 .f32) (row : FVec Ideal S1x512 .f32) (r : Fin 256) (d : Fin 512) :
    k0_pay100 (F := Ideal) k0_pay7 D acc row (ix2 r d) = acc (ix2 r d) + row (ix2 0 d) * rowTap 11 D r d :=
  ((congrFun (rfl : k0_pay100 (F := Ideal) k0_pay7 D acc row = duStep acc row (tap 4294967292#32 4#32 D)) _).trans (duStep_apply _ _ _ _ _)).trans (congrArg _ (congrArg _ (tap_apply 11 (by decide) rfl rfl _ _ _)))

theorem du_20 (acc D : FVec Ideal S256x512 .f32) (row : FVec Ideal S1x512 .f32) (r : Fin 256) (d : Fin 512) :
    k0_pay102 (F := Ideal) k0_pay7 D acc row (ix2 r d) = acc (ix2 r d) + row (ix2 0 d) * rowTap 10 D r d :=
  ((congrFun (rfl : k0_pay102 (F := Ideal) k0_pay7 D acc row = duStep acc row (tap 4294967291#32 5#32 D)) _).trans (duStep_apply _ _ _ _ _)).trans (congrArg _ (congrArg _ (tap_apply 10 (by decide) rfl rfl _ _ _)))

theorem du_21 (acc D : FVec Ideal S256x512 .f32) (row : FVec Ideal S1x512 .f32) (r : Fin 256) (d : Fin 512) :
    k0_pay105 (F := Ideal) k0_pay7 D acc (k0_pay104 row) (ix2 r d) = acc (ix2 r d) + row (ix2 0 d) * rowTap 9 D r d :=
  ((congrFun (rfl : k0_pay105 (F := Ideal) k0_pay7 D acc (k0_pay104 row) = duStep acc row (tap 4294967290#32 6#32 D)) _).trans (duStep_apply _ _ _ _ _)).trans (congrArg _ (congrArg _ (tap_apply 9 (by decide) rfl rfl _ _ _)))

theorem du_22 (acc D : FVec Ideal S256x512 .f32) (row : FVec Ideal S1x512 .f32) (r : Fin 256) (d : Fin 512) :
    k0_pay110 (F := Ideal) k0_pay7 acc (k0_pay107 row) (k0_pay108 D) k0_pay109 (ix2 r d) = acc (ix2 r d) + row (ix2 0 d) * rowTap 8 D r d :=
  ((congrFun (rfl : k0_pay110 (F := Ideal) k0_pay7 acc (k0_pay107 row) (k0_pay108 D) k0_pay109 = duStep acc row (tap 4294967289#32 7#32 D)) _).trans (duStep_apply _ _ _ _ _)).trans (congrArg _ (congrArg _ (tap_apply 8 (by decide) rfl rfl _ _ _)))

theorem du_23 (acc D : FVec Ideal S256x512 .f32) (row : FVec Ideal S1x512 .f32) (r : Fin 256) (d : Fin 512) :
    k0_pay115 (F := Ideal) k0_pay7 acc (k0_pay112 row) (k0_pay113 D) (k0_pay114 k0_pay7) (ix2 r d) = acc (ix2 r d) + row (ix2 0 d) * rowTap 7 D r d :=
  ((congrFun (rfl : k0_pay115 (F := Ideal) k0_pay7 acc (k0_pay112 row) (k0_pay113 D) (k0_pay114 k0_pay7) = duStep acc row (tap 4294967288#32 8#32 D)) _).trans (duStep_apply _ _ _ _ _)).trans (congrArg _ (congrArg _ (tap_apply 7 (by decide) rfl rfl _ _ _)))

theorem du_24 (acc D : FVec Ideal S256x512 .f32) (row : FVec Ideal S1x512 .f32) (r : Fin 256) (d : Fin 512) :
    k0_pay121 (F := Ideal) acc (k0_pay117 row) (k0_pay118 D) (k0_pay119 k0_pay7) (k0_pay120 k0_pay7) 64#32 (ix2 r d) = acc (ix2 r d) + row (ix2 0 d) * rowTap 6 D r d :=
  ((congrFun (rfl : k0_pay121 (F := Ideal) acc (k0_pay117 row) (k0_pay118 D) (k0_pay119 k0_pay7) (k0_pay120 k0_pay7) 64#32 = duStep acc row (tap 4294967287#32 9#32 D)) _).trans (duStep_apply _ _ _ _ _)).trans (congrArg _ (congrArg _ (tap_apply 6 (by decide) rfl rfl _ _ _)))

theorem du_25 (acc D : FVec Ideal S256x512 .f32) (row : FVec Ideal S1x512 .f32) (r : Fin 256) (d : Fin 512) :
    k0_pay126 (F := Ideal) acc (k0_pay123 row) (k0_pay124 D) (k0_pay125 k0_pay7) (FloatOps.ofBits .f32 0#32) (ix2 r d) = acc (ix2 r d) + row (ix2 0 d) * rowTap 5 D r d :=
  ((congrFun (rfl : k0_pay126 (F := Ideal) acc (k0_pay123 row) (k0_pay124 D) (k0_pay125 k0_pay7) (FloatOps.ofBits .f32 0#32) = duStep acc row (tap 4294967286#32 10#32 D)) _).trans (duStep_apply _ _ _ _ _)).trans (congrArg _ (congrArg _ (tap_apply 5 (by decide) rfl rfl _ _ _)))

theorem du_26 (acc D : FVec Ideal S256x512 .f32) (row row' : FVec Ideal S1x512 .f32) (r : Fin 256) (d : Fin 512) :
    k0_pay130 (F := Ideal) k0_pay7 D acc (k0_pay128 k0_pay7 D row) row' (ix2 r d) = acc (ix2 r d) + row (ix2 0 d) * rowTap 4 D r d + row' (ix2 0 d) * rowTap 3 D r d := by
  have h : k0_pay130 (F := Ideal) k0_pay7 D acc (k0_pay128 k0_pay7 D row) row' = duStep (duStep acc row (tap 4294967285#32 11#32 D)) row' (tap 4294967284#32 12#32 D) := rfl
  rw [h, duStep_apply, duStep_apply, tap_apply 4 (by decide) rfl rfl, tap_apply 3 (by decide) rfl rfl]

theorem du_28 (acc D : FVec Ideal S256x512 .f32) (row : FVec Ideal S1x512 .f32) (r : Fin 256) (d : Fin 512) :
    k0_pay132 (F := Ideal) k0_pay7 D acc row (ix2 r d) = acc (ix2 r d) + row (ix2 0 d) * rowTap 2 D r d :=
  ((congrFun (rfl : k0_pay132 (F := Ideal) k0_pay7 D acc row = duStep acc row (tap 4294967283#32 13#32 D)) _).trans (duStep_apply _ _ _ _ _)).trans (congrArg _ (congrArg _ (tap_apply 2 (by decide) rfl rfl _ _ _)))

theorem du_29 (acc D : FVec Ideal S256x512 .f32) (row : FVec Ideal S1x512 .f32) (r : Fin 256) (d : Fin 512) :
    k0_pay136 (F := Ideal) k0_pay7 D acc row (ix2 r d) = acc (ix2 r d) + row (ix2 0 d) * rowTap 1 D r d :=
  ((congrFun (rfl : k0_pay136 (F := Ideal) k0_pay7 D acc row = duStep acc row (tap 4294967282#32 14#32 D)) _).trans (duStep_apply _ _ _ _ _)).trans (congrArg _ (congrArg _ (tap_apply 1 (by decide) rfl rfl _ _ _)))

/-- The gated unit's gradient from the input's: the linear half's columns, then the gate's. -/
def gateBack (tA SG du : FVec Ideal S256x512 .f32) : FVec Ideal S256x1024 .bf16 :=
  truncf .bf16 (concatenate S256x1024 1 [⟨S256x512, mulf du SG⟩, ⟨S256x512, mulf (mulf (mulf du tA) SG) (subf (broadcast S256x512 (Scalar.ofBits .f32 0x3F800000#32)) SG)⟩] concatenates_S256x512_S256x512_S256x1024_d1) bitsLt_bf16_f32

theorem du_30 (tA SG acc D : FVec Ideal S256x512 .f32) (row : FVec Ideal S1x512 .f32) :
    k0_pay6 (F := Ideal) tA k0_pay7 SG acc (k0_pay142 row) (k0_pay143 D) (k0_pay144 k0_pay7) 0#32 = gateBack tA SG (duStep acc row (tap 4294967281#32 15#32 D)) := rfl

theorem du_30_apply (acc D : FVec Ideal S256x512 .f32) (row : FVec Ideal S1x512 .f32) (r : Fin 256) (d : Fin 512) :
    duStep acc row (tap 4294967281#32 15#32 D) (ix2 r d) = acc (ix2 r d) + row (ix2 0 d) * rowTap 0 D r d :=
  (duStep_apply _ _ _ _ _).trans (congrArg _ (congrArg _ (tap_apply 0 (by decide) rfl rfl _ _ _)))

theorem gateBack_lin (tA SG du : FVec Ideal S256x512 .f32) (r : Fin 256) (d : Fin 512) :
    gateBack tA SG du (ix2 r ⟨d.val, by have := d.isLt; omega⟩) = du (ix2 r d) * SG (ix2 r d) := by
  pointwise [gateBack]

theorem gateBack_gate (tA SG du : FVec Ideal S256x512 .f32) (r : Fin 256) (d : Fin 512) :
    gateBack tA SG du (ix2 r ⟨512 + d.val, by have := d.isLt; omega⟩) = du (ix2 r d) * tA (ix2 r d) * SG (ix2 r d) * (1 - SG (ix2 r d)) := by
  pointwise [gateBack]

/-! The tile's tokens. -/

section

variable (C G : Vec Ideal S256x512 .f32) (lw lb : Vec Ideal S1x512 .f32) (r : Fin 256) (d : Fin 512)

theorem pay8_apply (x : Vec Ideal S256x512 .f32) : k0_pay8 (F := Ideal) x (ix2 r d) = sgm (x (ix2 r d)) := by
  unfold sgm
  pointwise [k0_pay8]
  rw [zero_sub]

theorem pay9_apply (x y : Vec Ideal S256x512 .f32) : k0_pay9 (F := Ideal) x y (ix2 r d) = x (ix2 r d) * sgm (y (ix2 r d)) :=
  (show k0_pay9 (F := Ideal) x y (ix2 r d) = x (ix2 r d) * k0_pay8 (F := Ideal) y (ix2 r d) by pointwise [k0_pay9]).trans (congrArg _ (pay8_apply r d y))

theorem pay10_apply : k0_pay10 (F := Ideal) C (ix2 r d) = C (ix2 r d) - rowMu fun k => C (ix2 r k) := by
  unfold rowMu
  pointwise [k0_pay10]

theorem pay11_apply : k0_pay11 (F := Ideal) C (ix2 r 0) = rowS fun k => C (ix2 r k) := by
  unfold rowS rowVar
  refine Eq.trans (b := Ideal.rsqrt (Ideal.div (∑ k : Fin 512, k0_pay10 (F := Ideal) C (ix2 r k) * k0_pay10 (F := Ideal) C (ix2 r k)) (Ideal.ofBits .f32 0x44000000#32) + Ideal.ofBits .f32 0x3727C5AC#32)) ?_ ?_
  · pointwise [k0_pay11]
  · simp only [pay10_apply]

theorem pay12_apply : k0_pay12 (F := Ideal) C (ix2 r d) = rowHat (fun k => C (ix2 r k)) d := by
  unfold rowHat
  refine Eq.trans (b := k0_pay10 (F := Ideal) C (ix2 r d) * k0_pay11 (F := Ideal) C (ix2 r 0)) ?_ ?_
  · pointwise [k0_pay12]
  · rw [pay10_apply, pay11_apply]

theorem pay13_apply : k0_pay13 (F := Ideal) lw lb C (ix2 r d) = rowCn (fun k => C (ix2 r k)) (fun k => lw (ix2 0 k)) (fun k => lb (ix2 0 k)) d := by
  unfold rowCn
  refine Eq.trans (b := k0_pay12 (F := Ideal) C (ix2 r d) * lw (ix2 0 d) + lb (ix2 0 d)) ?_ ?_
  · pointwise [k0_pay13]
  · rw [pay12_apply]

/-- The gradient of the activation over the tile. -/
abbrev tDcn : FVec Ideal S256x512 .f32 := k0_pay15 (F := Ideal) (k0_pay13 lw lb C) k0_pay14 G

/-- The tile's row through the activation, back. -/
abbrev rDcn : Fin 512 → EReal := rowDcn (fun k => C (ix2 r k)) (fun k => G (ix2 r k)) (fun k => lw (ix2 0 k)) (fun k => lb (ix2 0 k))

theorem tDcn_apply : tDcn C G lw lb (ix2 r d) = rDcn C G lw lb r d := by
  unfold tDcn rDcn rowDcn sgm
  refine Eq.trans (b := G (ix2 r d) * (Ideal.div 1 (1 + Ideal.exp (-(k0_pay13 (F := Ideal) lw lb C (ix2 r d)))) * (1 + k0_pay13 (F := Ideal) lw lb C (ix2 r d) * (1 - Ideal.div 1 (1 + Ideal.exp (-(k0_pay13 (F := Ideal) lw lb C (ix2 r d)))))))) ?_ ?_
  · pointwise [k0_pay15, k0_pay14]
    rw [zero_sub]
  · rw [pay13_apply]

theorem dlw_apply (a : Vec Ideal S1x512 .f32) :
    k0_pay16 (F := Ideal) (k0_pay12 C) (k0_pay13 lw lb C) k0_pay14 G a (ix2 0 d) = a (ix2 0 d) + ∑ r : Fin 256, rDcn C G lw lb r d * rowHat (fun k => C (ix2 r k)) d := by
  refine Eq.trans (b := a (ix2 0 d) + ∑ r : Fin 256, tDcn C G lw lb (ix2 r d) * k0_pay12 (F := Ideal) C (ix2 r d)) ?_ ?_
  · pointwise [k0_pay16]
  · simp only [tDcn_apply, pay12_apply]

theorem dlb_apply (a : Vec Ideal S1x512 .f32) :
    k0_pay17 (F := Ideal) (k0_pay13 lw lb C) k0_pay14 G a (ix2 0 d) = a (ix2 0 d) + ∑ r : Fin 256, rDcn C G lw lb r d := by
  refine Eq.trans (b := a (ix2 0 d) + ∑ r : Fin 256, tDcn C G lw lb (ix2 r d)) ?_ ?_
  · pointwise [k0_pay17]
  · simp only [tDcn_apply]

/-- The gradient at the convolution over the tile. -/
abbrev tDc : FVec Ideal S256x512 .f32 :=
  k0_pay21 (F := Ideal) (k0_pay11 C) (k0_pay12 C) (k0_pay19 (k0_pay13 lw lb C) k0_pay14 G lw) (k0_pay20 (k0_pay12 C) (k0_pay13 lw lb C) k0_pay14 G lw)

/-- The tile's row through the normalisation, back. -/
abbrev rDc : Fin 512 → EReal := rowDc (fun k => C (ix2 r k)) (fun k => G (ix2 r k)) (fun k => lw (ix2 0 k)) (fun k => lb (ix2 0 k))

theorem pay18_apply : k0_pay18 (F := Ideal) (k0_pay13 lw lb C) k0_pay14 G lw (ix2 r d) = rDcn C G lw lb r d * lw (ix2 0 d) := by
  refine Eq.trans (b := tDcn C G lw lb (ix2 r d) * lw (ix2 0 d)) ?_ ?_
  · pointwise [k0_pay18]
  · rw [tDcn_apply]

theorem pay19_apply : k0_pay19 (F := Ideal) (k0_pay13 lw lb C) k0_pay14 G lw (ix2 r d)
    = rDcn C G lw lb r d * lw (ix2 0 d) - Ideal.div (∑ k : Fin 512, rDcn C G lw lb r k * lw (ix2 0 k)) (Ideal.ofBits .f32 0x44000000#32) := by
  refine Eq.trans (b := k0_pay18 (F := Ideal) (k0_pay13 lw lb C) k0_pay14 G lw (ix2 r d) - Ideal.div (∑ k : Fin 512, k0_pay18 (F := Ideal) (k0_pay13 lw lb C) k0_pay14 G lw (ix2 r k)) (Ideal.ofBits .f32 0x44000000#32)) ?_ ?_
  · pointwise [k0_pay19]
  · simp only [pay18_apply]

theorem pay20_apply : k0_pay20 (F := Ideal) (k0_pay12 C) (k0_pay13 lw lb C) k0_pay14 G lw (ix2 r d)
    = rDcn C G lw lb r d * lw (ix2 0 d) * rowHat (fun k => C (ix2 r k)) d := by
  refine Eq.trans (b := k0_pay18 (F := Ideal) (k0_pay13 lw lb C) k0_pay14 G lw (ix2 r d) * k0_pay12 (F := Ideal) C (ix2 r d)) ?_ ?_
  · pointwise [k0_pay20]
  · rw [pay18_apply, pay12_apply]

theorem pay21_apply (S : FVec Ideal S256x1 .f32) (H X Y : FVec Ideal S256x512 .f32) :
    k0_pay21 (F := Ideal) S H X Y (ix2 r d) = S (ix2 r 0) * (X (ix2 r d) - H (ix2 r d) * Ideal.div (∑ k : Fin 512, Y (ix2 r k)) (Ideal.ofBits .f32 0x44000000#32)) := by
  pointwise [k0_pay21]

theorem tDc_apply : tDc C G lw lb (ix2 r d) = rDc C G lw lb r d := by
  unfold tDc
  rw [pay21_apply, pay11_apply, pay12_apply, pay19_apply]
  simp only [pay20_apply]
  rfl

theorem dcb_apply (S : FVec Ideal S256x1 .f32) (H X Y : FVec Ideal S256x512 .f32) (a : Vec Ideal S1x512 .f32) :
    k0_pay22 (F := Ideal) S H X Y a (ix2 0 d) = a (ix2 0 d) + ∑ r : Fin 256, k0_pay21 (F := Ideal) S H X Y (ix2 r d) := by
  pointwise [k0_pay22]

end

/-! Nothing summed yet. -/

theorem pay1_zero (j : S32x512.Idx) : k0_pay1 (F := Ideal) j = 0 := by pointwise [k0_pay1]

theorem pay2_zero (j : S1x512.Idx) : k0_pay2 (F := Ideal) j = 0 := by pointwise [k0_pay2]

theorem pay3_zero (j : S1x512.Idx) : k0_pay3 (F := Ideal) j = 0 := by pointwise [k0_pay3]

theorem pay4_zero (j : S1x512.Idx) : k0_pay4 (F := Ideal) j = 0 := by pointwise [k0_pay4]

theorem pay5_zero (j : S256x1024.Idx) : k0_pay5 (F := Ideal) j = 0 := by pointwise [k0_pay5]

end Cert.ConvIdeal.Math

end
-- ==== Proof.ConvTile.lean ====
/-
  What one grid point of the Conformer convolution's gradient leaves in its windows, over the extended reals: the rows of the taps'
  gradient one by one, and the input's gradient as the sum over the taps.
-/
module

public import proofs.«01_k».proof.Proof.Gen.ConvIdeal.Value
public import proofs.«01_k».proof.Proof.ConvPay
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.ConvIdeal.Math

open Cert.ConvIdeal Cert.ConvIdeal.Gen Cert.RowNorm Cert.ConvMath
open Idealize.ShloMosaic Idealize.ShloMosaic.TcCoe Idealize.SL.Sem
open Idealize.ShloMosaic.Pipeline (Dat)

/-- Row `k` of a tap array lies in it. -/
theorem rowInb (k : ℕ) (h : k < 32) : ∀ a : Fin S32x512.rank, (![k, 0] : Fin 2 → ℕ) a + (![1, 512] : Fin 2 → ℕ) a ≤ S32x512.size a := by
  intro a
  match a with
  | ⟨0, _⟩ => show k + 1 ≤ 32; omega
  | ⟨1, _⟩ => show 0 + 512 ≤ 512; omega

/-- The first `k` rows of a tap array stored one by one, the newest first. -/
def rowPieces (pay : ℕ → Vec Ideal S1x512 .f32) : (k : ℕ) → k ≤ 32 → List (View.Piece (Elt Ideal) S32x512 .f32)
  | 0, _ => []
  | k + 1, h => ⟨Rect.unit ![k, 0] ![1, 512] (rowInb k h), pay k⟩ :: rowPieces pay k (by omega)

/-- A row that was stored reads as stored, and another as it was. -/
theorem rowPieces_read {sig : RefSig} {κ : Kind} {sp : Space} (v : View sig κ sp S32x512 .f32) (f : v.ty.Contents (Elt Ideal)) (pay : ℕ → Vec Ideal S1x512 .f32)
    (j : Fin 32) (d : Fin 512) : (k : ℕ) → (h : k ≤ 32) →
    v.read (Elt Ideal) (v.writes (Elt Ideal) f (rowPieces pay k h)) (ix2 j d) = if j.val < k then pay j.val (ix2 0 d) else v.read (Elt Ideal) f (ix2 j d)
  | 0, _ => (if_neg (by omega)).symm
  | k + 1, h => by
    by_cases e : j.val = k
    · rw [if_pos (by omega)]
      subst e
      exact View.read_writes_cons_unit_of_mem v f (rowInb _ h) _ _ _ (ix2 0 d) rfl (Fin.forall_fin_two.mpr ⟨rfl, (Nat.zero_add _).symm⟩)
    · rw [show (if j.val < k + 1 then pay j.val (ix2 0 d) else v.read (Elt Ideal) f (ix2 j d)) = if j.val < k then pay j.val (ix2 0 d) else v.read (Elt Ideal) f (ix2 j d) from
        if_congr (by omega) rfl rfl, ← rowPieces_read v f pay j d k (by omega)]
      exact View.read_writes_cons_unit_of_not_mem v f (rowInb k h) _ _ _ rfl (0 : Fin 2) (by
        show j.val < k ∨ k + 1 ≤ j.val
        omega)

/-- A row of a tap array. -/
def rowAt (P : Vec Ideal S32x512 .f32) (d : Fin 512) (j : ℕ) : EReal := if h : j < 32 then P (ix2 ⟨j, h⟩ d) else 0

theorem row_ld (P : Vec Ideal S32x512 .f32) (d : Fin 512) (j : ℕ) (hj : j < 32)
    (h : ∀ a : Fin S32x512.rank, (![j, 0] : Fin 2 → ℕ) a + (![1, 512] : Fin 2 → ℕ) a ≤ S32x512.size a) :
    View.ld P (Rect.unit ![j, 0] ![1, 512] h) (ix2 0 d : S1x512.Idx) = rowAt P d j := by
  unfold rowAt
  rw [dif_pos hj]
  refine congrArg P ?_
  funext a
  refine Fin.ext ?_
  match a with
  | ⟨0, _⟩ => rfl
  | ⟨1, _⟩ => show 0 + 1 * d.val = d.val; omega

/-- What a point stores in the rows of the taps' gradient. -/
def tapPay (P : Vec Ideal S32x512 .f32) (U : FVec Ideal S256x512 .f32) (S : FVec Ideal S256x1 .f32) (C X Y : FVec Ideal S256x512 .f32) : ℕ → Vec Ideal S1x512 .f32
  | 0 => k0_pay24 (F := Ideal) k0_pay7 U S C X Y (View.ld P (Rect.unit ![0, 0] ![1, 512] inb_S32x512_S1x512_0_0))
  | 1 => k0_pay27 (F := Ideal) k0_pay7 U (k0_pay21 S C X Y) (View.ld P (Rect.unit ![1, 0] ![1, 512] inb_S32x512_S1x512_1_0))
  | 2 => k0_pay32 (F := Ideal) k0_pay7 U (k0_pay21 S C X Y) (View.ld P (Rect.unit ![2, 0] ![1, 512] inb_S32x512_S1x512_2_0))
  | 3 => k0_pay37 (F := Ideal) k0_pay7 U (k0_pay21 S C X Y) (View.ld P (Rect.unit ![3, 0] ![1, 512] inb_S32x512_S1x512_3_0))
  | 4 => k0_pay43 (F := Ideal) k0_pay7 U (k0_pay21 S C X Y) (View.ld P (Rect.unit ![4, 0] ![1, 512] inb_S32x512_S1x512_4_0))
  | 5 => k0_pay48 (F := Ideal) k0_pay7 U (k0_pay21 S C X Y) (View.ld P (Rect.unit ![5, 0] ![1, 512] inb_S32x512_S1x512_5_0))
  | 6 => k0_pay50 (F := Ideal) k0_pay7 U (k0_pay21 S C X Y) (View.ld P (Rect.unit ![6, 0] ![1, 512] inb_S32x512_S1x512_6_0))
  | 7 => k0_pay52 (F := Ideal) k0_pay7 U (k0_pay21 S C X Y) (View.ld P (Rect.unit ![7, 0] ![1, 512] inb_S32x512_S1x512_7_0))
  | 8 => k0_pay56 (F := Ideal) k0_pay7 (k0_pay21 S C X Y) (k0_pay54 (View.ld P (Rect.unit ![8, 0] ![1, 512] inb_S32x512_S1x512_8_0))) (k0_pay55 U) 4294967289#32
  | 9 => k0_pay62 (F := Ideal) k0_pay7 (k0_pay21 S C X Y) (k0_pay58 (View.ld P (Rect.unit ![9, 0] ![1, 512] inb_S32x512_S1x512_9_0))) (k0_pay59 U) (k0_pay60 k0_pay7) k0_pay61
  | 10 => k0_pay68 (F := Ideal) (k0_pay21 S C X Y) (k0_pay64 (View.ld P (Rect.unit ![10, 0] ![1, 512] inb_S32x512_S1x512_10_0))) (k0_pay65 U) (k0_pay66 k0_pay7) (k0_pay67 k0_pay7)
  | 11 => k0_pay73 (F := Ideal) (k0_pay21 S C X Y) (k0_pay70 (View.ld P (Rect.unit ![11, 0] ![1, 512] inb_S32x512_S1x512_11_0))) (k0_pay71 U) (k0_pay72 k0_pay7)
  | 12 => k0_pay77 (F := Ideal) (k0_pay75 (View.ld P (Rect.unit ![12, 0] ![1, 512] inb_S32x512_S1x512_12_0))) (k0_pay76 k0_pay7 U (k0_pay21 S C X Y))
  | 13 => k0_pay79 (F := Ideal) k0_pay7 U (k0_pay21 S C X Y) (View.ld P (Rect.unit ![13, 0] ![1, 512] inb_S32x512_S1x512_13_0))
  | 14 => k0_pay81 (F := Ideal) k0_pay7 U (k0_pay21 S C X Y) (View.ld P (Rect.unit ![14, 0] ![1, 512] inb_S32x512_S1x512_14_0))
  | 15 => k0_pay82 (F := Ideal) U (k0_pay21 S C X Y) (View.ld P (Rect.unit ![15, 0] ![1, 512] inb_S32x512_S1x512_15_0))
  | 16 => k0_pay88 (F := Ideal) (k0_pay21 S C X Y) (k0_pay84 (View.ld P (Rect.unit ![16, 0] ![1, 512] inb_S32x512_S1x512_16_0))) (k0_pay85 U) (k0_pay86 k0_pay7) (k0_pay87 k0_pay7)
  | 17 => k0_pay93 (F := Ideal) (k0_pay21 S C X Y) (k0_pay90 (View.ld P (Rect.unit ![17, 0] ![1, 512] inb_S32x512_S1x512_17_0))) (k0_pay91 U) (k0_pay92 k0_pay7)
  | 18 => k0_pay97 (F := Ideal) (k0_pay95 (View.ld P (Rect.unit ![18, 0] ![1, 512] inb_S32x512_S1x512_18_0))) (k0_pay96 k0_pay7 U (k0_pay21 S C X Y))
  | 19 => k0_pay99 (F := Ideal) k0_pay7 U (k0_pay21 S C X Y) (View.ld P (Rect.unit ![19, 0] ![1, 512] inb_S32x512_S1x512_19_0))
  | 20 => k0_pay101 (F := Ideal) k0_pay7 U (k0_pay21 S C X Y) (View.ld P (Rect.unit ![20, 0] ![1, 512] inb_S32x512_S1x512_20_0))
  | 21 => k0_pay103 (F := Ideal) k0_pay7 U (k0_pay21 S C X Y) (View.ld P (Rect.unit ![21, 0] ![1, 512] inb_S32x512_S1x512_21_0))
  | 22 => k0_pay106 (F := Ideal) k0_pay7 U (k0_pay21 S C X Y) (View.ld P (Rect.unit ![22, 0] ![1, 512] inb_S32x512_S1x512_22_0))
  | 23 => k0_pay111 (F := Ideal) k0_pay7 U (k0_pay21 S C X Y) (View.ld P (Rect.unit ![23, 0] ![1, 512] inb_S32x512_S1x512_23_0))
  | 24 => k0_pay116 (F := Ideal) k0_pay7 U (k0_pay21 S C X Y) (View.ld P (Rect.unit ![24, 0] ![1, 512] inb_S32x512_S1x512_24_0))
  | 25 => k0_pay122 (F := Ideal) k0_pay7 U (k0_pay21 S C X Y) (View.ld P (Rect.unit ![25, 0] ![1, 512] inb_S32x512_S1x512_25_0))
  | 26 => k0_pay127 (F := Ideal) k0_pay7 U (k0_pay21 S C X Y) (View.ld P (Rect.unit ![26, 0] ![1, 512] inb_S32x512_S1x512_26_0))
  | 27 => k0_pay129 (F := Ideal) k0_pay7 U (k0_pay21 S C X Y) (View.ld P (Rect.unit ![27, 0] ![1, 512] inb_S32x512_S1x512_27_0))
  | 28 => k0_pay131 (F := Ideal) k0_pay7 U (k0_pay21 S C X Y) (View.ld P (Rect.unit ![28, 0] ![1, 512] inb_S32x512_S1x512_28_0))
  | 29 => k0_pay135 (F := Ideal) k0_pay7 (k0_pay21 S C X Y) (k0_pay133 (View.ld P (Rect.unit ![29, 0] ![1, 512] inb_S32x512_S1x512_29_0))) (k0_pay134 U) 14#32
  | 30 => k0_pay141 (F := Ideal) k0_pay7 (k0_pay21 S C X Y) (k0_pay137 (View.ld P (Rect.unit ![30, 0] ![1, 512] inb_S32x512_S1x512_30_0))) (k0_pay138 U) (k0_pay139 k0_pay7) k0_pay140
  | _ => k0_pay2 (F := Ideal)

theorem tapPay_apply (P : Vec Ideal S32x512 .f32) (U : FVec Ideal S256x512 .f32) (S : FVec Ideal S256x1 .f32) (C X Y : FVec Ideal S256x512 .f32) (d : Fin 512) :
    (j : ℕ) → j < 31 → tapPay P U S C X Y j (ix2 0 d) = rowAt P d j + ∑ r : Fin 256, k0_pay21 (F := Ideal) S C X Y (ix2 r d) * rowTap j U r d
  | 0, _ => (dw_0 _ U S C X Y d).trans (congrArg (· + _) (row_ld P d 0 (by decide) _))
  | 1, _ => (dw_1 _ U (k0_pay21 (F := Ideal) S C X Y) d).trans (congrArg (· + _) (row_ld P d 1 (by decide) _))
  | 2, _ => (dw_2 _ U (k0_pay21 (F := Ideal) S C X Y) d).trans (congrArg (· + _) (row_ld P d 2 (by decide) _))
  | 3, _ => (dw_3 _ U (k0_pay21 (F := Ideal) S C X Y) d).trans (congrArg (· + _) (row_ld P d 3 (by decide) _))
  | 4, _ => (dw_4 _ U (k0_pay21 (F := Ideal) S C X Y) d).trans (congrArg (· + _) (row_ld P d 4 (by decide) _))
  | 5, _ => (dw_5 _ U (k0_pay21 (F := Ideal) S C X Y) d).trans (congrArg (· + _) (row_ld P d 5 (by decide) _))
  | 6, _ => (dw_6 _ U (k0_pay21 (F := Ideal) S C X Y) d).trans (congrArg (· + _) (row_ld P d 6 (by decide) _))
  | 7, _ => (dw_7 _ U (k0_pay21 (F := Ideal) S C X Y) d).trans (congrArg (· + _) (row_ld P d 7 (by decide) _))
  | 8, _ => (dw_8 _ U (k0_pay21 (F := Ideal) S C X Y) d).trans (congrArg (· + _) (row_ld P d 8 (by decide) _))
  | 9, _ => (dw_9 _ U (k0_pay21 (F := Ideal) S C X Y) d).trans (congrArg (· + _) (row_ld P d 9 (by decide) _))
  | 10, _ => (dw_10 _ U (k0_pay21 (F := Ideal) S C X Y) d).trans (congrArg (· + _) (row_ld P d 10 (by decide) _))
  | 11, _ => (dw_11 _ U (k0_pay21 (F := Ideal) S C X Y) d).trans (congrArg (· + _) (row_ld P d 11 (by decide) _))
  | 12, _ => (dw_12 _ U (k0_pay21 (F := Ideal) S C X Y) d).trans (congrArg (· + _) (row_ld P d 12 (by decide) _))
  | 13, _ => (dw_13 _ U (k0_pay21 (F := Ideal) S C X Y) d).trans (congrArg (· + _) (row_ld P d 13 (by decide) _))
  | 14, _ => (dw_14 _ U (k0_pay21 (F := Ideal) S C X Y) d).trans (congrArg (· + _) (row_ld P d 14 (by decide) _))
  | 15, _ => (dw_15 _ U (k0_pay21 (F := Ideal) S C X Y) d).trans (congrArg (· + _) (row_ld P d 15 (by decide) _))
  | 16, _ => (dw_16 _ U (k0_pay21 (F := Ideal) S C X Y) d).trans (congrArg (· + _) (row_ld P d 16 (by decide) _))
  | 17, _ => (dw_17 _ U (k0_pay21 (F := Ideal) S C X Y) d).trans (congrArg (· + _) (row_ld P d 17 (by decide) _))
  | 18, _ => (dw_18 _ U (k0_pay21 (F := Ideal) S C X Y) d).trans (congrArg (· + _) (row_ld P d 18 (by decide) _))
  | 19, _ => (dw_19 _ U (k0_pay21 (F := Ideal) S C X Y) d).trans (congrArg (· + _) (row_ld P d 19 (by decide) _))
  | 20, _ => (dw_20 _ U (k0_pay21 (F := Ideal) S C X Y) d).trans (congrArg (· + _) (row_ld P d 20 (by decide) _))
  | 21, _ => (dw_21 _ U (k0_pay21 (F := Ideal) S C X Y) d).trans (congrArg (· + _) (row_ld P d 21 (by decide) _))
  | 22, _ => (dw_22 _ U (k0_pay21 (F := Ideal) S C X Y) d).trans (congrArg (· + _) (row_ld P d 22 (by decide) _))
  | 23, _ => (dw_23 _ U (k0_pay21 (F := Ideal) S C X Y) d).trans (congrArg (· + _) (row_ld P d 23 (by decide) _))
  | 24, _ => (dw_24 _ U (k0_pay21 (F := Ideal) S C X Y) d).trans (congrArg (· + _) (row_ld P d 24 (by decide) _))
  | 25, _ => (dw_25 _ U (k0_pay21 (F := Ideal) S C X Y) d).trans (congrArg (· + _) (row_ld P d 25 (by decide) _))
  | 26, _ => (dw_26 _ U (k0_pay21 (F := Ideal) S C X Y) d).trans (congrArg (· + _) (row_ld P d 26 (by decide) _))
  | 27, _ => (dw_27 _ U (k0_pay21 (F := Ideal) S C X Y) d).trans (congrArg (· + _) (row_ld P d 27 (by decide) _))
  | 28, _ => (dw_28 _ U (k0_pay21 (F := Ideal) S C X Y) d).trans (congrArg (· + _) (row_ld P d 28 (by decide) _))
  | 29, _ => (dw_29 _ U (k0_pay21 (F := Ideal) S C X Y) d).trans (congrArg (· + _) (row_ld P d 29 (by decide) _))
  | 30, _ => (dw_30 _ U (k0_pay21 (F := Ideal) S C X Y) d).trans (congrArg (· + _) (row_ld P d 30 (by decide) _))
  | n + 31, h => absurd h (by omega)

/-- The input's gradient after the first thirty taps. -/
def duAcc (W : Vec Ideal S32x512 .f32) (D : FVec Ideal S256x512 .f32) : FVec Ideal S256x512 .f32 :=
  k0_pay136 k0_pay7 D ( k0_pay132 k0_pay7 D ( k0_pay130 k0_pay7 D ( k0_pay126 ( k0_pay121 ( k0_pay115 k0_pay7 ( k0_pay110 k0_pay7 ( k0_pay105 k0_pay7 D ( k0_pay102 k0_pay7 D ( k0_pay100 k0_pay7 D ( k0_pay98 k0_pay7 D ( k0_pay94 k0_pay7 D ( k0_pay89 k0_pay7 D ( k0_pay83 k0_pay7 D ( k0_pay80 k0_pay7 D ( k0_pay78 k0_pay7 D ( k0_pay74 k0_pay7 D ( k0_pay69 k0_pay7 D ( k0_pay63 k0_pay7 D ( k0_pay57 k0_pay7 D ( k0_pay53 k0_pay7 D ( k0_pay51 k0_pay7 D ( k0_pay47 ( k0_pay42 ( k0_pay36 k0_pay7 ( k0_pay31 k0_pay7 ( k0_pay26 k0_pay7 D (k0_pay23) (k0_pay25 (View.ld W (Rect.unit ![0, 0] ![1, 512] inb_S32x512_S1x512_0_0)))) (k0_pay28 (View.ld W (Rect.unit ![1, 0] ![1, 512] inb_S32x512_S1x512_1_0))) (k0_pay29 D) k0_pay30) (k0_pay33 (View.ld W (Rect.unit ![2, 0] ![1, 512] inb_S32x512_S1x512_2_0))) (k0_pay34 D) (k0_pay35 k0_pay7)) (k0_pay38 (View.ld W (Rect.unit ![3, 0] ![1, 512] inb_S32x512_S1x512_3_0))) (k0_pay39 D) (k0_pay40 k0_pay7) (k0_pay41 k0_pay7) 64#32) (k0_pay44 (View.ld W (Rect.unit ![4, 0] ![1, 512] inb_S32x512_S1x512_4_0))) (k0_pay45 D) (k0_pay46 k0_pay7) (FloatOps.ofBits .f32 0#32)) (k0_pay49 k0_pay7 D (View.ld W (Rect.unit ![5, 0] ![1, 512] inb_S32x512_S1x512_5_0))) (View.ld W (Rect.unit ![6, 0] ![1, 512] inb_S32x512_S1x512_6_0))) (View.ld W (Rect.unit ![7, 0] ![1, 512] inb_S32x512_S1x512_7_0))) (View.ld W (Rect.unit ![8, 0] ![1, 512] inb_S32x512_S1x512_8_0))) (View.ld W (Rect.unit ![9, 0] ![1, 512] inb_S32x512_S1x512_9_0))) (View.ld W (Rect.unit ![10, 0] ![1, 512] inb_S32x512_S1x512_10_0))) (View.ld W (Rect.unit ![11, 0] ![1, 512] inb_S32x512_S1x512_11_0))) (View.ld W (Rect.unit ![12, 0] ![1, 512] inb_S32x512_S1x512_12_0))) (View.ld W (Rect.unit ![13, 0] ![1, 512] inb_S32x512_S1x512_13_0))) (View.ld W (Rect.unit ![14, 0] ![1, 512] inb_S32x512_S1x512_14_0)) (View.ld W (Rect.unit ![15, 0] ![1, 512] inb_S32x512_S1x512_15_0))) (View.ld W (Rect.unit ![16, 0] ![1, 512] inb_S32x512_S1x512_16_0))) (View.ld W (Rect.unit ![17, 0] ![1, 512] inb_S32x512_S1x512_17_0))) (View.ld W (Rect.unit ![18, 0] ![1, 512] inb_S32x512_S1x512_18_0))) (View.ld W (Rect.unit ![19, 0] ![1, 512] inb_S32x512_S1x512_19_0))) (View.ld W (Rect.unit ![20, 0] ![1, 512] inb_S32x512_S1x512_20_0))) (k0_pay104 (View.ld W (Rect.unit ![21, 0] ![1, 512] inb_S32x512_S1x512_21_0)))) (k0_pay107 (View.ld W (Rect.unit ![22, 0] ![1, 512] inb_S32x512_S1x512_22_0))) (k0_pay108 D) k0_pay109) (k0_pay112 (View.ld W (Rect.unit ![23, 0] ![1, 512] inb_S32x512_S1x512_23_0))) (k0_pay113 D) (k0_pay114 k0_pay7)) (k0_pay117 (View.ld W (Rect.unit ![24, 0] ![1, 512] inb_S32x512_S1x512_24_0))) (k0_pay118 D) (k0_pay119 k0_pay7) (k0_pay120 k0_pay7) 64#32) (k0_pay123 (View.ld W (Rect.unit ![25, 0] ![1, 512] inb_S32x512_S1x512_25_0))) (k0_pay124 D) (k0_pay125 k0_pay7) (FloatOps.ofBits .f32 0#32)) (k0_pay128 k0_pay7 D (View.ld W (Rect.unit ![26, 0] ![1, 512] inb_S32x512_S1x512_26_0))) (View.ld W (Rect.unit ![27, 0] ![1, 512] inb_S32x512_S1x512_27_0))) (View.ld W (Rect.unit ![28, 0] ![1, 512] inb_S32x512_S1x512_28_0))) (View.ld W (Rect.unit ![29, 0] ![1, 512] inb_S32x512_S1x512_29_0))

/-- … and after the last. -/
abbrev duAll (W : Vec Ideal S32x512 .f32) (D : FVec Ideal S256x512 .f32) : FVec Ideal S256x512 .f32 :=
  duStep (duAcc W D) (View.ld W (Rect.unit ![30, 0] ![1, 512] inb_S32x512_S1x512_30_0)) (tap 4294967281#32 15#32 D)

theorem duAll_apply (W : Vec Ideal S32x512 .f32) (D : FVec Ideal S256x512 .f32) (r : Fin 256) (d : Fin 512) :
    duAll W D (ix2 r d) = ∑ j ∈ Finset.range 31, rowAt W d j * rowTap (30 - j) D r d := by
  unfold duAll duAcc
  simp only [Finset.sum_range_succ, Finset.sum_range_zero, Nat.reduceSub]
  rw [du_30_apply, du_29, du_28, du_26, du_25, du_24, du_23, du_22, du_21, du_20, du_19, du_18, du_17, du_16, du_14, du_13, du_12, du_11, du_10, du_9, du_8, du_7, du_5, du_4, du_3, du_2, du_1, du_0, zero_acc]
  rw [row_ld W d 0 (by decide) inb_S32x512_S1x512_0_0, row_ld W d 1 (by decide) inb_S32x512_S1x512_1_0, row_ld W d 2 (by decide) inb_S32x512_S1x512_2_0, row_ld W d 3 (by decide) inb_S32x512_S1x512_3_0, row_ld W d 4 (by decide) inb_S32x512_S1x512_4_0, row_ld W d 5 (by decide) inb_S32x512_S1x512_5_0, row_ld W d 6 (by decide) inb_S32x512_S1x512_6_0, row_ld W d 7 (by decide) inb_S32x512_S1x512_7_0, row_ld W d 8 (by decide) inb_S32x512_S1x512_8_0, row_ld W d 9 (by decide) inb_S32x512_S1x512_9_0, row_ld W d 10 (by decide) inb_S32x512_S1x512_10_0, row_ld W d 11 (by decide) inb_S32x512_S1x512_11_0, row_ld W d 12 (by decide) inb_S32x512_S1x512_12_0, row_ld W d 13 (by decide) inb_S32x512_S1x512_13_0, row_ld W d 14 (by decide) inb_S32x512_S1x512_14_0, row_ld W d 15 (by decide) inb_S32x512_S1x512_15_0, row_ld W d 16 (by decide) inb_S32x512_S1x512_16_0, row_ld W d 17 (by decide) inb_S32x512_S1x512_17_0, row_ld W d 18 (by decide) inb_S32x512_S1x512_18_0, row_ld W d 19 (by decide) inb_S32x512_S1x512_19_0, row_ld W d 20 (by decide) inb_S32x512_S1x512_20_0, row_ld W d 21 (by decide) inb_S32x512_S1x512_21_0, row_ld W d 22 (by decide) inb_S32x512_S1x512_22_0, row_ld W d 23 (by decide) inb_S32x512_S1x512_23_0, row_ld W d 24 (by decide) inb_S32x512_S1x512_24_0, row_ld W d 25 (by decide) inb_S32x512_S1x512_25_0, row_ld W d 26 (by decide) inb_S32x512_S1x512_26_0, row_ld W d 27 (by decide) inb_S32x512_S1x512_27_0, row_ld W d 28 (by decide) inb_S32x512_S1x512_28_0, row_ld W d 29 (by decide) inb_S32x512_S1x512_29_0, row_ld W d 30 (by decide) inb_S32x512_S1x512_30_0]

variable (m : (ℓ : Loc nD τ sig) → Buf (Elt Ideal) ℓ)

/-- There are 36 grid points. -/
theorem lt36 (t : Fin cfg0.N) : t.val < 36 := t.isLt

/-- What the tile of point `t` holds: the linear half of the block it reads, the gate's, their product, and the convolution's gradient. -/
abbrev tLin (c : Dev nD) (t : Fin cfg0.N) : Vec Ideal S256x512 .f32 := View.ld (iblk m c 1 t) (Rect.unit ![0, 0] ![256, 512] inb_S256x1024_S256x512_0_0)
abbrev tGate (c : Dev nD) (t : Fin cfg0.N) : Vec Ideal S256x512 .f32 := View.ld (iblk m c 1 t) (Rect.unit ![0, 512] ![256, 512] inb_S256x1024_S256x512_0_512)
abbrev tU (c : Dev nD) (t : Fin cfg0.N) : FVec Ideal S256x512 .f32 := k0_pay9 (F := Ideal) (tLin m c t) (tGate m c t)
abbrev tD (c : Dev nD) (t : Fin cfg0.N) : FVec Ideal S256x512 .f32 := tDc (iblk m c 2 t) (iblk m c 0 t) (iblk m c 5 t) (iblk m c 6 t)

theorem out7_lat (c : Dev nD) (t : Fin cfg0.N) (h : ¬t.val % 9 = 0) :
    (outsAt0 m c t.val t.isLt).1 = gateBack (tLin m c t) (k0_pay8 (F := Ideal) (tGate m c t)) (duAll (iblk m c 3 t) (tD m c t)) := by
  rw [outsAt0_B m c t (by omega) (by omega) (by omega)]
  frame_out
  exact du_30 _ _ _ _ _

theorem out7_ctx (c : Dev nD) (t : Fin cfg0.N) (h : t.val % 9 = 0) (r : Fin 256) (d : Fin 1024) : (outsAt0 m c t.val t.isLt).1 (ix2 r d) = 0 := by
  by_cases h0 : t.val % 36 = 0
  · rw [outsAt0_A m c t h0 h (by omega)]; frame_out; exact pay5_zero _
  · rw [outsAt0_C m c t h0 h (by omega)]; frame_out; exact pay5_zero _

theorem out8_lat (c : Dev nD) (t : Fin cfg0.N) (h : ¬t.val % 9 = 0) (j : Fin 32) (d : Fin 512) :
    (outsAt0 m c t.val t.isLt).2.1 (ix2 j d) = (outsAt0 m c (t.val - 1) (Nat.lt_of_le_of_lt (Nat.sub_le _ _) t.isLt)).2.1 (ix2 j d)
      + (if j.val < 31 then ∑ r : Fin 256, tD m c t (ix2 r d) * rowTap j.val (tU m c t) r d else 0) := by
  rw [outsAt0_B m c t (by omega) (by omega) (by omega)]
  frame_out
  generalize (outsAt0 m c (t.val - 1) (Nat.lt_of_le_of_lt (Nat.sub_le _ _) t.isLt)).2.1 = P
  refine (rowPieces_read (ms0_8 t).view _ (tapPay P (tU m c t) (k0_pay11 (iblk m c 2 t)) (k0_pay12 (iblk m c 2 t))
    (k0_pay19 (k0_pay13 (iblk m c 5 t) (iblk m c 6 t) (iblk m c 2 t)) k0_pay14 (iblk m c 0 t) (iblk m c 5 t))
    (k0_pay20 (k0_pay12 (iblk m c 2 t)) (k0_pay13 (iblk m c 5 t) (iblk m c 6 t) (iblk m c 2 t)) k0_pay14 (iblk m c 0 t) (iblk m c 5 t))) j d 31 (by decide)).trans ?_
  have hr : (ms0_8 t).view.read (Elt Ideal) ((hs0_8 t).unread P) (ix2 j d) = P (ix2 j d) := by
    rw [Memref.IsWhole.read_unread]
  by_cases hj : j.val < 31
  · rw [if_pos hj, if_pos hj]
    refine (tapPay_apply _ _ _ _ _ _ d j.val hj).trans ?_
    unfold rowAt
    rw [dif_pos j.isLt]
  · rw [if_neg hj, if_neg hj, hr, add_zero]

theorem out8_first (c : Dev nD) (t : Fin cfg0.N) (h : t.val % 36 = 0) (j : Fin 32) (d : Fin 512) : (outsAt0 m c t.val t.isLt).2.1 (ix2 j d) = 0 := by
  rw [outsAt0_A m c t h (by omega) (by omega)]; frame_out; exact pay1_zero _

theorem outs_skip (c : Dev nD) (t : Fin cfg0.N) (h : t.val % 9 = 0) (h0 : ¬t.val % 36 = 0) :
    (outsAt0 m c t.val t.isLt).2 = (outsAt0 m c (t.val - 1) (Nat.lt_of_le_of_lt (Nat.sub_le _ _) t.isLt)).2 := by
  rw [outsAt0_C m c t h0 h (by omega)]
  dsimp only [out0_C_8, out0_C_9, out0_C_10, out0_C_11]

theorem out9_lat (c : Dev nD) (t : Fin cfg0.N) (h : ¬t.val % 9 = 0) (d : Fin 512) :
    (outsAt0 m c t.val t.isLt).2.2.1 (ix2 0 d) = (outsAt0 m c (t.val - 1) (Nat.lt_of_le_of_lt (Nat.sub_le _ _) t.isLt)).2.2.1 (ix2 0 d)
      + ∑ r : Fin 256, tD m c t (ix2 r d) := by
  rw [outsAt0_B m c t (by omega) (by omega) (by omega)]
  frame_out
  exact dcb_apply d _ _ _ _ _

theorem out9_first (c : Dev nD) (t : Fin cfg0.N) (h : t.val % 36 = 0) (d : Fin 512) : (outsAt0 m c t.val t.isLt).2.2.1 (ix2 0 d) = 0 := by
  rw [outsAt0_A m c t h (by omega) (by omega)]; frame_out; exact pay2_zero _

theorem out10_lat (c : Dev nD) (t : Fin cfg0.N) (h : ¬t.val % 9 = 0) (d : Fin 512) :
    (outsAt0 m c t.val t.isLt).2.2.2.1 (ix2 0 d) = (outsAt0 m c (t.val - 1) (Nat.lt_of_le_of_lt (Nat.sub_le _ _) t.isLt)).2.2.2.1 (ix2 0 d)
      + ∑ r : Fin 256, rDcn (iblk m c 2 t) (iblk m c 0 t) (iblk m c 5 t) (iblk m c 6 t) r d * rowHat (fun k => iblk m c 2 t (ix2 r k)) d := by
  rw [outsAt0_B m c t (by omega) (by omega) (by omega)]
  frame_out
  exact dlw_apply _ _ _ _ d _

theorem out10_first (c : Dev nD) (t : Fin cfg0.N) (h : t.val % 36 = 0) (d : Fin 512) : (outsAt0 m c t.val t.isLt).2.2.2.1 (ix2 0 d) = 0 := by
  rw [outsAt0_A m c t h (by omega) (by omega)]; frame_out; exact pay3_zero _

theorem out11_lat (c : Dev nD) (t : Fin cfg0.N) (h : ¬t.val % 9 = 0) (d : Fin 512) :
    (outsAt0 m c t.val t.isLt).2.2.2.2 (ix2 0 d) = (outsAt0 m c (t.val - 1) (Nat.lt_of_le_of_lt (Nat.sub_le _ _) t.isLt)).2.2.2.2 (ix2 0 d)
      + ∑ r : Fin 256, rDcn (iblk m c 2 t) (iblk m c 0 t) (iblk m c 5 t) (iblk m c 6 t) r d := by
  rw [outsAt0_B m c t (by omega) (by omega) (by omega)]
  frame_out
  exact dlb_apply _ _ _ _ d _

theorem out11_first (c : Dev nD) (t : Fin cfg0.N) (h : t.val % 36 = 0) (d : Fin 512) : (outsAt0 m c t.val t.isLt).2.2.2.2 (ix2 0 d) = 0 := by
  rw [outsAt0_A m c t h (by omega) (by omega)]; frame_out; exact pay4_zero _

end Cert.ConvIdeal.Math

end
-- ==== Proof.ConvValue.lean ====
/-
  The gradient of the Conformer convolution: the grid has 36 tiles of 256 tokens, 9 for each batch entry, of which the first holds the
  context. Each of the call's five results is the reference's, where the gradient that arrives and the normalisation's gain are finite.
-/
module

public import proofs.«01_k».proof.Proof.ConvTile
public import proofs.«01_k».proof.Proof.ConvRef

@[expose] public section

set_option maxRecDepth 16384

noncomputable section

namespace Cert.ConvIdeal.Math

open Cert.ConvIdeal Cert.ConvIdeal.Gen Cert.RowNorm Cert.ConvMath
open Cert.ConvRefIdeal.Math (ct lin gate gateGrad gated convOut chat dcn dConv dGated dTaps dpLat outDp outDw outDb outDlw outDlb lat chan ct_apply lin_apply gate_apply
  gateGrad_apply gated_apply chat_apply dcn_apply dConv_apply dGated_apply dTaps_apply outDw_tap outDw_last dpLat_lin dpLat_gate outDp_ctx outDp_lat outDb_apply outDlw_apply outDlb_apply)
open Idealize.ShloMosaic Idealize.ShloMosaic.TcCoe Idealize.SL.Sem
open Idealize.ShloMosaic.Pipeline (Dat)

/-- The latent tokens, batch entry by batch entry. -/
abbrev Lat : Shape := ⟨3, ![4, 2048, 512]⟩

variable (m : (ℓ : Loc nD τ sig) → Buf (Elt Ideal) ℓ)

/-- The arguments, each as an array of its shape. -/
abbrev aCt (c : Dev nD) : FVec Ideal S9216x1024 .f32 := m ((c.tc : Thread nD τ).loc main_arg0)
abbrev aP (c : Dev nD) : FVec Ideal S9216x1024 .f32 := m ((c.tc : Thread nD τ).loc main_arg1)
abbrev aW (c : Dev nD) : FVec Ideal S31x512 .f32 := m ((c.tc : Thread nD τ).loc main_arg2)
abbrev aB (c : Dev nD) : FVec Ideal S512 .f32 := m ((c.tc : Thread nD τ).loc main_arg3)
abbrev aLw (c : Dev nD) : FVec Ideal S512 .f32 := m ((c.tc : Thread nD τ).loc main_arg4)
abbrev aLb (c : Dev nD) : FVec Ideal S512 .f32 := m ((c.tc : Thread nD τ).loc main_arg5)

/-- The convolution the forward call saved. -/
abbrev aCv (c : Dev nD) : FVec Ideal Lat .f32 := convOut (aP m c) (aW m c) (aB m c)

/-- Which blocks a grid point reads. -/
theorem idxIn : ∀ t : Fin cfg0.N, win0_0.index t = ![t.val, 1] ∧ win0_1.index t = ![t.val, 0] ∧ win0_2.index t = ![t.val / 9 * 8 + (t.val % 9 - 1), 0]
    ∧ win0_3.index t = ![0, 0] ∧ win0_5.index t = ![0, 0] ∧ win0_6.index t = ![0, 0] :=
  (by decide +kernel : ∀ t : Fin grid0.N, _)

/-- Which blocks it writes. -/
theorem idxOut : ∀ t : Fin cfg0.N, win0_7.index t = ![t.val, 0] ∧ win0_8.index t = ![0, 0] ∧ win0_9.index t = ![0, 0] ∧ win0_10.index t = ![0, 0]
    ∧ win0_11.index t = ![0, 0] :=
  (by decide +kernel : ∀ t : Fin grid0.N, _)

/-- The tile's batch entry, and a row's position in it. -/
abbrev bat (t : Fin cfg0.N) : Fin 4 := ⟨t.val / 9, by have := lt36 t; omega⟩
abbrev pos (t : Fin cfg0.N) (r : Fin 256) : Fin 2048 := ⟨t.val % 9 * 256 + r.val - 256, by have := lt36 t; have := r.isLt; omega⟩

/-- A row of the tile among all tokens. -/
abbrev tok (t : Fin cfg0.N) (r : Fin 256) : Fin 9216 := ⟨t.val * 256 + r.val, by have := lt36 t; have := r.isLt; omega⟩

theorem tok_lat (t : Fin cfg0.N) (h : ¬t.val % 9 = 0) (r : Fin 256) : tok t r = lat (bat t) (pos t r) := by
  refine Fin.ext ?_
  have := r.isLt
  show t.val * 256 + r.val = t.val / 9 * 2304 + (256 + (t.val % 9 * 256 + r.val - 256))
  omega

theorem blkCt (c : Dev nD) (t : Fin cfg0.N) (r : Fin 256) (d : Fin 512) :
    iblk m c 0 t (ix2 r d) = aCt m c (ix2 (tok t r) ⟨512 + d.val, by have := d.isLt; omega⟩) := by
  blk_point [iblk, V, idxIn t]

theorem blkP (c : Dev nD) (t : Fin cfg0.N) (r : Fin 256) (d : Fin 1024) : iblk m c 1 t (ix2 r d) = aP m c (ix2 (tok t r) d) := by
  blk_point [iblk, V, idxIn t]

/-- The arrays the host prepares: the saved convolution, the taps with a row of zeros, and the normalisation's gain and offset. -/
def cvFlat (x : FVec Ideal Lat .f32) : FVec Ideal S8192x512 .f32 := shapeCast S8192x512 x shapeCasts_S4x2048x512_S8192x512

def tapsPad (w : FVec Ideal S31x512 .f32) : FVec Ideal S32x512 .f32 :=
  concatenate S32x512 0 [⟨S31x512, w⟩, ⟨S1x512, broadcastInDim S1x512 ![] bcast_S_S1x512 (constant (F := Ideal) S_ .f32 0x00000000#32)⟩] concatenates_S31x512_S1x512_S32x512_d0

def asRow (x : FVec Ideal S512 .f32) : FVec Ideal S1x512 .f32 := shapeCast S1x512 x shapeCasts_S512_S1x512

theorem cvFlat_apply (x : FVec Ideal Lat .f32) (b : Fin 4) (n : Fin 2048) (d : Fin 512) (h : b.val * 2048 + n.val < 8192) :
    cvFlat x (ix2 ⟨b.val * 2048 + n.val, h⟩ d) = x (ix3 b n d) := by
  pointwise [cvFlat]

theorem tapsPad_apply (w : FVec Ideal S31x512 .f32) (j : Fin 31) (d : Fin 512) : tapsPad w (ix2 ⟨j.val, by have := j.isLt; omega⟩ d) = w (ix2 j d) := by
  pointwise [tapsPad]

theorem asRow_apply (x : FVec Ideal S512 .f32) (d : Fin 512) : asRow x (ix2 0 d) = x (ix1 d) := by
  pointwise [asRow]

theorem V30 (c : Dev nD) : V m c main_v30 = cvFlat (aCv m c) := by
  unfold V
  simp only [List.flatten_cons, List.flatten_nil, List.cons_append, List.nil_append, List.append_nil]
  after_results
  simp -implicitDefEqProofs only [StableHlo.TRef.toBuf, StableHlo.TRef.ofBuf, cast_cast, cast_eq]
  unfold cvFlat aCv convOut Cert.ConvRefIdeal.Math.band Cert.ConvRefIdeal.Math.bandRows Cert.ConvRefIdeal.Math.joins Cert.ConvRefIdeal.Math.joins4 Cert.ConvRefIdeal.Math.gated Cert.ConvRefIdeal.Math.gate Cert.ConvRefIdeal.Math.lin
  rfl

theorem V32 (c : Dev nD) : V m c main_v32 = tapsPad (aW m c) := by
  unfold V
  simp only [List.flatten_cons, List.flatten_nil, List.cons_append, List.nil_append, List.append_nil]
  after_results
  rfl

theorem V34 (c : Dev nD) : V m c main_v34 = asRow (aLw m c) := by
  unfold V
  simp only [List.flatten_cons, List.flatten_nil, List.cons_append, List.nil_append, List.append_nil]
  after_results
  rfl

theorem V35 (c : Dev nD) : V m c main_v35 = asRow (aLb m c) := by
  unfold V
  simp only [List.flatten_cons, List.flatten_nil, List.cons_append, List.nil_append, List.append_nil]
  after_results
  rfl

theorem blkCv (c : Dev nD) (t : Fin cfg0.N) (h : ¬t.val % 9 = 0) (r : Fin 256) (d : Fin 512) : iblk m c 2 t (ix2 r d) = aCv m c (ix3 (bat t) (pos t r) d) := by
  have ht := lt36 t
  have hr := r.isLt
  rw [← cvFlat_apply (aCv m c) (bat t) (pos t r) d (by show t.val / 9 * 2048 + (t.val % 9 * 256 + r.val - 256) < 8192; omega), ← V30]
  have e : (⟨(bat t).val * 2048 + (pos t r).val, by show t.val / 9 * 2048 + (t.val % 9 * 256 + r.val - 256) < 8192; omega⟩ : Fin 8192)
      = ⟨(t.val / 9 * 8 + (t.val % 9 - 1)) * 256 + r.val, by omega⟩ :=
    Fin.ext (by show t.val / 9 * 2048 + (t.val % 9 * 256 + r.val - 256) = (t.val / 9 * 8 + (t.val % 9 - 1)) * 256 + r.val; omega)
  rw [e]
  blk_point [iblk, idxIn t]

theorem blkW (c : Dev nD) (t : Fin cfg0.N) (j : Fin 31) (d : Fin 512) : rowAt (iblk m c 3 t) d j.val = aW m c (ix2 j d) := by
  have hj := j.isLt
  rw [← tapsPad_apply (aW m c) j d, ← V32]
  unfold rowAt
  rw [dif_pos (by omega)]
  blk_point [iblk, idxIn t]

theorem blkLw (c : Dev nD) (t : Fin cfg0.N) (d : Fin 512) : iblk m c 5 t (ix2 0 d) = aLw m c (ix1 d) := by
  rw [← asRow_apply (aLw m c) d, ← V34]
  blk_point [iblk, idxIn t]

theorem blkLb (c : Dev nD) (t : Fin cfg0.N) (d : Fin 512) : iblk m c 6 t (ix2 0 d) = aLb m c (ix1 d) := by
  rw [← asRow_apply (aLb m c) d, ← V35]
  blk_point [iblk, idxIn t]

/-! What the rows of a latent tile are, named as in the reference. -/

theorem tileLin (c : Dev nD) (t : Fin cfg0.N) (h : ¬t.val % 9 = 0) (r : Fin 256) (d : Fin 512) : tLin m c t (ix2 r d) = lin (aP m c) (ix3 (bat t) (pos t r) d) := by
  rw [lin_apply, ← tok_lat t h, ← blkP]
  refine congrArg (iblk m c 1 t) ?_
  funext a
  refine Fin.ext ?_
  match a with
  | ⟨0, _⟩ => show 0 + 1 * r.val = r.val; omega
  | ⟨1, _⟩ => show 0 + 1 * d.val = d.val; omega

theorem tileGate (c : Dev nD) (t : Fin cfg0.N) (h : ¬t.val % 9 = 0) (r : Fin 256) (d : Fin 512) : sgm (tGate m c t (ix2 r d)) = gate (aP m c) (ix3 (bat t) (pos t r) d) := by
  rw [gate_apply, ← tok_lat t h, ← blkP]
  refine congrArg (fun i => sgm (iblk m c 1 t i)) ?_
  funext a
  refine Fin.ext ?_
  match a with
  | ⟨0, _⟩ => show 0 + 1 * r.val = r.val; omega
  | ⟨1, _⟩ => show 512 + 1 * d.val = 512 + d.val; omega

theorem tileU (c : Dev nD) (t : Fin cfg0.N) (h : ¬t.val % 9 = 0) (r : Fin 256) (d : Fin 512) : tU m c t (ix2 r d) = gated (aP m c) (ix3 (bat t) (pos t r) d) := by
  rw [gated_apply, ← tileLin m c t h, ← tileGate m c t h]
  exact pay9_apply r d _ _

theorem tileG (c : Dev nD) (t : Fin cfg0.N) (h : ¬t.val % 9 = 0) (r : Fin 256) (d : Fin 512) : iblk m c 0 t (ix2 r d) = ct (aCt m c) (ix3 (bat t) (pos t r) d) := by
  rw [ct_apply, ← tok_lat t h]
  exact blkCt m c t r d

/-- The gradient of the convolution, as the reference has it. -/
abbrev refD (c : Dev nD) : FVec Ideal Lat .f32 := dConv (aCv m c) (ct (aCt m c)) (aLw m c) (aLb m c)

/-- The gradient behind the activation, as the reference has it. -/
abbrev refDcn (c : Dev nD) : FVec Ideal Lat .f32 := dcn (aCv m c) (ct (aCt m c)) (aLw m c) (aLb m c)

/-- No infinity arrives. -/
abbrev Finite (c : Dev nD) : Prop :=
  (∀ (b : Fin 4) (n : Fin 2048) (d : Fin 512), ∃ a : ℝ, ct (aCt m c) (ix3 b n d) = (a : EReal)) ∧ ∀ d : Fin 512, ∃ a : ℝ, aLw m c (ix1 d) = (a : EReal)

theorem rowsCv (c : Dev nD) (t : Fin cfg0.N) (h : ¬t.val % 9 = 0) (r : Fin 256) :
    (fun k => iblk m c 2 t (ix2 r k)) = Cert.ConvRefIdeal.Math.row (aCv m c) (bat t) (pos t r) := funext fun k => blkCv m c t h r k

theorem rowsG (c : Dev nD) (t : Fin cfg0.N) (h : ¬t.val % 9 = 0) (r : Fin 256) :
    (fun k => iblk m c 0 t (ix2 r k)) = Cert.ConvRefIdeal.Math.row (ct (aCt m c)) (bat t) (pos t r) := funext fun k => tileG m c t h r k

theorem rowsLw (c : Dev nD) (t : Fin cfg0.N) : (fun k => iblk m c 5 t (ix2 0 k)) = chan (aLw m c) := funext fun k => blkLw m c t k

theorem rowsLb (c : Dev nD) (t : Fin cfg0.N) : (fun k => iblk m c 6 t (ix2 0 k)) = chan (aLb m c) := funext fun k => blkLb m c t k

theorem tileD (c : Dev nD) (hf : Finite m c) (t : Fin cfg0.N) (h : ¬t.val % 9 = 0) (r : Fin 256) (d : Fin 512) :
    tD m c t (ix2 r d) = refD m c (ix3 (bat t) (pos t r) d) := by
  refine (tDc_apply _ _ _ _ _ _).trans ?_
  refine Eq.trans ?_ (dConv_apply (aLw m c) (aLb m c) (aCv m c) (ct (aCt m c)) (bat t) (pos t r) d (fun k => hf.1 _ _ k) hf.2).symm
  unfold rDc
  rw [rowsCv m c t h, rowsG m c t h, rowsLw, rowsLb]

theorem tileDcn (c : Dev nD) (hf : Finite m c) (t : Fin cfg0.N) (h : ¬t.val % 9 = 0) (r : Fin 256) (d : Fin 512) :
    rDcn (iblk m c 2 t) (iblk m c 0 t) (iblk m c 5 t) (iblk m c 6 t) r d = refDcn m c (ix3 (bat t) (pos t r) d) := by
  refine Eq.trans ?_ (dcn_apply (aLw m c) (aLb m c) (aCv m c) (ct (aCt m c)) (bat t) (pos t r) d (hf.1 _ _ d)).symm
  unfold rDcn
  rw [rowsCv m c t h, rowsG m c t h, rowsLw, rowsLb]

theorem tileHat (c : Dev nD) (t : Fin cfg0.N) (h : ¬t.val % 9 = 0) (r : Fin 256) (d : Fin 512) :
    rowHat (fun k => iblk m c 2 t (ix2 r k)) d = chat (aCv m c) (ix3 (bat t) (pos t r) d) := by
  rw [chat_apply, rowsCv m c t h]

/-- A tap read within a tile is the tap read among the batch entry's tokens: a line of 64 tokens lies in one tile. -/
theorem rowTap_shift (t : Fin cfg0.N) (h : ¬t.val % 9 = 0) (x : FVec Ideal S256x512 .f32) (f : Fin 2048 → EReal) (d : Fin 512) (hx : ∀ r : Fin 256, x (ix2 r d) = f (pos t r))
    (k : ℕ) (r : Fin 256) : rowTap k x r d = shift k f (pos t r) := by
  have ht := lt36 t
  have hr := r.isLt
  have e : (pos t r).val % 64 = r.val % 64 := by
    show (t.val % 9 * 256 + r.val - 256) % 64 = r.val % 64
    omega
  unfold rowTap shift
  by_cases hk : 15 ≤ r.val % 64 + k ∧ r.val % 64 + k < 79
  · rw [dif_pos hk, dif_pos (by rw [e]; exact hk), hx]
    refine congrArg f (Fin.ext ?_)
    show t.val % 9 * 256 + (r.val + k - 15) - 256 = t.val % 9 * 256 + r.val - 256 + k - 15
    omega
  · rw [dif_neg hk, dif_neg (by rw [e]; exact hk)]

/-! The argument's gradient. -/

theorem emb7 (t : Fin cfg0.N) (r : Fin 256) (d : Fin 1024) : (win0_7.blk t).view.emb (ix2 r d : S256x1024.Idx) = (ix2 (tok t r) d : S9216x1024.Idx) := by
  blk_ext [idxOut t]

theorem eta2 {a b : ℕ} (y : (⟨2, ![a, b]⟩ : Shape).Idx) : ∃ (i : Fin a) (k : Fin b), y = ix2 i k :=
  ⟨y 0, y 1, by funext q; match q with | ⟨0, _⟩ => rfl | ⟨1, _⟩ => rfl⟩

theorem tileDu (c : Dev nD) (hf : Finite m c) (t : Fin cfg0.N) (h : ¬t.val % 9 = 0) (r : Fin 256) (d : Fin 512) :
    duAll (iblk m c 3 t) (tD m c t) (ix2 r d) = dGated (refD m c) (aW m c) (ix3 (bat t) (pos t r) d) := by
  rw [duAll_apply, dGated_apply, ← Fin.sum_univ_eq_sum_range (fun j => rowAt (iblk m c 3 t) d j * rowTap (30 - j) (tD m c t) r d)]
  exact Finset.sum_congr rfl fun j _ => congrArg₂ (· * ·) (blkW m c t j d)
    (rowTap_shift t h (tD m c t) (fun n => refD m c (ix3 (bat t) n d)) d (fun r => tileD m c hf t h r d) (30 - j.val) r)

theorem tileDp (c : Dev nD) (hf : Finite m c) (t : Fin cfg0.N) (h : ¬t.val % 9 = 0) (r : Fin 256) (d : Fin 1024) :
    gateBack (tLin m c t) (k0_pay8 (F := Ideal) (tGate m c t)) (duAll (iblk m c 3 t) (tD m c t)) (ix2 r d)
      = dpLat (refD m c) (aW m c) (aP m c) (ix3 (bat t) (pos t r) d) := by
  have hd := d.isLt
  by_cases hk : d.val < 512
  · obtain ⟨k, rfl⟩ : ∃ k : Fin 512, d = ⟨k.val, Nat.lt_trans k.isLt (by decide)⟩ := ⟨⟨d.val, hk⟩, rfl⟩
    refine (gateBack_lin _ _ _ r k).trans ?_
    rw [dpLat_lin, ← tileDu m c hf t h, ← tileGate m c t h]
    exact congrArg _ (pay8_apply r k _)
  · obtain ⟨k, rfl⟩ : ∃ k : Fin 512, d = ⟨512 + k.val, Nat.add_lt_add_left k.isLt 512⟩ := ⟨⟨d.val - 512, by omega⟩, Fin.ext (by show d.val = 512 + (d.val - 512); omega)⟩
    refine (gateBack_gate _ _ _ r k).trans ?_
    rw [dpLat_gate, gateGrad_apply, ← tileDu m c hf t h, ← tileGate m c t h, ← tileLin m c t h, mul_assoc, mul_comm (tLin m c t (ix2 r k))]
    exact congrArg (fun s => duAll (iblk m c 3 t) (tD m c t) (ix2 r k) * tLin m c t (ix2 r k) * (s * (1 - s))) (pay8_apply r k _)

theorem final7 (c : Dev nD) (hf : Finite m c) : (dats m 0 c).arrAt 7 cfg0.N = outDp (refD m c) (aW m c) (aP m c) := by
  refine (dats m 0 c).arrAt_eq_of_covers 7 _ (by decide +kernel) fun t _ y => ?_
  blk_simp
  obtain ⟨r, d, rfl⟩ := eta2 (a := 256) (b := 1024) y
  have ht := lt36 t
  have hr := r.isLt
  rw [after0_7, emb7]
  by_cases h : t.val % 9 = 0
  · refine (out7_ctx m c t h r d).trans ?_
    have e : tok t r = ⟨(bat t).val * 2304 + r.val, by show t.val / 9 * 2304 + r.val < 9216; omega⟩ :=
      Fin.ext (by show t.val * 256 + r.val = t.val / 9 * 2304 + r.val; omega)
    rw [e]
    exact (outDp_ctx _ _ _ (bat t) r d _).symm
  · rw [out7_lat m c t h, tok_lat t h]
    exact (tileDp m c hf t h r d).trans (outDp_lat _ _ _ (bat t) (pos t r) d).symm

/-! The sums over all tokens. -/

/-- The latent tiles of one batch entry, row by row, are its tokens. -/
theorem batch_sum (f : Fin 4 → Fin 2048 → EReal) (b : Fin 4) (p : Fin 9 → Fin cfg0.N) (hp : ∀ s, (p s).val = 9 * b.val + s.val) :
    (∑ s : Fin 9, if (p s).val % 9 = 0 then (0 : EReal) else ∑ r : Fin 256, f (bat (p s)) (pos (p s) r)) = ∑ n : Fin 2048, f b n := by
  have hb := b.isLt
  rw [Fin.sum_univ_succ, if_pos (by rw [hp]; show (9 * b.val + 0) % 9 = 0; omega), zero_add]
  refine (Finset.sum_congr rfl fun s _ => if_neg (by rw [hp]; show ¬(9 * b.val + (s.val + 1)) % 9 = 0; have := s.isLt; omega)).trans ?_
  refine Fin.sum_mul_add_congr fun s r hl => ?_
  have hs := s.isLt
  have hr := r.isLt
  have hv : (p s.succ).val = 9 * b.val + (s.val + 1) := hp s.succ
  have e0 : bat (p s.succ) = b := Fin.ext (by show (p s.succ).val / 9 = b.val; omega)
  have e1 : pos (p s.succ) r = ⟨s.val * 256 + r.val, hl⟩ :=
    Fin.ext (by show (p s.succ).val % 9 * 256 + r.val - 256 = s.val * 256 + r.val; omega)
  rw [e0, e1]

/-- What starts at zero, takes up each latent tile's rows and passes over the context tiles, holds at the end the sum over the latent tokens. -/
theorem run_total (f : (n : ℕ) → n < cfg0.N → EReal) (g : Fin 4 → Fin 2048 → EReal) (first : ∀ t : Fin cfg0.N, t.val % 36 = 0 → f t.val t.isLt = 0)
    (lats : ∀ t : Fin cfg0.N, ¬t.val % 9 = 0 → f t.val t.isLt = f (t.val - 1) (Nat.lt_of_le_of_lt (Nat.sub_le _ _) t.isLt) + ∑ r : Fin 256, g (bat t) (pos t r))
    (skip : ∀ t : Fin cfg0.N, t.val % 9 = 0 → ¬t.val % 36 = 0 → f t.val t.isLt = f (t.val - 1) (Nat.lt_of_le_of_lt (Nat.sub_le _ _) t.isLt))
    (t : Fin cfg0.N) (h : t.val % 36 = 35) : f t.val t.isLt = ∑ b : Fin 4, ∑ n : Fin 2048, g b n := by
  have ht := lt36 t
  refine ((Pipeline.eq_sum_fin_of_reset_step_of_flush f 36 0 (fun t => if t.val % 9 = 0 then (0 : EReal) else ∑ r : Fin 256, g (bat t) (pos t r))
    (fun t h0 => ?_) (fun t h0 => ?_) t h).trans (zero_add _)).trans ?_
  · rw [if_pos (by omega), add_zero]
    exact first t h0
  · by_cases h9 : t.val % 9 = 0
    · rw [if_pos h9, add_zero]
      exact skip t h9 h0
    · rw [if_neg h9]
      exact lats t h9
  · refine (Cert.Sums.sum_tiles (p := 4) (n := 9) (fun s => if (36 * (t.val / 36) + s.val) % 9 = 0 then (0 : EReal)
      else ∑ r : Fin 256, g (bat ⟨36 * (t.val / 36) + s.val, Pipeline.run_point_lt_of_flush t h s⟩) (pos ⟨36 * (t.val / 36) + s.val, Pipeline.run_point_lt_of_flush t h s⟩ r))).trans ?_
    refine Finset.sum_congr rfl fun b _ => ?_
    exact batch_sum g b (fun s => ⟨36 * (t.val / 36) + (b.val * 9 + s.val), Pipeline.run_point_lt_of_flush t h ⟨b.val * 9 + s.val, by have := b.isLt; have := s.isLt; omega⟩⟩)
      (fun s => by show 36 * (t.val / 36) + (b.val * 9 + s.val) = 9 * b.val + s.val; omega)

theorem total8 (c : Dev nD) (hf : Finite m c) (t : Fin cfg0.N) (h : t.val % 36 = 35) (j : Fin 32) (d : Fin 512) :
    (outsAt0 m c t.val t.isLt).2.1 (ix2 j d) = outDw (refD m c) (gated (aP m c)) (ix2 j d) := by
  have hj := j.isLt
  by_cases hk : j.val < 31
  · obtain ⟨k, rfl⟩ : ∃ k : Fin 31, j = ⟨k.val, Nat.lt_trans k.isLt (by decide)⟩ := ⟨⟨j.val, hk⟩, rfl⟩
    rw [outDw_tap, dTaps_apply]
    refine run_total (fun n h => (outsAt0 m c n h).2.1 (ix2 ⟨k.val, by have := k.isLt; omega⟩ d))
      (fun b n => refD m c (ix3 b n d) * shift k.val (fun n => gated (aP m c) (ix3 b n d)) n) (fun t h => out8_first m c t h _ d) (fun t h => ?_)
      (fun t h h0 => congrArg (fun o => o.1 (ix2 (⟨k.val, Nat.lt_trans k.isLt (by decide)⟩ : Fin 32) d)) (outs_skip m c t h h0)) t h
    refine (out8_lat m c t h _ d).trans (congrArg (_ + ·) ?_)
    rw [if_pos hk]
    exact Finset.sum_congr rfl fun r _ => congrArg₂ (· * ·) (tileD m c hf t h r d)
      (rowTap_shift t h (tU m c t) (fun n => gated (aP m c) (ix3 (bat t) n d)) d (fun r => tileU m c t h r d) k.val r)
  · obtain rfl : j = 31 := Fin.ext (by show j.val = 31; omega)
    rw [outDw_last]
    refine (run_total (fun n h => (outsAt0 m c n h).2.1 (ix2 31 d)) (fun _ _ => 0) (fun t h => out8_first m c t h _ d) (fun t h => ?_)
      (fun t h h0 => congrArg (fun o => o.1 (ix2 (31 : Fin 32) d)) (outs_skip m c t h h0)) t h).trans ?_
    · refine (out8_lat m c t h _ d).trans (congrArg (_ + ·) ?_)
      rw [if_neg hk, Finset.sum_const_zero]
    · simp only [Finset.sum_const_zero]

theorem total9 (c : Dev nD) (hf : Finite m c) (t : Fin cfg0.N) (h : t.val % 36 = 35) (d : Fin 512) :
    (outsAt0 m c t.val t.isLt).2.2.1 (ix2 0 d) = outDb (aCv m c) (ct (aCt m c)) (aLw m c) (aLb m c) (ix2 0 d) := by
  rw [outDb_apply]
  refine run_total (fun n h => (outsAt0 m c n h).2.2.1 (ix2 0 d)) (fun b n => refD m c (ix3 b n d)) (fun t h => out9_first m c t h d) (fun t h => ?_)
    (fun t h h0 => congrArg (fun o => o.2.1 (ix2 0 d)) (outs_skip m c t h h0)) t h
  exact (out9_lat m c t h d).trans (congrArg (_ + ·) (Finset.sum_congr rfl fun r _ => tileD m c hf t h r d))

theorem total10 (c : Dev nD) (hf : Finite m c) (t : Fin cfg0.N) (h : t.val % 36 = 35) (d : Fin 512) :
    (outsAt0 m c t.val t.isLt).2.2.2.1 (ix2 0 d) = outDlw (aCv m c) (ct (aCt m c)) (aLw m c) (aLb m c) (ix2 0 d) := by
  rw [outDlw_apply]
  refine run_total (fun n h => (outsAt0 m c n h).2.2.2.1 (ix2 0 d)) (fun b n => chat (aCv m c) (ix3 b n d) * refDcn m c (ix3 b n d)) (fun t h => out10_first m c t h d) (fun t h => ?_)
    (fun t h h0 => congrArg (fun o => o.2.2.1 (ix2 0 d)) (outs_skip m c t h h0)) t h
  exact (out10_lat m c t h d).trans (congrArg (_ + ·) (Finset.sum_congr rfl fun r _ =>
    (congrArg₂ (· * ·) (tileDcn m c hf t h r d) (tileHat m c t h r d)).trans (mul_comm _ _)))

theorem total11 (c : Dev nD) (hf : Finite m c) (t : Fin cfg0.N) (h : t.val % 36 = 35) (d : Fin 512) :
    (outsAt0 m c t.val t.isLt).2.2.2.2 (ix2 0 d) = outDlb (aCv m c) (ct (aCt m c)) (aLw m c) (aLb m c) (ix2 0 d) := by
  rw [outDlb_apply]
  refine run_total (fun n h => (outsAt0 m c n h).2.2.2.2 (ix2 0 d)) (fun b n => refDcn m c (ix3 b n d)) (fun t h => out11_first m c t h d) (fun t h => ?_)
    (fun t h h0 => congrArg (fun o => o.2.2.2 (ix2 0 d)) (outs_skip m c t h h0)) t h
  exact (out11_lat m c t h d).trans (congrArg (_ + ·) (Finset.sum_congr rfl fun r _ => tileDcn m c hf t h r d))

theorem final8 (c : Dev nD) (hf : Finite m c) : (dats m 0 c).arrAt 8 cfg0.N = outDw (refD m c) (gated (aP m c)) := by
  refine (dats m 0 c).arrAt_eq_of_covers 8 _ (by decide +kernel) fun t hw y => ?_
  blk_simp
  obtain ⟨j, d, rfl⟩ := eta2 (a := 32) (b := 512) y
  have e : (win0_8.blk t).view.emb (ix2 j d : S32x512.Idx) = (ix2 j d : S32x512.Idx) := by blk_ext [idxOut t]
  rw [after0_8, e]
  exact total8 m c hf t ((flush0_8 t).mp hw) j d

theorem final9 (c : Dev nD) (hf : Finite m c) : (dats m 0 c).arrAt 9 cfg0.N = outDb (aCv m c) (ct (aCt m c)) (aLw m c) (aLb m c) := by
  refine (dats m 0 c).arrAt_eq_of_covers 9 _ (by decide +kernel) fun t hw y => ?_
  blk_simp
  obtain ⟨z, d, rfl⟩ := eta2 (a := 1) (b := 512) y
  obtain rfl : z = 0 := Subsingleton.elim _ _
  have e : (win0_9.blk t).view.emb (ix2 0 d : S1x512.Idx) = (ix2 0 d : S1x512.Idx) := by blk_ext [idxOut t]
  rw [after0_9, e]
  exact total9 m c hf t ((flush0_9 t).mp hw) d

theorem final10 (c : Dev nD) (hf : Finite m c) : (dats m 0 c).arrAt 10 cfg0.N = outDlw (aCv m c) (ct (aCt m c)) (aLw m c) (aLb m c) := by
  refine (dats m 0 c).arrAt_eq_of_covers 10 _ (by decide +kernel) fun t hw y => ?_
  blk_simp
  obtain ⟨z, d, rfl⟩ := eta2 (a := 1) (b := 512) y
  obtain rfl : z = 0 := Subsingleton.elim _ _
  have e : (win0_10.blk t).view.emb (ix2 0 d : S1x512.Idx) = (ix2 0 d : S1x512.Idx) := by blk_ext [idxOut t]
  rw [after0_10, e]
  exact total10 m c hf t ((flush0_10 t).mp hw) d

theorem final11 (c : Dev nD) (hf : Finite m c) : (dats m 0 c).arrAt 11 cfg0.N = outDlb (aCv m c) (ct (aCt m c)) (aLw m c) (aLb m c) := by
  refine (dats m 0 c).arrAt_eq_of_covers 11 _ (by decide +kernel) fun t hw y => ?_
  blk_simp
  obtain ⟨z, d, rfl⟩ := eta2 (a := 1) (b := 512) y
  obtain rfl : z = 0 := Subsingleton.elim _ _
  have e : (win0_11.blk t).view.emb (ix2 0 d : S1x512.Idx) = (ix2 0 d : S1x512.Idx) := by blk_ext [idxOut t]
  rw [after0_11, e]
  exact total11 m c hf t ((flush0_11 t).mp hw) d

end Cert.ConvIdeal.Math

end
-- ==== Proof.AdaValue.lean ====
/-
  The gradients of the modulation's product and of its bias. The call stacks the devices' rows, the context's row and rows of zeros into one
  product; the reference adds two products. Over the extended reals both are the same sums.
-/
module

public import proofs.«01_k».proof.Proof.Gen.AdaBwdIdeal.Value
public import proofs.«01_k».proof.Proof.Gen.AdaBwdRefIdeal.Run
public import proofs.«01_k».proof.Proof.ConvMath
public import Idealize.ShloMosaic.Lib.Pipeline.ValueKit
public import Idealize.ShloMosaic.Lib.Pointwise

@[expose] public section

set_option maxRecDepth 16384

noncomputable section

namespace Cert.AdaMath

open Idealize.ShloMosaic Idealize.ShloMosaic.TcCoe Idealize.SL.Sem
open Cert.ConvMath

/-- `z · σ(z)`. -/
def sl (z : EReal) : EReal := z * sgm z

/-- The gradient of the modulation's product by its weight. -/
def gradW (c : FVec Ideal ⟨2, ![32, 1024]⟩ .f32) (cc : FVec Ideal ⟨2, ![1, 1024]⟩ .f32) (e x : FVec Ideal ⟨2, ![32, 1536]⟩ .f32) :
    FVec Ideal ⟨2, ![1024, 1536]⟩ .f32 := fun j =>
  ∑ k : Fin 32, sl (c (ix2 k (j 0))) * e (ix2 k (j 1)) + sl (cc (ix2 0 (j 0))) * ∑ k : Fin 32, x (ix2 k (j 1))

/-- The gradient of the bias. -/
def gradB (e x : FVec Ideal ⟨2, ![32, 6144]⟩ .f32) : FVec Ideal ⟨2, ![1, 6144]⟩ .f32 := fun j =>
  ∑ k : Fin 32, e (ix2 k (j 1)) + ∑ k : Fin 32, x (ix2 k (j 1))

/-- The chip's part of the gradient at the context's row, in the first of eight rows. -/
def gradS (w : FVec Ideal ⟨2, ![1024, 1536]⟩ .f32) (x : FVec Ideal ⟨2, ![32, 1536]⟩ .f32) : FVec Ideal ⟨2, ![8, 1024]⟩ .f32 := fun j =>
  if (j 0).val = 0 then ∑ k : Fin 1536, (∑ r : Fin 32, x (ix2 r k)) * w (ix2 (j 1) k) else 0

theorem gradS_row (w : FVec Ideal ⟨2, ![1024, 1536]⟩ .f32) (x : FVec Ideal ⟨2, ![32, 1536]⟩ .f32) (b : Fin 1024) :
    gradS w x (ix2 0 b) = ∑ k : Fin 1536, (∑ r : Fin 32, x (ix2 r k)) * w (ix2 b k) := if_pos rfl

theorem gradS_zero (w : FVec Ideal ⟨2, ![1024, 1536]⟩ .f32) (x : FVec Ideal ⟨2, ![32, 1536]⟩ .f32) (k : Fin 7) (b : Fin 1024) :
    gradS w x (ix2 k.succ b) = 0 := if_neg (Nat.succ_ne_zero _)

section Kernel

open Cert.AdaBwdIdeal Cert.AdaBwdIdeal.Gen Cert.AdaBwdIdeal.Facts₀

theorem pay3_apply (x : Vec Ideal S32x1536 .f32) (b : Fin 1536) : k0_pay3 (F := Ideal) x (ix2 0 b) = ∑ k : Fin 32, x (ix2 k b) := by
  pointwise [k0_pay3]

/-- The stacked left side. -/
def lhs (c : Vec Ideal S32x1024 .f32) (cc : Vec Ideal S1x1024 .f32) : FVec Ideal S40x1024 .f32 :=
  concatenate S40x1024 0 [⟨S32x1024, mulf c (divf (broadcast S32x1024 (Scalar.ofBits (F := Ideal) .f32 0x3F800000#32)) (addf (broadcast S32x1024 (Scalar.ofBits (F := Ideal) .f32 0x3F800000#32)) (exp (subf (broadcast S32x1024 (Scalar.ofBits (F := Ideal) .f32 0x00000000#32)) c))))⟩,
    ⟨S1x1024, mulf cc (divf (broadcast S1x1024 (Scalar.ofBits (F := Ideal) .f32 0x3F800000#32)) (addf (broadcast S1x1024 (Scalar.ofBits (F := Ideal) .f32 0x3F800000#32)) (exp (subf (broadcast S1x1024 (Scalar.ofBits (F := Ideal) .f32 0x00000000#32)) cc))))⟩,
    ⟨S7x1024, broadcast S7x1024 (Scalar.ofBits (F := Ideal) .f32 0x00000000#32)⟩] Cert.AdaBwdIdeal.Facts₀.concatenates_S32x1024_S1x1024_S7x1024_S40x1024_d0

/-- The stacked right side. -/
def rhs (x e : Vec Ideal S32x1536 .f32) : FVec Ideal S40x1536 .f32 :=
  concatenate S40x1536 0 [⟨S32x1536, e⟩, ⟨S1x1536, k0_pay3 (F := Ideal) x⟩, ⟨S7x1536, broadcast S7x1536 (Scalar.ofBits (F := Ideal) .f32 0x00000000#32)⟩]
    Cert.AdaBwdIdeal.Facts₀.concatenates_S32x1536_S1x1536_S7x1536_S40x1536_d0

theorem lhs_dev (c : Vec Ideal S32x1024 .f32) (cc : Vec Ideal S1x1024 .f32) (k : Fin 32) (i : Fin 1024) :
    lhs c cc (ix2 ⟨k.val, by have := k.isLt; omega⟩ i) = sl (c (ix2 k i)) := by
  pointwise [lhs, sl, sgm]
  rw [zero_sub]

theorem lhs_ctx (c : Vec Ideal S32x1024 .f32) (cc : Vec Ideal S1x1024 .f32) (i : Fin 1024) : lhs c cc (ix2 32 i) = sl (cc (ix2 0 i)) := by
  pointwise [lhs, sl, sgm]
  rw [zero_sub]

theorem lhs_zero (c : Vec Ideal S32x1024 .f32) (cc : Vec Ideal S1x1024 .f32) (k : Fin 7) (i : Fin 1024) :
    lhs c cc (ix2 ⟨33 + k.val, by have := k.isLt; omega⟩ i) = 0 := by
  pointwise [lhs]
  rw [dif_neg (by omega), dif_neg (by omega)]

theorem rhs_dev (x e : Vec Ideal S32x1536 .f32) (k : Fin 32) (i : Fin 1536) : rhs x e (ix2 ⟨k.val, by have := k.isLt; omega⟩ i) = e (ix2 k i) := by
  pointwise [rhs]

theorem rhs_ctx (x e : Vec Ideal S32x1536 .f32) (i : Fin 1536) : rhs x e (ix2 32 i) = ∑ k : Fin 32, x (ix2 k i) := by
  rw [← pay3_apply]
  pointwise [rhs]

theorem pay4_apply (c : Vec Ideal S32x1024 .f32) (cc : Vec Ideal S1x1024 .f32) (x e : Vec Ideal S32x1536 .f32) (i : Fin 1024) (j : Fin 1536) :
    k0_pay4 (F := Ideal) c cc x e (ix2 i j) = ∑ k : Fin 40, lhs c cc (ix2 k i) * rhs x e (ix2 k j) := by
  change matmul (F := Ideal) dot_S40x1024_S40x1536_S1024x1536_0_0_1_1_n_n (some .fp32) (lhs c cc) (rhs x e) (constant S1024x1536 .f32 0x00000000#32) (ix2 i j) = _
  generalize lhs c cc = L
  generalize rhs x e = R
  pointwise

theorem sum40 (f : Fin 40 → EReal) (h : ∀ k : Fin 7, f ⟨33 + k.val, by have := k.isLt; omega⟩ = 0) :
    ∑ k, f k = ∑ k : Fin 32, f ⟨k.val, by have := k.isLt; omega⟩ + f 32 := by
  rw [show ∑ k, f k = ∑ k : Fin 33, f ⟨k.val, by have := k.isLt; omega⟩ + ∑ k : Fin 7, f ⟨33 + k.val, by have := k.isLt; omega⟩ from
    Fin.sum_univ_add (a := 33) (b := 7) f, Finset.sum_eq_zero (fun k _ => h k), add_zero, Fin.sum_univ_castSucc]
  rfl

theorem kernelW (a0 : Vec Ideal S32x1024 .f32) (a1 : Vec Ideal S1x1024 .f32) (a2 : Vec Ideal S1024x1536 .f32) (a3 a4 : Vec Ideal S32x6144 .f32) (a5 a6 : Vec Ideal S32x1536 .f32) :
    Cert.AdaBwdIdeal.Value.G7 (F := Ideal) a0 a1 a2 a3 a4 a5 a6 = gradW a0 a1 a5 a6 := by
  funext j
  obtain ⟨a, b, rfl⟩ : ∃ a b, j = ix2 a b := ⟨j 0, j 1, eq_ix2 j⟩
  refine (pay4_apply a0 a1 a6 a5 a b).trans ?_
  rw [sum40 _ fun k => by rw [lhs_zero, zero_mul], lhs_ctx, rhs_ctx]
  refine congrArg (· + _) (Finset.sum_congr rfl fun k _ => ?_)
  rw [lhs_dev, rhs_dev]
  rfl

theorem kernelB (a0 : Vec Ideal S32x1024 .f32) (a1 : Vec Ideal S1x1024 .f32) (a2 : Vec Ideal S1024x1536 .f32) (a3 a4 : Vec Ideal S32x6144 .f32) (a5 a6 : Vec Ideal S32x1536 .f32) :
    Cert.AdaBwdIdeal.Value.G8 (F := Ideal) a0 a1 a2 a3 a4 a5 a6 = gradB a3 a4 := by
  funext j
  pointwise [k0_pay1, k0_pay5, k0_pay6, gradB]

/-- The context's row above seven rows of zeros. -/
def stack (v : FVec Ideal S1x1536 .f32) : FVec Ideal S8x1536 .f32 :=
  concatenate S8x1536 0 [⟨S1x1536, v⟩, ⟨S7x1536, broadcast S7x1536 (Scalar.ofBits (F := Ideal) .f32 0x00000000#32)⟩] Cert.AdaBwdIdeal.Facts₀.concatenates_S1x1536_S7x1536_S8x1536_d0

theorem stack_row (v : FVec Ideal S1x1536 .f32) (i : Fin 1536) : stack v (ix2 0 i) = v (ix2 0 i) := by pointwise [stack]

theorem stack_zero (v : FVec Ideal S1x1536 .f32) (k : Fin 7) (i : Fin 1536) : stack v (ix2 k.succ i) = 0 := by
  pointwise [stack]
  exact dif_neg (by simp)

theorem pay2_apply (v : FVec Ideal S1x1536 .f32) (w : Vec Ideal S1024x1536 .f32) (i : Fin 8) (j : Fin 1024) :
    k0_pay2 (F := Ideal) v w (ix2 i j) = ∑ k : Fin 1536, stack v (ix2 i k) * w (ix2 j k) := by
  change matmul (F := Ideal) (φ₂ := .f32) dot_S8x1536_S1024x1536_S8x1024_1_1_0_0_n_n (some .fp32) (stack v) w (constant S8x1024 .f32 0x00000000#32) (ix2 i j) = _
  generalize stack v = L
  pointwise

theorem kernelS (a0 : Vec Ideal S32x1024 .f32) (a1 : Vec Ideal S1x1024 .f32) (a2 : Vec Ideal S1024x1536 .f32) (a3 a4 : Vec Ideal S32x6144 .f32) (a5 a6 : Vec Ideal S32x1536 .f32) :
    Cert.AdaBwdIdeal.Value.G9 (F := Ideal) a0 a1 a2 a3 a4 a5 a6 = gradS a2 a6 := by
  funext j
  obtain ⟨a, b, rfl⟩ : ∃ a b, j = ix2 a b := ⟨j 0, j 1, eq_ix2 j⟩
  refine (pay2_apply _ a2 a b).trans ?_
  refine Fin.cases ?_ (fun k => ?_) a
  · rw [gradS_row]
    refine Finset.sum_congr rfl fun k _ => ?_
    rw [stack_row, pay3_apply]
  · rw [gradS_zero]
    refine Finset.sum_eq_zero fun i _ => ?_
    rw [stack_zero, zero_mul]

end Kernel

section Reference

open Cert.AdaBwdRefIdeal Cert.AdaBwdRefIdeal.Facts₀

/-- The column sums of the context's gradients, as the reference computes them. -/
def colRow (x : FVec Ideal S32x1536 .f32) : FVec Ideal S1x1536 .f32 :=
  broadcastInDim S1x1536 ![1] bcast_S1536_S1x1536_1 (Host.reduceAdd x (constant (F := Ideal) S_ .f32 0x00000000#32) reducesTo_S32x1536_S1536_d0 h_S_)

theorem colRow_apply (x : FVec Ideal S32x1536 .f32) (b : Fin 1536) : colRow x (ix2 0 b) = ∑ k : Fin 32, x (ix2 k b) := by
  pointwise [colRow]

def slC (z : FVec Ideal S1x1024 .f32) : FVec Ideal S1x1024 .f32 :=
  mulf z (Host.divf (broadcastInDim S1x1024 ![] bcast_S_S1x1024 (constant (F := Ideal) S_ .f32 0x3F800000#32)) (addf (broadcastInDim S1x1024 ![] bcast_S_S1x1024 (constant (F := Ideal) S_ .f32 0x3F800000#32)) (Host.exp (Host.negf z))))

theorem slC_apply (z : FVec Ideal S1x1024 .f32) (b : Fin 1024) : slC z (ix2 0 b) = sl (z (ix2 0 b)) := by
  pointwise [slC, sl, sgm]

def slX (z : FVec Ideal S32x1024 .f32) : FVec Ideal S32x1024 .f32 :=
  mulf z (Host.divf (broadcastInDim S32x1024 ![] bcast_S_S32x1024 (constant (F := Ideal) S_ .f32 0x3F800000#32)) (addf (broadcastInDim S32x1024 ![] bcast_S_S32x1024 (constant (F := Ideal) S_ .f32 0x3F800000#32)) (Host.exp (Host.negf z))))

theorem slX_apply (z : FVec Ideal S32x1024 .f32) (k : Fin 32) (b : Fin 1024) : slX z (ix2 k b) = sl (z (ix2 k b)) := by
  pointwise [slX, sl, sgm]

/-- The reference's gradient of the weight. -/
def outW (a0 : FVec Ideal S32x1024 .f32) (a1 : FVec Ideal S1x1024 .f32) (a5 a6 : FVec Ideal S32x1536 .f32) : FVec Ideal S1024x1536 .f32 :=
  addf (transpose S1024x1536 [1, 0] (Host.dotGeneral (F := Ideal) (φ₁ := .f32) (φ₂ := .f32) dot_S1x1536_S1x1024_S1536x1024_0_0_1_1_n_n none (colRow a6) (slC a1)) transposes_S1536x1024_S1024x1536_1_0)
    (transpose S1024x1536 [1, 0] (Host.dotGeneral (F := Ideal) (φ₁ := .f32) (φ₂ := .f32) dot_S32x1536_S32x1024_S1536x1024_0_0_1_1_n_n none a5 (slX a0)) transposes_S1536x1024_S1024x1536_1_0)

/-- The reference's gradient of the bias. -/
def outB (a3 a4 : FVec Ideal S32x6144 .f32) : FVec Ideal S1x6144 .f32 :=
  addf (broadcastInDim S1x6144 ![1] bcast_S6144_S1x6144_1 (Host.reduceAdd a4 (constant (F := Ideal) S_ .f32 0x00000000#32) reducesTo_S32x6144_S6144_d0 h_S_)) (broadcastInDim S1x6144 ![1] bcast_S6144_S1x6144_1 (Host.reduceAdd a3 (constant (F := Ideal) S_ .f32 0x00000000#32) reducesTo_S32x6144_S6144_d0 h_S_))

/-- The reference's gradient at the context's row, padded to eight rows. -/
def outS (a2 : FVec Ideal S1024x1536 .f32) (a6 : FVec Ideal S32x1536 .f32) : FVec Ideal S8x1024 .f32 :=
  pad S8x1024 ![0, 0] ![7, 0] ![0, 0] (Host.dotGeneral (F := Ideal) (φ₁ := .f32) (φ₂ := .f32) dot_S1x1536_S1024x1536_S1x1024_1_1_0_0_n_n none (colRow a6) a2) (sitofp (F := Ideal) .f32 (constantI S_ 32 0#32)) pads_S1x1024_S8x1024_070_000 h_S_

theorem referenceW (a0 : FVec Ideal S32x1024 .f32) (a1 : FVec Ideal S1x1024 .f32) (a5 a6 : FVec Ideal S32x1536 .f32) : outW a0 a1 a5 a6 = gradW a0 a1 a5 a6 := by
  funext j
  obtain ⟨a, b, rfl⟩ : ∃ a b, j = ix2 a b := ⟨j 0, j 1, eq_ix2 j⟩
  have h : outW a0 a1 a5 a6 (ix2 a b) = colRow a6 (ix2 0 b) * slC a1 (ix2 0 a) + ∑ k : Fin 32, a5 (ix2 k b) * slX a0 (ix2 k a) := by
    unfold outW
    generalize colRow a6 = C
    generalize slC a1 = S
    generalize slX a0 = X
    pointwise
    rw [Fin.sum_univ_one]
  rw [h, colRow_apply, slC_apply, add_comm, mul_comm (∑ k : Fin 32, a6 (ix2 k b))]
  refine congrArg (· + _) (Finset.sum_congr rfl fun k _ => ?_)
  rw [slX_apply, mul_comm]
  rfl

theorem referenceB (a3 a4 : FVec Ideal S32x6144 .f32) : outB a3 a4 = gradB a3 a4 := by
  funext j
  obtain ⟨a, b, rfl⟩ : ∃ a b, j = ix2 a b := ⟨j 0, j 1, eq_ix2 j⟩
  refine Eq.trans (b := ∑ k : Fin 32, a4 (ix2 k b) + ∑ k : Fin 32, a3 (ix2 k b)) ?_ (add_comm _ _)
  pointwise [outB]

theorem referenceS (a2 : FVec Ideal S1024x1536 .f32) (a6 : FVec Ideal S32x1536 .f32) : outS a2 a6 = gradS a2 a6 := by
  funext j
  obtain ⟨a, b, rfl⟩ : ∃ a b, j = ix2 a b := ⟨j 0, j 1, eq_ix2 j⟩
  refine Fin.cases ?_ (fun k => ?_) a
  · have h : outS a2 a6 (ix2 0 b) = ∑ k : Fin 1536, colRow a6 (ix2 0 k) * a2 (ix2 b k) := by
      unfold outS
      generalize colRow a6 = C
      pointwise
    rw [h, gradS_row]
    refine Finset.sum_congr rfl fun k _ => ?_
    rw [colRow_apply]
  · have h : outS a2 a6 (ix2 k.succ b) = 0 := by
      unfold outS
      generalize colRow a6 = C
      pointwise
      exact (dif_neg (by simp)).trans (by simp [FloatOps.sitofp])
    rw [h, gradS_zero]

end Reference

end Cert.AdaMath

end
-- ==== Proof.CctxValue.lean ====
/-
  The gradient of the context's conditioning vector: the sum of the chips' parts times the derivative of `z · σ(z)`, in the call's form and
  in the reference's. The two forms agree when the parts are finite.
-/
module

public import proofs.«01_k».proof.Pre_parts_finite
public import proofs.«01_k».proof.Proof.Gen.CctxIdeal.Value
public import proofs.«01_k».proof.Proof.Gen.CctxRefIdeal.Run
public import proofs.«01_k».proof.Proof.ConvMath
public import Idealize.ShloMosaic.Lib.Pipeline.ValueKit
public import Idealize.ShloMosaic.Lib.Pointwise

@[expose] public section

set_option maxRecDepth 16384

noncomputable section

namespace Cert.CctxMath

open Idealize.ShloMosaic Idealize.ShloMosaic.TcCoe Idealize.SL.Sem
open Cert.ConvMath

/-- The gradient: the sum of the parts' first rows, times the derivative. -/
def grad (x : FVec Ideal ⟨3, ![4, 8, 1024]⟩ .f32) (z : FVec Ideal ⟨2, ![1, 1024]⟩ .f32) : FVec Ideal ⟨2, ![1, 1024]⟩ .f32 := fun j =>
  (∑ p : Fin 4, x (ix3 p 0 (j 1))) * (sgm (z (ix2 0 (j 1))) * (1 + z (ix2 0 (j 1)) * (1 - sgm (z (ix2 0 (j 1))))))

/-- A load of one part's first row reads that row. -/
theorem part (x : (⟨3, ![4, 8, 1024]⟩ : Shape).Idx → EReal) (p : Fin 4)
    (inb : ∀ a, (![p.val, 0, 0] : Fin 3 → ℕ) a + (![1, 1, 1024] : Fin 3 → ℕ) a ≤ (⟨3, ![4, 8, 1024]⟩ : Shape).size a) (b : Fin 1024) :
    View.ld (Val := fun _ => EReal) (e' := .f32) x (Rect.unit (s := ⟨3, ![4, 8, 1024]⟩) ![p.val, 0, 0] ![1, 1, 1024] inb) (ix3 0 0 b) = x (ix3 p 0 b) :=
  View.ld_unit_apply_of _ _ _ _ _ _ fun k => by
    match k with
    | ⟨0, _⟩ => rfl
    | ⟨1, _⟩ => rfl
    | ⟨2, _⟩ => exact (Nat.zero_add _).symm

theorem kernel (x : Vec Ideal Cert.CctxIdeal.S4x8x1024 .f32) (z : Vec Ideal Cert.CctxIdeal.S1x1024 .f32) : Cert.CctxIdeal.Value.G2 x z = grad x z := by
  funext j
  obtain ⟨a, b, rfl⟩ : ∃ a b, j = ix2 a b := ⟨j 0, j 1, eq_ix2 j⟩
  obtain rfl : a = 0 := Subsingleton.elim _ _
  refine Eq.trans (b := (View.ld x Cert.CctxIdeal.Gen.r0_0 (ix3 0 0 b) + View.ld x Cert.CctxIdeal.Gen.r0_1 (ix3 0 0 b)
    + View.ld x Cert.CctxIdeal.Gen.r0_2 (ix3 0 0 b) + View.ld x Cert.CctxIdeal.Gen.r0_3 (ix3 0 0 b))
      * (sgm (z (ix2 0 b)) * (1 + z (ix2 0 b) * (1 - sgm (z (ix2 0 b)))))) ?_ ?_
  · pointwise [Cert.CctxIdeal.Gen.k0_pay1, sgm]
    rw [zero_sub]
  · rw [grad, Fin.sum_univ_four]
    exact congrArg (· * _) (congrArg₂ (· + ·) (congrArg₂ (· + ·) (congrArg₂ (· + ·) (part x 0 _ _) (part x 1 _ _)) (part x 2 _ _)) (part x 3 _ _))

section Reference

open Cert.CctxRefIdeal Cert.CctxRefIdeal.Facts₀

/-- The sum of the parts' first rows, as the reference computes it. -/
def tot (x : FVec Ideal S4x8x1024 .f32) : FVec Ideal S1x1024 .f32 :=
  Host.reduceAdd (extractStridedSlice S4x1x1024 ![0, 0, 0] x slices_S4x8x1024_S4x1x1024_0_0_0) (constant (F := Ideal) S_ .f32 0x00000000#32) reducesTo_S4x1x1024_S1x1024_d0 h_S_

/-- The logistic function, as the reference computes it. -/
def sg (z : FVec Ideal S1x1024 .f32) : FVec Ideal S1x1024 .f32 :=
  Host.divf (broadcastInDim S1x1024 ![] bcast_S_S1x1024 (constant (F := Ideal) S_ .f32 0x3F800000#32)) (addf (broadcastInDim S1x1024 ![] bcast_S_S1x1024 (constant (F := Ideal) S_ .f32 0x3F800000#32)) (Host.exp (Host.negf z)))

/-- The reference's result. -/
def out (x : FVec Ideal S4x8x1024 .f32) (z : FVec Ideal S1x1024 .f32) : FVec Ideal S1x1024 .f32 :=
  addf (mulf (tot x) (sg z)) (mulf (mulf z (tot x)) (mulf (sg z) (subf (broadcastInDim S1x1024 ![] bcast_S_S1x1024 (constant (F := Ideal) S_ .f32 0x3F800000#32)) (sg z))))

theorem tot_apply (x : FVec Ideal S4x8x1024 .f32) (b : Fin 1024) : tot x (ix2 0 b) = ∑ p : Fin 4, x (ix3 p 0 b) := by
  pointwise [tot]

theorem sg_apply (z : FVec Ideal S1x1024 .f32) (b : Fin 1024) : sg z (ix2 0 b) = sgm (z (ix2 0 b)) := by
  pointwise [sg, sgm]

theorem out_apply (x : FVec Ideal S4x8x1024 .f32) (z : FVec Ideal S1x1024 .f32) (b : Fin 1024) :
    out x z (ix2 0 b) = tot x (ix2 0 b) * sg z (ix2 0 b) + z (ix2 0 b) * tot x (ix2 0 b) * (sg z (ix2 0 b) * (1 - sg z (ix2 0 b))) := by
  pointwise [out]

end Reference

/-- What the test reads at one value: its magnitude lies under the top element. -/
def isFinite (x : EReal) : BitVec 1 := BitVec.ofBool (decide (FloatOps.absf (F := Ideal) (φ := .f32) x < Ideal.ofBits .f32 0x7F800000#32))

theorem isFinite_real (x : EReal) (h : isFinite x = 1#1) : ∃ a : ℝ, x = (a : EReal) := by
  unfold isFinite at h
  rw [show Ideal.ofBits .f32 0x7F800000#32 = (⊤ : EReal) by simp [Ideal.ofBits, Ideal.ieee]] at h
  have hx : FloatOps.absf (F := Ideal) (φ := .f32) x < (⊤ : EReal) := by
    by_contra hn
    rw [decide_eq_false hn] at h
    exact absurd h (by decide)
  induction x with
  | bot => exact absurd hx (by simp [FloatOps.absf])
  | top => exact absurd hx (by simp [FloatOps.absf])
  | coe a => exact ⟨a, rfl⟩

section Pre

variable [Cert.Pre_parts_finite.Facts]

theorem fn_apply (x : FVec Ideal Cert.Pre_parts_finite.S4x8x1024 .f32) (z : FVec Ideal Cert.Pre_parts_finite.S1x1024 .f32) (p : Fin 4) (b : Fin 1024) :
    Cert.Pre_parts_finite.fn (F := Ideal) x z (ix3 p 0 b) = isFinite (x (ix3 p 0 b)) := by
  unfold isFinite
  pointwise [Cert.Pre_parts_finite.fn]

theorem finite (x : FVec Ideal Cert.Pre_parts_finite.S4x8x1024 .f32) (z : FVec Ideal Cert.Pre_parts_finite.S1x1024 .f32)
    (h : Cert.Pre_parts_finite.fn (F := Ideal) x z = fun _ => 1#1) (p : Fin 4) (b : Fin 1024) : ∃ a : ℝ, x (ix3 p 0 b) = (a : EReal) :=
  isFinite_real _ ((fn_apply x z p b).symm.trans (congrFun h (ix3 p 0 b)))

end Pre

theorem reference (x : FVec Ideal Cert.CctxRefIdeal.S4x8x1024 .f32) (z : FVec Ideal Cert.CctxRefIdeal.S1x1024 .f32)
    (h : ∀ (p : Fin 4) (b : Fin 1024), ∃ a : ℝ, x (ix3 p 0 b) = (a : EReal)) : out x z = grad x z := by
  funext j
  obtain ⟨a, b, rfl⟩ : ∃ a b, j = ix2 a b := ⟨j 0, j 1, eq_ix2 j⟩
  obtain rfl : a = 0 := Subsingleton.elim _ _
  choose f hf using h
  have ht : ∑ p : Fin 4, x (ix3 p 0 b) = ((∑ p : Fin 4, f p b : ℝ) : EReal) := by
    rw [Finset.sum_congr rfl fun p _ => hf p b, coe_sum]
  rw [out_apply, tot_apply, sg_apply, ht]
  refine (silu_grad (z (ix2 0 b)) _ rfl).1.trans ?_
  rw [← ht]
  rfl

end Cert.CctxMath

end
-- ==== Proof.ChipSums.lean ====
/-
  The sums of the gradients over the four chips: the call adds the four parts one after the other, the reference sums over the first axis.
-/
module

public import proofs.«01_k».proof.Proof.Gen.SumSmallIdeal.Value
public import proofs.«01_k».proof.Proof.Gen.SumSmallRefIdeal.Run
public import proofs.«01_k».proof.Proof.Gen.SumInIdeal.Value
public import proofs.«01_k».proof.Proof.Gen.SumInRefIdeal.Run
public import Idealize.ShloMosaic.Lib.Pipeline.ValueKit
public import Idealize.ShloMosaic.Lib.Pointwise

@[expose] public section

set_option maxRecDepth 16384

noncomputable section

namespace Cert.ChipSums

open Idealize.ShloMosaic Idealize.ShloMosaic.TcCoe Idealize.SL.Sem

/-- The sum of four parts. -/
def total {r n : ℕ} (x : FVec Ideal ⟨3, ![4, r, n]⟩ .f32) : FVec Ideal ⟨2, ![r, n]⟩ .f32 := fun j => ∑ p : Fin 4, x (ix3 p (j 0) (j 1))

/-- A load of one part reads that part. -/
theorem part {q r n : ℕ} (x : (⟨3, ![q, r, n]⟩ : Shape).Idx → EReal) (p : Fin q)
    (inb : ∀ a, (![p.val, 0, 0] : Fin 3 → ℕ) a + (![1, r, n] : Fin 3 → ℕ) a ≤ (⟨3, ![q, r, n]⟩ : Shape).size a) (a : Fin r) (b : Fin n) :
    View.ld (Val := fun _ => EReal) (e' := .f32) x (Rect.unit (s := ⟨3, ![q, r, n]⟩) ![p.val, 0, 0] ![1, r, n] inb) (ix3 0 a b) = x (ix3 p a b) :=
  View.ld_unit_apply_of _ _ _ _ _ _ fun k => by
    match k with
    | ⟨0, _⟩ => rfl
    | ⟨1, _⟩ => exact (Nat.zero_add _).symm
    | ⟨2, _⟩ => exact (Nat.zero_add _).symm

theorem small_kernel (x : Vec Ideal Cert.SumSmallIdeal.S4x480x512 .f32) : Cert.SumSmallIdeal.Value.G1 x = total x := by
  funext j
  refine Eq.trans (b := View.ld x Cert.SumSmallIdeal.Gen.r0_0 (ix3 0 (j 0) (j 1)) + View.ld x Cert.SumSmallIdeal.Gen.r0_1 (ix3 0 (j 0) (j 1))
    + View.ld x Cert.SumSmallIdeal.Gen.r0_2 (ix3 0 (j 0) (j 1)) + View.ld x Cert.SumSmallIdeal.Gen.r0_3 (ix3 0 (j 0) (j 1))) ?_ ?_
  · pointwise [Cert.SumSmallIdeal.Gen.k0_pay1]
  · rw [total, Fin.sum_univ_four]
    exact congrArg₂ (· + ·) (congrArg₂ (· + ·) (congrArg₂ (· + ·) (part x 0 _ _ _) (part x 1 _ _ _)) (part x 2 _ _ _)) (part x 3 _ _ _)

theorem small_reference (x : FVec Ideal Cert.SumSmallRefIdeal.S4x480x512 .f32) :
    Host.reduceAdd x (constant (F := Ideal) Cert.SumSmallRefIdeal.S_ .f32 0x00000000#32) Cert.SumSmallRefIdeal.Facts₀.reducesTo_S4x480x512_S480x512_d0 Cert.SumSmallRefIdeal.Facts₀.h_S_
      = total x := by
  funext j
  pointwise [total]

theorem in_kernel (x : Vec Ideal Cert.SumInIdeal.S4x512x744 .f32) : Cert.SumInIdeal.Value.G1 x = total x := by
  funext j
  refine Eq.trans (b := View.ld x Cert.SumInIdeal.Gen.r0_0 (ix3 0 (j 0) (j 1)) + View.ld x Cert.SumInIdeal.Gen.r0_1 (ix3 0 (j 0) (j 1))
    + View.ld x Cert.SumInIdeal.Gen.r0_2 (ix3 0 (j 0) (j 1)) + View.ld x Cert.SumInIdeal.Gen.r0_3 (ix3 0 (j 0) (j 1))) ?_ ?_
  · pointwise [Cert.SumInIdeal.Gen.k0_pay1]
  · rw [total, Fin.sum_univ_four]
    exact congrArg₂ (· + ·) (congrArg₂ (· + ·) (congrArg₂ (· + ·) (part x 0 _ _ _) (part x 1 _ _ _)) (part x 2 _ _ _)) (part x 3 _ _ _)

theorem in_reference (x : FVec Ideal Cert.SumInRefIdeal.S4x512x744 .f32) :
    Host.reduceAdd x (constant (F := Ideal) Cert.SumInRefIdeal.S_ .f32 0x00000000#32) Cert.SumInRefIdeal.Facts₀.reducesTo_S4x512x744_S512x744_d0 Cert.SumInRefIdeal.Facts₀.h_S_
      = total x := by
  funext j
  pointwise [total]

end Cert.ChipSums

end
-- ==== Proof.lean ====
/-
  The claims about the calls of the training step, put together from the modules beside this one.
-/
module

public import proofs.«01_k».proof.Proof.Gen.Pre_conv_finite
public import proofs.«01_k».proof.Proof.Gen.Pre_parts_finite
public import proofs.«01_k».proof.Proof.Adamw
public import proofs.«01_k».proof.Proof.Gen.Dw1.Frame
public import proofs.«01_k».proof.Proof.Dw1Value
public import proofs.«01_k».proof.Proof.Gen.Dw1Ideal.Value
public import proofs.«01_k».proof.Proof.Gen.Dw1RefIdeal.Run
public import proofs.«01_k».proof.Proof.Gen.Dw2.Frame
public import proofs.«01_k».proof.Proof.Dw2Value
public import proofs.«01_k».proof.Proof.Gen.Dw2Ideal.Value
public import proofs.«01_k».proof.Proof.Gen.Dw2RefIdeal.Run
public import proofs.«01_k».proof.Proof.Gen.DwRw.Frame
public import proofs.«01_k».proof.Proof.DwRwValue
public import proofs.«01_k».proof.Proof.Gen.DwRwIdeal.Value
public import proofs.«01_k».proof.Proof.Gen.DwRwRefIdeal.Run
public import proofs.«01_k».proof.Proof.Gen.DwCv.Frame
public import proofs.«01_k».proof.Proof.DwCvValue
public import proofs.«01_k».proof.Proof.Gen.DwCvIdeal.Value
public import proofs.«01_k».proof.Proof.Gen.DwCvRefIdeal.Run
public import proofs.«01_k».proof.Proof.Gen.DwOut.Frame
public import proofs.«01_k».proof.Proof.DwOutValue
public import proofs.«01_k».proof.Proof.Gen.DwOutIdeal.Value
public import proofs.«01_k».proof.Proof.Gen.DwOutRefIdeal.Run
public import proofs.«01_k».proof.Proof.Gen.Mlp.Frame
public import proofs.«01_k».proof.Proof.MlpValue
public import proofs.«01_k».proof.Proof.Gen.MlpIdeal.Value
public import proofs.«01_k».proof.Proof.Gen.MlpRefIdeal.Run
public import proofs.«01_k».proof.Proof.Gen.MixPost.Frame
public import proofs.«01_k».proof.Proof.MixPostValue
public import proofs.«01_k».proof.Proof.Gen.MixPostIdeal.Value
public import proofs.«01_k».proof.Proof.Gen.MixPostRefIdeal.Run
public import proofs.«01_k».proof.Proof.Gen.MixIn.Frame
public import proofs.«01_k».proof.Proof.MixInValue
public import proofs.«01_k».proof.Proof.Gen.MixInIdeal.Value
public import proofs.«01_k».proof.Proof.Gen.MixInRefIdeal.Run
public import proofs.«01_k».proof.Proof.Gen.Conv.Frame
public import proofs.«01_k».proof.Proof.ConvFinite
public import proofs.«01_k».proof.Proof.ConvValue
public import proofs.«01_k».proof.Proof.Gen.ConvIdeal.Value
public import proofs.«01_k».proof.Proof.Gen.ConvRefIdeal.Run
public import proofs.«01_k».proof.Proof.Gen.AdamRow.Frame
public import proofs.«01_k».proof.Proof.Gen.AdamRowIdeal.Value
public import proofs.«01_k».proof.Proof.Gen.AdamRowRefIdeal.Run
public import proofs.«01_k».proof.Proof.Gen.AdamAdaB.Frame
public import proofs.«01_k».proof.Proof.Gen.AdamAdaBIdeal.Value
public import proofs.«01_k».proof.Proof.Gen.AdamAdaBRefIdeal.Run
public import proofs.«01_k».proof.Proof.Gen.AdamShift.Frame
public import proofs.«01_k».proof.Proof.Gen.AdamShiftIdeal.Value
public import proofs.«01_k».proof.Proof.Gen.AdamShiftRefIdeal.Run
public import proofs.«01_k».proof.Proof.Gen.AdamHalf.Frame
public import proofs.«01_k».proof.Proof.Gen.AdamHalfIdeal.Value
public import proofs.«01_k».proof.Proof.Gen.AdamHalfRefIdeal.Run
public import proofs.«01_k».proof.Proof.Gen.AdamAdaW.Frame
public import proofs.«01_k».proof.Proof.Gen.AdamAdaWIdeal.Value
public import proofs.«01_k».proof.Proof.Gen.AdamAdaWRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamLane.Frame
public import proofs.«01_k».proof.Proof.Gen.AdamLaneIdeal.Value
public import proofs.«01_k».proof.Proof.Gen.AdamLaneRefIdeal.Run
public import proofs.«01_k».proof.Proof.Gen.AdamLora.Frame
public import proofs.«01_k».proof.Proof.Gen.AdamLoraIdeal.Value
public import proofs.«01_k».proof.Proof.Gen.AdamLoraRefIdeal.Run
public import proofs.«01_k».proof.Proof.Gen.AdamRk.Frame
public import proofs.«01_k».proof.Proof.Gen.AdamRkIdeal.Value
public import proofs.«01_k».proof.Proof.Gen.AdamRkRefIdeal.Run
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamMlp.Frame
public import proofs.«01_k».proof.Proof.Gen.AdamMlpIdeal.Value
public import proofs.«01_k».proof.Proof.Gen.AdamMlpRefIdeal.Run
public import proofs.«01_k».proof.Proof.Gen.AdaBwd.Frame
public import proofs.«01_k».proof.Proof.AdaValue
public import proofs.«01_k».proof.Proof.Gen.AdaBwdIdeal.Value
public import proofs.«01_k».proof.Proof.Gen.AdaBwdRefIdeal.Run
public import proofs.«01_k».proof.Proof.Gen.Cctx.Frame
public import proofs.«01_k».proof.Proof.CctxValue
public import proofs.«01_k».proof.Proof.Gen.CctxIdeal.Value
public import proofs.«01_k».proof.Proof.Gen.CctxRefIdeal.Run
public import proofs.«01_k».proof.Proof.Gen.SumSmall.Frame
public import proofs.«01_k».proof.Proof.ChipSums
public import proofs.«01_k».proof.Proof.Gen.SumSmallIdeal.Value
public import proofs.«01_k».proof.Proof.Gen.SumSmallRefIdeal.Run
public import proofs.«01_k».proof.Proof.Gen.SumIn.Frame
public import proofs.«01_k».proof.Proof.Gen.SumInIdeal.Value
public import proofs.«01_k».proof.Proof.Gen.SumInRefIdeal.Run
public import proofs.«01_k».proof.Defs
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! ## Dw1 -/

theorem frame_Dw1 : Cert.quiescent_Dw1 := fun m ρ _ => Cert.Dw1.Gen.frame m ρ

theorem frame_Dw1Ideal : Cert.quiescent_Dw1Ideal := fun m ρ _ => Cert.Dw1Ideal.Gen.frame m ρ

theorem frame_Dw1RefIdeal : Cert.quiescent_Dw1RefIdeal := fun m ρ _ =>
  (θ_run (Cert.Dw1RefIdeal.defs (F := Ideal)) _ _).mono (fun r h => ⟨fun c => (h c).2, sem_eq_zero_of_no_sems (by decide) _⟩)
    (Cert.Dw1RefIdeal.Value.run m ρ)

theorem value_Dw1 : Cert.algebraic_Dw1Ideal_Dw1RefIdeal := by
  intro m ρ m' ρ' _ hagree
  refine ⟨fun c => Cert.Dw1Ideal.Math.product (m ((c.tc : Thread Cert.Dw1Ideal.nD Cert.Dw1Ideal.τ).loc Cert.Dw1Ideal.main_arg0)) (m ((c.tc : Thread Cert.Dw1Ideal.nD Cert.Dw1Ideal.τ).loc Cert.Dw1Ideal.main_arg1)), ?_, ?_⟩
  · exact (θ_run (Cert.Dw1Ideal.defs (F := Ideal)) _ _).mono
      (fun r h c => ⟨((h c).1).trans (Cert.Dw1Ideal.Math.final m c), (h c).2⟩) (Cert.Dw1Ideal.Value.run_blocks m ρ)
  · refine (θ_run (Cert.Dw1RefIdeal.defs (F := Ideal)) _ _).mono (fun r h c => ⟨?_, (h c).2⟩) (Cert.Dw1RefIdeal.Value.run m' ρ')
    rw [(h c).1, (hagree c).1, (hagree c).2]

/-! ## Dw2 -/

theorem frame_Dw2 : Cert.quiescent_Dw2 := fun m ρ _ => Cert.Dw2.Gen.frame m ρ

theorem frame_Dw2Ideal : Cert.quiescent_Dw2Ideal := fun m ρ _ => Cert.Dw2Ideal.Gen.frame m ρ

theorem frame_Dw2RefIdeal : Cert.quiescent_Dw2RefIdeal := fun m ρ _ =>
  (θ_run (Cert.Dw2RefIdeal.defs (F := Ideal)) _ _).mono (fun r h => ⟨fun c => (h c).2, sem_eq_zero_of_no_sems (by decide) _⟩)
    (Cert.Dw2RefIdeal.Value.run m ρ)

theorem value_Dw2 : Cert.algebraic_Dw2Ideal_Dw2RefIdeal := by
  intro m ρ m' ρ' _ hagree
  refine ⟨fun c => Cert.Dw2Ideal.Math.product (m ((c.tc : Thread Cert.Dw2Ideal.nD Cert.Dw2Ideal.τ).loc Cert.Dw2Ideal.main_arg0)) (m ((c.tc : Thread Cert.Dw2Ideal.nD Cert.Dw2Ideal.τ).loc Cert.Dw2Ideal.main_arg1)), ?_, ?_⟩
  · exact (θ_run (Cert.Dw2Ideal.defs (F := Ideal)) _ _).mono
      (fun r h c => ⟨((h c).1).trans (Cert.Dw2Ideal.Math.final m c), (h c).2⟩) (Cert.Dw2Ideal.Value.run_blocks m ρ)
  · refine (θ_run (Cert.Dw2RefIdeal.defs (F := Ideal)) _ _).mono (fun r h c => ⟨?_, (h c).2⟩) (Cert.Dw2RefIdeal.Value.run m' ρ')
    rw [(h c).1, (hagree c).1, (hagree c).2]

/-! ## DwRw -/

theorem frame_DwRw : Cert.quiescent_DwRw := fun m ρ _ => Cert.DwRw.Gen.frame m ρ

theorem frame_DwRwIdeal : Cert.quiescent_DwRwIdeal := fun m ρ _ => Cert.DwRwIdeal.Gen.frame m ρ

theorem frame_DwRwRefIdeal : Cert.quiescent_DwRwRefIdeal := fun m ρ _ =>
  (θ_run (Cert.DwRwRefIdeal.defs (F := Ideal)) _ _).mono (fun r h => ⟨fun c => (h c).2, sem_eq_zero_of_no_sems (by decide) _⟩)
    (Cert.DwRwRefIdeal.Value.run m ρ)

theorem value_DwRw : Cert.algebraic_DwRwIdeal_DwRwRefIdeal := by
  intro m ρ m' ρ' _ hagree
  refine ⟨fun c => Cert.DwRwIdeal.Math.product (m ((c.tc : Thread Cert.DwRwIdeal.nD Cert.DwRwIdeal.τ).loc Cert.DwRwIdeal.main_arg0)) (m ((c.tc : Thread Cert.DwRwIdeal.nD Cert.DwRwIdeal.τ).loc Cert.DwRwIdeal.main_arg1)), ?_, ?_⟩
  · exact (θ_run (Cert.DwRwIdeal.defs (F := Ideal)) _ _).mono
      (fun r h c => ⟨((h c).1).trans (Cert.DwRwIdeal.Math.final m c), (h c).2⟩) (Cert.DwRwIdeal.Value.run_blocks m ρ)
  · refine (θ_run (Cert.DwRwRefIdeal.defs (F := Ideal)) _ _).mono (fun r h c => ⟨?_, (h c).2⟩) (Cert.DwRwRefIdeal.Value.run m' ρ')
    rw [(h c).1, (hagree c).1, (hagree c).2]

/-! ## DwCv -/

theorem frame_DwCv : Cert.quiescent_DwCv := fun m ρ _ => Cert.DwCv.Gen.frame m ρ

theorem frame_DwCvIdeal : Cert.quiescent_DwCvIdeal := fun m ρ _ => Cert.DwCvIdeal.Gen.frame m ρ

theorem frame_DwCvRefIdeal : Cert.quiescent_DwCvRefIdeal := fun m ρ _ =>
  (θ_run (Cert.DwCvRefIdeal.defs (F := Ideal)) _ _).mono (fun r h => ⟨fun c => (h c).2, sem_eq_zero_of_no_sems (by decide) _⟩)
    (Cert.DwCvRefIdeal.Value.run m ρ)

theorem value_DwCv : Cert.algebraic_DwCvIdeal_DwCvRefIdeal := by
  intro m ρ m' ρ' _ hagree
  refine ⟨fun c => Cert.DwCvIdeal.Math.product (m ((c.tc : Thread Cert.DwCvIdeal.nD Cert.DwCvIdeal.τ).loc Cert.DwCvIdeal.main_arg0)) (m ((c.tc : Thread Cert.DwCvIdeal.nD Cert.DwCvIdeal.τ).loc Cert.DwCvIdeal.main_arg1)), ?_, ?_⟩
  · exact (θ_run (Cert.DwCvIdeal.defs (F := Ideal)) _ _).mono
      (fun r h c => ⟨((h c).1).trans (Cert.DwCvIdeal.Math.final m c), (h c).2⟩) (Cert.DwCvIdeal.Value.run_blocks m ρ)
  · refine (θ_run (Cert.DwCvRefIdeal.defs (F := Ideal)) _ _).mono (fun r h c => ⟨?_, (h c).2⟩) (Cert.DwCvRefIdeal.Value.run m' ρ')
    rw [(h c).1, (hagree c).1, (hagree c).2]

/-! ## DwOut -/

theorem frame_DwOut : Cert.quiescent_DwOut := fun m ρ _ => Cert.DwOut.Gen.frame m ρ

theorem frame_DwOutIdeal : Cert.quiescent_DwOutIdeal := fun m ρ _ => Cert.DwOutIdeal.Gen.frame m ρ

theorem frame_DwOutRefIdeal : Cert.quiescent_DwOutRefIdeal := fun m ρ _ =>
  (θ_run (Cert.DwOutRefIdeal.defs (F := Ideal)) _ _).mono (fun r h => ⟨fun c => (h c).2, sem_eq_zero_of_no_sems (by decide) _⟩)
    (Cert.DwOutRefIdeal.Value.run m ρ)

theorem value_DwOut : Cert.algebraic_DwOutIdeal_DwOutRefIdeal := by
  intro m ρ m' ρ' _ hagree
  refine ⟨fun c => Cert.DwOutIdeal.Math.product (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)), ?_, ?_⟩
  · exact (θ_run (Cert.DwOutIdeal.defs (F := Ideal)) _ _).mono
      (fun r h c => ⟨((h c).1).trans (Cert.DwOutIdeal.Math.final m c), (h c).2⟩) (Cert.DwOutIdeal.Value.run_blocks m ρ)
  · refine (θ_run (Cert.DwOutRefIdeal.defs (F := Ideal)) _ _).mono (fun r h c => ⟨?_, (h c).2⟩) (Cert.DwOutRefIdeal.Value.run m' ρ')
    rw [(h c).1, (hagree c).1, (hagree c).2]

/-! ## Mlp -/

theorem frame_Mlp : Cert.quiescent_Mlp := fun m ρ _ => Cert.Mlp.Gen.frame m ρ

theorem frame_MlpIdeal : Cert.quiescent_MlpIdeal := fun m ρ _ => Cert.MlpIdeal.Gen.frame m ρ

theorem frame_MlpRefIdeal : Cert.quiescent_MlpRefIdeal := fun m ρ _ =>
  (θ_run (Cert.MlpRefIdeal.defs (F := Ideal)) _ _).mono (fun r h => ⟨fun c => (h c).2.2.2.2.2, sem_eq_zero_of_no_sems (by decide) _⟩)
    (Cert.MlpRefIdeal.Math.run' m ρ)

theorem value_Mlp : Cert.algebraic_MlpIdeal_MlpRefIdeal := by
  intro m ρ m' ρ' _ hagree
  refine ⟨fun c => Cert.MlpRefIdeal.Math.outF (m ((c.tc : Thread Cert.MlpIdeal.nD Cert.MlpIdeal.τ).loc Cert.MlpIdeal.main_arg1)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)), fun c => Cert.MlpRefIdeal.Math.outDa (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)), fun c => Cert.MlpRefIdeal.Math.outDx (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)), fun c => Cert.MlpRefIdeal.Math.outDmod (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)), fun c => Cert.MlpRefIdeal.Math.outDg (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)), ?_, ?_⟩
  · exact (θ_run (Cert.MlpIdeal.defs (F := Ideal)) _ _).mono
      (fun r h c => ⟨((h c).1).trans (Cert.MlpIdeal.Math.final8 m c), ((h c).2.1).trans (Cert.MlpIdeal.Math.final9 m c), ((h c).2.2.1).trans (Cert.MlpIdeal.Math.final10 m c), ((h c).2.2.2.1).trans (Cert.MlpIdeal.Math.final11 m c), ((h c).2.2.2.2.1).trans (Cert.MlpIdeal.Math.final12 m c), (h c).2.2.2.2.2⟩) (Cert.MlpIdeal.Value.run_blocks m ρ)
  · refine (θ_run (Cert.MlpRefIdeal.defs (F := Ideal)) _ _).mono (fun r h c => ⟨?_, ?_, ?_, ?_, ?_, (h c).2.2.2.2.2⟩) (Cert.MlpRefIdeal.Math.run' m' ρ')
    · rw [(h c).1, (hagree c).2.1, (hagree c).2.2.2.1, (hagree c).2.2.2.2.1, (hagree c).2.2.2.2.2.1]
    · rw [(h c).2.1, (hagree c).1, (hagree c).2.1, (hagree c).2.2.2.1, (hagree c).2.2.2.2.1, (hagree c).2.2.2.2.2.1, (hagree c).2.2.2.2.2.2]
    · rw [(h c).2.2.1, (hagree c).1, (hagree c).2.1, (hagree c).2.2.1, (hagree c).2.2.2.1, (hagree c).2.2.2.2.1, (hagree c).2.2.2.2.2.1, (hagree c).2.2.2.2.2.2]
    · rw [(h c).2.2.2.1, (hagree c).1, (hagree c).2.1, (hagree c).2.2.2.1, (hagree c).2.2.2.2.1, (hagree c).2.2.2.2.2.1, (hagree c).2.2.2.2.2.2]
    · rw [(h c).2.2.2.2.1, (hagree c).1, (hagree c).2.1, (hagree c).2.2.2.1, (hagree c).2.2.2.2.1, (hagree c).2.2.2.2.2.1, (hagree c).2.2.2.2.2.2]

/-! ## MixPost -/

theorem frame_MixPost : Cert.quiescent_MixPost := fun m ρ _ => Cert.MixPost.Gen.frame m ρ

theorem frame_MixPostIdeal : Cert.quiescent_MixPostIdeal := fun m ρ _ => Cert.MixPostIdeal.Gen.frame m ρ

theorem frame_MixPostRefIdeal : Cert.quiescent_MixPostRefIdeal := fun m ρ _ =>
  (θ_run (Cert.MixPostRefIdeal.defs (F := Ideal)) _ _).mono (fun r h => ⟨fun c => (h c).2.2.2.2, sem_eq_zero_of_no_sems (by decide) _⟩)
    (Cert.MixPostRefIdeal.Math.run' m ρ)

theorem value_MixPost : Cert.algebraic_MixPostIdeal_MixPostRefIdeal := by
  intro m ρ m' ρ' _ hagree
  refine ⟨fun c => Cert.MixPostRefIdeal.Math.outDmix (m ((c.tc : Thread Cert.MixPostIdeal.nD Cert.MixPostIdeal.τ).loc Cert.MixPostIdeal.main_arg0)) (m ((c.tc : Thread Cert.MixPostIdeal.nD Cert.MixPostIdeal.τ).loc Cert.MixPostIdeal.main_arg1)) (m ((c.tc : Thread Cert.MixPostIdeal.nD Cert.MixPostIdeal.τ).loc Cert.MixPostIdeal.main_arg2)) (m ((c.tc : Thread Cert.MixPostIdeal.nD Cert.MixPostIdeal.τ).loc Cert.MixPostIdeal.main_arg3)), fun c => Cert.MixPostRefIdeal.Math.outDcat (m ((c.tc : Thread Cert.MixPostIdeal.nD Cert.MixPostIdeal.τ).loc Cert.MixPostIdeal.main_arg0)) (m ((c.tc : Thread Cert.MixPostIdeal.nD Cert.MixPostIdeal.τ).loc Cert.MixPostIdeal.main_arg1)) (m ((c.tc : Thread Cert.MixPostIdeal.nD Cert.MixPostIdeal.τ).loc Cert.MixPostIdeal.main_arg2)) (m ((c.tc : Thread Cert.MixPostIdeal.nD Cert.MixPostIdeal.τ).loc Cert.MixPostIdeal.main_arg3)) (m ((c.tc : Thread Cert.MixPostIdeal.nD Cert.MixPostIdeal.τ).loc Cert.MixPostIdeal.main_arg4)), fun c => Cert.MixPostRefIdeal.Math.outDgate (m ((c.tc : Thread Cert.MixPostIdeal.nD Cert.MixPostIdeal.τ).loc Cert.MixPostIdeal.main_arg0)) (m ((c.tc : Thread Cert.MixPostIdeal.nD Cert.MixPostIdeal.τ).loc Cert.MixPostIdeal.main_arg1)) (m ((c.tc : Thread Cert.MixPostIdeal.nD Cert.MixPostIdeal.τ).loc Cert.MixPostIdeal.main_arg3)), fun c => Cert.MixPostRefIdeal.Math.outDpg (m ((c.tc : Thread Cert.MixPostIdeal.nD Cert.MixPostIdeal.τ).loc Cert.MixPostIdeal.main_arg0)) (m ((c.tc : Thread Cert.MixPostIdeal.nD Cert.MixPostIdeal.τ).loc Cert.MixPostIdeal.main_arg1)) (m ((c.tc : Thread Cert.MixPostIdeal.nD Cert.MixPostIdeal.τ).loc Cert.MixPostIdeal.main_arg2)), ?_, ?_⟩
  · exact (θ_run (Cert.MixPostIdeal.defs (F := Ideal)) _ _).mono
      (fun r h c => ⟨((h c).1).trans (Cert.MixPostIdeal.Math.final5 m c), ((h c).2.1).trans (Cert.MixPostIdeal.Math.final6 m c), ((h c).2.2.1).trans (Cert.MixPostIdeal.Math.final7 m c), ((h c).2.2.2.1).trans (Cert.MixPostIdeal.Math.final8 m c), (h c).2.2.2.2⟩) (Cert.MixPostIdeal.Value.run_blocks m ρ)
  · refine (θ_run (Cert.MixPostRefIdeal.defs (F := Ideal)) _ _).mono (fun r h c => ⟨?_, ?_, ?_, ?_, (h c).2.2.2.2⟩) (Cert.MixPostRefIdeal.Math.run' m' ρ')
    · rw [(h c).1, (hagree c).1, (hagree c).2.1, (hagree c).2.2.1, (hagree c).2.2.2.1]
    · rw [(h c).2.1, (hagree c).1, (hagree c).2.1, (hagree c).2.2.1, (hagree c).2.2.2.1, (hagree c).2.2.2.2]
    · rw [(h c).2.2.1, (hagree c).1, (hagree c).2.1, (hagree c).2.2.2.1]
    · rw [(h c).2.2.2.1, (hagree c).1, (hagree c).2.1, (hagree c).2.2.1]

/-! ## MixIn -/

theorem frame_MixIn : Cert.quiescent_MixIn := fun m ρ _ => Cert.MixIn.Gen.frame m ρ

theorem frame_MixInIdeal : Cert.quiescent_MixInIdeal := fun m ρ _ => Cert.MixInIdeal.Gen.frame m ρ

theorem frame_MixInRefIdeal : Cert.quiescent_MixInRefIdeal := fun m ρ _ =>
  (θ_run (Cert.MixInRefIdeal.defs (F := Ideal)) _ _).mono (fun r h => ⟨fun c => (h c).2.2.2, sem_eq_zero_of_no_sems (by decide) _⟩)
    (Cert.MixInRefIdeal.Math.run' m ρ)

theorem value_MixIn : Cert.algebraic_MixInIdeal_MixInRefIdeal := by
  intro m ρ m' ρ' _ hagree
  refine ⟨fun c => Cert.MixInRefIdeal.Math.outRw (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)), fun c => Cert.MixInRefIdeal.Math.outCv (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg5)), fun c => Cert.MixInRefIdeal.Math.outH (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)), ?_, ?_⟩
  · exact (θ_run (Cert.MixInIdeal.defs (F := Ideal)) _ _).mono
      (fun r h c => ⟨((h c).1).trans (Cert.MixInIdeal.Math.final6 m c), ((h c).2.1).trans (Cert.MixInIdeal.Math.final7 m c), ((h c).2.2.1).trans (Cert.MixInIdeal.Math.final8 m c), (h c).2.2.2⟩) (Cert.MixInIdeal.Value.run_blocks m ρ)
  · refine (θ_run (Cert.MixInRefIdeal.defs (F := Ideal)) _ _).mono (fun r h c => ⟨?_, ?_, ?_, (h c).2.2.2⟩) (Cert.MixInRefIdeal.Math.run' m' ρ')
    · rw [(h c).1, (hagree c).1, (hagree c).2.1, (hagree c).2.2.1, (hagree c).2.2.2.1, (hagree c).2.2.2.2.1]
    · rw [(h c).2.1, (hagree c).1, (hagree c).2.1, (hagree c).2.2.1, (hagree c).2.2.2.1, (hagree c).2.2.2.2.2]
    · rw [(h c).2.2.1, (hagree c).1, (hagree c).2.1, (hagree c).2.2.1, (hagree c).2.2.2.1]

/-! ## Conv -/

theorem frame_Conv : Cert.quiescent_Conv := fun m ρ _ => Cert.Conv.Gen.frame m ρ

theorem frame_ConvIdeal : Cert.quiescent_ConvIdeal := fun m ρ _ => Cert.ConvIdeal.Gen.frame m ρ

theorem frame_ConvRefIdeal : Cert.quiescent_ConvRefIdeal := fun m ρ _ =>
  (θ_run (Cert.ConvRefIdeal.defs (F := Ideal)) _ _).mono (fun r h => ⟨fun c => (h c).2.2.2.2.2, sem_eq_zero_of_no_sems (by decide) _⟩)
    (Cert.ConvRefIdeal.Math.run' m ρ)

theorem frame_ConvIdeal_pre_conv_finite : Cert.quiescent_ConvIdeal_pre_conv_finite := fun m ρ _ => frame_ConvIdeal m ρ trivial

theorem frame_ConvRefIdeal_pre_conv_finite : Cert.quiescent_ConvRefIdeal_pre_conv_finite := fun m ρ _ => frame_ConvRefIdeal m ρ trivial

theorem value_Conv : Cert.algebraic_ConvIdeal_ConvRefIdeal_pre_conv_finite := by
  intro m ρ m' ρ' hpre hagree
  refine ⟨fun c => Cert.ConvRefIdeal.Math.outDp (Cert.ConvRefIdeal.Math.dConv (Cert.ConvRefIdeal.Math.convOut (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) (Cert.ConvRefIdeal.Math.ct (m ((c.tc : Thread Cert.ConvIdeal.nD Cert.ConvIdeal.τ).loc Cert.ConvIdeal.main_arg0))) (m ((c.tc : Thread Cert.ConvIdeal.nD Cert.ConvIdeal.τ).loc Cert.ConvIdeal.main_arg4)) (m ((c.tc : Thread Cert.ConvIdeal.nD Cert.ConvIdeal.τ).loc Cert.ConvIdeal.main_arg5))) (m ((c.tc : Thread Cert.ConvIdeal.nD Cert.ConvIdeal.τ).loc Cert.ConvIdeal.main_arg2)) (m ((c.tc : Thread Cert.ConvIdeal.nD Cert.ConvIdeal.τ).loc Cert.ConvIdeal.main_arg1)), fun c => Cert.ConvRefIdeal.Math.outDw (Cert.ConvRefIdeal.Math.dConv (Cert.ConvRefIdeal.Math.convOut (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) (Cert.ConvRefIdeal.Math.ct (m ((c.tc : Thread Cert.ConvIdeal.nD Cert.ConvIdeal.τ).loc Cert.ConvIdeal.main_arg0))) (m ((c.tc : Thread Cert.ConvIdeal.nD Cert.ConvIdeal.τ).loc Cert.ConvIdeal.main_arg4)) (m ((c.tc : Thread Cert.ConvIdeal.nD Cert.ConvIdeal.τ).loc Cert.ConvIdeal.main_arg5))) (Cert.ConvRefIdeal.Math.gated (m ((c.tc : Thread Cert.ConvIdeal.nD Cert.ConvIdeal.τ).loc Cert.ConvIdeal.main_arg1))), fun c => Cert.ConvRefIdeal.Math.outDb (Cert.ConvRefIdeal.Math.convOut (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) (Cert.ConvRefIdeal.Math.ct (m ((c.tc : Thread Cert.ConvIdeal.nD Cert.ConvIdeal.τ).loc Cert.ConvIdeal.main_arg0))) (m ((c.tc : Thread Cert.ConvIdeal.nD Cert.ConvIdeal.τ).loc Cert.ConvIdeal.main_arg4)) (m ((c.tc : Thread Cert.ConvIdeal.nD Cert.ConvIdeal.τ).loc Cert.ConvIdeal.main_arg5)), fun c => Cert.ConvRefIdeal.Math.outDlw (Cert.ConvRefIdeal.Math.convOut (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) (Cert.ConvRefIdeal.Math.ct (m ((c.tc : Thread Cert.ConvIdeal.nD Cert.ConvIdeal.τ).loc Cert.ConvIdeal.main_arg0))) (m ((c.tc : Thread Cert.ConvIdeal.nD Cert.ConvIdeal.τ).loc Cert.ConvIdeal.main_arg4)) (m ((c.tc : Thread Cert.ConvIdeal.nD Cert.ConvIdeal.τ).loc Cert.ConvIdeal.main_arg5)), fun c => Cert.ConvRefIdeal.Math.outDlb (Cert.ConvRefIdeal.Math.convOut (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) (Cert.ConvRefIdeal.Math.ct (m ((c.tc : Thread Cert.ConvIdeal.nD Cert.ConvIdeal.τ).loc Cert.ConvIdeal.main_arg0))) (m ((c.tc : Thread Cert.ConvIdeal.nD Cert.ConvIdeal.τ).loc Cert.ConvIdeal.main_arg4)) (m ((c.tc : Thread Cert.ConvIdeal.nD Cert.ConvIdeal.τ).loc Cert.ConvIdeal.main_arg5)), ?_, ?_⟩
  · exact (θ_run (Cert.ConvIdeal.defs (F := Ideal)) _ _).mono
      (fun r h c => ⟨((h c).1).trans (Cert.ConvIdeal.Math.final7 m c (Cert.ConvFinite.finite _ _ _ _ _ _ (hpre c))), ((h c).2.1).trans (Cert.ConvIdeal.Math.final8 m c (Cert.ConvFinite.finite _ _ _ _ _ _ (hpre c))), ((h c).2.2.1).trans (Cert.ConvIdeal.Math.final9 m c (Cert.ConvFinite.finite _ _ _ _ _ _ (hpre c))), ((h c).2.2.2.1).trans (Cert.ConvIdeal.Math.final10 m c (Cert.ConvFinite.finite _ _ _ _ _ _ (hpre c))), ((h c).2.2.2.2.1).trans (Cert.ConvIdeal.Math.final11 m c (Cert.ConvFinite.finite _ _ _ _ _ _ (hpre c))), (h c).2.2.2.2.2⟩) (Cert.ConvIdeal.Value.run_blocks m ρ)
  · refine (θ_run (Cert.ConvRefIdeal.defs (F := Ideal)) _ _).mono (fun r h c => ⟨?_, ?_, ?_, ?_, ?_, (h c).2.2.2.2.2⟩) (Cert.ConvRefIdeal.Math.run' m' ρ')
    · rw [(h c).1, (hagree c).1, (hagree c).2.1, (hagree c).2.2.1, (hagree c).2.2.2.1, (hagree c).2.2.2.2.1, (hagree c).2.2.2.2.2]
    · rw [(h c).2.1, (hagree c).1, (hagree c).2.1, (hagree c).2.2.1, (hagree c).2.2.2.1, (hagree c).2.2.2.2.1, (hagree c).2.2.2.2.2]
    · rw [(h c).2.2.1, (hagree c).1, (hagree c).2.1, (hagree c).2.2.1, (hagree c).2.2.2.1, (hagree c).2.2.2.2.1, (hagree c).2.2.2.2.2]
    · rw [(h c).2.2.2.1, (hagree c).1, (hagree c).2.1, (hagree c).2.2.1, (hagree c).2.2.2.1, (hagree c).2.2.2.2.1, (hagree c).2.2.2.2.2]
    · rw [(h c).2.2.2.2.1, (hagree c).1, (hagree c).2.1, (hagree c).2.2.1, (hagree c).2.2.2.1, (hagree c).2.2.2.2.1, (hagree c).2.2.2.2.2]

/-! ## AdamRow -/

theorem frame_AdamRow : Cert.quiescent_AdamRow := fun m ρ _ => Cert.AdamRow.Gen.frame m ρ

theorem frame_AdamRowIdeal : Cert.quiescent_AdamRowIdeal := fun m ρ _ => Cert.AdamRowIdeal.Gen.frame m ρ

theorem frame_AdamRowRefIdeal : Cert.quiescent_AdamRowRefIdeal := fun m ρ _ =>
  (θ_run (Cert.AdamRowRefIdeal.defs (F := Ideal)) _ _).mono (fun r h => ⟨fun c => (h c).2.2.2, sem_eq_zero_of_no_sems (by decide) _⟩)
    (Cert.AdamRowRefIdeal.Value.run m ρ)

theorem value_AdamRow : Cert.algebraic_AdamRowIdeal_AdamRowRefIdeal := by
  intro m ρ m' ρ' _ hagree
  refine ⟨fun c => Cert.Adamw.delta (m ((c.tc : Thread Cert.AdamRowIdeal.nD Cert.AdamRowIdeal.τ).loc Cert.AdamRowIdeal.main_arg0)) (m ((c.tc : Thread Cert.AdamRowIdeal.nD Cert.AdamRowIdeal.τ).loc Cert.AdamRowIdeal.main_arg1)) (m ((c.tc : Thread Cert.AdamRowIdeal.nD Cert.AdamRowIdeal.τ).loc Cert.AdamRowIdeal.main_arg2)) (m ((c.tc : Thread Cert.AdamRowIdeal.nD Cert.AdamRowIdeal.τ).loc Cert.AdamRowIdeal.main_arg3)), fun c => Cert.Adamw.newM (m ((c.tc : Thread Cert.AdamRowIdeal.nD Cert.AdamRowIdeal.τ).loc Cert.AdamRowIdeal.main_arg1)) (m ((c.tc : Thread Cert.AdamRowIdeal.nD Cert.AdamRowIdeal.τ).loc Cert.AdamRowIdeal.main_arg2)), fun c => Cert.Adamw.newV (m ((c.tc : Thread Cert.AdamRowIdeal.nD Cert.AdamRowIdeal.τ).loc Cert.AdamRowIdeal.main_arg1)) (m ((c.tc : Thread Cert.AdamRowIdeal.nD Cert.AdamRowIdeal.τ).loc Cert.AdamRowIdeal.main_arg3)), ?_, ?_⟩
  · exact (θ_run (Cert.AdamRowIdeal.defs (F := Ideal)) _ _).mono
      (fun r h c => ⟨((h c).1).trans rfl, ((h c).2.1).trans rfl, ((h c).2.2.1).trans rfl, (h c).2.2.2⟩) (Cert.AdamRowIdeal.Value.run m ρ)
  · refine (θ_run (Cert.AdamRowRefIdeal.defs (F := Ideal)) _ _).mono (fun r h c => ⟨?_, ?_, ?_, (h c).2.2.2⟩) (Cert.AdamRowRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamAdaB -/

theorem frame_AdamAdaB : Cert.quiescent_AdamAdaB := fun m ρ _ => Cert.AdamAdaB.Gen.frame m ρ

theorem frame_AdamAdaBIdeal : Cert.quiescent_AdamAdaBIdeal := fun m ρ _ => Cert.AdamAdaBIdeal.Gen.frame m ρ

theorem frame_AdamAdaBRefIdeal : Cert.quiescent_AdamAdaBRefIdeal := fun m ρ _ =>
  (θ_run (Cert.AdamAdaBRefIdeal.defs (F := Ideal)) _ _).mono (fun r h => ⟨fun c => (h c).2.2.2, sem_eq_zero_of_no_sems (by decide) _⟩)
    (Cert.AdamAdaBRefIdeal.Value.run m ρ)

theorem value_AdamAdaB : Cert.algebraic_AdamAdaBIdeal_AdamAdaBRefIdeal := by
  intro m ρ m' ρ' _ hagree
  refine ⟨fun c => Cert.Adamw.delta (m ((c.tc : Thread Cert.AdamAdaBIdeal.nD Cert.AdamAdaBIdeal.τ).loc Cert.AdamAdaBIdeal.main_arg0)) (m ((c.tc : Thread Cert.AdamAdaBIdeal.nD Cert.AdamAdaBIdeal.τ).loc Cert.AdamAdaBIdeal.main_arg1)) (m ((c.tc : Thread Cert.AdamAdaBIdeal.nD Cert.AdamAdaBIdeal.τ).loc Cert.AdamAdaBIdeal.main_arg2)) (m ((c.tc : Thread Cert.AdamAdaBIdeal.nD Cert.AdamAdaBIdeal.τ).loc Cert.AdamAdaBIdeal.main_arg3)), fun c => Cert.Adamw.newM (m ((c.tc : Thread Cert.AdamAdaBIdeal.nD Cert.AdamAdaBIdeal.τ).loc Cert.AdamAdaBIdeal.main_arg1)) (m ((c.tc : Thread Cert.AdamAdaBIdeal.nD Cert.AdamAdaBIdeal.τ).loc Cert.AdamAdaBIdeal.main_arg2)), fun c => Cert.Adamw.newV (m ((c.tc : Thread Cert.AdamAdaBIdeal.nD Cert.AdamAdaBIdeal.τ).loc Cert.AdamAdaBIdeal.main_arg1)) (m ((c.tc : Thread Cert.AdamAdaBIdeal.nD Cert.AdamAdaBIdeal.τ).loc Cert.AdamAdaBIdeal.main_arg3)), ?_, ?_⟩
  · exact (θ_run (Cert.AdamAdaBIdeal.defs (F := Ideal)) _ _).mono
      (fun r h c => ⟨((h c).1).trans rfl, ((h c).2.1).trans rfl, ((h c).2.2.1).trans rfl, (h c).2.2.2⟩) (Cert.AdamAdaBIdeal.Value.run m ρ)
  · refine (θ_run (Cert.AdamAdaBRefIdeal.defs (F := Ideal)) _ _).mono (fun r h c => ⟨?_, ?_, ?_, (h c).2.2.2⟩) (Cert.AdamAdaBRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamShift -/

theorem frame_AdamShift : Cert.quiescent_AdamShift := fun m ρ _ => Cert.AdamShift.Gen.frame m ρ

theorem frame_AdamShiftIdeal : Cert.quiescent_AdamShiftIdeal := fun m ρ _ => Cert.AdamShiftIdeal.Gen.frame m ρ

theorem frame_AdamShiftRefIdeal : Cert.quiescent_AdamShiftRefIdeal := fun m ρ _ =>
  (θ_run (Cert.AdamShiftRefIdeal.defs (F := Ideal)) _ _).mono (fun r h => ⟨fun c => (h c).2.2.2, sem_eq_zero_of_no_sems (by decide) _⟩)
    (Cert.AdamShiftRefIdeal.Value.run m ρ)

theorem value_AdamShift : Cert.algebraic_AdamShiftIdeal_AdamShiftRefIdeal := by
  intro m ρ m' ρ' _ hagree
  refine ⟨fun c => Cert.Adamw.delta (m ((c.tc : Thread Cert.AdamShiftIdeal.nD Cert.AdamShiftIdeal.τ).loc Cert.AdamShiftIdeal.main_arg0)) (m ((c.tc : Thread Cert.AdamShiftIdeal.nD Cert.AdamShiftIdeal.τ).loc Cert.AdamShiftIdeal.main_arg1)) (m ((c.tc : Thread Cert.AdamShiftIdeal.nD Cert.AdamShiftIdeal.τ).loc Cert.AdamShiftIdeal.main_arg2)) (m ((c.tc : Thread Cert.AdamShiftIdeal.nD Cert.AdamShiftIdeal.τ).loc Cert.AdamShiftIdeal.main_arg3)), fun c => Cert.Adamw.newM (m ((c.tc : Thread Cert.AdamShiftIdeal.nD Cert.AdamShiftIdeal.τ).loc Cert.AdamShiftIdeal.main_arg1)) (m ((c.tc : Thread Cert.AdamShiftIdeal.nD Cert.AdamShiftIdeal.τ).loc Cert.AdamShiftIdeal.main_arg2)), fun c => Cert.Adamw.newV (m ((c.tc : Thread Cert.AdamShiftIdeal.nD Cert.AdamShiftIdeal.τ).loc Cert.AdamShiftIdeal.main_arg1)) (m ((c.tc : Thread Cert.AdamShiftIdeal.nD Cert.AdamShiftIdeal.τ).loc Cert.AdamShiftIdeal.main_arg3)), ?_, ?_⟩
  · exact (θ_run (Cert.AdamShiftIdeal.defs (F := Ideal)) _ _).mono
      (fun r h c => ⟨((h c).1).trans rfl, ((h c).2.1).trans rfl, ((h c).2.2.1).trans rfl, (h c).2.2.2⟩) (Cert.AdamShiftIdeal.Value.run m ρ)
  · refine (θ_run (Cert.AdamShiftRefIdeal.defs (F := Ideal)) _ _).mono (fun r h c => ⟨?_, ?_, ?_, (h c).2.2.2⟩) (Cert.AdamShiftRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamHalf -/

theorem frame_AdamHalf : Cert.quiescent_AdamHalf := fun m ρ _ => Cert.AdamHalf.Gen.frame m ρ

theorem frame_AdamHalfIdeal : Cert.quiescent_AdamHalfIdeal := fun m ρ _ => Cert.AdamHalfIdeal.Gen.frame m ρ

theorem frame_AdamHalfRefIdeal : Cert.quiescent_AdamHalfRefIdeal := fun m ρ _ =>
  (θ_run (Cert.AdamHalfRefIdeal.defs (F := Ideal)) _ _).mono (fun r h => ⟨fun c => (h c).2.2.2, sem_eq_zero_of_no_sems (by decide) _⟩)
    (Cert.AdamHalfRefIdeal.Value.run m ρ)

theorem value_AdamHalf : Cert.algebraic_AdamHalfIdeal_AdamHalfRefIdeal := by
  intro m ρ m' ρ' _ hagree
  refine ⟨fun c => Cert.Adamw.delta (m ((c.tc : Thread Cert.AdamHalfIdeal.nD Cert.AdamHalfIdeal.τ).loc Cert.AdamHalfIdeal.main_arg0)) (m ((c.tc : Thread Cert.AdamHalfIdeal.nD Cert.AdamHalfIdeal.τ).loc Cert.AdamHalfIdeal.main_arg1)) (m ((c.tc : Thread Cert.AdamHalfIdeal.nD Cert.AdamHalfIdeal.τ).loc Cert.AdamHalfIdeal.main_arg2)) (m ((c.tc : Thread Cert.AdamHalfIdeal.nD Cert.AdamHalfIdeal.τ).loc Cert.AdamHalfIdeal.main_arg3)), fun c => Cert.Adamw.newM (m ((c.tc : Thread Cert.AdamHalfIdeal.nD Cert.AdamHalfIdeal.τ).loc Cert.AdamHalfIdeal.main_arg1)) (m ((c.tc : Thread Cert.AdamHalfIdeal.nD Cert.AdamHalfIdeal.τ).loc Cert.AdamHalfIdeal.main_arg2)), fun c => Cert.Adamw.newV (m ((c.tc : Thread Cert.AdamHalfIdeal.nD Cert.AdamHalfIdeal.τ).loc Cert.AdamHalfIdeal.main_arg1)) (m ((c.tc : Thread Cert.AdamHalfIdeal.nD Cert.AdamHalfIdeal.τ).loc Cert.AdamHalfIdeal.main_arg3)), ?_, ?_⟩
  · exact (θ_run (Cert.AdamHalfIdeal.defs (F := Ideal)) _ _).mono
      (fun r h c => ⟨((h c).1).trans rfl, ((h c).2.1).trans rfl, ((h c).2.2.1).trans rfl, (h c).2.2.2⟩) (Cert.AdamHalfIdeal.Value.run m ρ)
  · refine (θ_run (Cert.AdamHalfRefIdeal.defs (F := Ideal)) _ _).mono (fun r h c => ⟨?_, ?_, ?_, (h c).2.2.2⟩) (Cert.AdamHalfRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamAdaW -/

theorem frame_AdamAdaW : Cert.quiescent_AdamAdaW := fun m ρ _ => Cert.AdamAdaW.Gen.frame m ρ

theorem frame_AdamAdaWIdeal : Cert.quiescent_AdamAdaWIdeal := fun m ρ _ => Cert.AdamAdaWIdeal.Gen.frame m ρ

theorem frame_AdamAdaWRefIdeal : Cert.quiescent_AdamAdaWRefIdeal := fun m ρ _ =>
  (θ_run (Cert.AdamAdaWRefIdeal.defs (F := Ideal)) _ _).mono (fun r h => ⟨fun c => (h c).2.2.2, sem_eq_zero_of_no_sems (by decide) _⟩)
    (Cert.AdamAdaWRefIdeal.Value.run m ρ)

theorem value_AdamAdaW : Cert.algebraic_AdamAdaWIdeal_AdamAdaWRefIdeal := by
  intro m ρ m' ρ' _ hagree
  refine ⟨fun c => Cert.Adamw.delta (m ((c.tc : Thread Cert.AdamAdaWIdeal.nD Cert.AdamAdaWIdeal.τ).loc Cert.AdamAdaWIdeal.main_arg0)) (m ((c.tc : Thread Cert.AdamAdaWIdeal.nD Cert.AdamAdaWIdeal.τ).loc Cert.AdamAdaWIdeal.main_arg1)) (m ((c.tc : Thread Cert.AdamAdaWIdeal.nD Cert.AdamAdaWIdeal.τ).loc Cert.AdamAdaWIdeal.main_arg2)) (m ((c.tc : Thread Cert.AdamAdaWIdeal.nD Cert.AdamAdaWIdeal.τ).loc Cert.AdamAdaWIdeal.main_arg3)), fun c => Cert.Adamw.newM (m ((c.tc : Thread Cert.AdamAdaWIdeal.nD Cert.AdamAdaWIdeal.τ).loc Cert.AdamAdaWIdeal.main_arg1)) (m ((c.tc : Thread Cert.AdamAdaWIdeal.nD Cert.AdamAdaWIdeal.τ).loc Cert.AdamAdaWIdeal.main_arg2)), fun c => Cert.Adamw.newV (m ((c.tc : Thread Cert.AdamAdaWIdeal.nD Cert.AdamAdaWIdeal.τ).loc Cert.AdamAdaWIdeal.main_arg1)) (m ((c.tc : Thread Cert.AdamAdaWIdeal.nD Cert.AdamAdaWIdeal.τ).loc Cert.AdamAdaWIdeal.main_arg3)), ?_, ?_⟩
  · exact (θ_run (Cert.AdamAdaWIdeal.defs (F := Ideal)) _ _).mono
      (fun r h c => ⟨((h c).1).trans rfl, ((h c).2.1).trans rfl, ((h c).2.2.1).trans rfl, (h c).2.2.2⟩) (Cert.AdamAdaWIdeal.Value.run m ρ)
  · refine (θ_run (Cert.AdamAdaWRefIdeal.defs (F := Ideal)) _ _).mono (fun r h c => ⟨?_, ?_, ?_, (h c).2.2.2⟩) (Cert.AdamAdaWRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamIn -/

theorem frame_AdamIn : Cert.quiescent_AdamIn := fun m ρ _ => Cert.AdamIn.Gen.frame m ρ

theorem frame_AdamInIdeal : Cert.quiescent_AdamInIdeal := fun m ρ _ => Cert.AdamInIdeal.Gen.frame m ρ

theorem frame_AdamInRefIdeal : Cert.quiescent_AdamInRefIdeal := fun m ρ _ =>
  (θ_run (Cert.AdamInRefIdeal.defs (F := Ideal)) _ _).mono (fun r h => ⟨fun c => (h c).2.2.2, sem_eq_zero_of_no_sems (by decide) _⟩)
    (Cert.AdamInRefIdeal.Value.run m ρ)

theorem value_AdamIn : Cert.algebraic_AdamInIdeal_AdamInRefIdeal := by
  intro m ρ m' ρ' _ hagree
  refine ⟨fun c => Cert.Adamw.delta (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)), fun c => Cert.Adamw.newM (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)), fun c => Cert.Adamw.newV (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg3)), ?_, ?_⟩
  · exact (θ_run (Cert.AdamInIdeal.defs (F := Ideal)) _ _).mono
      (fun r h c => ⟨((h c).1).trans rfl, ((h c).2.1).trans rfl, ((h c).2.2.1).trans rfl, (h c).2.2.2⟩) (Cert.AdamInIdeal.Value.run m ρ)
  · refine (θ_run (Cert.AdamInRefIdeal.defs (F := Ideal)) _ _).mono (fun r h c => ⟨?_, ?_, ?_, (h c).2.2.2⟩) (Cert.AdamInRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamLane -/

theorem frame_AdamLane : Cert.quiescent_AdamLane := fun m ρ _ => Cert.AdamLane.Gen.frame m ρ

theorem frame_AdamLaneIdeal : Cert.quiescent_AdamLaneIdeal := fun m ρ _ => Cert.AdamLaneIdeal.Gen.frame m ρ

theorem frame_AdamLaneRefIdeal : Cert.quiescent_AdamLaneRefIdeal := fun m ρ _ =>
  (θ_run (Cert.AdamLaneRefIdeal.defs (F := Ideal)) _ _).mono (fun r h => ⟨fun c => (h c).2.2.2, sem_eq_zero_of_no_sems (by decide) _⟩)
    (Cert.AdamLaneRefIdeal.Value.run m ρ)

theorem value_AdamLane : Cert.algebraic_AdamLaneIdeal_AdamLaneRefIdeal := by
  intro m ρ m' ρ' _ hagree
  refine ⟨fun c => Cert.Adamw.delta (m ((c.tc : Thread Cert.AdamLaneIdeal.nD Cert.AdamLaneIdeal.τ).loc Cert.AdamLaneIdeal.main_arg0)) (m ((c.tc : Thread Cert.AdamLaneIdeal.nD Cert.AdamLaneIdeal.τ).loc Cert.AdamLaneIdeal.main_arg1)) (m ((c.tc : Thread Cert.AdamLaneIdeal.nD Cert.AdamLaneIdeal.τ).loc Cert.AdamLaneIdeal.main_arg2)) (m ((c.tc : Thread Cert.AdamLaneIdeal.nD Cert.AdamLaneIdeal.τ).loc Cert.AdamLaneIdeal.main_arg3)), fun c => Cert.Adamw.newM (m ((c.tc : Thread Cert.AdamLaneIdeal.nD Cert.AdamLaneIdeal.τ).loc Cert.AdamLaneIdeal.main_arg1)) (m ((c.tc : Thread Cert.AdamLaneIdeal.nD Cert.AdamLaneIdeal.τ).loc Cert.AdamLaneIdeal.main_arg2)), fun c => Cert.Adamw.newV (m ((c.tc : Thread Cert.AdamLaneIdeal.nD Cert.AdamLaneIdeal.τ).loc Cert.AdamLaneIdeal.main_arg1)) (m ((c.tc : Thread Cert.AdamLaneIdeal.nD Cert.AdamLaneIdeal.τ).loc Cert.AdamLaneIdeal.main_arg3)), ?_, ?_⟩
  · exact (θ_run (Cert.AdamLaneIdeal.defs (F := Ideal)) _ _).mono
      (fun r h c => ⟨((h c).1).trans rfl, ((h c).2.1).trans rfl, ((h c).2.2.1).trans rfl, (h c).2.2.2⟩) (Cert.AdamLaneIdeal.Value.run m ρ)
  · refine (θ_run (Cert.AdamLaneRefIdeal.defs (F := Ideal)) _ _).mono (fun r h c => ⟨?_, ?_, ?_, (h c).2.2.2⟩) (Cert.AdamLaneRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamLora -/

theorem frame_AdamLora : Cert.quiescent_AdamLora := fun m ρ _ => Cert.AdamLora.Gen.frame m ρ

theorem frame_AdamLoraIdeal : Cert.quiescent_AdamLoraIdeal := fun m ρ _ => Cert.AdamLoraIdeal.Gen.frame m ρ

theorem frame_AdamLoraRefIdeal : Cert.quiescent_AdamLoraRefIdeal := fun m ρ _ =>
  (θ_run (Cert.AdamLoraRefIdeal.defs (F := Ideal)) _ _).mono (fun r h => ⟨fun c => (h c).2.2.2, sem_eq_zero_of_no_sems (by decide) _⟩)
    (Cert.AdamLoraRefIdeal.Value.run m ρ)

theorem value_AdamLora : Cert.algebraic_AdamLoraIdeal_AdamLoraRefIdeal := by
  intro m ρ m' ρ' _ hagree
  refine ⟨fun c => Cert.Adamw.delta (m ((c.tc : Thread Cert.AdamLoraIdeal.nD Cert.AdamLoraIdeal.τ).loc Cert.AdamLoraIdeal.main_arg0)) (m ((c.tc : Thread Cert.AdamLoraIdeal.nD Cert.AdamLoraIdeal.τ).loc Cert.AdamLoraIdeal.main_arg1)) (m ((c.tc : Thread Cert.AdamLoraIdeal.nD Cert.AdamLoraIdeal.τ).loc Cert.AdamLoraIdeal.main_arg2)) (m ((c.tc : Thread Cert.AdamLoraIdeal.nD Cert.AdamLoraIdeal.τ).loc Cert.AdamLoraIdeal.main_arg3)), fun c => Cert.Adamw.newM (m ((c.tc : Thread Cert.AdamLoraIdeal.nD Cert.AdamLoraIdeal.τ).loc Cert.AdamLoraIdeal.main_arg1)) (m ((c.tc : Thread Cert.AdamLoraIdeal.nD Cert.AdamLoraIdeal.τ).loc Cert.AdamLoraIdeal.main_arg2)), fun c => Cert.Adamw.newV (m ((c.tc : Thread Cert.AdamLoraIdeal.nD Cert.AdamLoraIdeal.τ).loc Cert.AdamLoraIdeal.main_arg1)) (m ((c.tc : Thread Cert.AdamLoraIdeal.nD Cert.AdamLoraIdeal.τ).loc Cert.AdamLoraIdeal.main_arg3)), ?_, ?_⟩
  · exact (θ_run (Cert.AdamLoraIdeal.defs (F := Ideal)) _ _).mono
      (fun r h c => ⟨((h c).1).trans rfl, ((h c).2.1).trans rfl, ((h c).2.2.1).trans rfl, (h c).2.2.2⟩) (Cert.AdamLoraIdeal.Value.run m ρ)
  · refine (θ_run (Cert.AdamLoraRefIdeal.defs (F := Ideal)) _ _).mono (fun r h c => ⟨?_, ?_, ?_, (h c).2.2.2⟩) (Cert.AdamLoraRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamRk -/

theorem frame_AdamRk : Cert.quiescent_AdamRk := fun m ρ _ => Cert.AdamRk.Gen.frame m ρ

theorem frame_AdamRkIdeal : Cert.quiescent_AdamRkIdeal := fun m ρ _ => Cert.AdamRkIdeal.Gen.frame m ρ

theorem frame_AdamRkRefIdeal : Cert.quiescent_AdamRkRefIdeal := fun m ρ _ =>
  (θ_run (Cert.AdamRkRefIdeal.defs (F := Ideal)) _ _).mono (fun r h => ⟨fun c => (h c).2.2.2, sem_eq_zero_of_no_sems (by decide) _⟩)
    (Cert.AdamRkRefIdeal.Value.run m ρ)

theorem value_AdamRk : Cert.algebraic_AdamRkIdeal_AdamRkRefIdeal := by
  intro m ρ m' ρ' _ hagree
  refine ⟨fun c => Cert.Adamw.delta (m ((c.tc : Thread Cert.AdamRkIdeal.nD Cert.AdamRkIdeal.τ).loc Cert.AdamRkIdeal.main_arg0)) (m ((c.tc : Thread Cert.AdamRkIdeal.nD Cert.AdamRkIdeal.τ).loc Cert.AdamRkIdeal.main_arg1)) (m ((c.tc : Thread Cert.AdamRkIdeal.nD Cert.AdamRkIdeal.τ).loc Cert.AdamRkIdeal.main_arg2)) (m ((c.tc : Thread Cert.AdamRkIdeal.nD Cert.AdamRkIdeal.τ).loc Cert.AdamRkIdeal.main_arg3)), fun c => Cert.Adamw.newM (m ((c.tc : Thread Cert.AdamRkIdeal.nD Cert.AdamRkIdeal.τ).loc Cert.AdamRkIdeal.main_arg1)) (m ((c.tc : Thread Cert.AdamRkIdeal.nD Cert.AdamRkIdeal.τ).loc Cert.AdamRkIdeal.main_arg2)), fun c => Cert.Adamw.newV (m ((c.tc : Thread Cert.AdamRkIdeal.nD Cert.AdamRkIdeal.τ).loc Cert.AdamRkIdeal.main_arg1)) (m ((c.tc : Thread Cert.AdamRkIdeal.nD Cert.AdamRkIdeal.τ).loc Cert.AdamRkIdeal.main_arg3)), ?_, ?_⟩
  · exact (θ_run (Cert.AdamRkIdeal.defs (F := Ideal)) _ _).mono
      (fun r h c => ⟨((h c).1).trans rfl, ((h c).2.1).trans rfl, ((h c).2.2.1).trans rfl, (h c).2.2.2⟩) (Cert.AdamRkIdeal.Value.run m ρ)
  · refine (θ_run (Cert.AdamRkRefIdeal.defs (F := Ideal)) _ _).mono (fun r h c => ⟨?_, ?_, ?_, (h c).2.2.2⟩) (Cert.AdamRkRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamGate -/

theorem frame_AdamGate : Cert.quiescent_AdamGate := fun m ρ _ => Cert.AdamGate.Gen.frame m ρ

theorem frame_AdamGateIdeal : Cert.quiescent_AdamGateIdeal := fun m ρ _ => Cert.AdamGateIdeal.Gen.frame m ρ

theorem frame_AdamGateRefIdeal : Cert.quiescent_AdamGateRefIdeal := fun m ρ _ =>
  (θ_run (Cert.AdamGateRefIdeal.defs (F := Ideal)) _ _).mono (fun r h => ⟨fun c => (h c).2.2.2, sem_eq_zero_of_no_sems (by decide) _⟩)
    (Cert.AdamGateRefIdeal.Value.run m ρ)

theorem value_AdamGate : Cert.algebraic_AdamGateIdeal_AdamGateRefIdeal := by
  intro m ρ m' ρ' _ hagree
  refine ⟨fun c => Cert.Adamw.delta (m ((c.tc : Thread Cert.AdamGateIdeal.nD Cert.AdamGateIdeal.τ).loc Cert.AdamGateIdeal.main_arg0)) (m ((c.tc : Thread Cert.AdamGateIdeal.nD Cert.AdamGateIdeal.τ).loc Cert.AdamGateIdeal.main_arg1)) (m ((c.tc : Thread Cert.AdamGateIdeal.nD Cert.AdamGateIdeal.τ).loc Cert.AdamGateIdeal.main_arg2)) (m ((c.tc : Thread Cert.AdamGateIdeal.nD Cert.AdamGateIdeal.τ).loc Cert.AdamGateIdeal.main_arg3)), fun c => Cert.Adamw.newM (m ((c.tc : Thread Cert.AdamGateIdeal.nD Cert.AdamGateIdeal.τ).loc Cert.AdamGateIdeal.main_arg1)) (m ((c.tc : Thread Cert.AdamGateIdeal.nD Cert.AdamGateIdeal.τ).loc Cert.AdamGateIdeal.main_arg2)), fun c => Cert.Adamw.newV (m ((c.tc : Thread Cert.AdamGateIdeal.nD Cert.AdamGateIdeal.τ).loc Cert.AdamGateIdeal.main_arg1)) (m ((c.tc : Thread Cert.AdamGateIdeal.nD Cert.AdamGateIdeal.τ).loc Cert.AdamGateIdeal.main_arg3)), ?_, ?_⟩
  · exact (θ_run (Cert.AdamGateIdeal.defs (F := Ideal)) _ _).mono
      (fun r h c => ⟨((h c).1).trans rfl, ((h c).2.1).trans rfl, ((h c).2.2.1).trans rfl, (h c).2.2.2⟩) (Cert.AdamGateIdeal.Value.run m ρ)
  · refine (θ_run (Cert.AdamGateRefIdeal.defs (F := Ideal)) _ _).mono (fun r h c => ⟨?_, ?_, ?_, (h c).2.2.2⟩) (Cert.AdamGateRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamConv -/

theorem frame_AdamConv : Cert.quiescent_AdamConv := fun m ρ _ => Cert.AdamConv.Gen.frame m ρ

theorem frame_AdamConvIdeal : Cert.quiescent_AdamConvIdeal := fun m ρ _ => Cert.AdamConvIdeal.Gen.frame m ρ

theorem frame_AdamConvRefIdeal : Cert.quiescent_AdamConvRefIdeal := fun m ρ _ =>
  (θ_run (Cert.AdamConvRefIdeal.defs (F := Ideal)) _ _).mono (fun r h => ⟨fun c => (h c).2.2.2, sem_eq_zero_of_no_sems (by decide) _⟩)
    (Cert.AdamConvRefIdeal.Value.run m ρ)

theorem value_AdamConv : Cert.algebraic_AdamConvIdeal_AdamConvRefIdeal := by
  intro m ρ m' ρ' _ hagree
  refine ⟨fun c => Cert.Adamw.delta (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg1)) (m ((c.tc : Thread Cert.AdamConvIdeal.nD Cert.AdamConvIdeal.τ).loc Cert.AdamConvIdeal.main_arg2)) (m ((c.tc : Thread Cert.AdamConvIdeal.nD Cert.AdamConvIdeal.τ).loc Cert.AdamConvIdeal.main_arg3)), fun c => Cert.Adamw.newM (m ((c.tc : Thread Cert.AdamConvIdeal.nD Cert.AdamConvIdeal.τ).loc Cert.AdamConvIdeal.main_arg1)) (m ((c.tc : Thread Cert.AdamConvIdeal.nD Cert.AdamConvIdeal.τ).loc Cert.AdamConvIdeal.main_arg2)), fun c => Cert.Adamw.newV (m ((c.tc : Thread Cert.AdamConvIdeal.nD Cert.AdamConvIdeal.τ).loc Cert.AdamConvIdeal.main_arg1)) (m ((c.tc : Thread Cert.AdamConvIdeal.nD Cert.AdamConvIdeal.τ).loc Cert.AdamConvIdeal.main_arg3)), ?_, ?_⟩
  · exact (θ_run (Cert.AdamConvIdeal.defs (F := Ideal)) _ _).mono
      (fun r h c => ⟨((h c).1).trans rfl, ((h c).2.1).trans rfl, ((h c).2.2.1).trans rfl, (h c).2.2.2⟩) (Cert.AdamConvIdeal.Value.run m ρ)
  · refine (θ_run (Cert.AdamConvRefIdeal.defs (F := Ideal)) _ _).mono (fun r h c => ⟨?_, ?_, ?_, (h c).2.2.2⟩) (Cert.AdamConvRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamOut -/

theorem frame_AdamOut : Cert.quiescent_AdamOut := fun m ρ _ => Cert.AdamOut.Gen.frame m ρ

theorem frame_AdamOutIdeal : Cert.quiescent_AdamOutIdeal := fun m ρ _ => Cert.AdamOutIdeal.Gen.frame m ρ

theorem frame_AdamOutRefIdeal : Cert.quiescent_AdamOutRefIdeal := fun m ρ _ =>
  (θ_run (Cert.AdamOutRefIdeal.defs (F := Ideal)) _ _).mono (fun r h => ⟨fun c => (h c).2.2.2, sem_eq_zero_of_no_sems (by decide) _⟩)
    (Cert.AdamOutRefIdeal.Value.run m ρ)

theorem value_AdamOut : Cert.algebraic_AdamOutIdeal_AdamOutRefIdeal := by
  intro m ρ m' ρ' _ hagree
  refine ⟨fun c => Cert.Adamw.delta (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)), fun c => Cert.Adamw.newM (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)), fun c => Cert.Adamw.newV (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg3)), ?_, ?_⟩
  · exact (θ_run (Cert.AdamOutIdeal.defs (F := Ideal)) _ _).mono
      (fun r h c => ⟨((h c).1).trans rfl, ((h c).2.1).trans rfl, ((h c).2.2.1).trans rfl, (h c).2.2.2⟩) (Cert.AdamOutIdeal.Value.run m ρ)
  · refine (θ_run (Cert.AdamOutRefIdeal.defs (F := Ideal)) _ _).mono (fun r h c => ⟨?_, ?_, ?_, (h c).2.2.2⟩) (Cert.AdamOutRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdamMlp -/

theorem frame_AdamMlp : Cert.quiescent_AdamMlp := fun m ρ _ => Cert.AdamMlp.Gen.frame m ρ

theorem frame_AdamMlpIdeal : Cert.quiescent_AdamMlpIdeal := fun m ρ _ => Cert.AdamMlpIdeal.Gen.frame m ρ

theorem frame_AdamMlpRefIdeal : Cert.quiescent_AdamMlpRefIdeal := fun m ρ _ =>
  (θ_run (Cert.AdamMlpRefIdeal.defs (F := Ideal)) _ _).mono (fun r h => ⟨fun c => (h c).2.2.2, sem_eq_zero_of_no_sems (by decide) _⟩)
    (Cert.AdamMlpRefIdeal.Value.run m ρ)

theorem value_AdamMlp : Cert.algebraic_AdamMlpIdeal_AdamMlpRefIdeal := by
  intro m ρ m' ρ' _ hagree
  refine ⟨fun c => Cert.Adamw.delta (m ((c.tc : Thread Cert.AdamMlpIdeal.nD Cert.AdamMlpIdeal.τ).loc Cert.AdamMlpIdeal.main_arg0)) (m ((c.tc : Thread Cert.AdamMlpIdeal.nD Cert.AdamMlpIdeal.τ).loc Cert.AdamMlpIdeal.main_arg1)) (m ((c.tc : Thread Cert.AdamMlpIdeal.nD Cert.AdamMlpIdeal.τ).loc Cert.AdamMlpIdeal.main_arg2)) (m ((c.tc : Thread Cert.AdamMlpIdeal.nD Cert.AdamMlpIdeal.τ).loc Cert.AdamMlpIdeal.main_arg3)), fun c => Cert.Adamw.newM (m ((c.tc : Thread Cert.AdamMlpIdeal.nD Cert.AdamMlpIdeal.τ).loc Cert.AdamMlpIdeal.main_arg1)) (m ((c.tc : Thread Cert.AdamMlpIdeal.nD Cert.AdamMlpIdeal.τ).loc Cert.AdamMlpIdeal.main_arg2)), fun c => Cert.Adamw.newV (m ((c.tc : Thread Cert.AdamMlpIdeal.nD Cert.AdamMlpIdeal.τ).loc Cert.AdamMlpIdeal.main_arg1)) (m ((c.tc : Thread Cert.AdamMlpIdeal.nD Cert.AdamMlpIdeal.τ).loc Cert.AdamMlpIdeal.main_arg3)), ?_, ?_⟩
  · exact (θ_run (Cert.AdamMlpIdeal.defs (F := Ideal)) _ _).mono
      (fun r h c => ⟨((h c).1).trans rfl, ((h c).2.1).trans rfl, ((h c).2.2.1).trans rfl, (h c).2.2.2⟩) (Cert.AdamMlpIdeal.Value.run m ρ)
  · refine (θ_run (Cert.AdamMlpRefIdeal.defs (F := Ideal)) _ _).mono (fun r h c => ⟨?_, ?_, ?_, (h c).2.2.2⟩) (Cert.AdamMlpRefIdeal.Value.run m' ρ')
    · rw [(h c).1, (hagree c).1, (hagree c).2.1, (hagree c).2.2.1, (hagree c).2.2.2]; rfl
    · rw [(h c).2.1, (hagree c).2.1, (hagree c).2.2.1]; rfl
    · rw [(h c).2.2.1, (hagree c).2.1, (hagree c).2.2.2]; rfl

/-! ## AdaBwd -/

theorem frame_AdaBwd : Cert.quiescent_AdaBwd := fun m ρ _ => Cert.AdaBwd.Gen.frame m ρ

theorem frame_AdaBwdIdeal : Cert.quiescent_AdaBwdIdeal := fun m ρ _ => Cert.AdaBwdIdeal.Gen.frame m ρ

theorem frame_AdaBwdRefIdeal : Cert.quiescent_AdaBwdRefIdeal := fun m ρ _ =>
  (θ_run (Cert.AdaBwdRefIdeal.defs (F := Ideal)) _ _).mono (fun r h => ⟨fun c => (h c).2.2.2, sem_eq_zero_of_no_sems (by decide) _⟩)
    (Cert.AdaBwdRefIdeal.Value.run m ρ)

theorem value_AdaBwd : Cert.algebraic_AdaBwdIdeal_AdaBwdRefIdeal := by
  intro m ρ m' ρ' _ hagree
  refine ⟨fun c => Cert.AdaMath.gradW (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)) (m ((c.tc : Thread Cert.AdaBwdIdeal.nD Cert.AdaBwdIdeal.τ).loc Cert.AdaBwdIdeal.main_arg5)) (m ((c.tc : Thread Cert.AdaBwdIdeal.nD Cert.AdaBwdIdeal.τ).loc Cert.AdaBwdIdeal.main_arg6)), fun c => Cert.AdaMath.gradB (m ((c.tc : Thread Cert.AdaBwdIdeal.nD Cert.AdaBwdIdeal.τ).loc Cert.AdaBwdIdeal.main_arg3)) (m ((c.tc : Thread Cert.AdaBwdIdeal.nD Cert.AdaBwdIdeal.τ).loc Cert.AdaBwdIdeal.main_arg4)), fun c => Cert.AdaMath.gradS (m ((c.tc : Thread Cert.AdaBwdIdeal.nD Cert.AdaBwdIdeal.τ).loc Cert.AdaBwdIdeal.main_arg2)) (m ((c.tc : Thread Cert.AdaBwdIdeal.nD Cert.AdaBwdIdeal.τ).loc Cert.AdaBwdIdeal.main_arg6)), ?_, ?_⟩
  · exact (θ_run (Cert.AdaBwdIdeal.defs (F := Ideal)) _ _).mono
      (fun r h c => ⟨((h c).1).trans (Cert.AdaMath.kernelW _ _ _ _ _ _ _), ((h c).2.1).trans (Cert.AdaMath.kernelB _ _ _ _ _ _ _), ((h c).2.2.1).trans (Cert.AdaMath.kernelS _ _ _ _ _ _ _), (h c).2.2.2⟩) (Cert.AdaBwdIdeal.Value.run m ρ)
  · refine (θ_run (Cert.AdaBwdRefIdeal.defs (F := Ideal)) _ _).mono (fun r h c => ⟨?_, ?_, ?_, (h c).2.2.2⟩) (Cert.AdaBwdRefIdeal.Value.run m' ρ')
    · rw [(h c).1, (hagree c).1, (hagree c).2.1, (hagree c).2.2.2.2.2.1, (hagree c).2.2.2.2.2.2]; exact Cert.AdaMath.referenceW _ _ _ _
    · rw [(h c).2.1, (hagree c).2.2.2.1, (hagree c).2.2.2.2.1]; exact Cert.AdaMath.referenceB _ _
    · rw [(h c).2.2.1, (hagree c).2.2.1, (hagree c).2.2.2.2.2.2]; exact Cert.AdaMath.referenceS _ _

/-! ## Cctx -/

theorem frame_Cctx : Cert.quiescent_Cctx := fun m ρ _ => Cert.Cctx.Gen.frame m ρ

theorem frame_CctxIdeal : Cert.quiescent_CctxIdeal := fun m ρ _ => Cert.CctxIdeal.Gen.frame m ρ

theorem frame_CctxRefIdeal : Cert.quiescent_CctxRefIdeal := fun m ρ _ =>
  (θ_run (Cert.CctxRefIdeal.defs (F := Ideal)) _ _).mono (fun r h => ⟨fun c => (h c).2, sem_eq_zero_of_no_sems (by decide) _⟩)
    (Cert.CctxRefIdeal.Value.run m ρ)

theorem frame_CctxIdeal_pre_parts_finite : Cert.quiescent_CctxIdeal_pre_parts_finite := fun m ρ _ => frame_CctxIdeal m ρ trivial

theorem frame_CctxRefIdeal_pre_parts_finite : Cert.quiescent_CctxRefIdeal_pre_parts_finite := fun m ρ _ => frame_CctxRefIdeal m ρ trivial

theorem value_Cctx : Cert.algebraic_CctxIdeal_CctxRefIdeal_pre_parts_finite := by
  intro m ρ m' ρ' hpre hagree
  refine ⟨fun c => Cert.CctxMath.grad (m ((c.tc : Thread Cert.CctxIdeal.nD Cert.CctxIdeal.τ).loc Cert.CctxIdeal.main_arg0)) (m ((c.tc : Thread Cert.CctxIdeal.nD Cert.CctxIdeal.τ).loc Cert.CctxIdeal.main_arg1)), ?_, ?_⟩
  · exact (θ_run (Cert.CctxIdeal.defs (F := Ideal)) _ _).mono
      (fun r h c => ⟨((h c).1).trans (Cert.CctxMath.kernel _ _), (h c).2⟩) (Cert.CctxIdeal.Value.run m ρ)
  · refine (θ_run (Cert.CctxRefIdeal.defs (F := Ideal)) _ _).mono (fun r h c => ⟨?_, (h c).2⟩) (Cert.CctxRefIdeal.Value.run m' ρ')
    rw [(h c).1, (hagree c).1, (hagree c).2]; exact Cert.CctxMath.reference _ _ (Cert.CctxMath.finite _ _ (hpre c))

/-! ## SumSmall -/

theorem frame_SumSmall : Cert.quiescent_SumSmall := fun m ρ _ => Cert.SumSmall.Gen.frame m ρ

theorem frame_SumSmallIdeal : Cert.quiescent_SumSmallIdeal := fun m ρ _ => Cert.SumSmallIdeal.Gen.frame m ρ

theorem frame_SumSmallRefIdeal : Cert.quiescent_SumSmallRefIdeal := fun m ρ _ =>
  (θ_run (Cert.SumSmallRefIdeal.defs (F := Ideal)) _ _).mono (fun r h => ⟨fun c => (h c).2, sem_eq_zero_of_no_sems (by decide) _⟩)
    (Cert.SumSmallRefIdeal.Value.run m ρ)

theorem value_SumSmall : Cert.algebraic_SumSmallIdeal_SumSmallRefIdeal := by
  intro m ρ m' ρ' _ hagree
  refine ⟨fun c => Cert.ChipSums.total (m ((c.tc : Thread Cert.SumSmallIdeal.nD Cert.SumSmallIdeal.τ).loc Cert.SumSmallIdeal.main_arg0)), ?_, ?_⟩
  · exact (θ_run (Cert.SumSmallIdeal.defs (F := Ideal)) _ _).mono
      (fun r h c => ⟨((h c).1).trans (Cert.ChipSums.small_kernel _), (h c).2⟩) (Cert.SumSmallIdeal.Value.run m ρ)
  · refine (θ_run (Cert.SumSmallRefIdeal.defs (F := Ideal)) _ _).mono (fun r h c => ⟨?_, (h c).2⟩) (Cert.SumSmallRefIdeal.Value.run m' ρ')
    rw [(h c).1, (hagree c)]; exact Cert.ChipSums.small_reference _

/-! ## SumIn -/

theorem frame_SumIn : Cert.quiescent_SumIn := fun m ρ _ => Cert.SumIn.Gen.frame m ρ

theorem frame_SumInIdeal : Cert.quiescent_SumInIdeal := fun m ρ _ => Cert.SumInIdeal.Gen.frame m ρ

theorem frame_SumInRefIdeal : Cert.quiescent_SumInRefIdeal := fun m ρ _ =>
  (θ_run (Cert.SumInRefIdeal.defs (F := Ideal)) _ _).mono (fun r h => ⟨fun c => (h c).2, sem_eq_zero_of_no_sems (by decide) _⟩)
    (Cert.SumInRefIdeal.Value.run m ρ)

theorem value_SumIn : Cert.algebraic_SumInIdeal_SumInRefIdeal := by
  intro m ρ m' ρ' _ hagree
  refine ⟨fun c => Cert.ChipSums.total (m ((c.tc : Thread Cert.SumInIdeal.nD Cert.SumInIdeal.τ).loc Cert.SumInIdeal.main_arg0)), ?_, ?_⟩
  · exact (θ_run (Cert.SumInIdeal.defs (F := Ideal)) _ _).mono
      (fun r h c => ⟨((h c).1).trans (Cert.ChipSums.in_kernel _), (h c).2⟩) (Cert.SumInIdeal.Value.run m ρ)
  · refine (θ_run (Cert.SumInRefIdeal.defs (F := Ideal)) _ _).mono (fun r h c => ⟨?_, (h c).2⟩) (Cert.SumInRefIdeal.Value.run m' ρ')
    rw [(h c).1, (hagree c)]; exact Cert.ChipSums.in_reference _

theorem claim : Cert.Claim :=
  ⟨Cert.Dw1.Gen.facts, Cert.Dw1Ideal.Gen.facts, Cert.Dw1RefIdeal.Gen.facts, Cert.Dw2.Gen.facts, Cert.Dw2Ideal.Gen.facts, Cert.Dw2RefIdeal.Gen.facts, Cert.DwRw.Gen.facts, Cert.DwRwIdeal.Gen.facts, Cert.DwRwRefIdeal.Gen.facts, Cert.DwCv.Gen.facts, Cert.DwCvIdeal.Gen.facts, Cert.DwCvRefIdeal.Gen.facts, Cert.DwOut.Gen.facts, Cert.DwOutIdeal.Gen.facts, Cert.DwOutRefIdeal.Gen.facts, Cert.Mlp.Gen.facts, Cert.MlpIdeal.Gen.facts, Cert.MlpRefIdeal.Gen.facts, Cert.MixPost.Gen.facts, Cert.MixPostIdeal.Gen.facts, Cert.MixPostRefIdeal.Gen.facts, Cert.MixIn.Gen.facts, Cert.MixInIdeal.Gen.facts, Cert.MixInRefIdeal.Gen.facts, Cert.Conv.Gen.facts, Cert.ConvIdeal.Gen.facts, Cert.ConvRefIdeal.Gen.facts, Cert.AdamRow.Gen.facts, Cert.AdamRowIdeal.Gen.facts, Cert.AdamRowRefIdeal.Gen.facts, Cert.AdamAdaB.Gen.facts, Cert.AdamAdaBIdeal.Gen.facts, Cert.AdamAdaBRefIdeal.Gen.facts, Cert.AdamShift.Gen.facts, Cert.AdamShiftIdeal.Gen.facts, Cert.AdamShiftRefIdeal.Gen.facts, Cert.AdamHalf.Gen.facts, Cert.AdamHalfIdeal.Gen.facts, Cert.AdamHalfRefIdeal.Gen.facts, Cert.AdamAdaW.Gen.facts, Cert.AdamAdaWIdeal.Gen.facts, Cert.AdamAdaWRefIdeal.Gen.facts, Cert.AdamIn.Gen.facts, Cert.AdamInIdeal.Gen.facts, Cert.AdamInRefIdeal.Gen.facts, Cert.AdamLane.Gen.facts, Cert.AdamLaneIdeal.Gen.facts, Cert.AdamLaneRefIdeal.Gen.facts, Cert.AdamLora.Gen.facts, Cert.AdamLoraIdeal.Gen.facts, Cert.AdamLoraRefIdeal.Gen.facts, Cert.AdamRk.Gen.facts, Cert.AdamRkIdeal.Gen.facts, Cert.AdamRkRefIdeal.Gen.facts, Cert.AdamGate.Gen.facts, Cert.AdamGateIdeal.Gen.facts, Cert.AdamGateRefIdeal.Gen.facts, Cert.AdamConv.Gen.facts, Cert.AdamConvIdeal.Gen.facts, Cert.AdamConvRefIdeal.Gen.facts, Cert.AdamOut.Gen.facts, Cert.AdamOutIdeal.Gen.facts, Cert.AdamOutRefIdeal.Gen.facts, Cert.AdamMlp.Gen.facts, Cert.AdamMlpIdeal.Gen.facts, Cert.AdamMlpRefIdeal.Gen.facts, Cert.AdaBwd.Gen.facts, Cert.AdaBwdIdeal.Gen.facts, Cert.AdaBwdRefIdeal.Gen.facts, Cert.Cctx.Gen.facts, Cert.CctxIdeal.Gen.facts, Cert.CctxRefIdeal.Gen.facts, Cert.SumSmall.Gen.facts, Cert.SumSmallIdeal.Gen.facts, Cert.SumSmallRefIdeal.Gen.facts, Cert.SumIn.Gen.facts, Cert.SumInIdeal.Gen.facts, Cert.SumInRefIdeal.Gen.facts, Cert.Pre_conv_finite.Gen.facts, Cert.Pre_parts_finite.Gen.facts,
    frame_Dw1, frame_Dw1Ideal, frame_Dw1RefIdeal, frame_Dw2, frame_Dw2Ideal, frame_Dw2RefIdeal, frame_DwRw, frame_DwRwIdeal, frame_DwRwRefIdeal, frame_DwCv, frame_DwCvIdeal, frame_DwCvRefIdeal, frame_DwOut, frame_DwOutIdeal, frame_DwOutRefIdeal, frame_Mlp, frame_MlpIdeal, frame_MlpRefIdeal, frame_MixPost, frame_MixPostIdeal, frame_MixPostRefIdeal, frame_MixIn, frame_MixInIdeal, frame_MixInRefIdeal, frame_Conv, frame_ConvIdeal, frame_ConvIdeal_pre_conv_finite, frame_ConvRefIdeal, frame_ConvRefIdeal_pre_conv_finite, frame_AdamRow, frame_AdamRowIdeal, frame_AdamRowRefIdeal, frame_AdamAdaB, frame_AdamAdaBIdeal, frame_AdamAdaBRefIdeal, frame_AdamShift, frame_AdamShiftIdeal, frame_AdamShiftRefIdeal, frame_AdamHalf, frame_AdamHalfIdeal, frame_AdamHalfRefIdeal, frame_AdamAdaW, frame_AdamAdaWIdeal, frame_AdamAdaWRefIdeal, frame_AdamIn, frame_AdamInIdeal, frame_AdamInRefIdeal, frame_AdamLane, frame_AdamLaneIdeal, frame_AdamLaneRefIdeal, frame_AdamLora, frame_AdamLoraIdeal, frame_AdamLoraRefIdeal, frame_AdamRk, frame_AdamRkIdeal, frame_AdamRkRefIdeal, frame_AdamGate, frame_AdamGateIdeal, frame_AdamGateRefIdeal, frame_AdamConv, frame_AdamConvIdeal, frame_AdamConvRefIdeal, frame_AdamOut, frame_AdamOutIdeal, frame_AdamOutRefIdeal, frame_AdamMlp, frame_AdamMlpIdeal, frame_AdamMlpRefIdeal, frame_AdaBwd, frame_AdaBwdIdeal, frame_AdaBwdRefIdeal, frame_Cctx, frame_CctxIdeal, frame_CctxIdeal_pre_parts_finite, frame_CctxRefIdeal, frame_CctxRefIdeal_pre_parts_finite, frame_SumSmall, frame_SumSmallIdeal, frame_SumSmallRefIdeal, frame_SumIn, frame_SumInIdeal, frame_SumInRefIdeal, trivial, value_Dw1, trivial, value_Dw2, trivial, value_DwRw, trivial, value_DwCv, trivial, value_DwOut, trivial, value_Mlp, trivial, value_MixPost, trivial, value_MixIn, trivial, value_Conv, trivial, value_AdamRow, trivial, value_AdamAdaB, trivial, value_AdamShift, trivial, value_AdamHalf, trivial, value_AdamAdaW, trivial, value_AdamIn, trivial, value_AdamLane, trivial, value_AdamLora, trivial, value_AdamRk, trivial, value_AdamGate, trivial, value_AdamConv, trivial, value_AdamOut, trivial, value_AdamMlp, trivial, value_AdaBwd, trivial, value_Cctx, trivial, value_SumSmall, trivial, value_SumIn⟩

end Cert.Proof

end
